-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x2048 : Shape := ⟨2, ![512, 2048]⟩
abbrev S4096x2048 : Shape := ⟨2, ![4096, 2048]⟩
abbrev S2x2x512x512 : Shape := ⟨4, ![2, 2, 512, 512]⟩
abbrev S2x2 : Shape := ⟨2, ![2, 2]⟩
abbrev S8x512x2048 : Shape := ⟨3, ![8, 512, 2048]⟩
abbrev S2x512x512 : Shape := ⟨3, ![2, 512, 512]⟩
abbrev S8x8x128 : Shape := ⟨3, ![8, 8, 128]⟩
abbrev S7 : Shape := ⟨1, ![7]⟩
abbrev S_ : Shape := ⟨0, ![]⟩
abbrev S512x512 : Shape := ⟨2, ![512, 512]⟩
abbrev S1x512x2048 : Shape := ⟨3, ![1, 512, 2048]⟩
abbrev S1x512x512 : Shape := ⟨3, ![1, 512, 512]⟩
abbrev S1x1x512x512 : Shape := ⟨4, ![1, 1, 512, 512]⟩
abbrev S1x1 : Shape := ⟨2, ![1, 1]⟩
abbrev S1 : Shape := ⟨1, ![1]⟩
abbrev S1x1x1 : Shape := ⟨3, ![1, 1, 1]⟩
abbrev S1x8x128 : Shape := ⟨3, ![1, 8, 128]⟩
abbrev S1x8x8x128 : Shape := ⟨4, ![1, 8, 8, 128]⟩
abbrev S1x1x1x1 : Shape := ⟨4, ![1, 1, 1, 1]⟩

abbrev nBuf : Space → Nat
  | .hbm => 3
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S4096x512, .bf16⟩
  | .local _ .vmem, ⟨1, _⟩ => ⟨S512x2048, .bf16⟩
  | .local _ .vmem, ⟨2, _⟩ => ⟨S512x2048, .bf16⟩
  | .local _ .vmem, ⟨3, _⟩ => ⟨S2x2x512x512, .bf16⟩
  | .local _ .vmem, ⟨4, _⟩ => ⟨S8x512x2048, .bf16⟩
  | .local _ .vmem, ⟨5, _⟩ => ⟨S2x2x512x512, .bf16⟩
  | .local _ .vmem, ⟨6, _⟩ => ⟨S2x2x512x512, .bf16⟩
  | .local _ .vmem, ⟨7, _⟩ => ⟨S2x2x512x512, .bf16⟩
  | .local _ .vmem, ⟨8, _⟩ => ⟨S2x2x512x512, .bf16⟩
  | .local _ .vmem, ⟨9, _⟩ => ⟨S2x2x512x512, .i8⟩
  | .local _ .vmem, ⟨10, _⟩ => ⟨S2x2x512x512, .i8⟩
  | .local _ .vmem, ⟨11, _⟩ => ⟨S2x512x512, .i8⟩
  | .local _ .vmem, ⟨12, _⟩ => ⟨S2x512x512, .i8⟩
  | .local _ .vmem, ⟨13, _⟩ => ⟨S8x8x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  (ofTc nBuf bufTy 5 52 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_scratch9 : Ref sig .tc := ⟨.vmem, 10, rfl⟩
abbrev cc0_scratch10 : Ref sig .tc := ⟨.vmem, 11, rfl⟩
abbrev cc0_scratch11 : Ref sig .tc := ⟨.vmem, 12, rfl⟩
abbrev cc0_scratch12 : Ref sig .tc := ⟨.vmem, 13, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_off1 (d0 : Dev nD) (c0_i32_36 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v54 : BitVec 32 := Scalar.subi v10 c0_i32_36
  let c8_i32_37 : BitVec 32 := 8#32
  let c0_i32_38 : BitVec 32 := 0#32
  let v55 : BitVec 1 := Scalar.cmpi .eq c8_i32_37 c0_i32_38
  let c1_i32_39 : BitVec 32 := 1#32
  let v56 : BitVec 32 := Scalar.select v55 c1_i32_39 c8_i32_37
  let v57 : BitVec 32 := Scalar.remsi v54 v56
  let c0_i32_41 : BitVec 32 := 0#32
  let v59 : BitVec 1 := Scalar.cmpi .slt v57 c0_i32_41
  let c0_i32_42 : BitVec 32 := 0#32
  let v60 : BitVec 1 := Scalar.cmpi .slt v56 c0_i32_42
  let v61 : BitVec 1 := Scalar.xori v59 v60
  let c0_i32_40 : BitVec 32 := 0#32
  let v58 : BitVec 1 := Scalar.cmpi .ne v57 c0_i32_40
  let v62 : BitVec 1 := Scalar.andi v61 v58
  let v63 : BitVec 32 := Scalar.addi v57 v56
  let v64 : BitVec 32 := Scalar.select v62 v63 v57
  let c512_i32 : BitVec 32 := 512#32
  let v65 : BitVec 32 := Scalar.muli v64 c512_i32
  let v66 : Index := Scalar.indexCast v65
  let c0_43 : Index := 0#32
  ![v66.toNat, 0]
def k0_dev1 (d0 : Dev nD) : Nat :=
  let c0_i32_51 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_50 : BitVec 32 := 1#32
  let v76 : BitVec 32 := Scalar.muli v29 c1_i32_50
  let v77 : BitVec 32 := Scalar.addi c0_i32_51 v76
  v77.toNat
def k0_dev2 (d0 : Dev nD) : Nat :=
  let c0_i32_54 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_53 : BitVec 32 := 1#32
  let v78 : BitVec 32 := Scalar.muli v48 c1_i32_53
  let v79 : BitVec 32 := Scalar.addi c0_i32_54 v78
  v79.toNat
def k0_dev3 (d0 : Dev nD) : Nat :=
  let c0_i32_71 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_70 : BitVec 32 := 1#32
  let v85 : BitVec 32 := Scalar.muli v29 c1_i32_70
  let v86 : BitVec 32 := Scalar.addi c0_i32_71 v85
  v86.toNat
def k0_dev4 (d0 : Dev nD) : Nat :=
  let c0_i32_91 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_90 : BitVec 32 := 1#32
  let v100 : BitVec 32 := Scalar.muli v48 c1_i32_90
  let v101 : BitVec 32 := Scalar.addi c0_i32_91 v100
  v101.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_109 : BitVec 32 := 1#32
  let v115 : BitVec 32 := Scalar.muli v29 c1_i32_109
  let v116 : BitVec 32 := Scalar.addi c0_i32_110 v115
  v116.toNat
def k0_dev6 (d0 : Dev nD) : Nat :=
  let c0_i32_130 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_129 : BitVec 32 := 1#32
  let v130 : BitVec 32 := Scalar.muli v48 c1_i32_129
  let v131 : BitVec 32 := Scalar.addi c0_i32_130 v130
  v131.toNat
def k0_dev7 (d0 : Dev nD) : Nat :=
  let c0_i32_198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_197 : BitVec 32 := 1#32
  let v201 : BitVec 32 := Scalar.muli v29 c1_i32_197
  let v202 : BitVec 32 := Scalar.addi c0_i32_198 v201
  v202.toNat
def k0_dev8 (d0 : Dev nD) : Nat :=
  let c0_i32_205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_204 : BitVec 32 := 1#32
  let v211 : BitVec 32 := Scalar.muli v48 c1_i32_204
  let v212 : BitVec 32 := Scalar.addi c0_i32_205 v211
  v212.toNat
def k0_dev9 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_239 : BitVec 32 := 1#32
  let v232 : BitVec 32 := Scalar.muli v48 c1_i32_239
  let v233 : BitVec 32 := Scalar.addi c0_i32_240 v232
  v233.toNat
def k0_dev10 (d0 : Dev nD) : Nat :=
  let c0_i32_247 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_246 : BitVec 32 := 1#32
  let v242 : BitVec 32 := Scalar.muli v29 c1_i32_246
  let v243 : BitVec 32 := Scalar.addi c0_i32_247 v242
  v243.toNat
def k0_dev11 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_281 : BitVec 32 := 1#32
  let v263 : BitVec 32 := Scalar.muli v29 c1_i32_281
  let v264 : BitVec 32 := Scalar.addi c0_i32_282 v263
  v264.toNat
def k0_dev12 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_288 : BitVec 32 := 1#32
  let v273 : BitVec 32 := Scalar.muli v48 c1_i32_288
  let v274 : BitVec 32 := Scalar.addi c0_i32_289 v273
  v274.toNat
def k0_dev13 (d0 : Dev nD) : Nat :=
  let c0_i32_324 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_323 : BitVec 32 := 1#32
  let v294 : BitVec 32 := Scalar.muli v48 c1_i32_323
  let v295 : BitVec 32 := Scalar.addi c0_i32_324 v294
  v295.toNat
def k0_dev14 (d0 : Dev nD) : Nat :=
  let c0_i32_331 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_330 : BitVec 32 := 1#32
  let v304 : BitVec 32 := Scalar.muli v29 c1_i32_330
  let v305 : BitVec 32 := Scalar.addi c0_i32_331 v304
  v305.toNat
def k0_dev15 (d0 : Dev nD) : Nat :=
  let c0_i32_409 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_408 : BitVec 32 := 1#32
  let v373 : BitVec 32 := Scalar.muli v29 c1_i32_408
  let v374 : BitVec 32 := Scalar.addi c0_i32_409 v373
  v374.toNat
def k0_dev16 (d0 : Dev nD) : Nat :=
  let c0_i32_416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_415 : BitVec 32 := 1#32
  let v383 : BitVec 32 := Scalar.muli v48 c1_i32_415
  let v384 : BitVec 32 := Scalar.addi c0_i32_416 v383
  v384.toNat
def k0_dev17 (d0 : Dev nD) : Nat :=
  let c0_i32_466 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_465 : BitVec 32 := 1#32
  let v410 : BitVec 32 := Scalar.muli v48 c1_i32_465
  let v411 : BitVec 32 := Scalar.addi c0_i32_466 v410
  v411.toNat
def k0_dev18 (d0 : Dev nD) : Nat :=
  let c0_i32_473 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_472 : BitVec 32 := 1#32
  let v420 : BitVec 32 := Scalar.muli v29 c1_i32_472
  let v421 : BitVec 32 := Scalar.addi c0_i32_473 v420
  v421.toNat
def k0_dev19 (d0 : Dev nD) : Nat :=
  let c0_i32_523 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_522 : BitVec 32 := 1#32
  let v447 : BitVec 32 := Scalar.muli v29 c1_i32_522
  let v448 : BitVec 32 := Scalar.addi c0_i32_523 v447
  v448.toNat
def k0_dev20 (d0 : Dev nD) : Nat :=
  let c0_i32_530 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_529 : BitVec 32 := 1#32
  let v457 : BitVec 32 := Scalar.muli v48 c1_i32_529
  let v458 : BitVec 32 := Scalar.addi c0_i32_530 v457
  v458.toNat
def k0_dev21 (d0 : Dev nD) : Nat :=
  let c0_i32_580 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_579 : BitVec 32 := 1#32
  let v484 : BitVec 32 := Scalar.muli v48 c1_i32_579
  let v485 : BitVec 32 := Scalar.addi c0_i32_580 v484
  v485.toNat
def k0_dev22 (d0 : Dev nD) : Nat :=
  let c0_i32_587 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_586 : BitVec 32 := 1#32
  let v494 : BitVec 32 := Scalar.muli v29 c1_i32_586
  let v495 : BitVec 32 := Scalar.addi c0_i32_587 v494
  v495.toNat
def k0_dev23 (d0 : Dev nD) : Nat :=
  let c0_i32_664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_663 : BitVec 32 := 1#32
  let v563 : BitVec 32 := Scalar.muli v29 c1_i32_663
  let v564 : BitVec 32 := Scalar.addi c0_i32_664 v563
  v564.toNat
def k0_dev24 (d0 : Dev nD) : Nat :=
  let c0_i32_671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_670 : BitVec 32 := 1#32
  let v573 : BitVec 32 := Scalar.muli v48 c1_i32_670
  let v574 : BitVec 32 := Scalar.addi c0_i32_671 v573
  v574.toNat
def k0_dev25 (d0 : Dev nD) : Nat :=
  let c0_i32_721 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_720 : BitVec 32 := 1#32
  let v600 : BitVec 32 := Scalar.muli v48 c1_i32_720
  let v601 : BitVec 32 := Scalar.addi c0_i32_721 v600
  v601.toNat
def k0_dev26 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_727 : BitVec 32 := 1#32
  let v610 : BitVec 32 := Scalar.muli v29 c1_i32_727
  let v611 : BitVec 32 := Scalar.addi c0_i32_728 v610
  v611.toNat
def k0_dev27 (d0 : Dev nD) : Nat :=
  let c0_i32_778 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_777 : BitVec 32 := 1#32
  let v637 : BitVec 32 := Scalar.muli v29 c1_i32_777
  let v638 : BitVec 32 := Scalar.addi c0_i32_778 v637
  v638.toNat
def k0_dev28 (d0 : Dev nD) : Nat :=
  let c0_i32_785 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_784 : BitVec 32 := 1#32
  let v647 : BitVec 32 := Scalar.muli v48 c1_i32_784
  let v648 : BitVec 32 := Scalar.addi c0_i32_785 v647
  v648.toNat
def k0_dev29 (d0 : Dev nD) : Nat :=
  let c0_i32_835 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_834 : BitVec 32 := 1#32
  let v674 : BitVec 32 := Scalar.muli v48 c1_i32_834
  let v675 : BitVec 32 := Scalar.addi c0_i32_835 v674
  v675.toNat
def k0_dev30 (d0 : Dev nD) : Nat :=
  let c0_i32_842 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_841 : BitVec 32 := 1#32
  let v684 : BitVec 32 := Scalar.muli v29 c1_i32_841
  let v685 : BitVec 32 := Scalar.addi c0_i32_842 v684
  v685.toNat
def k0_dev31 (d0 : Dev nD) : Nat :=
  let c0_i32_906 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_905 : BitVec 32 := 1#32
  let v732 : BitVec 32 := Scalar.muli v29 c1_i32_905
  let v733 : BitVec 32 := Scalar.addi c0_i32_906 v732
  v733.toNat
def k0_dev32 (d0 : Dev nD) : Nat :=
  let c0_i32_913 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_912 : BitVec 32 := 1#32
  let v742 : BitVec 32 := Scalar.muli v48 c1_i32_912
  let v743 : BitVec 32 := Scalar.addi c0_i32_913 v742
  v743.toNat
def k0_dev33 (d0 : Dev nD) : Nat :=
  let c0_i32_963 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_962 : BitVec 32 := 1#32
  let v769 : BitVec 32 := Scalar.muli v48 c1_i32_962
  let v770 : BitVec 32 := Scalar.addi c0_i32_963 v769
  v770.toNat
def k0_dev34 (d0 : Dev nD) : Nat :=
  let c0_i32_970 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_969 : BitVec 32 := 1#32
  let v779 : BitVec 32 := Scalar.muli v29 c1_i32_969
  let v780 : BitVec 32 := Scalar.addi c0_i32_970 v779
  v780.toNat
def k0_dev35 (d0 : Dev nD) : Nat :=
  let c0_i32_1020 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1019 : BitVec 32 := 1#32
  let v806 : BitVec 32 := Scalar.muli v29 c1_i32_1019
  let v807 : BitVec 32 := Scalar.addi c0_i32_1020 v806
  v807.toNat
def k0_dev36 (d0 : Dev nD) : Nat :=
  let c0_i32_1027 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1026 : BitVec 32 := 1#32
  let v816 : BitVec 32 := Scalar.muli v48 c1_i32_1026
  let v817 : BitVec 32 := Scalar.addi c0_i32_1027 v816
  v817.toNat
def k0_dev37 (d0 : Dev nD) : Nat :=
  let c0_i32_1077 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1076 : BitVec 32 := 1#32
  let v843 : BitVec 32 := Scalar.muli v48 c1_i32_1076
  let v844 : BitVec 32 := Scalar.addi c0_i32_1077 v843
  v844.toNat
def k0_dev38 (d0 : Dev nD) : Nat :=
  let c0_i32_1084 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1083 : BitVec 32 := 1#32
  let v853 : BitVec 32 := Scalar.muli v29 c1_i32_1083
  let v854 : BitVec 32 := Scalar.addi c0_i32_1084 v853
  v854.toNat
def k0_dev39 (d0 : Dev nD) : Nat :=
  let c0_i32_1134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1133 : BitVec 32 := 1#32
  let v880 : BitVec 32 := Scalar.muli v29 c1_i32_1133
  let v881 : BitVec 32 := Scalar.addi c0_i32_1134 v880
  v881.toNat
def k0_dev40 (d0 : Dev nD) : Nat :=
  let c0_i32_1141 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1140 : BitVec 32 := 1#32
  let v890 : BitVec 32 := Scalar.muli v48 c1_i32_1140
  let v891 : BitVec 32 := Scalar.addi c0_i32_1141 v890
  v891.toNat
def k0_dev41 (d0 : Dev nD) : Nat :=
  let c0_i32_1191 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1190 : BitVec 32 := 1#32
  let v917 : BitVec 32 := Scalar.muli v48 c1_i32_1190
  let v918 : BitVec 32 := Scalar.addi c0_i32_1191 v917
  v918.toNat
def k0_dev42 (d0 : Dev nD) : Nat :=
  let c0_i32_1198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1197 : BitVec 32 := 1#32
  let v927 : BitVec 32 := Scalar.muli v29 c1_i32_1197
  let v928 : BitVec 32 := Scalar.addi c0_i32_1198 v927
  v928.toNat
def k0_dev43 (d0 : Dev nD) : Nat :=
  let c0_i32_1248 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1247 : BitVec 32 := 1#32
  let v954 : BitVec 32 := Scalar.muli v29 c1_i32_1247
  let v955 : BitVec 32 := Scalar.addi c0_i32_1248 v954
  v955.toNat
def k0_dev44 (d0 : Dev nD) : Nat :=
  let c0_i32_1255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1254 : BitVec 32 := 1#32
  let v964 : BitVec 32 := Scalar.muli v48 c1_i32_1254
  let v965 : BitVec 32 := Scalar.addi c0_i32_1255 v964
  v965.toNat
def k0_dev45 (d0 : Dev nD) : Nat :=
  let c0_i32_1305 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1304 : BitVec 32 := 1#32
  let v991 : BitVec 32 := Scalar.muli v48 c1_i32_1304
  let v992 : BitVec 32 := Scalar.addi c0_i32_1305 v991
  v992.toNat
def k0_dev46 (d0 : Dev nD) : Nat :=
  let c0_i32_1312 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1311 : BitVec 32 := 1#32
  let v1001 : BitVec 32 := Scalar.muli v29 c1_i32_1311
  let v1002 : BitVec 32 := Scalar.addi c0_i32_1312 v1001
  v1002.toNat
def k0_dev47 (d0 : Dev nD) : Nat :=
  let c0_i32_1362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1361 : BitVec 32 := 1#32
  let v1028 : BitVec 32 := Scalar.muli v29 c1_i32_1361
  let v1029 : BitVec 32 := Scalar.addi c0_i32_1362 v1028
  v1029.toNat
def k0_dev48 (d0 : Dev nD) : Nat :=
  let c0_i32_1416 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1415 : BitVec 32 := 1#32
  let v1063 : BitVec 32 := Scalar.muli v48 c1_i32_1415
  let v1064 : BitVec 32 := Scalar.addi c0_i32_1416 v1063
  v1064.toNat
def k0_dev49 (d0 : Dev nD) : Nat :=
  let c0_i32_1470 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_1469 : BitVec 32 := 1#32
  let v1098 : BitVec 32 := Scalar.muli v29 c1_i32_1469
  let v1099 : BitVec 32 := Scalar.addi c0_i32_1470 v1098
  v1099.toNat
def k0_dev50 (d0 : Dev nD) : Nat :=
  let c0_i32_1524 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_1523 : BitVec 32 := 1#32
  let v1133 : BitVec 32 := Scalar.muli v48 c1_i32_1523
  let v1134 : BitVec 32 := Scalar.addi c0_i32_1524 v1133
  v1134.toNat
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v1231 : Index := Scalar.indexCast v10
  let c0_1621 : Index := 0#32
  let c0_1622 : Index := 0#32
  ![v1231.toNat, 0, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c0_i32_1642 : BitVec 32 := 0#32
  let c0_i32_1643 : BitVec 32 := 0#32
  ![v10.toNat, 0, 0]
def k0_dev51 (d0 : Dev nD) : Nat :=
  let c0_i32_1641 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_1623 : BitVec 32 := 1#32
  let v1235 : BitVec 32 := Scalar.addi v10 c1_i32_1623
  let c8_i32_1624 : BitVec 32 := 8#32
  let c0_i32_1625 : BitVec 32 := 0#32
  let v1236 : BitVec 1 := Scalar.cmpi .eq c8_i32_1624 c0_i32_1625
  let c1_i32_1626 : BitVec 32 := 1#32
  let v1237 : BitVec 32 := Scalar.select v1236 c1_i32_1626 c8_i32_1624
  let v1238 : BitVec 32 := Scalar.remsi v1235 v1237
  let c0_i32_1628 : BitVec 32 := 0#32
  let v1240 : BitVec 1 := Scalar.cmpi .slt v1238 c0_i32_1628
  let c0_i32_1629 : BitVec 32 := 0#32
  let v1241 : BitVec 1 := Scalar.cmpi .slt v1237 c0_i32_1629
  let v1242 : BitVec 1 := Scalar.xori v1240 v1241
  let c0_i32_1627 : BitVec 32 := 0#32
  let v1239 : BitVec 1 := Scalar.cmpi .ne v1238 c0_i32_1627
  let v1243 : BitVec 1 := Scalar.andi v1242 v1239
  let v1244 : BitVec 32 := Scalar.addi v1238 v1237
  let v1245 : BitVec 32 := Scalar.select v1243 v1244 v1238
  let c4_i32_1630 : BitVec 32 := 4#32
  let v1246 : BitVec 1 := Scalar.cmpi .eq v1245 c4_i32_1630
  let c7_i32_1633 : BitVec 32 := 7#32
  let c7_i32_1631 : BitVec 32 := 7#32
  let v1247 : BitVec 1 := Scalar.cmpi .eq v1245 c7_i32_1631
  let c4_i32_1632 : BitVec 32 := 4#32
  let v1248 : BitVec 32 := Scalar.select v1247 c4_i32_1632 v1245
  let v1249 : BitVec 32 := Scalar.select v1246 c7_i32_1633 v1248
  let c5_i32_1634 : BitVec 32 := 5#32
  let v1250 : BitVec 1 := Scalar.cmpi .eq v1249 c5_i32_1634
  let c6_i32_1637 : BitVec 32 := 6#32
  let c6_i32_1635 : BitVec 32 := 6#32
  let v1251 : BitVec 1 := Scalar.cmpi .eq v1249 c6_i32_1635
  let c5_i32_1636 : BitVec 32 := 5#32
  let v1252 : BitVec 32 := Scalar.select v1251 c5_i32_1636 v1249
  let v1253 : BitVec 32 := Scalar.select v1250 c6_i32_1637 v1252
  let c1_i32_1640 : BitVec 32 := 1#32
  let v1254 : BitVec 32 := Scalar.muli v1253 c1_i32_1640
  let v1255 : BitVec 32 := Scalar.addi c0_i32_1641 v1254
  v1255.toNat
def k0_dev52 (d0 : Dev nD) : Nat :=
  let c0_i32_1664 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c2_i32_1646 : BitVec 32 := 2#32
  let v1262 : BitVec 32 := Scalar.addi v10 c2_i32_1646
  let c8_i32_1647 : BitVec 32 := 8#32
  let c0_i32_1648 : BitVec 32 := 0#32
  let v1263 : BitVec 1 := Scalar.cmpi .eq c8_i32_1647 c0_i32_1648
  let c1_i32_1649 : BitVec 32 := 1#32
  let v1264 : BitVec 32 := Scalar.select v1263 c1_i32_1649 c8_i32_1647
  let v1265 : BitVec 32 := Scalar.remsi v1262 v1264
  let c0_i32_1651 : BitVec 32 := 0#32
  let v1267 : BitVec 1 := Scalar.cmpi .slt v1265 c0_i32_1651
  let c0_i32_1652 : BitVec 32 := 0#32
  let v1268 : BitVec 1 := Scalar.cmpi .slt v1264 c0_i32_1652
  let v1269 : BitVec 1 := Scalar.xori v1267 v1268
  let c0_i32_1650 : BitVec 32 := 0#32
  let v1266 : BitVec 1 := Scalar.cmpi .ne v1265 c0_i32_1650
  let v1270 : BitVec 1 := Scalar.andi v1269 v1266
  let v1271 : BitVec 32 := Scalar.addi v1265 v1264
  let v1272 : BitVec 32 := Scalar.select v1270 v1271 v1265
  let c4_i32_1653 : BitVec 32 := 4#32
  let v1273 : BitVec 1 := Scalar.cmpi .eq v1272 c4_i32_1653
  let c7_i32_1656 : BitVec 32 := 7#32
  let c7_i32_1654 : BitVec 32 := 7#32
  let v1274 : BitVec 1 := Scalar.cmpi .eq v1272 c7_i32_1654
  let c4_i32_1655 : BitVec 32 := 4#32
  let v1275 : BitVec 32 := Scalar.select v1274 c4_i32_1655 v1272
  let v1276 : BitVec 32 := Scalar.select v1273 c7_i32_1656 v1275
  let c5_i32_1657 : BitVec 32 := 5#32
  let v1277 : BitVec 1 := Scalar.cmpi .eq v1276 c5_i32_1657
  let c6_i32_1660 : BitVec 32 := 6#32
  let c6_i32_1658 : BitVec 32 := 6#32
  let v1278 : BitVec 1 := Scalar.cmpi .eq v1276 c6_i32_1658
  let c5_i32_1659 : BitVec 32 := 5#32
  let v1279 : BitVec 32 := Scalar.select v1278 c5_i32_1659 v1276
  let v1280 : BitVec 32 := Scalar.select v1277 c6_i32_1660 v1279
  let c1_i32_1663 : BitVec 32 := 1#32
  let v1281 : BitVec 32 := Scalar.muli v1280 c1_i32_1663
  let v1282 : BitVec 32 := Scalar.addi c0_i32_1664 v1281
  v1282.toNat
def k0_dev53 (d0 : Dev nD) : Nat :=
  let c0_i32_1687 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c3_i32_1669 : BitVec 32 := 3#32
  let v1289 : BitVec 32 := Scalar.addi v10 c3_i32_1669
  let c8_i32_1670 : BitVec 32 := 8#32
  let c0_i32_1671 : BitVec 32 := 0#32
  let v1290 : BitVec 1 := Scalar.cmpi .eq c8_i32_1670 c0_i32_1671
  let c1_i32_1672 : BitVec 32 := 1#32
  let v1291 : BitVec 32 := Scalar.select v1290 c1_i32_1672 c8_i32_1670
  let v1292 : BitVec 32 := Scalar.remsi v1289 v1291
  let c0_i32_1674 : BitVec 32 := 0#32
  let v1294 : BitVec 1 := Scalar.cmpi .slt v1292 c0_i32_1674
  let c0_i32_1675 : BitVec 32 := 0#32
  let v1295 : BitVec 1 := Scalar.cmpi .slt v1291 c0_i32_1675
  let v1296 : BitVec 1 := Scalar.xori v1294 v1295
  let c0_i32_1673 : BitVec 32 := 0#32
  let v1293 : BitVec 1 := Scalar.cmpi .ne v1292 c0_i32_1673
  let v1297 : BitVec 1 := Scalar.andi v1296 v1293
  let v1298 : BitVec 32 := Scalar.addi v1292 v1291
  let v1299 : BitVec 32 := Scalar.select v1297 v1298 v1292
  let c4_i32_1676 : BitVec 32 := 4#32
  let v1300 : BitVec 1 := Scalar.cmpi .eq v1299 c4_i32_1676
  let c7_i32_1679 : BitVec 32 := 7#32
  let c7_i32_1677 : BitVec 32 := 7#32
  let v1301 : BitVec 1 := Scalar.cmpi .eq v1299 c7_i32_1677
  let c4_i32_1678 : BitVec 32 := 4#32
  let v1302 : BitVec 32 := Scalar.select v1301 c4_i32_1678 v1299
  let v1303 : BitVec 32 := Scalar.select v1300 c7_i32_1679 v1302
  let c5_i32_1680 : BitVec 32 := 5#32
  let v1304 : BitVec 1 := Scalar.cmpi .eq v1303 c5_i32_1680
  let c6_i32_1683 : BitVec 32 := 6#32
  let c6_i32_1681 : BitVec 32 := 6#32
  let v1305 : BitVec 1 := Scalar.cmpi .eq v1303 c6_i32_1681
  let c5_i32_1682 : BitVec 32 := 5#32
  let v1306 : BitVec 32 := Scalar.select v1305 c5_i32_1682 v1303
  let v1307 : BitVec 32 := Scalar.select v1304 c6_i32_1683 v1306
  let c1_i32_1686 : BitVec 32 := 1#32
  let v1308 : BitVec 32 := Scalar.muli v1307 c1_i32_1686
  let v1309 : BitVec 32 := Scalar.addi c0_i32_1687 v1308
  v1309.toNat
def k0_dev54 (d0 : Dev nD) : Nat :=
  let c0_i32_1710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c4_i32_1692 : BitVec 32 := 4#32
  let v1316 : BitVec 32 := Scalar.addi v10 c4_i32_1692
  let c8_i32_1693 : BitVec 32 := 8#32
  let c0_i32_1694 : BitVec 32 := 0#32
  let v1317 : BitVec 1 := Scalar.cmpi .eq c8_i32_1693 c0_i32_1694
  let c1_i32_1695 : BitVec 32 := 1#32
  let v1318 : BitVec 32 := Scalar.select v1317 c1_i32_1695 c8_i32_1693
  let v1319 : BitVec 32 := Scalar.remsi v1316 v1318
  let c0_i32_1697 : BitVec 32 := 0#32
  let v1321 : BitVec 1 := Scalar.cmpi .slt v1319 c0_i32_1697
  let c0_i32_1698 : BitVec 32 := 0#32
  let v1322 : BitVec 1 := Scalar.cmpi .slt v1318 c0_i32_1698
  let v1323 : BitVec 1 := Scalar.xori v1321 v1322
  let c0_i32_1696 : BitVec 32 := 0#32
  let v1320 : BitVec 1 := Scalar.cmpi .ne v1319 c0_i32_1696
  let v1324 : BitVec 1 := Scalar.andi v1323 v1320
  let v1325 : BitVec 32 := Scalar.addi v1319 v1318
  let v1326 : BitVec 32 := Scalar.select v1324 v1325 v1319
  let c4_i32_1699 : BitVec 32 := 4#32
  let v1327 : BitVec 1 := Scalar.cmpi .eq v1326 c4_i32_1699
  let c7_i32_1702 : BitVec 32 := 7#32
  let c7_i32_1700 : BitVec 32 := 7#32
  let v1328 : BitVec 1 := Scalar.cmpi .eq v1326 c7_i32_1700
  let c4_i32_1701 : BitVec 32 := 4#32
  let v1329 : BitVec 32 := Scalar.select v1328 c4_i32_1701 v1326
  let v1330 : BitVec 32 := Scalar.select v1327 c7_i32_1702 v1329
  let c5_i32_1703 : BitVec 32 := 5#32
  let v1331 : BitVec 1 := Scalar.cmpi .eq v1330 c5_i32_1703
  let c6_i32_1706 : BitVec 32 := 6#32
  let c6_i32_1704 : BitVec 32 := 6#32
  let v1332 : BitVec 1 := Scalar.cmpi .eq v1330 c6_i32_1704
  let c5_i32_1705 : BitVec 32 := 5#32
  let v1333 : BitVec 32 := Scalar.select v1332 c5_i32_1705 v1330
  let v1334 : BitVec 32 := Scalar.select v1331 c6_i32_1706 v1333
  let c1_i32_1709 : BitVec 32 := 1#32
  let v1335 : BitVec 32 := Scalar.muli v1334 c1_i32_1709
  let v1336 : BitVec 32 := Scalar.addi c0_i32_1710 v1335
  v1336.toNat
def k0_dev55 (d0 : Dev nD) : Nat :=
  let c0_i32_1733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c5_i32_1715 : BitVec 32 := 5#32
  let v1343 : BitVec 32 := Scalar.addi v10 c5_i32_1715
  let c8_i32_1716 : BitVec 32 := 8#32
  let c0_i32_1717 : BitVec 32 := 0#32
  let v1344 : BitVec 1 := Scalar.cmpi .eq c8_i32_1716 c0_i32_1717
  let c1_i32_1718 : BitVec 32 := 1#32
  let v1345 : BitVec 32 := Scalar.select v1344 c1_i32_1718 c8_i32_1716
  let v1346 : BitVec 32 := Scalar.remsi v1343 v1345
  let c0_i32_1720 : BitVec 32 := 0#32
  let v1348 : BitVec 1 := Scalar.cmpi .slt v1346 c0_i32_1720
  let c0_i32_1721 : BitVec 32 := 0#32
  let v1349 : BitVec 1 := Scalar.cmpi .slt v1345 c0_i32_1721
  let v1350 : BitVec 1 := Scalar.xori v1348 v1349
  let c0_i32_1719 : BitVec 32 := 0#32
  let v1347 : BitVec 1 := Scalar.cmpi .ne v1346 c0_i32_1719
  let v1351 : BitVec 1 := Scalar.andi v1350 v1347
  let v1352 : BitVec 32 := Scalar.addi v1346 v1345
  let v1353 : BitVec 32 := Scalar.select v1351 v1352 v1346
  let c4_i32_1722 : BitVec 32 := 4#32
  let v1354 : BitVec 1 := Scalar.cmpi .eq v1353 c4_i32_1722
  let c7_i32_1725 : BitVec 32 := 7#32
  let c7_i32_1723 : BitVec 32 := 7#32
  let v1355 : BitVec 1 := Scalar.cmpi .eq v1353 c7_i32_1723
  let c4_i32_1724 : BitVec 32 := 4#32
  let v1356 : BitVec 32 := Scalar.select v1355 c4_i32_1724 v1353
  let v1357 : BitVec 32 := Scalar.select v1354 c7_i32_1725 v1356
  let c5_i32_1726 : BitVec 32 := 5#32
  let v1358 : BitVec 1 := Scalar.cmpi .eq v1357 c5_i32_1726
  let c6_i32_1729 : BitVec 32 := 6#32
  let c6_i32_1727 : BitVec 32 := 6#32
  let v1359 : BitVec 1 := Scalar.cmpi .eq v1357 c6_i32_1727
  let c5_i32_1728 : BitVec 32 := 5#32
  let v1360 : BitVec 32 := Scalar.select v1359 c5_i32_1728 v1357
  let v1361 : BitVec 32 := Scalar.select v1358 c6_i32_1729 v1360
  let c1_i32_1732 : BitVec 32 := 1#32
  let v1362 : BitVec 32 := Scalar.muli v1361 c1_i32_1732
  let v1363 : BitVec 32 := Scalar.addi c0_i32_1733 v1362
  v1363.toNat
def k0_dev56 (d0 : Dev nD) : Nat :=
  let c0_i32_1756 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c6_i32_1738 : BitVec 32 := 6#32
  let v1370 : BitVec 32 := Scalar.addi v10 c6_i32_1738
  let c8_i32_1739 : BitVec 32 := 8#32
  let c0_i32_1740 : BitVec 32 := 0#32
  let v1371 : BitVec 1 := Scalar.cmpi .eq c8_i32_1739 c0_i32_1740
  let c1_i32_1741 : BitVec 32 := 1#32
  let v1372 : BitVec 32 := Scalar.select v1371 c1_i32_1741 c8_i32_1739
  let v1373 : BitVec 32 := Scalar.remsi v1370 v1372
  let c0_i32_1743 : BitVec 32 := 0#32
  let v1375 : BitVec 1 := Scalar.cmpi .slt v1373 c0_i32_1743
  let c0_i32_1744 : BitVec 32 := 0#32
  let v1376 : BitVec 1 := Scalar.cmpi .slt v1372 c0_i32_1744
  let v1377 : BitVec 1 := Scalar.xori v1375 v1376
  let c0_i32_1742 : BitVec 32 := 0#32
  let v1374 : BitVec 1 := Scalar.cmpi .ne v1373 c0_i32_1742
  let v1378 : BitVec 1 := Scalar.andi v1377 v1374
  let v1379 : BitVec 32 := Scalar.addi v1373 v1372
  let v1380 : BitVec 32 := Scalar.select v1378 v1379 v1373
  let c4_i32_1745 : BitVec 32 := 4#32
  let v1381 : BitVec 1 := Scalar.cmpi .eq v1380 c4_i32_1745
  let c7_i32_1748 : BitVec 32 := 7#32
  let c7_i32_1746 : BitVec 32 := 7#32
  let v1382 : BitVec 1 := Scalar.cmpi .eq v1380 c7_i32_1746
  let c4_i32_1747 : BitVec 32 := 4#32
  let v1383 : BitVec 32 := Scalar.select v1382 c4_i32_1747 v1380
  let v1384 : BitVec 32 := Scalar.select v1381 c7_i32_1748 v1383
  let c5_i32_1749 : BitVec 32 := 5#32
  let v1385 : BitVec 1 := Scalar.cmpi .eq v1384 c5_i32_1749
  let c6_i32_1752 : BitVec 32 := 6#32
  let c6_i32_1750 : BitVec 32 := 6#32
  let v1386 : BitVec 1 := Scalar.cmpi .eq v1384 c6_i32_1750
  let c5_i32_1751 : BitVec 32 := 5#32
  let v1387 : BitVec 32 := Scalar.select v1386 c5_i32_1751 v1384
  let v1388 : BitVec 32 := Scalar.select v1385 c6_i32_1752 v1387
  let c1_i32_1755 : BitVec 32 := 1#32
  let v1389 : BitVec 32 := Scalar.muli v1388 c1_i32_1755
  let v1390 : BitVec 32 := Scalar.addi c0_i32_1756 v1389
  v1390.toNat
def k0_dev57 (d0 : Dev nD) : Nat :=
  let c0_i32_1779 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c7_i32_1761 : BitVec 32 := 7#32
  let v1397 : BitVec 32 := Scalar.addi v10 c7_i32_1761
  let c8_i32_1762 : BitVec 32 := 8#32
  let c0_i32_1763 : BitVec 32 := 0#32
  let v1398 : BitVec 1 := Scalar.cmpi .eq c8_i32_1762 c0_i32_1763
  let c1_i32_1764 : BitVec 32 := 1#32
  let v1399 : BitVec 32 := Scalar.select v1398 c1_i32_1764 c8_i32_1762
  let v1400 : BitVec 32 := Scalar.remsi v1397 v1399
  let c0_i32_1766 : BitVec 32 := 0#32
  let v1402 : BitVec 1 := Scalar.cmpi .slt v1400 c0_i32_1766
  let c0_i32_1767 : BitVec 32 := 0#32
  let v1403 : BitVec 1 := Scalar.cmpi .slt v1399 c0_i32_1767
  let v1404 : BitVec 1 := Scalar.xori v1402 v1403
  let c0_i32_1765 : BitVec 32 := 0#32
  let v1401 : BitVec 1 := Scalar.cmpi .ne v1400 c0_i32_1765
  let v1405 : BitVec 1 := Scalar.andi v1404 v1401
  let v1406 : BitVec 32 := Scalar.addi v1400 v1399
  let v1407 : BitVec 32 := Scalar.select v1405 v1406 v1400
  let c4_i32_1768 : BitVec 32 := 4#32
  let v1408 : BitVec 1 := Scalar.cmpi .eq v1407 c4_i32_1768
  let c7_i32_1771 : BitVec 32 := 7#32
  let c7_i32_1769 : BitVec 32 := 7#32
  let v1409 : BitVec 1 := Scalar.cmpi .eq v1407 c7_i32_1769
  let c4_i32_1770 : BitVec 32 := 4#32
  let v1410 : BitVec 32 := Scalar.select v1409 c4_i32_1770 v1407
  let v1411 : BitVec 32 := Scalar.select v1408 c7_i32_1771 v1410
  let c5_i32_1772 : BitVec 32 := 5#32
  let v1412 : BitVec 1 := Scalar.cmpi .eq v1411 c5_i32_1772
  let c6_i32_1775 : BitVec 32 := 6#32
  let c6_i32_1773 : BitVec 32 := 6#32
  let v1413 : BitVec 1 := Scalar.cmpi .eq v1411 c6_i32_1773
  let c5_i32_1774 : BitVec 32 := 5#32
  let v1414 : BitVec 32 := Scalar.select v1413 c5_i32_1774 v1411
  let v1415 : BitVec 32 := Scalar.select v1412 c6_i32_1775 v1414
  let c1_i32_1778 : BitVec 32 := 1#32
  let v1416 : BitVec 32 := Scalar.muli v1415 c1_i32_1778
  let v1417 : BitVec 32 := Scalar.addi c0_i32_1779 v1416
  v1417.toNat
def k0_off4 (d0 : Dev nD) (c1_i32_1888 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v1472 : BitVec 32 := Scalar.subi v10 c1_i32_1888
  let c8_i32_1889 : BitVec 32 := 8#32
  let c0_i32_1890 : BitVec 32 := 0#32
  let v1473 : BitVec 1 := Scalar.cmpi .eq c8_i32_1889 c0_i32_1890
  let c1_i32_1891 : BitVec 32 := 1#32
  let v1474 : BitVec 32 := Scalar.select v1473 c1_i32_1891 c8_i32_1889
  let v1475 : BitVec 32 := Scalar.remsi v1472 v1474
  let c0_i32_1893 : BitVec 32 := 0#32
  let v1477 : BitVec 1 := Scalar.cmpi .slt v1475 c0_i32_1893
  let c0_i32_1894 : BitVec 32 := 0#32
  let v1478 : BitVec 1 := Scalar.cmpi .slt v1474 c0_i32_1894
  let v1479 : BitVec 1 := Scalar.xori v1477 v1478
  let c0_i32_1892 : BitVec 32 := 0#32
  let v1476 : BitVec 1 := Scalar.cmpi .ne v1475 c0_i32_1892
  let v1480 : BitVec 1 := Scalar.andi v1479 v1476
  let v1481 : BitVec 32 := Scalar.addi v1475 v1474
  let v1482 : BitVec 32 := Scalar.select v1480 v1481 v1475
  let c0_i32_1899 : BitVec 32 := 0#32
  let c0_i32_1900 : BitVec 32 := 0#32
  ![v1482.toNat, 0, 0]
def k0_dev58 (d0 : Dev nD) : Nat :=
  let c0_i32_2079 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2078 : BitVec 32 := 1#32
  let v1669 : BitVec 32 := Scalar.muli v29 c1_i32_2078
  let v1670 : BitVec 32 := Scalar.addi c0_i32_2079 v1669
  v1670.toNat
def k0_dev59 (d0 : Dev nD) : Nat :=
  let c0_i32_2092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2091 : BitVec 32 := 1#32
  let v1679 : BitVec 32 := Scalar.muli v48 c1_i32_2091
  let v1680 : BitVec 32 := Scalar.addi c0_i32_2092 v1679
  v1680.toNat
def k0_dev60 (d0 : Dev nD) : Nat :=
  let c0_i32_2115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2114 : BitVec 32 := 1#32
  let v1711 : BitVec 32 := Scalar.muli v29 c1_i32_2114
  let v1712 : BitVec 32 := Scalar.addi c0_i32_2115 v1711
  v1712.toNat
def k0_dev61 (d0 : Dev nD) : Nat :=
  let c0_i32_2128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2127 : BitVec 32 := 1#32
  let v1721 : BitVec 32 := Scalar.muli v48 c1_i32_2127
  let v1722 : BitVec 32 := Scalar.addi c0_i32_2128 v1721
  v1722.toNat
def k0_off5 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_2047 : BitVec 32 := 1#32
  let v1625 : BitVec 32 := Scalar.addi v10 c1_i32_2047
  let c8_i32_2048 : BitVec 32 := 8#32
  let c0_i32_2049 : BitVec 32 := 0#32
  let v1626 : BitVec 1 := Scalar.cmpi .eq c8_i32_2048 c0_i32_2049
  let c1_i32_2050 : BitVec 32 := 1#32
  let v1627 : BitVec 32 := Scalar.select v1626 c1_i32_2050 c8_i32_2048
  let v1628 : BitVec 32 := Scalar.remsi v1625 v1627
  let c0_i32_2052 : BitVec 32 := 0#32
  let v1630 : BitVec 1 := Scalar.cmpi .slt v1628 c0_i32_2052
  let c0_i32_2053 : BitVec 32 := 0#32
  let v1631 : BitVec 1 := Scalar.cmpi .slt v1627 c0_i32_2053
  let v1632 : BitVec 1 := Scalar.xori v1630 v1631
  let c0_i32_2051 : BitVec 32 := 0#32
  let v1629 : BitVec 1 := Scalar.cmpi .ne v1628 c0_i32_2051
  let v1633 : BitVec 1 := Scalar.andi v1632 v1629
  let v1634 : BitVec 32 := Scalar.addi v1628 v1627
  let v1635 : BitVec 32 := Scalar.select v1633 v1634 v1628
  let c512_i32_2140 : BitVec 32 := 512#32
  let v1740 : BitVec 32 := Scalar.muli v1635 c512_i32_2140
  let c0_i32_2145 : BitVec 32 := 0#32
  ![v1740.toNat, 0]
def k0_off6 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_2054 : BitVec 32 := 1#32
  let v1636 : BitVec 32 := Scalar.subi v10 c1_i32_2054
  let c8_i32_2055 : BitVec 32 := 8#32
  let c0_i32_2056 : BitVec 32 := 0#32
  let v1637 : BitVec 1 := Scalar.cmpi .eq c8_i32_2055 c0_i32_2056
  let c1_i32_2057 : BitVec 32 := 1#32
  let v1638 : BitVec 32 := Scalar.select v1637 c1_i32_2057 c8_i32_2055
  let v1639 : BitVec 32 := Scalar.remsi v1636 v1638
  let c0_i32_2059 : BitVec 32 := 0#32
  let v1641 : BitVec 1 := Scalar.cmpi .slt v1639 c0_i32_2059
  let c0_i32_2060 : BitVec 32 := 0#32
  let v1642 : BitVec 1 := Scalar.cmpi .slt v1638 c0_i32_2060
  let v1643 : BitVec 1 := Scalar.xori v1641 v1642
  let c0_i32_2058 : BitVec 32 := 0#32
  let v1640 : BitVec 1 := Scalar.cmpi .ne v1639 c0_i32_2058
  let v1644 : BitVec 1 := Scalar.andi v1643 v1640
  let v1645 : BitVec 32 := Scalar.addi v1639 v1638
  let v1646 : BitVec 32 := Scalar.select v1644 v1645 v1639
  let c512_i32_2155 : BitVec 32 := 512#32
  let v1755 : BitVec 32 := Scalar.muli v1646 c512_i32_2155
  let c1024_i32 : BitVec 32 := 1024#32
  ![v1755.toNat, 1024]
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_2047 : BitVec 32 := 1#32
  let v1625 : BitVec 32 := Scalar.addi v10 c1_i32_2047
  let c8_i32_2048 : BitVec 32 := 8#32
  let c0_i32_2049 : BitVec 32 := 0#32
  let v1626 : BitVec 1 := Scalar.cmpi .eq c8_i32_2048 c0_i32_2049
  let c1_i32_2050 : BitVec 32 := 1#32
  let v1627 : BitVec 32 := Scalar.select v1626 c1_i32_2050 c8_i32_2048
  let v1628 : BitVec 32 := Scalar.remsi v1625 v1627
  let c0_i32_2052 : BitVec 32 := 0#32
  let v1630 : BitVec 1 := Scalar.cmpi .slt v1628 c0_i32_2052
  let c0_i32_2053 : BitVec 32 := 0#32
  let v1631 : BitVec 1 := Scalar.cmpi .slt v1627 c0_i32_2053
  let v1632 : BitVec 1 := Scalar.xori v1630 v1631
  let c0_i32_2051 : BitVec 32 := 0#32
  let v1629 : BitVec 1 := Scalar.cmpi .ne v1628 c0_i32_2051
  let v1633 : BitVec 1 := Scalar.andi v1632 v1629
  let v1634 : BitVec 32 := Scalar.addi v1628 v1627
  let v1635 : BitVec 32 := Scalar.select v1633 v1634 v1628
  let c512_i32_2169 : BitVec 32 := 512#32
  let v1770 : BitVec 32 := Scalar.muli v1635 c512_i32_2169
  let c512_i32_2174 : BitVec 32 := 512#32
  ![v1770.toNat, 512]
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_2054 : BitVec 32 := 1#32
  let v1636 : BitVec 32 := Scalar.subi v10 c1_i32_2054
  let c8_i32_2055 : BitVec 32 := 8#32
  let c0_i32_2056 : BitVec 32 := 0#32
  let v1637 : BitVec 1 := Scalar.cmpi .eq c8_i32_2055 c0_i32_2056
  let c1_i32_2057 : BitVec 32 := 1#32
  let v1638 : BitVec 32 := Scalar.select v1637 c1_i32_2057 c8_i32_2055
  let v1639 : BitVec 32 := Scalar.remsi v1636 v1638
  let c0_i32_2059 : BitVec 32 := 0#32
  let v1641 : BitVec 1 := Scalar.cmpi .slt v1639 c0_i32_2059
  let c0_i32_2060 : BitVec 32 := 0#32
  let v1642 : BitVec 1 := Scalar.cmpi .slt v1638 c0_i32_2060
  let v1643 : BitVec 1 := Scalar.xori v1641 v1642
  let c0_i32_2058 : BitVec 32 := 0#32
  let v1640 : BitVec 1 := Scalar.cmpi .ne v1639 c0_i32_2058
  let v1644 : BitVec 1 := Scalar.andi v1643 v1640
  let v1645 : BitVec 32 := Scalar.addi v1639 v1638
  let v1646 : BitVec 32 := Scalar.select v1644 v1645 v1639
  let c512_i32_2184 : BitVec 32 := 512#32
  let v1785 : BitVec 32 := Scalar.muli v1646 c512_i32_2184
  let c1536_i32 : BitVec 32 := 1536#32
  ![v1785.toNat, 1536]
def k0_dev62 (d0 : Dev nD) : Nat :=
  let c0_i32_2262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2261 : BitVec 32 := 1#32
  let v1823 : BitVec 32 := Scalar.muli v29 c1_i32_2261
  let v1824 : BitVec 32 := Scalar.addi c0_i32_2262 v1823
  v1824.toNat
def k0_dev63 (d0 : Dev nD) : Nat :=
  let c0_i32_2290 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2289 : BitVec 32 := 1#32
  let v1841 : BitVec 32 := Scalar.muli v48 c1_i32_2289
  let v1842 : BitVec 32 := Scalar.addi c0_i32_2290 v1841
  v1842.toNat
def k0_dev64 (d0 : Dev nD) : Nat :=
  let c0_i32_2318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2317 : BitVec 32 := 1#32
  let v1859 : BitVec 32 := Scalar.muli v29 c1_i32_2317
  let v1860 : BitVec 32 := Scalar.addi c0_i32_2318 v1859
  v1860.toNat
def k0_dev65 (d0 : Dev nD) : Nat :=
  let c0_i32_2346 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2345 : BitVec 32 := 1#32
  let v1877 : BitVec 32 := Scalar.muli v48 c1_i32_2345
  let v1878 : BitVec 32 := Scalar.addi c0_i32_2346 v1877
  v1878.toNat
def k0_off9 (d0 : Dev nD) (c0_i32_2351 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v1887 : BitVec 32 := Scalar.subi v10 c0_i32_2351
  let c8_i32_2352 : BitVec 32 := 8#32
  let c0_i32_2353 : BitVec 32 := 0#32
  let v1888 : BitVec 1 := Scalar.cmpi .eq c8_i32_2352 c0_i32_2353
  let c1_i32_2354 : BitVec 32 := 1#32
  let v1889 : BitVec 32 := Scalar.select v1888 c1_i32_2354 c8_i32_2352
  let v1890 : BitVec 32 := Scalar.remsi v1887 v1889
  let c0_i32_2356 : BitVec 32 := 0#32
  let v1892 : BitVec 1 := Scalar.cmpi .slt v1890 c0_i32_2356
  let c0_i32_2357 : BitVec 32 := 0#32
  let v1893 : BitVec 1 := Scalar.cmpi .slt v1889 c0_i32_2357
  let v1894 : BitVec 1 := Scalar.xori v1892 v1893
  let c0_i32_2355 : BitVec 32 := 0#32
  let v1891 : BitVec 1 := Scalar.cmpi .ne v1890 c0_i32_2355
  let v1895 : BitVec 1 := Scalar.andi v1894 v1891
  let v1896 : BitVec 32 := Scalar.addi v1890 v1889
  let v1897 : BitVec 32 := Scalar.select v1895 v1896 v1890
  let c512_i32_2373 : BitVec 32 := 512#32
  let v1912 : BitVec 32 := Scalar.muli v1897 c512_i32_2373
  let c0_i32_2378 : BitVec 32 := 0#32
  ![v1912.toNat, 0]
def k0_dev66 (d0 : Dev nD) : Nat :=
  let c0_i32_2396 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2395 : BitVec 32 := 1#32
  let v1924 : BitVec 32 := Scalar.muli v48 c1_i32_2395
  let v1925 : BitVec 32 := Scalar.addi c0_i32_2396 v1924
  v1925.toNat
def k0_off10 (d0 : Dev nD) (c0_i32_2397 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v1926 : BitVec 32 := Scalar.addi v10 c0_i32_2397
  let c8_i32_2398 : BitVec 32 := 8#32
  let c0_i32_2399 : BitVec 32 := 0#32
  let v1927 : BitVec 1 := Scalar.cmpi .eq c8_i32_2398 c0_i32_2399
  let c1_i32_2400 : BitVec 32 := 1#32
  let v1928 : BitVec 32 := Scalar.select v1927 c1_i32_2400 c8_i32_2398
  let v1929 : BitVec 32 := Scalar.remsi v1926 v1928
  let c0_i32_2402 : BitVec 32 := 0#32
  let v1931 : BitVec 1 := Scalar.cmpi .slt v1929 c0_i32_2402
  let c0_i32_2403 : BitVec 32 := 0#32
  let v1932 : BitVec 1 := Scalar.cmpi .slt v1928 c0_i32_2403
  let v1933 : BitVec 1 := Scalar.xori v1931 v1932
  let c0_i32_2401 : BitVec 32 := 0#32
  let v1930 : BitVec 1 := Scalar.cmpi .ne v1929 c0_i32_2401
  let v1934 : BitVec 1 := Scalar.andi v1933 v1930
  let v1935 : BitVec 32 := Scalar.addi v1929 v1928
  let v1936 : BitVec 32 := Scalar.select v1934 v1935 v1929
  let c512_i32_2419 : BitVec 32 := 512#32
  let v1951 : BitVec 32 := Scalar.muli v1936 c512_i32_2419
  let c1024_i32_2424 : BitVec 32 := 1024#32
  ![v1951.toNat, 1024]
def k0_dev67 (d0 : Dev nD) : Nat :=
  let c0_i32_2442 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2441 : BitVec 32 := 1#32
  let v1963 : BitVec 32 := Scalar.muli v29 c1_i32_2441
  let v1964 : BitVec 32 := Scalar.addi c0_i32_2442 v1963
  v1964.toNat
def k0_off11 (d0 : Dev nD) (c0_i32_2443 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v1965 : BitVec 32 := Scalar.subi v10 c0_i32_2443
  let c8_i32_2444 : BitVec 32 := 8#32
  let c0_i32_2445 : BitVec 32 := 0#32
  let v1966 : BitVec 1 := Scalar.cmpi .eq c8_i32_2444 c0_i32_2445
  let c1_i32_2446 : BitVec 32 := 1#32
  let v1967 : BitVec 32 := Scalar.select v1966 c1_i32_2446 c8_i32_2444
  let v1968 : BitVec 32 := Scalar.remsi v1965 v1967
  let c0_i32_2448 : BitVec 32 := 0#32
  let v1970 : BitVec 1 := Scalar.cmpi .slt v1968 c0_i32_2448
  let c0_i32_2449 : BitVec 32 := 0#32
  let v1971 : BitVec 1 := Scalar.cmpi .slt v1967 c0_i32_2449
  let v1972 : BitVec 1 := Scalar.xori v1970 v1971
  let c0_i32_2447 : BitVec 32 := 0#32
  let v1969 : BitVec 1 := Scalar.cmpi .ne v1968 c0_i32_2447
  let v1973 : BitVec 1 := Scalar.andi v1972 v1969
  let v1974 : BitVec 32 := Scalar.addi v1968 v1967
  let v1975 : BitVec 32 := Scalar.select v1973 v1974 v1968
  let c512_i32_2465 : BitVec 32 := 512#32
  let v1990 : BitVec 32 := Scalar.muli v1975 c512_i32_2465
  let c512_i32_2470 : BitVec 32 := 512#32
  ![v1990.toNat, 512]
def k0_dev68 (d0 : Dev nD) : Nat :=
  let c0_i32_2488 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2487 : BitVec 32 := 1#32
  let v2002 : BitVec 32 := Scalar.muli v48 c1_i32_2487
  let v2003 : BitVec 32 := Scalar.addi c0_i32_2488 v2002
  v2003.toNat
def k0_off12 (d0 : Dev nD) (c0_i32_2489 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let v2004 : BitVec 32 := Scalar.addi v10 c0_i32_2489
  let c8_i32_2490 : BitVec 32 := 8#32
  let c0_i32_2491 : BitVec 32 := 0#32
  let v2005 : BitVec 1 := Scalar.cmpi .eq c8_i32_2490 c0_i32_2491
  let c1_i32_2492 : BitVec 32 := 1#32
  let v2006 : BitVec 32 := Scalar.select v2005 c1_i32_2492 c8_i32_2490
  let v2007 : BitVec 32 := Scalar.remsi v2004 v2006
  let c0_i32_2494 : BitVec 32 := 0#32
  let v2009 : BitVec 1 := Scalar.cmpi .slt v2007 c0_i32_2494
  let c0_i32_2495 : BitVec 32 := 0#32
  let v2010 : BitVec 1 := Scalar.cmpi .slt v2006 c0_i32_2495
  let v2011 : BitVec 1 := Scalar.xori v2009 v2010
  let c0_i32_2493 : BitVec 32 := 0#32
  let v2008 : BitVec 1 := Scalar.cmpi .ne v2007 c0_i32_2493
  let v2012 : BitVec 1 := Scalar.andi v2011 v2008
  let v2013 : BitVec 32 := Scalar.addi v2007 v2006
  let v2014 : BitVec 32 := Scalar.select v2012 v2013 v2007
  let c512_i32_2511 : BitVec 32 := 512#32
  let v2029 : BitVec 32 := Scalar.muli v2014 c512_i32_2511
  let c1536_i32_2516 : BitVec 32 := 1536#32
  ![v2029.toNat, 1536]
def k0_dev69 (d0 : Dev nD) : Nat :=
  let c0_i32_2534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2533 : BitVec 32 := 1#32
  let v2041 : BitVec 32 := Scalar.muli v29 c1_i32_2533
  let v2042 : BitVec 32 := Scalar.addi c0_i32_2534 v2041
  v2042.toNat
def k0_dev70 (d0 : Dev nD) : Nat :=
  let c0_i32_2560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2559 : BitVec 32 := 1#32
  let v2051 : BitVec 32 := Scalar.muli v29 c1_i32_2559
  let v2052 : BitVec 32 := Scalar.addi c0_i32_2560 v2051
  v2052.toNat
def k0_dev71 (d0 : Dev nD) : Nat :=
  let c0_i32_2590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2589 : BitVec 32 := 1#32
  let v2069 : BitVec 32 := Scalar.muli v48 c1_i32_2589
  let v2070 : BitVec 32 := Scalar.addi c0_i32_2590 v2069
  v2070.toNat
def k0_dev72 (d0 : Dev nD) : Nat :=
  let c0_i32_2620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2619 : BitVec 32 := 1#32
  let v2087 : BitVec 32 := Scalar.muli v29 c1_i32_2619
  let v2088 : BitVec 32 := Scalar.addi c0_i32_2620 v2087
  v2088.toNat
def k0_dev73 (d0 : Dev nD) : Nat :=
  let c0_i32_2650 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2649 : BitVec 32 := 1#32
  let v2105 : BitVec 32 := Scalar.muli v48 c1_i32_2649
  let v2106 : BitVec 32 := Scalar.addi c0_i32_2650 v2105
  v2106.toNat
def k0_dev74 (d0 : Dev nD) : Nat :=
  let c0_i32_2700 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2699 : BitVec 32 := 1#32
  let v2152 : BitVec 32 := Scalar.muli v48 c1_i32_2699
  let v2153 : BitVec 32 := Scalar.addi c0_i32_2700 v2152
  v2153.toNat
def k0_dev75 (d0 : Dev nD) : Nat :=
  let c0_i32_2746 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2745 : BitVec 32 := 1#32
  let v2191 : BitVec 32 := Scalar.muli v29 c1_i32_2745
  let v2192 : BitVec 32 := Scalar.addi c0_i32_2746 v2191
  v2192.toNat
def k0_dev76 (d0 : Dev nD) : Nat :=
  let c0_i32_2792 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2791 : BitVec 32 := 1#32
  let v2230 : BitVec 32 := Scalar.muli v48 c1_i32_2791
  let v2231 : BitVec 32 := Scalar.addi c0_i32_2792 v2230
  v2231.toNat
def k0_dev77 (d0 : Dev nD) : Nat :=
  let c0_i32_2838 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2837 : BitVec 32 := 1#32
  let v2269 : BitVec 32 := Scalar.muli v29 c1_i32_2837
  let v2270 : BitVec 32 := Scalar.addi c0_i32_2838 v2269
  v2270.toNat
def k0_dev78 (d0 : Dev nD) : Nat :=
  let c0_i32_2864 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2863 : BitVec 32 := 1#32
  let v2279 : BitVec 32 := Scalar.muli v29 c1_i32_2863
  let v2280 : BitVec 32 := Scalar.addi c0_i32_2864 v2279
  v2280.toNat
def k0_dev79 (d0 : Dev nD) : Nat :=
  let c0_i32_2894 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2893 : BitVec 32 := 1#32
  let v2297 : BitVec 32 := Scalar.muli v48 c1_i32_2893
  let v2298 : BitVec 32 := Scalar.addi c0_i32_2894 v2297
  v2298.toNat
def k0_dev80 (d0 : Dev nD) : Nat :=
  let c0_i32_2924 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_2923 : BitVec 32 := 1#32
  let v2315 : BitVec 32 := Scalar.muli v29 c1_i32_2923
  let v2316 : BitVec 32 := Scalar.addi c0_i32_2924 v2315
  v2316.toNat
def k0_dev81 (d0 : Dev nD) : Nat :=
  let c0_i32_2954 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_2953 : BitVec 32 := 1#32
  let v2333 : BitVec 32 := Scalar.muli v48 c1_i32_2953
  let v2334 : BitVec 32 := Scalar.addi c0_i32_2954 v2333
  v2334.toNat
def k0_dev82 (d0 : Dev nD) : Nat :=
  let c0_i32_3004 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3003 : BitVec 32 := 1#32
  let v2380 : BitVec 32 := Scalar.muli v48 c1_i32_3003
  let v2381 : BitVec 32 := Scalar.addi c0_i32_3004 v2380
  v2381.toNat
def k0_dev83 (d0 : Dev nD) : Nat :=
  let c0_i32_3050 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3049 : BitVec 32 := 1#32
  let v2419 : BitVec 32 := Scalar.muli v29 c1_i32_3049
  let v2420 : BitVec 32 := Scalar.addi c0_i32_3050 v2419
  v2420.toNat
def k0_dev84 (d0 : Dev nD) : Nat :=
  let c0_i32_3096 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3095 : BitVec 32 := 1#32
  let v2458 : BitVec 32 := Scalar.muli v48 c1_i32_3095
  let v2459 : BitVec 32 := Scalar.addi c0_i32_3096 v2458
  v2459.toNat
def k0_dev85 (d0 : Dev nD) : Nat :=
  let c0_i32_3142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3141 : BitVec 32 := 1#32
  let v2497 : BitVec 32 := Scalar.muli v29 c1_i32_3141
  let v2498 : BitVec 32 := Scalar.addi c0_i32_3142 v2497
  v2498.toNat
def k0_dev86 (d0 : Dev nD) : Nat :=
  let c0_i32_3168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3167 : BitVec 32 := 1#32
  let v2507 : BitVec 32 := Scalar.muli v29 c1_i32_3167
  let v2508 : BitVec 32 := Scalar.addi c0_i32_3168 v2507
  v2508.toNat
def k0_dev87 (d0 : Dev nD) : Nat :=
  let c0_i32_3198 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3197 : BitVec 32 := 1#32
  let v2525 : BitVec 32 := Scalar.muli v48 c1_i32_3197
  let v2526 : BitVec 32 := Scalar.addi c0_i32_3198 v2525
  v2526.toNat
def k0_dev88 (d0 : Dev nD) : Nat :=
  let c0_i32_3228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3227 : BitVec 32 := 1#32
  let v2543 : BitVec 32 := Scalar.muli v29 c1_i32_3227
  let v2544 : BitVec 32 := Scalar.addi c0_i32_3228 v2543
  v2544.toNat
def k0_dev89 (d0 : Dev nD) : Nat :=
  let c0_i32_3258 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3257 : BitVec 32 := 1#32
  let v2561 : BitVec 32 := Scalar.muli v48 c1_i32_3257
  let v2562 : BitVec 32 := Scalar.addi c0_i32_3258 v2561
  v2562.toNat
def k0_dev90 (d0 : Dev nD) : Nat :=
  let c0_i32_3308 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3307 : BitVec 32 := 1#32
  let v2608 : BitVec 32 := Scalar.muli v48 c1_i32_3307
  let v2609 : BitVec 32 := Scalar.addi c0_i32_3308 v2608
  v2609.toNat
def k0_dev91 (d0 : Dev nD) : Nat :=
  let c0_i32_3354 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3353 : BitVec 32 := 1#32
  let v2647 : BitVec 32 := Scalar.muli v29 c1_i32_3353
  let v2648 : BitVec 32 := Scalar.addi c0_i32_3354 v2647
  v2648.toNat
def k0_dev92 (d0 : Dev nD) : Nat :=
  let c0_i32_3400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3399 : BitVec 32 := 1#32
  let v2686 : BitVec 32 := Scalar.muli v48 c1_i32_3399
  let v2687 : BitVec 32 := Scalar.addi c0_i32_3400 v2686
  v2687.toNat
def k0_dev93 (d0 : Dev nD) : Nat :=
  let c0_i32_3446 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3445 : BitVec 32 := 1#32
  let v2725 : BitVec 32 := Scalar.muli v29 c1_i32_3445
  let v2726 : BitVec 32 := Scalar.addi c0_i32_3446 v2725
  v2726.toNat
def k0_dev94 (d0 : Dev nD) : Nat :=
  let c0_i32_3472 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3471 : BitVec 32 := 1#32
  let v2735 : BitVec 32 := Scalar.muli v29 c1_i32_3471
  let v2736 : BitVec 32 := Scalar.addi c0_i32_3472 v2735
  v2736.toNat
def k0_dev95 (d0 : Dev nD) : Nat :=
  let c0_i32_3502 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3501 : BitVec 32 := 1#32
  let v2753 : BitVec 32 := Scalar.muli v48 c1_i32_3501
  let v2754 : BitVec 32 := Scalar.addi c0_i32_3502 v2753
  v2754.toNat
def k0_dev96 (d0 : Dev nD) : Nat :=
  let c0_i32_3532 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3531 : BitVec 32 := 1#32
  let v2771 : BitVec 32 := Scalar.muli v29 c1_i32_3531
  let v2772 : BitVec 32 := Scalar.addi c0_i32_3532 v2771
  v2772.toNat
def k0_dev97 (d0 : Dev nD) : Nat :=
  let c0_i32_3562 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3561 : BitVec 32 := 1#32
  let v2789 : BitVec 32 := Scalar.muli v48 c1_i32_3561
  let v2790 : BitVec 32 := Scalar.addi c0_i32_3562 v2789
  v2790.toNat
def k0_dev98 (d0 : Dev nD) : Nat :=
  let c0_i32_3612 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3611 : BitVec 32 := 1#32
  let v2836 : BitVec 32 := Scalar.muli v48 c1_i32_3611
  let v2837 : BitVec 32 := Scalar.addi c0_i32_3612 v2836
  v2837.toNat
def k0_dev99 (d0 : Dev nD) : Nat :=
  let c0_i32_3658 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3657 : BitVec 32 := 1#32
  let v2875 : BitVec 32 := Scalar.muli v29 c1_i32_3657
  let v2876 : BitVec 32 := Scalar.addi c0_i32_3658 v2875
  v2876.toNat
def k0_dev100 (d0 : Dev nD) : Nat :=
  let c0_i32_3704 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3703 : BitVec 32 := 1#32
  let v2914 : BitVec 32 := Scalar.muli v48 c1_i32_3703
  let v2915 : BitVec 32 := Scalar.addi c0_i32_3704 v2914
  v2915.toNat
def k0_dev101 (d0 : Dev nD) : Nat :=
  let c0_i32_3750 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3749 : BitVec 32 := 1#32
  let v2953 : BitVec 32 := Scalar.muli v29 c1_i32_3749
  let v2954 : BitVec 32 := Scalar.addi c0_i32_3750 v2953
  v2954.toNat
def k0_dev102 (d0 : Dev nD) : Nat :=
  let c0_i32_3776 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3775 : BitVec 32 := 1#32
  let v2963 : BitVec 32 := Scalar.muli v29 c1_i32_3775
  let v2964 : BitVec 32 := Scalar.addi c0_i32_3776 v2963
  v2964.toNat
def k0_dev103 (d0 : Dev nD) : Nat :=
  let c0_i32_3806 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3805 : BitVec 32 := 1#32
  let v2981 : BitVec 32 := Scalar.muli v48 c1_i32_3805
  let v2982 : BitVec 32 := Scalar.addi c0_i32_3806 v2981
  v2982.toNat
def k0_dev104 (d0 : Dev nD) : Nat :=
  let c0_i32_3836 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_4 : BitVec 32 := 1#32
  let v11 : BitVec 32 := Scalar.addi v10 c1_i32_4
  let c8_i32_5 : BitVec 32 := 8#32
  let c0_i32 : BitVec 32 := 0#32
  let v12 : BitVec 1 := Scalar.cmpi .eq c8_i32_5 c0_i32
  let c1_i32_6 : BitVec 32 := 1#32
  let v13 : BitVec 32 := Scalar.select v12 c1_i32_6 c8_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c4_i32_10 : BitVec 32 := 4#32
  let v22 : BitVec 1 := Scalar.cmpi .eq v21 c4_i32_10
  let c7_i32_13 : BitVec 32 := 7#32
  let c7_i32_11 : BitVec 32 := 7#32
  let v23 : BitVec 1 := Scalar.cmpi .eq v21 c7_i32_11
  let c4_i32_12 : BitVec 32 := 4#32
  let v24 : BitVec 32 := Scalar.select v23 c4_i32_12 v21
  let v25 : BitVec 32 := Scalar.select v22 c7_i32_13 v24
  let c5_i32_14 : BitVec 32 := 5#32
  let v26 : BitVec 1 := Scalar.cmpi .eq v25 c5_i32_14
  let c6_i32_17 : BitVec 32 := 6#32
  let c6_i32_15 : BitVec 32 := 6#32
  let v27 : BitVec 1 := Scalar.cmpi .eq v25 c6_i32_15
  let c5_i32_16 : BitVec 32 := 5#32
  let v28 : BitVec 32 := Scalar.select v27 c5_i32_16 v25
  let v29 : BitVec 32 := Scalar.select v26 c6_i32_17 v28
  let c1_i32_3835 : BitVec 32 := 1#32
  let v2999 : BitVec 32 := Scalar.muli v29 c1_i32_3835
  let v3000 : BitVec 32 := Scalar.addi c0_i32_3836 v2999
  v3000.toNat
def k0_dev105 (d0 : Dev nD) : Nat :=
  let c0_i32_3866 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .eq v2 c4_i32
  let c7_i32_1 : BitVec 32 := 7#32
  let c7_i32 : BitVec 32 := 7#32
  let v4 : BitVec 1 := Scalar.cmpi .eq v2 c7_i32
  let c4_i32_0 : BitVec 32 := 4#32
  let v5 : BitVec 32 := Scalar.select v4 c4_i32_0 v2
  let v6 : BitVec 32 := Scalar.select v3 c7_i32_1 v5
  let c5_i32 : BitVec 32 := 5#32
  let v7 : BitVec 1 := Scalar.cmpi .eq v6 c5_i32
  let c6_i32_3 : BitVec 32 := 6#32
  let c6_i32 : BitVec 32 := 6#32
  let v8 : BitVec 1 := Scalar.cmpi .eq v6 c6_i32
  let c5_i32_2 : BitVec 32 := 5#32
  let v9 : BitVec 32 := Scalar.select v8 c5_i32_2 v6
  let v10 : BitVec 32 := Scalar.select v7 c6_i32_3 v9
  let c1_i32_18 : BitVec 32 := 1#32
  let v30 : BitVec 32 := Scalar.subi v10 c1_i32_18
  let c8_i32_19 : BitVec 32 := 8#32
  let c0_i32_20 : BitVec 32 := 0#32
  let v31 : BitVec 1 := Scalar.cmpi .eq c8_i32_19 c0_i32_20
  let c1_i32_21 : BitVec 32 := 1#32
  let v32 : BitVec 32 := Scalar.select v31 c1_i32_21 c8_i32_19
  let v33 : BitVec 32 := Scalar.remsi v30 v32
  let c0_i32_23 : BitVec 32 := 0#32
  let v35 : BitVec 1 := Scalar.cmpi .slt v33 c0_i32_23
  let c0_i32_24 : BitVec 32 := 0#32
  let v36 : BitVec 1 := Scalar.cmpi .slt v32 c0_i32_24
  let v37 : BitVec 1 := Scalar.xori v35 v36
  let c0_i32_22 : BitVec 32 := 0#32
  let v34 : BitVec 1 := Scalar.cmpi .ne v33 c0_i32_22
  let v38 : BitVec 1 := Scalar.andi v37 v34
  let v39 : BitVec 32 := Scalar.addi v33 v32
  let v40 : BitVec 32 := Scalar.select v38 v39 v33
  let c4_i32_25 : BitVec 32 := 4#32
  let v41 : BitVec 1 := Scalar.cmpi .eq v40 c4_i32_25
  let c7_i32_28 : BitVec 32 := 7#32
  let c7_i32_26 : BitVec 32 := 7#32
  let v42 : BitVec 1 := Scalar.cmpi .eq v40 c7_i32_26
  let c4_i32_27 : BitVec 32 := 4#32
  let v43 : BitVec 32 := Scalar.select v42 c4_i32_27 v40
  let v44 : BitVec 32 := Scalar.select v41 c7_i32_28 v43
  let c5_i32_29 : BitVec 32 := 5#32
  let v45 : BitVec 1 := Scalar.cmpi .eq v44 c5_i32_29
  let c6_i32_32 : BitVec 32 := 6#32
  let c6_i32_30 : BitVec 32 := 6#32
  let v46 : BitVec 1 := Scalar.cmpi .eq v44 c6_i32_30
  let c5_i32_31 : BitVec 32 := 5#32
  let v47 : BitVec 32 := Scalar.select v46 c5_i32_31 v44
  let v48 : BitVec 32 := Scalar.select v45 c6_i32_32 v47
  let c1_i32_3865 : BitVec 32 := 1#32
  let v3017 : BitVec 32 := Scalar.muli v48 c1_i32_3865
  let v3018 : BitVec 32 := Scalar.addi c0_i32_3866 v3017
  v3018.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x2048, .bf16⟩
  | .hbm, ⟨2, _⟩ => ⟨S4096x4096, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩

abbrev nD : Nat := 1
abbrev τ : Topo := Topo.v7x

variable {F : FTy → Type} [FloatOps F]
-- ==== Proof.Bridge.lean ====
/-
# The program as printed and the program the idealize pass printed are the same program
-/
module

public import proofs.«01_k».proof.Kernel
public import proofs.«01_k».proof.KernelIdeal
public import proofs.«01_k».proof.Proof.Gen.Kernel
public import proofs.«01_k».proof.Proof.Gen.KernelIdeal

@[expose] public section

set_option maxRecDepth 1000000
set_option maxHeartbeats 4000000

namespace Cert.Bridge

open Idealize.ShloMosaic

variable {F : FTy → Type} [FloatOps F]

/-- The kernel bodies agree. -/
theorem defs₀_eq : (@Cert.Kernel.defs₀ F _ Cert.Kernel.Gen.facts)  = @Cert.KernelIdeal.defs₀ F _ Cert.KernelIdeal.Gen.facts := by
  unfold Cert.Kernel.defs₀ Cert.KernelIdeal.defs₀
  refine congrArg Defs.onTc (funext fun l => funext fun a => ?_)
  match l, a with
  | 0, (t, s) => rfl
  | ⟨n + 1, h⟩, _ => exact absurd h (Nat.not_lt.2 (Nat.le_add_left _ _))

/-- The body tables agree. -/
theorem defs_eq : (@Cert.Kernel.defs F _ Cert.Kernel.Gen.facts)  = @Cert.KernelIdeal.defs F _ Cert.KernelIdeal.Gen.facts :=
  congrArg (Pipeline.defs (Cert.KernelIdeal.pcfgs (F := F))) defs₀_eq

/-- The main functions agree. -/
theorem main_eq : (@Cert.Kernel.main F Cert.Kernel.Gen.facts)  = @Cert.KernelIdeal.main F Cert.KernelIdeal.Gen.facts := rfl

end Cert.Bridge
-- ==== Proof.Proto.lean ====
/-
# The protocol of the all-gathered matmul kernel

Eight devices on a ring (`pm` is the ring order: the two halves of the device numbering run in opposite directions).
Direction 0 runs to the next device of the ring, direction 1 to the one before; each direction carries two lanes.

Cells of a device and what is waited for on them:

* `bar`: both ring neighbours announce themselves; each hands over its receive slots of the direction it is the target of.
* `rr d σ q` (`rs d σ q`): arrival (departure) of the reduce-scatter message of direction `d`, lane `q`, slot `σ`; step `s`
  uses slot `s mod 2` and round `s / 2`. An arrival hands over the slot with the partial sum.
* `gr d σ q` (`gs d σ q`): the same for the all-gather of the quantised blocks.
* `rc d`, `gc d`: credits; the reader of a slot tells its writer that the slot is free again. The ten units of a cell may
  arrive in any order, so the slot itself waits in an invariant (`Release`) and a credit carries the fact of its release,
  with those of all credits before it.
* `axs o`, `axr o`: departure and arrival of a device's row of the maximum array.
* `ocp d q`: local copies of a dequantised block into the result.

Every device's row of the maximum array is written by every other device without a handshake of its own: the rows reach
their writers with the reduce-scatter messages of direction 0, lane 0 (`ride`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

/-! ## The ring -/

/-- Ring position of a device, and the device at a ring position. -/
def pm : Fin 8 → Fin 8 := ![0, 1, 2, 3, 7, 6, 5, 4]

set_option backward.proofsInPublic true in
/-- The device `n` places further on the ring. -/
def sh (n : ℕ) (c : Dev nD) : Dev nD := pm ⟨((pm c).val + n) % 8, Nat.mod_lt _ (by decide)⟩

theorem pm_pm (c : Fin 8) : pm (pm c) = c := by revert c; decide
theorem sh_sh (a b : ℕ) (c : Dev nD) : sh a (sh b c) = sh (a + b) c := by
  unfold sh; refine congrArg pm (Fin.ext ?_); show ((pm (pm _)).val + a) % 8 = ((pm c).val + (a + b)) % 8
  rw [pm_pm]; show (((pm c).val + b) % 8 + a) % 8 = _; omega
theorem sh_congr {a b : ℕ} (h : a % 8 = b % 8) (c : Dev nD) : sh a c = sh b c := by
  unfold sh; congr 1; apply Fin.ext; show (_ + a) % 8 = (_ + b) % 8; omega
theorem sh_zero (c : Dev nD) : sh 0 c = c := by revert c; decide
theorem sh_of_mod {a : ℕ} (h : a % 8 = 0) (c : Dev nD) : sh a c = c := (sh_congr (b := 0) h c).trans (sh_zero c)
theorem pm_sh (n : ℕ) (c : Dev nD) : (pm (sh n c)).val = ((pm c).val + n) % 8 := by unfold sh; rw [pm_pm]

/-- One step in direction `d`, -/
def stp (d : Fin 2) : ℕ := if d = 0 then 1 else 7
/-- to the device direction `d` sends to, -/
def tgt (d : Fin 2) (c : Dev nD) : Dev nD := sh (stp d) c
/-- and back to the one it receives from; -/
def src (d : Fin 2) (c : Dev nD) : Dev nD := sh (8 - stp d) c
/-- `n` steps back. -/
def up (d : Fin 2) (n : ℕ) (c : Dev nD) : Dev nD := sh ((8 - stp d) * n) c

theorem src_tgt (d : Fin 2) (c : Dev nD) : src d (tgt d c) = c := by revert d c; decide
theorem tgt_src (d : Fin 2) (c : Dev nD) : tgt d (src d c) = c := by revert d c; decide
theorem up_succ (d : Fin 2) (n : ℕ) (c : Dev nD) : up d n (src d c) = up d (n + 1) c := by
  unfold up src; rw [sh_sh]; congr 1
theorem up_one (d : Fin 2) (c : Dev nD) : up d 1 c = src d c := by unfold up src; rw [Nat.mul_one]
theorem up_zero (d : Fin 2) (c : Dev nD) : up d 0 c = c := by unfold up; exact sh_zero c

/-! ## The cells -/

inductive CK
  | bar | rr (d σ q : Fin 2) | rs (d σ q : Fin 2) | gr (d σ q : Fin 2) | gs (d σ q : Fin 2)
  | axs (o : Fin 7) | axr (o : Fin 7) | rc (d : Fin 2) | gc (d : Fin 2) | ocp (d q : Fin 2)
  deriving DecidableEq

set_option backward.proofsInPublic true in
instance : Fintype CK where
  elems := insert .bar ((Finset.univ.image fun x : Fin 2 × Fin 2 × Fin 2 => CK.rr x.1 x.2.1 x.2.2)
    ∪ (Finset.univ.image fun x : Fin 2 × Fin 2 × Fin 2 => CK.rs x.1 x.2.1 x.2.2)
    ∪ (Finset.univ.image fun x : Fin 2 × Fin 2 × Fin 2 => CK.gr x.1 x.2.1 x.2.2)
    ∪ (Finset.univ.image fun x : Fin 2 × Fin 2 × Fin 2 => CK.gs x.1 x.2.1 x.2.2)
    ∪ (Finset.univ.image CK.axs) ∪ (Finset.univ.image CK.axr) ∪ (Finset.univ.image CK.rc) ∪ (Finset.univ.image CK.gc)
    ∪ (Finset.univ.image fun x : Fin 2 × Fin 2 => CK.ocp x.1 x.2))
  complete k := by
    cases k with
    | bar => decide
    | rr d σ q => revert d σ q; decide
    | rs d σ q => revert d σ q; decide
    | gr d σ q => revert d σ q; decide
    | gs d σ q => revert d σ q; decide
    | axs o => revert o; decide
    | axr o => revert o; decide
    | rc d => revert d; decide
    | gc d => revert d; decide
    | ocp d q => revert d q; decide

set_option backward.proofsInPublic true in
/-- The semaphore behind each cell. -/
def semOf : CK → SemLoc sig
  | .bar => .reg ⟨4, by decide⟩
  | .rc d => .reg ⟨d.val, by have := d.isLt; show _ < 5; omega⟩
  | .gc d => .reg ⟨2 + d.val, by have := d.isLt; show _ < 5; omega⟩
  | .ocp d q => .dma ⟨2 + (2 * d.val + q.val), by have := d.isLt; have := q.isLt; show _ < 52; omega⟩
  | .rs d σ q => .dma ⟨6 + 8 * d.val + (2 * σ.val + q.val), by have := d.isLt; have := q.isLt; have := σ.isLt; show _ < 52; omega⟩
  | .rr d σ q => .dma ⟨10 + 8 * d.val + (2 * σ.val + q.val), by have := d.isLt; have := q.isLt; have := σ.isLt; show _ < 52; omega⟩
  | .gs d σ q => .dma ⟨22 + 8 * d.val + (2 * σ.val + q.val), by have := d.isLt; have := q.isLt; have := σ.isLt; show _ < 52; omega⟩
  | .gr d σ q => .dma ⟨26 + 8 * d.val + (2 * σ.val + q.val), by have := d.isLt; have := q.isLt; have := σ.isLt; show _ < 52; omega⟩
  | .axs o => .dma ⟨38 + o.val, by have := o.isLt; show _ < 52; omega⟩
  | .axr o => .dma ⟨45 + o.val, by have := o.isLt; show _ < 52; omega⟩

theorem semOf_inj : Function.Injective semOf := by
  have h : ∀ a b : CK, semOf a = semOf b → a = b := by decide +kernel
  exact fun a b => h a b

open Classical in
/-- The cell a semaphore is, if it is one. -/
def ckOf (sm : SemLoc sig) : Option CK := if h : ∃ k, semOf k = sm then some h.choose else none
theorem ckOf_semOf (k : CK) : ckOf (semOf k) = some k := by
  have h : ∃ k', semOf k' = semOf k := ⟨k, rfl⟩
  unfold ckOf; rw [dif_pos h]; exact congrArg some (semOf_inj h.choose_spec)

abbrev cell (c : Dev nD) (k : CK) : GSem nD τ sig := ((c : Thread nD τ), semOf k)

/-! ## The memrefs -/

def inb4 (a b : Fin 2) : ∀ i, (![a.val, b.val, 0, 0] : Fin 4 → ℕ) i + S1x1x512x512.size i ≤ S2x2x512x512.size i := by
  revert a b; decide
def inb3 (a : Fin 2) : ∀ i, (![a.val, 0, 0] : Fin 3 → ℕ) i + S1x512x512.size i ≤ S2x512x512.size i := by
  revert a; decide
def inbC (j : Fin 8) : ∀ i, (![j.val, 0, 0] : Fin 3 → ℕ) i + S1x512x2048.size i ≤ S8x512x2048.size i := by
  revert j; decide
def inbQ (j : Fin 8) (d q : Fin 2) : ∀ i, (![j.val, 0, d.val * 1024 + q.val * 512] : Fin 3 → ℕ) i + S1x512x512.size i ≤ S8x512x2048.size i := by
  revert j d q; decide
def inbRow (i : Fin 8) : ∀ a, (![i.val, 0, 0] : Fin 3 → ℕ) a + S1x8x128.size a ≤ S8x8x128.size a := by
  revert i; decide
def inbO (n : Fin 8) (d q : Fin 2) : ∀ a, (![512 * n.val, d.val * 1024 + q.val * 512] : Fin 2 → ℕ) a + S512x512.size a ≤ S4096x2048.size a := by
  revert n d q; decide

abbrev rect4 (a b : Fin 2) : Rect S2x2x512x512 := Rect.unit (s := S2x2x512x512) ![a.val, b.val, 0, 0] S1x1x512x512.size (inb4 a b)
abbrev rect3 (a : Fin 2) : Rect S2x512x512 := Rect.unit (s := S2x512x512) ![a.val, 0, 0] S1x512x512.size (inb3 a)
abbrev rectC (j : Fin 8) : Rect S8x512x2048 := Rect.unit (s := S8x512x2048) ![j.val, 0, 0] S1x512x2048.size (inbC j)
abbrev rectQ (j : Fin 8) (d q : Fin 2) : Rect S8x512x2048 := Rect.unit (s := S8x512x2048) ![j.val, 0, d.val * 1024 + q.val * 512] S1x512x512.size (inbQ j d q)
abbrev rectRow (i : Fin 8) : Rect S8x8x128 := Rect.unit (s := S8x8x128) ![i.val, 0, 0] S1x8x128.size (inbRow i)
abbrev rectO (n : Fin 8) (d q : Fin 2) : Rect S4096x2048 := Rect.unit (s := S4096x2048) ![512 * n.val, d.val * 1024 + q.val * 512] S512x512.size (inbO n d q)

/-- Slot `(a, b)` of a four-slot buffer, as a matrix, -/
abbrev slot4 {e : EltTy} (M : Memref sig .tc .vmem S2x2x512x512 e) (a b : Fin 2) : Memref sig .tc .vmem S512x512 e :=
  (M.slice (rect4 a b) (fun _ => rfl)).squeeze S512x512 squeezes_S1x1x512x512_S512x512
/-- and slot `a` of a two-slot one. -/
abbrev slot3 {e : EltTy} (M : Memref sig .tc .vmem S2x512x512 e) (a : Fin 2) : Memref sig .tc .vmem S512x512 e :=
  (M.slice (rect3 a) (fun _ => rfl)).squeeze S512x512 squeezes_S1x512x512_S512x512

abbrev xM : Memref sig .tc .vmem S4096x512 .bf16 := Memref.whole cc0_stg0_0
abbrev wM : Memref sig .tc .vmem S512x2048 .bf16 := Memref.whole cc0_stg1_0
abbrev outM : Memref sig .tc .hbm S4096x2048 .bf16 := Memref.whole main_v1
abbrev wbM : Memref sig .tc .vmem S512x2048 .bf16 := Memref.whole cc0_scratch0
abbrev ostM : Memref sig .tc .vmem S2x2x512x512 .bf16 := Memref.whole cc0_scratch1
abbrev partM : Memref sig .tc .vmem S8x512x2048 .bf16 := Memref.whole cc0_scratch3
abbrev amM : Memref sig .tc .vmem S8x8x128 .f32 := Memref.whole cc0_scratch12
/-- Reduce-scatter receive and send buffers, all-gather buffers, own quantised blocks, by direction. -/
abbrev rsB (d : Fin 2) : Memref sig .tc .vmem S2x2x512x512 .bf16 := if d = 0 then Memref.whole cc0_scratch4 else Memref.whole cc0_scratch5
abbrev sdB (d : Fin 2) : Memref sig .tc .vmem S2x2x512x512 .bf16 := if d = 0 then Memref.whole cc0_scratch6 else Memref.whole cc0_scratch7
abbrev agB (d : Fin 2) : Memref sig .tc .vmem S2x2x512x512 .i8 := if d = 0 then Memref.whole cc0_scratch8 else Memref.whole cc0_scratch9
abbrev qB (d : Fin 2) : Memref sig .tc .vmem S2x512x512 .i8 := if d = 0 then Memref.whole cc0_scratch10 else Memref.whole cc0_scratch11

abbrev chunkM (j : Fin 8) : Memref sig .tc .vmem S1x512x2048 .bf16 := partM.slice (rectC j) (fun _ => rfl)
abbrev quartM (j : Fin 8) (d q : Fin 2) : Memref sig .tc .vmem S1x512x512 .bf16 := partM.slice (rectQ j d q) (fun _ => rfl)
abbrev rowM (i : Fin 8) : Memref sig .tc .vmem S1x8x128 .f32 := amM.slice (rectRow i) (fun _ => rfl)
abbrev winM (n : Fin 8) (d q : Fin 2) : Memref sig .tc .hbm S512x512 .bf16 := outM.slice (rectO n d q) (fun _ => rfl)

/-! ## The contents -/

/-- A matrix read from a `[1,1,512,512]` block, and back; the same for `[1,512,512]`. -/
def sq4 {e : EltTy} (w : Vec F S1x1x512x512 e) : Vec F S512x512 e := fun i => w (Shape.reshapeEquiv squeezes_S1x1x512x512_S512x512.numel_eq i)
def un4 {e : EltTy} (X : Vec F S512x512 e) : Vec F S1x1x512x512 e := fun i => X ((Shape.reshapeEquiv squeezes_S1x1x512x512_S512x512.numel_eq).symm i)
def sq3 {e : EltTy} (w : Vec F S1x512x512 e) : Vec F S512x512 e := fun i => w (Shape.reshapeEquiv squeezes_S1x512x512_S512x512.numel_eq i)
def un3 {e : EltTy} (X : Vec F S512x512 e) : Vec F S1x512x512 e := fun i => X ((Shape.reshapeEquiv squeezes_S1x512x512_S512x512.numel_eq).symm i)
omit [FloatOps F] in
theorem un4_sq4 {e : EltTy} (w : Vec F S1x1x512x512 e) : un4 (sq4 w) = w := funext fun i => by unfold un4 sq4; rw [Equiv.apply_symm_apply]
omit [FloatOps F] in
theorem un3_sq3 {e : EltTy} (w : Vec F S1x512x512 e) : un3 (sq3 w) = w := funext fun i => by unfold un3 sq3; rw [Equiv.apply_symm_apply]
omit [FloatOps F] in
theorem sq4_un4 {e : EltTy} (w : Vec F S512x512 e) : sq4 (un4 w) = w := funext fun i => by unfold un4 sq4; dsimp only; rw [Equiv.symm_apply_apply]
omit [FloatOps F] in
theorem sq3_un3 {e : EltTy} (w : Vec F S512x512 e) : sq3 (un3 w) = w := funext fun i => by unfold un3 sq3; dsimp only; rw [Equiv.symm_apply_apply]

/-- What the devices' two argument blocks are. -/
structure Args (F : FTy → Type) where
  x : Dev nD → Vec F S4096x512 .bf16
  w : Dev nD → Vec F S512x2048 .bf16

variable (A : Args F)

/-- The rows of `x` multiplied for chunk `j`. -/
def xT (c : Dev nD) (j : Fin 8) : Vec F S512x512 .bf16 :=
  (xM.access (Rect.unit (s := S4096x512) (k0_off1 c (BitVec.ofNat 32 j.val)) S512x512.size (k0_off1_inb c j))).read (Elt F) (A.x c)
/-- Chunk `j` of the partial product, -/
def chunk (c : Dev nD) (j : Fin 8) : Vec F S1x512x2048 .bf16 := k0_pay2 (xT A c j) (k0_pay1 (A.w c))

set_option backward.proofsInPublic true in
def qIx (d q : Fin 2) (i : S1x512x512.Idx) : S1x512x2048.Idx :=
  fun a => ⟨(i a).val + (if a.val = 2 then d.val * 1024 + q.val * 512 else 0), by
    revert a; intro a
    have h := (i a).isLt
    have hd := d.isLt; have hq := q.isLt
    fin_cases a
    · exact h
    · exact h
    · have h' : (i (2 : Fin 3)).val < 512 := h
      show (i (2 : Fin 3)).val + (d.val * 1024 + q.val * 512) < 2048
      omega⟩
/-- and its part for direction `d`, lane `q`. -/
def Pt (c : Dev nD) (j : Fin 8) (d q : Fin 2) : Vec F S1x512x512 .bf16 := fun i => chunk A c j (qIx d q i)

set_option backward.proofsInPublic true in
/-- The chunk added at step `s`. -/
def pj (d : Fin 2) (s : ℕ) : Fin 8 := ⟨(if d = 0 then s else 8 - s) % 8, Nat.mod_lt _ (by decide)⟩

/-- The partial sum device `c` sends at step `s`. -/
def Snd (d q : Fin 2) : ℕ → Dev nD → Vec F S512x512 .bf16
  | 0, c => sq4 (k0_pay3 (Pt A c 0 d q))
  | s + 1, c => sq4 (k0_pay12 (un4 (Snd d q s (src d c))) (Pt A c (pj d (s + 1)) d q))

/-- The finished block of direction `d`, lane `q` on device `c`, -/
def Yv (d q : Fin 2) (c : Dev nD) : FVec F S512x512 .f32 := k0_pay44 (un4 (Snd A d q 6 (src d c))) (Pt A c (pj d 7) d q)
/-- its device's maximum, -/
def lrow (c : Dev nD) : Vec F S1x8x128 .f32 :=
  k0_pay48 (Yv A 0 0 c) (Yv A 1 0 c) (Yv A 0 1 c) (k0_pay46 (un4 (Snd A 1 1 6 (src 1 c)))) (Pt A c (pj 1 7) 1 1)
set_option backward.proofsInPublic true in
/-- all devices' maxima, -/
def gAll : Vec F S8x8x128 .f32 := fun i => lrow A (pm (i (0 : Fin 3))) (fun a => ⟨if a.val = 0 then 0 else (i a).val, by
    have h := (i a).isLt
    fin_cases a
    · exact Nat.one_pos
    · exact h
    · exact h⟩)
/-- the scale, -/
def scl : F .f32 := k0_pay49 (gAll A)
/-- the quantised block, -/
def Qv (d q : Fin 2) (c : Dev nD) : Vec F S512x512 .i8 := sq3 (k0_pay50 (Yv A d q c) (scl A))
/-- and what device `c` writes into the result at its `i`-th block of direction `d`, lane `q`. -/
def deqB (X : Vec F S512x512 .i8) : Vec F S512x512 .bf16 := sq4 (k0_pay59 (scl A) (un4 X))
def ost (d q : Fin 2) (i : ℕ) (c : Dev nD) : Vec F S512x512 .bf16 := deqB A (Qv A d q (up d i c))

set_option backward.proofsInPublic true in
/-- The row block of the result that is. -/
def wn (d : Fin 2) (i : ℕ) (c : Dev nD) : Fin 8 := ⟨((pm c).val + (if d = 0 then 9 + 7 * i else 7 + i)) % 8, Nat.mod_lt _ (by decide)⟩

/-! ## The algebra -/

/-- A slot whose writer learns of its release: device, phase (0 reduce-scatter, 1 all-gather), direction, slot, lane. -/
abbrev Key : Type := Dev nD × Fin 2 × Fin 2 × Fin 2 × Fin 2
abbrev UG : Type := URounds (GSem nD τ sig) ℕ × USlots Key
abbrev UU : Type := UR sig nD τ × UG

local notation "𝕄" => MT nD τ sig ℕ (Elt F) ℕ UU ℕ

abbrev EP : Emb (UR sig nD τ) (MT nD τ sig ℕ (Elt F) ℕ UU ℕ) := embL
def ER : Emb (URounds (GSem nD τ sig) ℕ) (MT nD τ sig ℕ (Elt F) ℕ UU ℕ) := (Emb.inl : Emb _ UG).trans embR
def ES : Emb (USlots Key) (MT nD τ sig ℕ (Elt F) ℕ UU ℕ) := (Emb.inr : Emb _ UG).trans embR
omit [FloatOps F] in
instance ER_landsIn : (ER (F := F)).LandsIn (upEmb : UEmb _ (MT nD τ sig ℕ (Elt F) ℕ UU ℕ)) := by unfold ER; infer_instance
omit [FloatOps F] in
instance ES_landsIn : (ES (F := F)).LandsIn (upEmb : UEmb _ (MT nD τ sig ℕ (Elt F) ℕ UU ℕ)) := by unfold ES; infer_instance

/-! ## The pieces of memory that change hands -/

/-- A memref owned whole at some contents. -/
def anyAt (c : Dev nD) {sp : Space} {s : Shape} {e : EltTy} (M : Memref sig .tc sp s e) : sProp 𝕄 :=
  iprop(∃ X, owns (c : Thread nD τ) M fullShare X)
omit [FloatOps F] in
instance anyAt_storable (c : Dev nD) {sp : Space} {s : Shape} {e : EltTy} (M : Memref sig .tc sp s e) :
    Storable (upEmb : UEmb _ 𝕄) (anyAt (F := F) c M) := by unfold anyAt; infer_instance

/-- What rides with the message of step `s` that device `c` receives: on the device `s + 1` places before `c`, the rows of the
    maximum array that `c` and the devices after it are to write, as far as the message goes on. -/
def ride (s : ℕ) (c : Dev nD) : sProp 𝕄 :=
  bigSep (Finset.Ico (s + 1) 8) fun k => anyAt (sh (7 * (s + 1)) c) (rowM (pm (sh (k + 7 * (s + 1)) c)))
omit [FloatOps F] in
instance ride_storable (s : ℕ) (c : Dev nD) : Storable (upEmb : UEmb _ 𝕄) (ride (F := F) s c) := by unfold ride; infer_instance

def rideIf (d q : Fin 2) (s : ℕ) (c : Dev nD) : sProp 𝕄 := if d = 0 ∧ q = 0 then ride s c else iprop(emp)
omit [FloatOps F] in
instance rideIf_storable (d q : Fin 2) (s : ℕ) (c : Dev nD) : Storable (upEmb : UEmb _ 𝕄) (rideIf (F := F) d q s c) := by
  unfold rideIf; split <;> infer_instance

/-- The receive cell of slot `σ`, lane `q`, of phase `ph`. -/
def rcv (ph d σ q : Fin 2) : CK := if ph = 0 then .rr d σ q else .gr d σ q
def snt (ph d σ q : Fin 2) : CK := if ph = 0 then .rs d σ q else .gs d σ q
def crdK (ph d : Fin 2) : CK := if ph = 0 then .rc d else .gc d

/-- The slots a device lends to its neighbour, -/
def slotOf (k : Key) : sProp 𝕄 :=
  if k.2.1 = 0 then anyAt k.1 (slot4 (rsB k.2.2.1) k.2.2.2.1 k.2.2.2.2) else anyAt k.1 (slot4 (agB k.2.2.1) k.2.2.2.1 k.2.2.2.2)
omit [FloatOps F] in
instance slotOf_storable (k : Key) : Storable (upEmb : UEmb _ 𝕄) (slotOf (F := F) k) := by unfold slotOf; split <;> infer_instance

/-- all eight of direction `d`, phase and slot and lane free. -/
def barPay (d : Fin 2) (e : Dev nD) : sProp 𝕄 := bigSep (Finset.univ : Finset (Fin 2 × Fin 2 × Fin 2)) fun x => slotOf (e, x.1, d, x.2.1, x.2.2)
omit [FloatOps F] in
instance barPay_storable (d : Fin 2) (e : Dev nD) : Storable (upEmb : UEmb _ 𝕄) (barPay (F := F) d e) := by unfold barPay; infer_instance

set_option backward.proofsInPublic true in
/-- Slot of step `s`, -/
def sl (s : ℕ) : Fin 2 := ⟨s % 2, Nat.mod_lt _ (by decide)⟩

/-- The fact credit `i` of direction `d` stands for, the reader being `e`. -/
def relFact (ph d : Fin 2) (e : Dev nD) (i : ℕ) : sProp 𝕄 :=
  iprop(released ES (e, ph, d, sl (i / 2), sl i) (i / 2 / 2 + 1) ∗ reached ER (cell e (rcv ph d (sl (i / 2)) (sl i))) (i / 2 / 2 + 1))
omit [FloatOps F] in
instance relFact_storable (ph d : Fin 2) (e : Dev nD) (i : ℕ) : Storable (upEmb : UEmb _ 𝕄) (relFact (F := F) ph d e i) := by unfold relFact; infer_instance
omit [FloatOps F] in
instance relFact_persistent (ph d : Fin 2) (e : Dev nD) (i : ℕ) : Persistent (relFact (F := F) ph d e i) := by unfold relFact; infer_instance
def relUpTo (ph d : Fin 2) (e : Dev nD) (n : ℕ) : sProp 𝕄 := bigSep (Finset.range n) (relFact ph d e)
omit [FloatOps F] in
instance relUpTo_storable (ph d : Fin 2) (e : Dev nD) (n : ℕ) : Storable (upEmb : UEmb _ 𝕄) (relUpTo (F := F) ph d e n) := by unfold relUpTo; infer_instance
omit [FloatOps F] in
instance relUpTo_persistent (ph d : Fin 2) (e : Dev nD) (n : ℕ) : Persistent (relUpTo (F := F) ph d e n) := by unfold relUpTo; infer_instance

/-- The shares a device's own row is read at by its seven transfers, and what is left. -/
def qs : ℕ → PosShare TreeShare
  | 0 => fullShare
  | n + 1 => (qs n).right

/-- The source of the all-gather message of step `t`: the own block first, then the slot received one step before. -/
def gsM (d q : Fin 2) (t : ℕ) : Memref sig .tc .vmem S512x512 .i8 := if t = 0 then slot3 (qB d) q else slot4 (agB d) (sl (t + 1)) q

/-! ## The schedule -/

def rnds (σ : Fin 2) : ℕ := if σ = 0 then 4 else 3

def dut : CK → ℕ → Finset ℕ
  | .bar, r => if r = 0 then {0, 1} else ∅
  | .rr _ σ _, r | .rs _ σ _, r | .gr _ σ _, r | .gs _ σ _, r => if r < rnds σ then {0} else ∅
  | .axs _, r | .axr _, r => if r = 0 then {0} else ∅
  | .rc _, r | .gc _, r => if r = 0 then Finset.range 10 else ∅
  | .ocp _ _, r => if r < 8 then {0} else ∅

/-- The units of one transfer onto each kind of cell. -/
def NB : ℕ := (slot4 (rsB 0) 0 0).view.dmaCredit
def NG : ℕ := (slot4 (agB 0) 0 0).view.dmaCredit
def NA : ℕ := (rowM 0).view.dmaCredit
def NO : ℕ := (winM 0 0 0).view.dmaCredit
def amt : CK → ℕ
  | .bar | .rc _ | .gc _ => 1
  | .rr _ _ _ | .rs _ _ _ => NB
  | .gr _ _ _ | .gs _ _ _ => NG
  | .axs _ | .axr _ => NA
  | .ocp _ _ => NO
theorem amt_pos (k : CK) : 0 < amt k := by
  have h1 : 0 < NB := View.dmaCredit_pos _ (by decide)
  have h2 : 0 < NG := View.dmaCredit_pos _ (by decide)
  have h3 : 0 < NA := View.dmaCredit_pos _ (by decide)
  have h4 : 0 < NO := View.dmaCredit_pos _ (by decide)
  cases k <;> simp only [amt] <;> first | assumption | exact Nat.one_pos

def pay (c : Dev nD) : CK → ℕ → ℕ → sProp 𝕄
  | .bar, _, i => barPay (sl i) (tgt (sl i) c)
  | .rr d σ q, r, _ => iprop(owns (c : Thread nD τ) (slot4 (rsB d) σ q) fullShare (Snd A d q (2 * r + σ.val) (src d c))
      ∗ rideIf d q (2 * r + σ.val) c)
  | .rs d σ q, r, _ => owns (c : Thread nD τ) (slot4 (sdB d) σ q) fullShare (Snd A d q (2 * r + σ.val) c)
  | .gr d σ q, r, _ => owns (c : Thread nD τ) (slot4 (agB d) σ q) fullShare (Qv A d q (up d (2 * r + σ.val + 1) c))
  | .gs d σ q, r, _ => owns (c : Thread nD τ) (gsM d q (2 * r + σ.val)) fullShare.left (Qv A d q (up d (2 * r + σ.val) c))
  | .axs o, _, _ => owns (c : Thread nD τ) (rowM (pm c)) (qs o.val).left (lrow A c)
  | .axr o, _, _ => owns (c : Thread nD τ) (rowM (pm (sh (7 - o.val) c))) fullShare (lrow A (sh (7 - o.val) c))
  | .rc d, _, i => relUpTo 0 d (tgt d c) (i + 1)
  | .gc d, _, i => relUpTo 1 d (tgt d c) (i + 1)
  | .ocp d q, i, _ => iprop(owns (c : Thread nD τ) (winM (wn d i c) d q) fullShare (ost A d q i c) ∗ anyAt c (slot4 ostM d q))

instance pay_storable (c : Dev nD) (k : CK) (r i : ℕ) : Storable (upEmb : UEmb _ 𝕄) (pay A c k r i) := by
  cases k <;> unfold pay <;> infer_instance

def Rd : Schedule (GSem nD τ sig) ℕ 𝕄 where
  duties g r := match ckOf g.2 with | some k => dut k r | none => ∅
  amount g _ _ := match ckOf g.2 with | some k => amt k | none => 1
  payload g r i := match ckOf g.2 with | some k => pay A g.1.1 k r i | none => iprop(emp)
  amount_pos g r i _ := by
    cases h : ckOf g.2 with
    | none => exact Nat.one_pos
    | some k => exact amt_pos k
  unitless _ := False

instance Rd_storable (g : GSem nD τ sig) (r i : ℕ) : Storable (upEmb : UEmb _ 𝕄) ((Rd A).payload g r i) := by
  show Storable upEmb (match ckOf g.2 with | some k => pay A g.1.1 k r i | none => iprop(emp))
  split <;> infer_instance

theorem Rd_duties (c : Dev nD) (k : CK) (r : ℕ) : (Rd A).duties (cell c k) r = dut k r := by
  show (match ckOf (semOf k) with | some k => dut k r | none => ∅) = _; rw [ckOf_semOf]
theorem Rd_amount (c : Dev nD) (k : CK) (r i : ℕ) : (Rd A).amount (cell c k) r i = amt k := by
  show (match ckOf (semOf k) with | some k => amt k | none => 1) = _; rw [ckOf_semOf]
theorem Rd_payload (c : Dev nD) (k : CK) (r i : ℕ) : (Rd A).payload (cell c k) r i = pay A c k r i := by
  show (match ckOf (semOf k) with | some k => pay A c k r i | none => iprop(emp)) = _; rw [ckOf_semOf]
theorem Rd_expect (c : Dev nD) (k : CK) (r : ℕ) : (Rd A).expect (cell c k) r = (dut k r).card * amt k := by
  unfold Schedule.expect Schedule.amountOf
  rw [Rd_duties, Finset.sum_congr rfl fun d _ => Rd_amount A c k r d, Finset.sum_const, smul_eq_mul]

/-! ## The events of a device, in program order -/

inductive Ev
  | bar (d : Fin 2) | send (ph d q : Fin 2) (s : ℕ) | crd (ph d q : Fin 2) (s : ℕ) | ax (o : Fin 7)
  deriving DecidableEq

def evs : List Ev := [
  .bar 0, .bar 1, .send 0 0 0 0, .send 0 1 0 0, .send 0 0 1 0, .send 0 1 1 0, .send 0 0 0 1,
  .crd 0 0 0 1, .send 0 1 0 1, .crd 0 1 0 1, .send 0 0 1 1, .crd 0 0 1 1, .send 0 1 1 1, .crd 0 1 1 1,
  .send 0 0 0 2, .crd 0 0 0 2, .send 0 1 0 2, .crd 0 1 0 2, .send 0 0 1 2, .crd 0 0 1 2, .send 0 1 1 2,
  .crd 0 1 1 2, .send 0 0 0 3, .crd 0 0 0 3, .send 0 1 0 3, .crd 0 1 0 3, .send 0 0 1 3, .crd 0 0 1 3,
  .send 0 1 1 3, .crd 0 1 1 3, .send 0 0 0 4, .crd 0 0 0 4, .send 0 1 0 4, .crd 0 1 0 4, .send 0 0 1 4,
  .crd 0 0 1 4, .send 0 1 1 4, .crd 0 1 1 4, .send 0 0 0 5, .crd 0 0 0 5, .send 0 1 0 5, .crd 0 1 0 5,
  .send 0 0 1 5, .crd 0 0 1 5, .send 0 1 1 5, .crd 0 1 1 5, .send 0 0 0 6, .send 0 1 0 6, .send 0 0 1 6,
  .send 0 1 1 6, .ax 0, .ax 1, .ax 2, .ax 3, .ax 4, .ax 5,
  .ax 6, .send 1 0 0 0, .send 1 1 0 0, .send 1 0 1 0, .send 1 1 1 0, .send 1 0 0 1, .send 1 1 0 1,
  .send 1 0 1 1, .send 1 1 1 1, .crd 1 0 0 1, .crd 1 1 0 1, .crd 1 0 1 1, .crd 1 1 1 1, .send 1 0 0 2,
  .send 1 1 0 2, .send 1 0 1 2, .send 1 1 1 2, .crd 1 0 0 2, .crd 1 1 0 2, .crd 1 0 1 2, .crd 1 1 1 2,
  .send 1 0 0 3, .send 1 1 0 3, .send 1 0 1 3, .send 1 1 1 3, .crd 1 0 0 3, .crd 1 1 0 3, .crd 1 0 1 3,
  .crd 1 1 1 3, .send 1 0 0 4, .send 1 1 0 4, .send 1 0 1 4, .send 1 1 1 4, .crd 1 0 0 4, .crd 1 1 0 4,
  .crd 1 0 1 4, .crd 1 1 1 4, .send 1 0 0 5, .send 1 1 0 5, .send 1 0 1 5, .send 1 1 1 5, .crd 1 0 0 5,
  .crd 1 1 0 5, .crd 1 0 1 5, .crd 1 1 1 5, .send 1 0 0 6, .send 1 1 0 6, .send 1 0 1 6, .send 1 1 1 6]

/-- The cell an event raises, -/
def evK : Ev → CK
  | .bar _ => .bar
  | .send ph d q s => rcv ph d (sl s) q
  | .crd ph d _ _ => crdK ph d
  | .ax o => .axr o
/-- on which device, -/
def evD (c : Dev nD) : Ev → Dev nD
  | .bar d => tgt d c
  | .send _ d _ _ => tgt d c
  | .crd _ d _ _ => src d c
  | .ax o => sh (o.val + 1) c
/-- and the other way round: whose event raises this device's cell. -/
def evS (c : Dev nD) : Ev → Dev nD
  | .bar d => src d c
  | .send _ d _ _ => src d c
  | .crd _ d _ _ => tgt d c
  | .ax o => sh (7 - o.val) c
theorem evD_evS (c : Dev nD) (e : Ev) : evD (evS c e) e = c := by
  cases e with
  | bar d => exact tgt_src d c
  | send _ d _ _ => exact tgt_src d c
  | crd _ d _ _ => exact src_tgt d c
  | ax o => revert o c; decide
theorem evS_evD (c : Dev nD) (e : Ev) : evS (evD c e) e = c := by
  cases e with
  | bar d => exact src_tgt d c
  | send _ d _ _ => exact src_tgt d c
  | crd _ d _ _ => exact tgt_src d c
  | ax o => revert o c; decide

/-- The index event number `i` is counted at; both entry signals share one. -/
def ix (i : ℕ) : ℕ := if i = 0 then 2 else i + 1
theorem ix_ge (i : ℕ) : i < ix i := by unfold ix; split <;> omega

def evTally (c : Dev nD) (i : ℕ) (e : Ev) : CellTallies nD τ sig ℕ := tallyAt (cell (evD c e) (evK e)) (ix i) (amt (evK e))

/-- What a device still owes when the events before number `n` are done, `l` being the ones left. -/
def owedL (c : Dev nD) : ℕ → List Ev → CellTallies nD τ sig ℕ
  | _, [] => 0
  | n, e :: l => owedL c (n + 1) l + evTally c n e
def owed (c : Dev nD) (n : ℕ) : CellTallies nD τ sig ℕ := owedL c n (evs.drop n)

theorem owedL_pos {c : Dev nD} {n : ℕ} {l : List Ev} {g : GSem nD τ sig} {u : ℕ} (h : 0 < owedL c n l g u) :
    g.1.2 = .tc ∧ n < u ∧ u ≤ n + l.length + 1 := by
  induction l generalizing n with
  | nil => exact absurd h (Nat.lt_irrefl 0)
  | cons e l ih =>
    unfold owedL evTally at h
    rw [Pi.add_apply, Finsupp.add_apply, tallyAt_apply] at h
    by_cases hg : g = cell (evD c e) (evK e) ∧ u = ix n
    · rw [hg.1, hg.2]
      refine ⟨rfl, ix_ge n, ?_⟩
      unfold ix; rw [List.length_cons]; split <;> omega
    · rw [if_neg hg, Nat.add_zero] at h
      obtain ⟨h1, h2, h3⟩ := ih h
      rw [List.length_cons]
      exact ⟨h1, by omega, by omega⟩

theorem owed_step (c : Dev nD) (n : ℕ) (e : Ev) (h : evs[n]? = some e) : owed c n = owed c (n + 1) + evTally c n e := by
  obtain ⟨hn, he⟩ := List.getElem?_eq_some_iff.mp h
  unfold owed; rw [List.drop_eq_getElem_cons hn, he]; rfl
theorem owed_end (c : Dev nD) : owed c 105 = 0 := by
  have h : evs.drop 105 = [] := by decide
  unfold owed; rw [h]; rfl

/-- Levels: the index itself. -/
def L (g : GSem nD τ sig) : Finset ℕ := if g.1.2 = .tc then Finset.range 108 else ∅
def lv (_ : GSem nD τ sig) (i : ℕ) : ℕ := i
theorem L_of_ne (g : GSem nD τ sig) (h : g.1.2 ≠ .tc) : L g = ∅ := if_neg h
theorem L_tc (c : Dev nD) (sm : SemLoc sig) : L ((c : Thread nD τ), sm) = Finset.range 108 := if_pos rfl

theorem owed_pos {c : Dev nD} {n : ℕ} {g : GSem nD τ sig} {u : ℕ} (hn : n ≤ 105) (h : 0 < owed c n g u) :
    u ∈ L g ∧ n < u := by
  obtain ⟨h1, h2, h3⟩ := owedL_pos h
  have h4 : (evs.drop n).length = 105 - n := by rw [List.length_drop]; rfl
  rw [h4] at h3
  refine ⟨?_, h2⟩
  unfold L; rw [if_pos h1]; exact Finset.mem_range.mpr (by omega)

omit [FloatOps F] in
/-- A wait at an index no larger than the number of events done is allowed. -/
theorem mayWait (c : Dev nD) (sm : SemLoc sig) (i n : ℕ) (hn : n ≤ 105) (hi : i ≤ n) :
    (levAts L lv : sProp 𝕄) ⊢ MayWait (c : Thread nD τ) sm i (owed c n) :=
  MayOwe.of_cut (L := L) (lev := lv) n
    (fun p hp => by rw [Finset.mem_singleton.mp hp, L_tc]; exact Finset.mem_range.mpr (by show i < 108; omega))
    (fun g u hg => (owed_pos hn hg).1)
    (fun p hp => by rw [Finset.mem_singleton.mp hp]; exact hi)
    (fun g u hg => (owed_pos hn hg).2)

/-! ## The shared facts -/

def ctx (K : Dev nD × CK → ℕ) (Ks : Key → ℕ) : sProp 𝕄 :=
  iprop(bigSep Finset.univ (fun x : Dev nD × CK => cellInv ER (Rd A) (K x) (cell x.1 x.2))
    ∗ bigSep Finset.univ (fun x : Dev nD × CK => reached ER (cell x.1 x.2) 0)
    ∗ bigSep Finset.univ (fun k : Key => slotInv ES (Ks k) k (slotOf k))
    ∗ levAts L lv)
instance ctx_persistent (K : Dev nD × CK → ℕ) (Ks : Key → ℕ) : Persistent (ctx A K Ks) := by unfold ctx; infer_instance

end Cert.KernelIdeal.Ring
-- ==== Proof.Ops.lean ====
/-
# One rule per operation of the kernel, over the protocol's cells and pieces
-/
module

public import proofs.«01_k».proof.Proof.Proto

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok)

variable {F : FTy → Type} [FloatOps F]

local notation "𝕄" => MT nD τ sig ℕ (Elt F) ℕ UU ℕ

variable (A : Args F)

abbrev 𝒱₀ : Variants := Variants.none

/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- An ownership of a whole memref, spelled without the thread. -/
abbrev own (c : Dev nD) {sp : Space} {s : Shape} {e : EltTy} (M : Memref sig .tc sp s e) (q : PosShare TreeShare) (X : Vec F s e) : sProp 𝕄 :=
  owns (c : Thread nD τ) M q X

/-- What a device owes at event number `n`, whatever it has waited for. -/
def ow (c : Dev nD) (n : ℕ) : sProp 𝕄 := iprop(∃ W, owes (c : Thread nD τ) (owed c n) W)

/-! ## Memory -/

section Mem
variable {α : Type} {Q : α → sProp (MT nD τ sig ℕ (Elt F) ℕ UU ℕ)} {c : Dev nD}

omit [FloatOps F] in
theorem own_any {sp : Space} {s : Shape} {e : EltTy} {M : Memref sig .tc sp s e} {X : Vec F s e} :
    own c M fullShare X ⊢ anyAt c M := by
  unfold anyAt; iintro H; iexists X; iexact H

omit [FloatOps F] in
theorem own_squeeze {sp : Space} {s s' : Shape} {e : EltTy} (M : Memref sig .tc sp s e) (h : s.Squeezes s') (q : PosShare TreeShare) (X : Vec F s' e) :
    own c (M.squeeze s' h) q X = own c M q (fun i => X ((Shape.reshapeEquiv h.numel_eq).symm i)) := by
  unfold own owns
  refine congrArg _ (funext fun f => ?_)
  have hr : ((M.squeeze s' h).view.read (Elt F) f = X) = (M.view.read (Elt F) f = fun i => X ((Shape.reshapeEquiv h.numel_eq).symm i)) := by
    apply propext
    constructor
    · intro h'; subst h'; funext i
      show _ = M.view.read (Elt F) f (Shape.reshapeEquiv h.numel_eq ((Shape.reshapeEquiv h.numel_eq).symm i))
      rw [Equiv.apply_symm_apply]
    · intro h'; funext i
      show M.view.read (Elt F) f (Shape.reshapeEquiv h.numel_eq i) = _
      rw [h']; dsimp only; rw [Equiv.symm_apply_apply]
  rw [hr]
  refine congrArg _ ?_
  show ((M.view.reshape s' h.numel_eq).loc (c : Thread nD τ) ↦[(M.view.reshape s' h.numel_eq).set]{q} f : sProp 𝕄) = _
  rw [View.set_reshape]

omit [FloatOps F] in
theorem own_slot4 {e : EltTy} (M : Memref sig .tc .vmem S2x2x512x512 e) (a b : Fin 2) (q : PosShare TreeShare) (X : Vec F S512x512 e) :
    own c (slot4 M a b) q X = own c (M.slice (rect4 a b) (fun _ => rfl)) q (un4 X) := own_squeeze _ _ _ _
omit [FloatOps F] in
theorem own_slot3 {e : EltTy} (M : Memref sig .tc .vmem S2x512x512 e) (a : Fin 2) (q : PosShare TreeShare) (X : Vec F S512x512 e) :
    own c (slot3 M a) q X = own c (M.slice (rect3 a) (fun _ => rfl)) q (un3 X) := own_squeeze _ _ _ _

/-- A load of a part `r` of a slice `r₀` that is owned, -/
theorem ld_gen {s : Shape} {e : EltTy} {M : Memref sig .tc .vmem s e} {r r₀ : Rect s} {hr₀ : ∀ i, r₀.stride i = 1} {hl : M.view.LoadsAt r.toLoadRect}
    {k : Vec F r.shape e → Prog (TpuEff nD τ sig (Elt F) Λ₀ .tc) α} {q : PosShare TreeShare} {X : Vec F r₀.shape e}
    (g : r.shape.Idx → r₀.shape.Idx) (hg : ∀ i, r.emb i = r₀.emb (g i)) :
    own c (M.slice r₀ hr₀) q X ⊢ iprop((own c (M.slice r₀ hr₀) q X -∗ WP c (k fun i => X (g i)) Q) -∗ WP c (.op (.load M r.toLoadRect hl) k) Q) := by
  unfold own owns
  iintro ⟨%f, %hf, H⟩ Hk
  iapply (wp_load_rect 𝒱₀ (c : Thread nD τ) none Set.univ (m := M) (r := r) (S := (M.slice r₀ hr₀).view.set) (f := f) (q := q) (hS := by
    intro x hx
    obtain ⟨i, -, rfl⟩ := Finset.mem_map.mp hx
    refine Finset.mem_map.mpr ⟨g i, Finset.mem_univ _, ?_⟩
    show M.view.emb (r₀.emb (g i)) = M.view.emb (r.emb i)
    rw [hg])) $$ H
  iintro H
  have hX : (M.access r).read (Elt F) f = fun i => X (g i) := by
    subst hf; funext i
    show M.view.read (Elt F) f (r.emb i) = M.view.read (Elt F) f (r₀.emb (g i))
    rw [hg]
  rw [hX]
  iapply Hk
  iexists f
  isplitr; · ipureintro; exact hf
  iexact H

/-- of a slice that is owned, -/
theorem ld_slice {s : Shape} {e : EltTy} {M : Memref sig .tc .vmem s e} {r : Rect s} {hr : ∀ i, r.stride i = 1} {hl : M.view.LoadsAt r.toLoadRect}
    {k : Vec F r.shape e → Prog (TpuEff nD τ sig (Elt F) Λ₀ .tc) α} {q : PosShare TreeShare} {X : Vec F r.shape e} :
    own c (M.slice r hr) q X ⊢ iprop((own c (M.slice r hr) q X -∗ WP c (k X) Q) -∗ WP c (.op (.load M r.toLoadRect hl) k) Q) :=
  ld_gen (fun i => i) (fun i => rfl)

/-- of a part of a memref that is owned. -/
theorem ld_sub {s : Shape} {e : EltTy} {M : Memref sig .tc .vmem s e} {r : Rect s} {hl : M.view.LoadsAt r.toLoadRect}
    {k : Vec F r.shape e → Prog (TpuEff nD τ sig (Elt F) Λ₀ .tc) α} {q : PosShare TreeShare} {X : Vec F s e} :
    own c M q X ⊢ iprop((own c M q X -∗ WP c (k fun i => X (r.emb i)) Q) -∗ WP c (.op (.load M r.toLoadRect hl) k) Q) := by
  unfold own owns
  iintro ⟨%f, %hf, H⟩ Hk
  iapply (wp_load_rect 𝒱₀ (c : Thread nD τ) none Set.univ (m := M) (r := r) (S := M.view.set) (f := f) (q := q) (hS := View.set_slice_subset _ _)) $$ H
  iintro H
  have hX : (M.access r).read (Elt F) f = fun i => X (r.emb i) := by subst hf; rfl
  rw [hX]
  iapply Hk
  iexists f
  isplitr; · ipureintro; exact hf
  iexact H

/-- A store over a whole slice. -/
theorem st_slice {s : Shape} {e : EltTy} {M : Memref sig .tc .vmem s e} {r : Rect s} {hr : ∀ i, r.stride i = 1} {w : Vec F r.shape e}
    {hx : (M.access r).Stores Finset.univ} {hm : (Finset.univ : Finset r.shape.Idx) = Finset.univ ∨ ∀ a, r.stride a = 1}
    {k : PUnit → Prog (TpuEff nD τ sig (Elt F) Λ₀ .tc) α} :
    anyAt c (M.slice r hr) ⊢ iprop((own c (M.slice r hr) fullShare w -∗ WP c (k ⟨⟩) Q) -∗ WP c (.op (.store M r w Finset.univ hx hm) k) Q) := by
  unfold anyAt own owns
  iintro ⟨%X, %f, %hf, H⟩ Hk
  iapply (wp_store 𝒱₀ (c : Thread nD τ) none Set.univ (m := M) (r := r) (Mk := Finset.univ) (S := (M.slice r hr).view.set) (f := f)
    (hS := by rw [View.setOn_univ])) $$ H
  iintro H
  iapply Hk
  iexists _
  isplitr
  swap; · iexact H
  ipureintro; exact View.read_write_univ _ _

/-- Loads and stores of a slot, the contents as a matrix. -/
theorem ld_slot4 {e : EltTy} {M : Memref sig .tc .vmem S2x2x512x512 e} {a b : Fin 2} {hl : M.view.LoadsAt (rect4 a b).toLoadRect}
    {k : Vec F S1x1x512x512 e → Prog (TpuEff nD τ sig (Elt F) Λ₀ .tc) α} {q : PosShare TreeShare} {X : Vec F S512x512 e} :
    own c (slot4 M a b) q X ⊢ iprop((own c (slot4 M a b) q X -∗ WP c (k (un4 X)) Q) -∗ WP c (.op (.load M (rect4 a b).toLoadRect hl) k) Q) := by
  rw [own_slot4]; exact ld_slice
theorem ld_slot3 {e : EltTy} {M : Memref sig .tc .vmem S2x512x512 e} {a : Fin 2} {hl : M.view.LoadsAt (rect3 a).toLoadRect}
    {k : Vec F S1x512x512 e → Prog (TpuEff nD τ sig (Elt F) Λ₀ .tc) α} {q : PosShare TreeShare} {X : Vec F S512x512 e} :
    own c (slot3 M a) q X ⊢ iprop((own c (slot3 M a) q X -∗ WP c (k (un3 X)) Q) -∗ WP c (.op (.load M (rect3 a).toLoadRect hl) k) Q) := by
  rw [own_slot3]; exact ld_slice
theorem st_slot4 {e : EltTy} {M : Memref sig .tc .vmem S2x2x512x512 e} {a b : Fin 2} {w : Vec F S1x1x512x512 e}
    {hx : (M.access (rect4 a b)).Stores Finset.univ} {hm : (Finset.univ : Finset (rect4 a b).shape.Idx) = Finset.univ ∨ ∀ i, (rect4 a b).stride i = 1}
    {k : PUnit → Prog (TpuEff nD τ sig (Elt F) Λ₀ .tc) α} :
    anyAt c (slot4 M a b) ⊢ iprop((own c (slot4 M a b) fullShare (sq4 w) -∗ WP c (k ⟨⟩) Q) -∗ WP c (.op (.store M (rect4 a b) w Finset.univ hx hm) k) Q) := by
  iintro H Hk
  iapply st_slice (hr := fun _ => rfl) $$ [H]
  · unfold anyAt; icases H with ⟨%X, H⟩; iexists (un4 X); iapply (Entails.of_eq (own_slot4 M a b fullShare X)); iexact H
  iintro H
  iapply Hk
  iapply (Entails.of_eq (own_slot4 M a b fullShare (sq4 w)).symm)
  rw [un4_sq4]; iexact H
theorem st_slot3 {e : EltTy} {M : Memref sig .tc .vmem S2x512x512 e} {a : Fin 2} {w : Vec F S1x512x512 e}
    {hx : (M.access (rect3 a)).Stores Finset.univ} {hm : (Finset.univ : Finset (rect3 a).shape.Idx) = Finset.univ ∨ ∀ i, (rect3 a).stride i = 1}
    {k : PUnit → Prog (TpuEff nD τ sig (Elt F) Λ₀ .tc) α} :
    anyAt c (slot3 M a) ⊢ iprop((own c (slot3 M a) fullShare (sq3 w) -∗ WP c (k ⟨⟩) Q) -∗ WP c (.op (.store M (rect3 a) w Finset.univ hx hm) k) Q) := by
  iintro H Hk
  iapply st_slice (hr := fun _ => rfl) $$ [H]
  · unfold anyAt; icases H with ⟨%X, H⟩; iexists (un3 X); iapply (Entails.of_eq (own_slot3 M a fullShare X)); iexact H
  iintro H
  iapply Hk
  iapply (Entails.of_eq (own_slot3 M a fullShare (sq3 w)).symm)
  rw [un3_sq3]; iexact H
/-- The load of a slot whose value is not used, before the store into it. -/
theorem dst_slot4 {e : EltTy} {M : Memref sig .tc .vmem S2x2x512x512 e} {a b : Fin 2} {w : Vec F S1x1x512x512 e} {hl : M.view.LoadsAt (rect4 a b).toLoadRect}
    {hx : (M.access (rect4 a b)).Stores Finset.univ} {hm : (Finset.univ : Finset (rect4 a b).shape.Idx) = Finset.univ ∨ ∀ i, (rect4 a b).stride i = 1}
    {k : PUnit → Prog (TpuEff nD τ sig (Elt F) Λ₀ .tc) α} :
    anyAt c (slot4 M a b) ⊢ iprop((own c (slot4 M a b) fullShare (sq4 w) -∗ WP c (k ⟨⟩) Q)
      -∗ WP c (.op (.load M (rect4 a b).toLoadRect hl) fun _ => .op (.store M (rect4 a b) w Finset.univ hx hm) k) Q) := by
  iintro H Hk
  unfold anyAt; icases H with ⟨%X, H⟩
  iapply ld_slot4 $$ H; iintro H
  iapply st_slot4 $$ [H]; · iapply own_any; iexact H
  iexact Hk
theorem dst_slot3 {e : EltTy} {M : Memref sig .tc .vmem S2x512x512 e} {a : Fin 2} {w : Vec F S1x512x512 e} {hl : M.view.LoadsAt (rect3 a).toLoadRect}
    {hx : (M.access (rect3 a)).Stores Finset.univ} {hm : (Finset.univ : Finset (rect3 a).shape.Idx) = Finset.univ ∨ ∀ i, (rect3 a).stride i = 1}
    {k : PUnit → Prog (TpuEff nD τ sig (Elt F) Λ₀ .tc) α} :
    anyAt c (slot3 M a) ⊢ iprop((own c (slot3 M a) fullShare (sq3 w) -∗ WP c (k ⟨⟩) Q)
      -∗ WP c (.op (.load M (rect3 a).toLoadRect hl) fun _ => .op (.store M (rect3 a) w Finset.univ hx hm) k) Q) := by
  iintro H Hk
  unfold anyAt; icases H with ⟨%X, H⟩
  iapply ld_slot3 $$ H; iintro H
  iapply st_slot3 $$ [H]; · iapply own_any; iexact H
  iexact Hk
theorem dst_slice {s : Shape} {e : EltTy} {M : Memref sig .tc .vmem s e} {r : Rect s} {hr : ∀ i, r.stride i = 1} {w : Vec F r.shape e} {hl : M.view.LoadsAt r.toLoadRect}
    {hx : (M.access r).Stores Finset.univ} {hm : (Finset.univ : Finset r.shape.Idx) = Finset.univ ∨ ∀ a, r.stride a = 1}
    {k : PUnit → Prog (TpuEff nD τ sig (Elt F) Λ₀ .tc) α} :
    anyAt c (M.slice r hr) ⊢ iprop((own c (M.slice r hr) fullShare w -∗ WP c (k ⟨⟩) Q)
      -∗ WP c (.op (.load M r.toLoadRect hl) fun _ => .op (.store M r w Finset.univ hx hm) k) Q) := by
  iintro H Hk
  unfold anyAt; icases H with ⟨%X, H⟩
  iapply (ld_slice (hr := hr)) $$ H; iintro H
  iapply (st_slice (hr := hr)) $$ [H]; · iapply own_any; iexact H
  iexact Hk

theorem emb_qIx (j : Fin 8) (d q : Fin 2) (i : S1x512x512.Idx) : (rectQ j d q).emb i = (rectC j).emb (qIx d q i) := by
  funext a; apply Fin.ext
  rw [Rect.emb_apply, Rect.emb_apply]
  fin_cases a
  · show j.val + 1 * (i (0 : Fin 3)).val = j.val + 1 * ((i (0 : Fin 3)).val + 0); omega
  · show 0 + 1 * (i (1 : Fin 3)).val = 0 + 1 * ((i (1 : Fin 3)).val + 0); omega
  · show d.val * 1024 + q.val * 512 + 1 * (i (2 : Fin 3)).val = 0 + 1 * ((i (2 : Fin 3)).val + (d.val * 1024 + q.val * 512))
    omega

/-- A load of the part of direction `d`, lane `q`, out of a chunk. -/
theorem ld_quart {j : Fin 8} {d q : Fin 2} {hl : partM.view.LoadsAt (rectQ j d q).toLoadRect}
    {k : Vec F S1x512x512 .bf16 → Prog (TpuEff nD τ sig (Elt F) Λ₀ .tc) α} {sh : PosShare TreeShare} {X : Vec F S1x512x2048 .bf16} :
    own c (chunkM j) sh X ⊢ iprop((own c (chunkM j) sh X -∗ WP c (k fun i => X (qIx d q i)) Q) -∗ WP c (.op (.load partM (rectQ j d q).toLoadRect hl) k) Q) :=
  ld_gen (r := rectQ j d q) (r₀ := rectC j) (qIx d q) (emb_qIx j d q)

omit [FloatOps F] in
theorem own_halves {sp : Space} {s : Shape} {e : EltTy} {M : Memref sig .tc sp s e} {q : PosShare TreeShare} {X : Vec F s e} :
    own c M q X ⊢ iprop(own c M q.left X ∗ own c M q.right X) := by
  unfold own owns
  iintro ⟨%f, %hf, H⟩
  ihave H2 := (pointsTo_share (PosShare.mem_left_op_right q)).1 $$ H
  icases H2 with ⟨H1, H2⟩
  isplitl [H1]
  · iexists f; isplitr; · ipureintro; exact hf
    iexact H1
  · iexists f; isplitr; · ipureintro; exact hf
    iexact H2
omit [FloatOps F] in
theorem own_join {sp : Space} {s : Shape} {e : EltTy} {M : Memref sig .tc sp s e} {q : PosShare TreeShare} {X Y : Vec F s e} :
    iprop(own c M q.left X ∗ own c M q.right Y) ⊢ own c M q X := by
  unfold own owns
  iintro ⟨⟨%f, %hf, H1⟩, ⟨%g, %hg, H2⟩⟩
  icombine H1 H2 as H
  ihave %hfg := pointsTo_agree $$ H
  icases H with ⟨H1, H2⟩
  have h' : ∀ i ∈ M.view.set, g i = f i := fun i hi => ((hfg i (Finset.mem_inter.mpr ⟨hi, hi⟩)).1).symm
  ihave H2 := (Entails.of_eq (pointsTo_congr h')) $$ H2
  iexists f
  isplitr; · ipureintro; exact hf
  iapply (pointsTo_share (PosShare.mem_left_op_right q)).2
  isplitl [H1] <;> iassumption

end Mem

/-! ## Counting -/

section Big
variable {I : Type} [DecidableEq I]
omit [FloatOps F] in
theorem bs_elim {s : Finset I} {i : I} (h : i ∈ s) (f : I → sProp 𝕄) : bigSep s f ⊢ f i := bigSep_elim h
omit [FloatOps F] in
theorem bs_insert {s : Finset I} {i : I} (h : i ∉ s) (f : I → sProp 𝕄) : bigSep (insert i s) f = iprop(f i ∗ bigSep s f) := bigSep_insert h
omit [FloatOps F] in
theorem bs_erase {s : Finset I} {i : I} (h : i ∈ s) (f : I → sProp 𝕄) : bigSep s f = iprop(f i ∗ bigSep (s.erase i) f) := bigSep_erase h
omit [FloatOps F] in
theorem bs_sdiff {s t : Finset I} (h : t ⊆ s) (f : I → sProp 𝕄) : bigSep s f = iprop(bigSep t f ∗ bigSep (s \ t) f) := bigSep_sdiff_split h
omit [FloatOps F] in
theorem bs_sep (s : Finset I) (f g : I → sProp 𝕄) : bigSep s (fun i => iprop(f i ∗ g i)) = iprop(bigSep s f ∗ bigSep s g) := bigSep_sep s f g
omit [FloatOps F] [DecidableEq I] in
theorem bs_one (i : I) (f : I → sProp 𝕄) : bigSep {i} f = f i := bigSep_singleton
omit [FloatOps F] [DecidableEq I] in
theorem bs_none (f : I → sProp 𝕄) : bigSep ∅ f = iprop(emp) := bigSep_empty
omit [FloatOps F] [DecidableEq I] in
theorem bs_congr {s : Finset I} {f g : I → sProp 𝕄} (h : ∀ i ∈ s, f i = g i) : bigSep s f = bigSep s g := bigSep_congr h
omit [FloatOps F] [DecidableEq I] in
theorem bs_mono {s : Finset I} {f g : I → sProp 𝕄} (h : ∀ i ∈ s, f i ⊢ g i) : bigSep s f ⊢ bigSep s g := bigSep_mono h
end Big

omit [FloatOps F] in
theorem pop {f : ℕ → sProp 𝕄} {a b : ℕ} (h : a < b) : bigSep (Finset.Ico a b) f = iprop(f a ∗ bigSep (Finset.Ico (a + 1) b) f) := by
  have h1 : Finset.Ico a b = insert a (Finset.Ico (a + 1) b) := by ext x; simp only [Finset.mem_Ico, Finset.mem_insert]; omega
  rw [h1]; exact bs_insert (by simp) _
omit [FloatOps F] in
theorem push {f : ℕ → sProp 𝕄} {a b : ℕ} (h : a ≤ b) : bigSep (Finset.Ico a (b + 1)) f = iprop(f b ∗ bigSep (Finset.Ico a b) f) := by
  have h1 : Finset.Ico a (b + 1) = insert b (Finset.Ico a b) := by ext x; simp only [Finset.mem_Ico, Finset.mem_insert]; omega
  rw [h1]; exact bs_insert (by simp) _

theorem two_sl (m : ℕ) : 2 * (m / 2) + (sl m).val = m := by show 2 * (m / 2) + m % 2 = m; omega
theorem sl_add_two (m : ℕ) : sl (m + 2) = sl m := by unfold sl; congr 1; omega
theorem sl_val (q : Fin 2) : sl q.val = q := by revert q; decide

/-! ## The cells -/

section Cells
variable {α : Type} {Q : α → sProp (MT nD τ sig ℕ (Elt F) ℕ UU ℕ)} {c : Dev nD} {K : Dev nD × CK → ℕ} {Ks : Key → ℕ}

theorem ctx_inv (c : Dev nD) (k : CK) : ctx A K Ks ⊢ cellInv ER (Rd A) (K (c, k)) (cell c k) := by
  unfold ctx; iintro ⟨H, -⟩; iapply (bs_elim (Finset.mem_univ ((c, k) : Dev nD × CK)) _) $$ H
theorem ctx_r0 (c : Dev nD) (k : CK) : ctx A K Ks ⊢ reached ER (cell c k) 0 := by
  unfold ctx; iintro ⟨-, H, -⟩; iapply (bs_elim (Finset.mem_univ ((c, k) : Dev nD × CK)) _) $$ H
theorem ctx_slot (k : Key) : ctx A K Ks ⊢ slotInv ES (Ks k) k (slotOf k) := by
  unfold ctx; iintro ⟨-, -, H, -⟩; iapply (bs_elim (Finset.mem_univ k) _) $$ H
theorem ctx_lev : ctx A K Ks ⊢ levAts L lv := by unfold ctx; iintro ⟨-, -, -, H⟩; iexact H

/-- The position of a device at one of its cells, -/
abbrev at' (c : Dev nD) (k : CK) (r : ℕ) : sProp 𝕄 := atPos ER (cell c k) r ∅ 0
/-- the fact that a round has begun, -/
abbrev rch (c : Dev nD) (k : CK) (r : ℕ) : sProp 𝕄 := reached ER (cell c k) r
/-- the right to pay a duty, -/
abbrev tk (c : Dev nD) (k : CK) (r i : ℕ) : sProp 𝕄 := dutyTok ER (cell c k) r i
/-- and the right to wait for a transfer of one's own. -/
abbrev cr0 (c : Dev nD) (k : CK) : sProp 𝕄 := cred (tallyAt (cell c k) 0 (amt k))
/-- The number of an event, -/
def en (e : Ev) : ℕ := evs.idxOf e
/-- and the right to wait for it. -/
def crE (c : Dev nD) (e : Ev) : sProp 𝕄 := cred (tallyAt (cell c (evK e)) (ix (en e)) (amt (evK e)))

/-- A wait for the one duty of a round. -/
theorem wait1 {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (k : CK) (r ι n : ℕ) (hd : dut k r = {0}) (hι : ι ≤ n) (hn : n ≤ 105) (hs : semOf k = sm) (hN : k' = amt k)
    {kk : PUnit → Prog (TpuEff nD τ sig (Elt F) Λ₀ .tc) α} :
    iprop(ctx A K Ks ∗ cred (tallyAt (cell c k) ι (amt k)) ∗ ow c n ∗ at' c k r)
      ⊢ iprop(((ow c n ∗ at' c k (r + 1) ∗ rch c k (r + 1) ∗ pay A c k r 0) -∗ WP c (kk ⟨⟩) Q) -∗ WP c (.op w kk) Q) := by
  subst hs hN
  iintro ⟨#Hctx, Hc, Ho, Hat⟩ Hk
  unfold ow
  icases Ho with ⟨%W, Ho⟩
  ihave #Hi := (ctx_inv A c k) $$ Hctx
  ihave #Hl := (ctx_lev A) $$ Hctx
  iapply (Rounds.wp_wait_rest_token 𝒱₀ ER (Rd A) (c : Thread nD τ) none (κ := K (c, k)) (sm := semOf k) hw (Set.mem_univ _) ι
    (O := owed c n) (W := W) (R := r) (m := 0) (T := ∅) (by rw [Rd_expect, hd, Finset.card_singleton]; omega)) $$ [Hc Ho Hat]
  · isplitr; · iexact Hi
    isplitl [Hc]; · iexact Hc
    isplitl [Ho]; · iexact Ho
    isplitr; · iapply (mayWait c (semOf k) ι n hn hι); iexact Hl
    iexact Hat
  iintro ⟨Ho, Hat, Hr, Hp⟩
  iapply Hk
  isplitl [Ho]; · iexists _; iexact Ho
  isplitl [Hat]; · iexact Hat
  isplitl [Hr]; · iexact Hr
  have hp : bigSep ((Rd A).duties (cell c k) r \ ∅) (fun i => (Rd A).payload (cell c k) r i) = pay A c k r 0 := by
    rw [Rd_duties, hd, Finset.sdiff_empty, bs_one, Rd_payload]
  iapply (Entails.of_eq hp); iexact Hp

/-- A transfer to another device. -/
theorem send1 {sp sp' : Space} {s : Shape} {e : EltTy} {M : Memref sig .tc sp s e} {M' : Memref sig .tc sp' s e} {cn : Dev nD}
    {hsc : (M' : Memref sig (Dev.tc cn : Thread nD τ).2.kind sp' s e).view.ref.isScScratch = false} {sS sR : SemLoc sig}
    {hsrc : M.view.WordExact} {hdst : M'.view.WordExact}
    {hsem : DmaTarget.Typed sp sR (.remote (Dev.tc cn : Thread nD τ) (M' : Memref sig (Dev.tc cn : Thread nD τ).2.kind sp' s e) sS hsc)}
    (ev : Ev) (n : ℕ) (kS : CK) (r₁ r₂ : ℕ) (hev : evs[n]? = some ev) (hcn : cn = evD c ev)
    (hS : semOf kS = sS) (hR : semOf (evK ev) = sR) (hN : M'.view.amount sR = amt (evK ev)) (hN' : amt kS = amt (evK ev))
    (hd₁ : dut kS r₁ = {0}) (hd₂ : dut (evK ev) r₂ = {0}) {q : PosShare TreeShare} {X : Vec F s e} {Fr : sProp 𝕄}
    (hp₁ : own c M q X ⊢ pay A c kS r₁ 0)
    (hp₂ : iprop(own (evD c ev) M' fullShare X ∗ Fr) ⊢ pay A (evD c ev) (evK ev) r₂ 0)
    {kk : PUnit → Prog (TpuEff nD τ sig (Elt F) Λ₀ .tc) α} :
    iprop(ctx A K Ks ∗ own c M q X ∗ anyAt (evD c ev) M' ∗ Fr ∗ ow c n ∗ tk c kS r₁ 0 ∗ rch c kS r₁ ∗ tk (evD c ev) (evK ev) r₂ 0 ∗ rch (evD c ev) (evK ev) r₂)
      ⊢ iprop(((cr0 c kS ∗ ow c (n + 1)) -∗ WP c (kk ⟨⟩) Q)
        -∗ WP c (.op (.enqueueDma M (.remote (Dev.tc cn : Thread nD τ) M' sS hsc) sR hsrc hdst hsem) kk) Q) := by
  subst hcn hS hR
  iintro ⟨#Hctx, HM, HM', HF, Ho, Ht1, Hr1, Ht2, Hr2⟩ Hk
  unfold ow anyAt own owns
  icases Ho with ⟨%W, Ho⟩
  icases HM with ⟨%fs, %hfs, HM⟩
  icases HM' with ⟨%Y, %fd, %hfd, HM'⟩
  ihave #Hi1 := (ctx_inv A c kS) $$ Hctx
  ihave #Hi2 := (ctx_inv A (evD c ev) (evK ev)) $$ Hctx
  iapply (Rounds.wp_send_pointsTo_with 𝒱₀ ER (Rd A) (c : Thread nD τ) none (c' := (Dev.tc (evD c ev) : Thread nD τ)) (κ₁ := K (c, kS)) (κ₂ := K (evD c ev, evK ev))
    (src := M) (dst := M') (sS := semOf kS) (sem := semOf (evK ev)) (fs := fs) (fd := fd) (F := Fr)
    (r₁ := r₁) (r₂ := r₂) (d₁ := 0) (d₂ := 0) (q := q) (W := W)
    (by rw [Rd_duties, hd₁]; exact Finset.mem_singleton_self _) (by rw [Rd_duties, hd₂]; exact Finset.mem_singleton_self _)
    (ix n) 0 (amt (evK ev)) hN (by rw [Rd_amount, hN']) (by rw [Rd_amount]) (owed c (n + 1)) (owed_step c n ev hev)
    (by
      rw [Rd_payload]; refine BIBase.Entails.trans ?_ hp₁; unfold own owns
      iintro H; iexists fs; isplitr; · ipureintro; exact hfs
      iexact H)
    (by
      rw [Rd_payload]; refine BIBase.Entails.trans (sep_mono_left ?_) hp₂; unfold own owns
      iintro H; iexists _; isplitr
      swap; · iexact H
      ipureintro; rw [← hfs]; exact View.read_write_univ _ _)) $$ [HM HM' HF Ho Ht1 Hr1 Ht2 Hr2]
  · isplitr; · iexact Hi1
    isplitr; · iexact Hi2
    isplitl [HM]; · iexact HM
    isplitl [HM' HF]
    · isplitl [HM']; · iexact HM'
      iexact HF
    isplitl [Ho]; · iexact Ho
    isplitl [Ht1]; · iexact Ht1
    isplitl [Hr1]; · iexact Hr1
    isplitl [Ht2]; · iexact Ht2
    iexact Hr2
  rw [← hN']
  iintro ⟨Hc, Ho⟩
  iapply Hk
  isplitl [Hc]; · iexact Hc
  iexists W; iexact Ho

/-- A signal to another device. -/
theorem sig1 {cn : Dev nD} {sem : Sem sig} (ev : Ev) (n i : ℕ) (hev : evs[n]? = some ev) (hcn : cn = evD c ev)
    (hs : semOf (evK ev) = .reg sem) (ha : amt (evK ev) = 1) (hd : i ∈ dut (evK ev) 0)
    {kk : PUnit → Prog (TpuEff nD τ sig (Elt F) Λ₀ .tc) α} :
    iprop(ctx A K Ks ∗ ow c n ∗ tk (evD c ev) (evK ev) 0 i ∗ pay A (evD c ev) (evK ev) 0 i)
      ⊢ iprop((ow c (n + 1) -∗ WP c (kk ⟨⟩) Q) -∗ WP c (.op (.semSignal (Dev.tc cn : Thread nD τ) sem 1) kk) Q) := by
  subst hcn
  have hcell : cell (evD c ev) (evK ev) = ((evD c ev : Thread nD τ), SemLoc.reg sem) := by unfold cell; rw [hs]
  have hi := ctx_inv A (K := K) (Ks := Ks) (evD c ev) (evK ev)
  have hr := ctx_r0 A (K := K) (Ks := Ks) (evD c ev) (evK ev)
  rw [hcell] at hi hr
  rw [← Rd_payload A]
  unfold tk ow
  rw [hcell]
  iintro ⟨#Hctx, Ho, Ht, Hp⟩ Hk
  icases Ho with ⟨%W, Ho⟩
  ihave #Hi := hi $$ Hctx
  ihave #Hr := hr $$ Hctx
  iapply (Rounds.wp_signal 𝒱₀ ER (Rd A) (c : Thread nD τ) none (dst := (Dev.tc (evD c ev) : Thread nD τ)) (sem := sem) (κ := K (evD c ev, evK ev)) (r := 0)
    (d := i) (by rw [← hcell, Rd_duties]; exact hd) (by rw [← hcell, Rd_amount, ha]) (ix n) (O₀ := owed c n) (owed c (n + 1)) (W := W)
    (by rw [owed_step c n ev hev]; unfold evTally; rw [ha, hcell])) $$ [Ho Ht Hp]
  · isplitr; · iexact Hi
    isplitl [Ho]; · iexact Ho
    isplitl [Ht]; · iexact Ht
    isplitl [Hp]; · iexact Hp
    iexact Hr
  iintro Ho
  iapply Hk
  iexists W; iexact Ho

/-- A copy within the device. -/
theorem cp1 {sp sp' : Space} {s : Shape} {e : EltTy} {M : Memref sig .tc sp s e} {M' : Memref sig .tc sp' s e} {sm : SemLoc sig}
    {hsrc : M.view.WordExact} {hdst : M'.view.WordExact} {hsem : DmaTarget.Typed (nD := nD) (τ := τ) (p := .tc) sp sm (.here M')}
    (k : CK) (r : ℕ) (hs : semOf k = sm) (hN : M'.view.amount sm = amt k) (hd : dut k r = {0}) {q : PosShare TreeShare} {X : Vec F s e}
    (hp : iprop(own c M' fullShare X ∗ own c M q X) ⊢ pay A c k r 0)
    {kk : PUnit → Prog (TpuEff nD τ sig (Elt F) Λ₀ .tc) α} :
    iprop(ctx A K Ks ∗ own c M q X ∗ anyAt c M' ∗ tk c k r 0 ∗ rch c k r)
      ⊢ iprop((cr0 c k -∗ WP c (kk ⟨⟩) Q) -∗ WP c (.op (.enqueueDma M (.here M') sm hsrc hdst hsem) kk) Q) := by
  subst hs
  iintro ⟨#Hctx, HM, HM', Ht, Hr⟩ Hk
  unfold anyAt own owns
  icases HM with ⟨%fs, %hfs, HM⟩
  icases HM' with ⟨%Y, %fd, %hfd, HM'⟩
  ihave #Hi := (ctx_inv A c k) $$ Hctx
  iapply (Rounds.wp_copy_pointsTo 𝒱₀ ER (Rd A) (c : Thread nD τ) none (κ := K (c, k)) (src := M) (dst := M') (sem := semOf k) (fs := fs) (fd := fd)
    (r := r) (d := 0) (q := q) (by rw [Rd_duties, hd]; exact Finset.mem_singleton_self _) 0 (amt k) hN (by rw [Rd_amount])
    (by
      rw [Rd_payload]; refine BIBase.Entails.trans ?_ hp; unfold own owns
      iintro ⟨H1, H2⟩
      isplitl [H1]
      · iexists _; isplitr
        swap; · iexact H1
        ipureintro; rw [← hfs]; exact View.read_write_univ _ _
      · iexists fs; isplitr; · ipureintro; exact hfs
        iexact H2)) $$ [HM HM' Ht Hr]
  · isplitr; · iexact Hi
    isplitl [HM]; · iexact HM
    isplitl [HM']; · iexact HM'
    isplitl [Ht] <;> iassumption
  iexact Hk

/-! ## Credits -/

/-- What a device has told about its slots of direction `d`, -/
def DirS (ph d : Fin 2) (i : ℕ) (c : Dev nD) : sProp 𝕄 :=
  iprop(relUpTo ph d c i ∗ bigSep (Finset.Ico i 10) fun i => tk (src d c) (crdK ph d) 0 i)
/-- and what it has been told. -/
def DirW (ph d : Fin 2) (k : ℕ) (c : Dev nD) : sProp 𝕄 :=
  iprop((∃ T : Finset ℕ, ⌜T ⊆ Finset.range 10 ∧ k ≤ T.card⌝ ∗ atPos ER (cell c (crdK ph d)) 0 T k ∗ bigSep T fun i => relUpTo ph d (tgt d c) (i + 1))
    ∗ bigSep (Finset.Ico k 10) fun i => crE c (.crd ph d (sl i) (i / 2 + 1)))

theorem dut_crdK (ph d : Fin 2) : dut (crdK ph d) 0 = Finset.range 10 := by unfold crdK; split <;> rfl
theorem amt_crdK (ph d : Fin 2) : amt (crdK ph d) = 1 := by unfold crdK; split <;> rfl
theorem pay_crdK (ph d : Fin 2) (c : Dev nD) (i : ℕ) : pay A c (crdK ph d) 0 i = relUpTo ph d (tgt d c) (i + 1) := by
  fin_cases ph <;> rfl

theorem sigc {cn : Dev nD} {sem : Sem sig} (ph d q : Fin 2) (s n i : ℕ) (hev : evs[n]? = some (.crd ph d q s)) (hcn : cn = src d c)
    (hs : semOf (crdK ph d) = .reg sem) (hi : i < 10) {kk : PUnit → Prog (TpuEff nD τ sig (Elt F) Λ₀ .tc) α} :
    iprop(ctx A K Ks ∗ ow c n ∗ DirS ph d i c ∗ relFact ph d c i)
      ⊢ iprop(((ow c (n + 1) ∗ DirS ph d (i + 1) c) -∗ WP c (kk ⟨⟩) Q) -∗ WP c (.op (.semSignal (Dev.tc cn : Thread nD τ) sem 1) kk) Q) := by
  iintro ⟨#Hctx, Ho, HD, #Hf⟩ Hk
  unfold DirS
  rw [pop hi]
  icases HD with ⟨#Hu, Ht, Hts⟩
  have hu : iprop(relUpTo ph d c i ∗ relFact ph d c i) ⊢ (relUpTo ph d c (i + 1) : sProp 𝕄) := by
    unfold relUpTo; rw [Finset.range_add_one, bs_insert Finset.notMem_range_self]
    iintro ⟨H1, H2⟩; isplitl [H2] <;> iassumption
  ihave #Hu' := hu $$ [Hu Hf]
  · isplitl [Hu] <;> iassumption
  iapply (sig1 A (.crd ph d q s) n i hev hcn hs (amt_crdK ph d) (by rw [show evK (.crd ph d q s) = crdK ph d from rfl, dut_crdK]; exact Finset.mem_range.mpr hi)) $$ [Ho Ht]
  · isplitr; · iexact Hctx
    isplitl [Ho]; · iexact Ho
    isplitl [Ht]; · iexact Ht
    rw [show evK (.crd ph d q s) = crdK ph d from rfl, show evD c (.crd ph d q s) = src d c from rfl, pay_crdK, tgt_src]
    iexact Hu'
  iintro Ho
  iapply Hk
  isplitl [Ho]; · iexact Ho
  isplitr; · iexact Hu'
  iexact Hts

theorem wcr {sem : Sem sig} (ph d : Fin 2) (k n : ℕ) (hk : k < 10) (hn : n ≤ 105) (hι : ix (en (.crd ph d (sl k) (k / 2 + 1))) ≤ n)
    (hs : semOf (crdK ph d) = .reg sem) {kk : PUnit → Prog (TpuEff nD τ sig (Elt F) Λ₀ .tc) α} :
    iprop(ctx A K Ks ∗ ow c n ∗ DirW ph d k c)
      ⊢ iprop(((ow c n ∗ DirW ph d (k + 1) c ∗ relFact ph d (tgt d c) k) -∗ WP c (kk ⟨⟩) Q) -∗ WP c (.op (.semWait sem 1) kk) Q) := by
  have hcell : cell c (crdK ph d) = ((c : Thread nD τ), SemLoc.reg sem) := by unfold cell; rw [hs]
  have hi := ctx_inv A (K := K) (Ks := Ks) c (crdK ph d)
  rw [hcell] at hi
  have hc : (crE c (.crd ph d (sl k) (k / 2 + 1)) : sProp 𝕄)
      = cred (tallyAt ((c : Thread nD τ), SemLoc.reg sem) (ix (en (.crd ph d (sl k) (k / 2 + 1)))) 1) := by
    unfold crE; rw [show evK (.crd ph d (sl k) (k / 2 + 1)) = crdK ph d from rfl, amt_crdK, hcell]
  unfold DirW ow
  rw [pop hk, hcell, hc]
  iintro ⟨#Hctx, Ho, HD⟩ Hk
  icases HD with ⟨⟨%T, %hT, Hat, #Hp⟩, Hc, Hcs⟩
  icases Ho with ⟨%W, Ho⟩
  ihave #Hi := hi $$ Hctx
  ihave #Hl := (ctx_lev A) $$ Hctx
  iapply (Rounds.wp_wait 𝒱₀ ER (Rd A) (c : Thread nD τ) none (κ := K (c, crdK ph d)) (sm := .reg sem) (wpE_semWait_eq 𝒱₀ (c : Thread nD τ) none Set.univ) (Set.mem_univ _)
    (cr := Finsupp.single (ix (en (.crd ph d (sl k) (k / 2 + 1)))) 1) {(SemLoc.reg sem, ix (en (.crd ph d (sl k) (k / 2 + 1))))}
    (O := owed c n) (W := W) (R := 0) (m := k) (T := T) (by rw [Util.total_single]) (image_single_subset _ _ _)) $$ [Hc Ho Hat]
  · isplitr; · iexact Hi
    isplitl [Hc]; · iexact Hc
    isplitl [Ho]; · iexact Ho
    isplitr; · iapply (mayWait c (.reg sem) _ n hn hι); iexact Hl
    iexact Hat
  iintro %S ⟨%hS, Ho, Hat, Hps⟩
  rw [← hcell, Rd_duties, Rd_expect, dut_crdK, amt_crdK] at hS
  obtain ⟨hTS, hSd, hle⟩ := hS
  have hcard : k + 1 ≤ S.card := by
    have h1 := Finset.card_sdiff_of_subset hSd
    have h2 := Finset.card_le_card hSd
    have h3 : (Finset.range 10).card = 10 := Finset.card_range 10
    have h4 : k + 1 + (Finset.range 10 \ S).card ≤ (Finset.range 10).card * 1 := hle
    omega
  have hall : iprop((bigSep T fun i => relUpTo ph d (tgt d c) (i + 1)) ∗ bigSep (S \ T) (fun i => (Rd A).payload ((c : Thread nD τ), SemLoc.reg sem) 0 i))
      ⊢ bigSep S fun i => (relUpTo ph d (tgt d c) (i + 1) : sProp 𝕄) := by
    rw [bigSep_congr (s := S \ T) (Φ := fun i => (Rd A).payload ((c : Thread nD τ), SemLoc.reg sem) 0 i) (Ψ := fun i => relUpTo ph d (tgt d c) (i + 1))
      fun i _ => by rw [← hcell, Rd_payload, pay_crdK]]
    rw [bs_sdiff hTS]
  ihave #Hall := hall $$ [Hp Hps]
  · isplitr; · iexact Hp
    iexact Hps
  obtain ⟨i, hi, hik⟩ : ∃ i ∈ S, k ≤ i := by
    by_contra hcon
    have h1 : S ⊆ Finset.range k := fun i hi => Finset.mem_range.mpr (by
      by_contra h2; exact hcon ⟨i, hi, by omega⟩)
    have h3 := Finset.card_le_card h1
    rw [Finset.card_range] at h3; omega
  have hget : (bigSep S fun i => (relUpTo ph d (tgt d c) (i + 1) : sProp 𝕄)) ⊢ relFact ph d (tgt d c) k := by
    refine (bigSep_elim hi).trans ?_
    unfold relUpTo
    exact bigSep_elim (Finset.mem_range.mpr (by omega))
  ihave #Hf := hget $$ Hall
  iapply Hk
  isplitl [Ho]; · iexists _; iexact Ho
  isplitl
  · isplitl [Hat]
    · iexists S
      isplitr; · ipureintro; exact ⟨hSd, hcard⟩
      isplitl [Hat]; · iexact Hat
      iexact Hall
    · iexact Hcs
  iexact Hf

end Cells

end Cert.KernelIdeal.Ring
-- ==== Proof.Steps.lean ====
/-
# The kernel's repeated steps, each with all its operations
-/
module

public import proofs.«01_k».proof.Proof.Ops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

/-! ## The pieces of a lane -/

/-- Where a device stands at the receive cell of message `m`, -/
def Pr (ph d q : Fin 2) (m : ℕ) (c : Dev nD) : sProp 𝕄 := iprop(at' c (rcv ph d (sl m) q) (m / 2) ∗ rch c (rcv ph d (sl m) q) (m / 2))
/-- at the send cell, -/
def Ps (ph d q : Fin 2) (m : ℕ) (c : Dev nD) : sProp 𝕄 := iprop(at' c (snt ph d (sl m) q) (m / 2) ∗ rch c (snt ph d (sl m) q) (m / 2))
/-- and as the reader of the slot. -/
def rdr (ph d q : Fin 2) (m : ℕ) (c : Dev nD) : sProp 𝕄 := readerAt ES (c, ph, d, sl m, q) (m / 2)
/-- What message `m` needs at its target, the slot itself or the right to take it once it is free. -/
def slotT (ph d q : Fin 2) (m : ℕ) (c : Dev nD) : sProp 𝕄 :=
  if m < 2 then slotOf (tgt d c, ph, d, sl m, q) else writeTok ES (tgt d c, ph, d, sl m, q) (m / 2)
/-- The rights to send message `m`. -/
def tgtTok (ph d q : Fin 2) (m : ℕ) (c : Dev nD) : sProp 𝕄 :=
  iprop(tk c (snt ph d (sl m) q) (m / 2) 0 ∗ tk (tgt d c) (rcv ph d (sl m) q) (m / 2) 0 ∗ slotT ph d q m c)

omit [FloatOps F] in
theorem slotOf0 (e : Dev nD) (d σ q : Fin 2) : (slotOf (e, 0, d, σ, q) : sProp 𝕄) = anyAt e (slot4 (rsB d) σ q) := rfl
omit [FloatOps F] in
theorem slotOf1 (e : Dev nD) (d σ q : Fin 2) : (slotOf (e, 1, d, σ, q) : sProp 𝕄) = anyAt e (slot4 (agB d) σ q) := rfl

theorem dut_rcv {m : ℕ} (ph d q : Fin 2) (hm : m < 7) : dut (rcv ph d (sl m) q) (m / 2) = {0} := by
  unfold rcv; split <;> (rcases (by omega : m = 0 ∨ m = 1 ∨ m = 2 ∨ m = 3 ∨ m = 4 ∨ m = 5 ∨ m = 6) with h | h | h | h | h | h | h <;> subst h <;> rfl)
theorem dut_snt {m : ℕ} (ph d q : Fin 2) (hm : m < 7) : dut (snt ph d (sl m) q) (m / 2) = {0} := by
  unfold snt; split <;> (rcases (by omega : m = 0 ∨ m = 1 ∨ m = 2 ∨ m = 3 ∨ m = 4 ∨ m = 5 ∨ m = 6) with h | h | h | h | h | h | h <;> subst h <;> rfl)

theorem Pr_next (ph d q : Fin 2) (m : ℕ) (c : Dev nD) :
    (Pr ph d q (m + 2) c : sProp 𝕄) = iprop(at' c (rcv ph d (sl m) q) (m / 2 + 1) ∗ rch c (rcv ph d (sl m) q) (m / 2 + 1)) := by
  unfold Pr; rw [sl_add_two, show (m + 2) / 2 = m / 2 + 1 by omega]
theorem Ps_next (ph d q : Fin 2) (m : ℕ) (c : Dev nD) :
    (Ps ph d q (m + 2) c : sProp 𝕄) = iprop(at' c (snt ph d (sl m) q) (m / 2 + 1) ∗ rch c (snt ph d (sl m) q) (m / 2 + 1)) := by
  unfold Ps; rw [sl_add_two, show (m + 2) / 2 = m / 2 + 1 by omega]
theorem rdr_next (ph d q : Fin 2) (m : ℕ) (c : Dev nD) : (rdr ph d q (m + 2) c : sProp 𝕄) = readerAt ES (c, ph, d, sl m, q) (m / 2 + 1) := by
  unfold rdr; rw [sl_add_two, show (m + 2) / 2 = m / 2 + 1 by omega]

theorem relFact_eq (ph d q : Fin 2) (e : Dev nD) (j : ℕ) : (relFact ph d e (2 * j + q.val) : sProp 𝕄)
    = iprop(released ES (e, ph, d, sl j, q) (j / 2 + 1) ∗ reached ER (cell e (rcv ph d (sl j) q)) (j / 2 + 1)) := by
  have hq := q.isLt
  have h1 : (2 * j + q.val) / 2 = j := by omega
  have h2 : sl (2 * j + q.val) = q := Fin.ext (by show (2 * j + q.val) % 2 = q.val; omega)
  unfold relFact; rw [h1, h2]

omit [FloatOps F] in
theorem any_twice {sp : Space} {s : Shape} {e : EltTy} (M : Memref sig .tc sp s e) (hs : M.view.set.Nonempty) : iprop(anyAt c M ∗ anyAt c M) ⊢ (False : sProp 𝕄) := by
  obtain ⟨i, hi⟩ := hs
  unfold anyAt owns
  iintro ⟨⟨%X, %f, -, H⟩, ⟨%Y, %g, -, H'⟩⟩
  icombine H H' as H
  iapply (pointsTo_overlap_false hi hi) $$ H

omit [FloatOps F] in
theorem view_nonempty {sp : Space} {s : Shape} {e : EltTy} (M : Memref sig .tc sp s e) (i : s.Idx) : M.view.set.Nonempty :=
  ⟨M.view.emb i, Finset.mem_map_of_mem _ (Finset.mem_univ i)⟩

omit [FloatOps F] in
theorem slotOf_twice (k : Key) : iprop(slotOf k ∗ slotOf k) ⊢ (False : sProp 𝕄) := by
  unfold slotOf
  split
  · exact any_twice _ (view_nonempty _ fun a => ⟨0, by fin_cases a <;> exact Nat.succ_pos _⟩)
  · exact any_twice _ (view_nonempty _ fun a => ⟨0, by fin_cases a <;> exact Nat.succ_pos _⟩)

/-- The reader gives a slot back, -/
theorem release1 (ph d q : Fin 2) (m : ℕ) :
    iprop(ctx A K Ks ∗ rdr ph d q m c ∗ slotOf (c, ph, d, sl m, q) ∗ Pr ph d q (m + 2) c)
      ⊢ (|={Set.univ}=> (rdr ph d q (m + 2) c ∗ relFact ph d c (2 * m + q.val) ∗ Pr ph d q (m + 2) c) : sProp 𝕄) := by
  rw [relFact_eq, Pr_next, rdr_next]
  unfold rdr
  iintro ⟨#Hctx, Hr, Hs, Hat, #Hrch⟩
  ihave #Hi := (ctx_slot A (c, ph, d, sl m, q)) $$ Hctx
  imod (slot_release ES (Set.mem_univ _) (slotOf_twice _) (m / 2)) $$ [Hr Hs] with ⟨Hr, #Hrel⟩
  · isplitr; · iexact Hi
    isplitl [Hr] <;> iassumption
  imodintro
  isplitl [Hr]; · iexact Hr
  isplitr
  · isplitr; · iexact Hrel
    iexact Hrch
  isplitl [Hat]; · iexact Hat
  iexact Hrch

/-- and its writer takes it again. -/
theorem take1 (ph d q : Fin 2) (m : ℕ) :
    iprop(ctx A K Ks ∗ slotT ph d q (m + 2) c ∗ relFact ph d (tgt d c) (2 * m + q.val))
      ⊢ (|={Set.univ}=> (slotOf (tgt d c, ph, d, sl m, q) ∗ rch (tgt d c) (rcv ph d (sl m) q) (m / 2 + 1)) : sProp 𝕄) := by
  rw [relFact_eq]
  unfold slotT
  rw [if_neg (by omega), sl_add_two, show (m + 2) / 2 = m / 2 + 1 by omega]
  iintro ⟨#Hctx, Ht, Hrel, #Hrch⟩
  ihave #Hi := (ctx_slot A (tgt d c, ph, d, sl m, q)) $$ Hctx
  imod (slot_take ES (Set.mem_univ _) (m / 2 + 1)) $$ [Ht Hrel] with Hs
  · isplitr; · iexact Hi
    isplitl [Hrel] <;> iassumption
  imodintro
  isplitl [Hs]; · iexact Hs
  iexact Hrch

/-! ## Waits -/

/-- A wait for the arrival of message `m`, -/
theorem recvL {sem : DmaSem sig} {sp sp' : Space} {s s' : Shape} {e e' : EltTy} {M : Memref sig .tc sp' s' e'} {M' : Memref sig .tc sp s e}
    {h1 : M.view.WordExact} {h2 : M'.view.WordExact}
    (ph d q : Fin 2) (m n : ℕ) (hm : m < 7) (hι : ix (en (.send ph d q m)) ≤ n) (hn : n ≤ 105)
    (hs : semOf (rcv ph d (sl m) q) = .dma sem) (hN : M'.view.dmaCredit = amt (rcv ph d (sl m) q))
    {kk : PUnit → Prog (TpuEff nD τ sig (Elt F) Λ₀ .tc) α} :
    iprop(ctx A K Ks ∗ crE c (.send ph d q m) ∗ Pr ph d q m c ∗ ow c n)
      ⊢ iprop(((ow c n ∗ Pr ph d q (m + 2) c ∗ pay A c (rcv ph d (sl m) q) (m / 2) 0) -∗ WP c (kk ⟨⟩) Q)
        -∗ WP c (.op (.waitDma2 sem M M' h1 h2) kk) Q) := by
  rw [Pr_next]
  unfold Pr crE
  iintro ⟨#Hctx, Hc, ⟨Hat, -⟩, Ho⟩ Hk
  iapply (wait1 A (wpE_waitDma2_eq 𝒱₀ (c : Thread nD τ) none Set.univ) (rcv ph d (sl m) q) (m / 2) (ix (en (.send ph d q m))) n
    (dut_rcv ph d q hm) hι hn hs hN) $$ [Hc Hat Ho]
  · isplitr; · iexact Hctx
    isplitl [Hc]; · iexact Hc
    isplitl [Ho] <;> iassumption
  iintro ⟨Ho, Hat, Hr, Hp⟩
  iapply Hk
  isplitl [Ho]; · iexact Ho
  isplitr [Hp]
  · isplitl [Hat] <;> iassumption
  iexact Hp

/-- and for its departure. -/
theorem sentL {sem : DmaSem sig} {sp sp' : Space} {s s' : Shape} {e e' : EltTy} {M : Memref sig .tc sp' s' e'} {M' : Memref sig .tc sp s e}
    {h1 : M.view.WordExact} {h2 : M'.view.WordExact}
    (ph d q : Fin 2) (m n : ℕ) (hm : m < 7) (hn : n ≤ 105)
    (hs : semOf (snt ph d (sl m) q) = .dma sem) (hN : M'.view.dmaCredit = amt (snt ph d (sl m) q))
    {kk : PUnit → Prog (TpuEff nD τ sig (Elt F) Λ₀ .tc) α} :
    iprop(ctx A K Ks ∗ cr0 c (snt ph d (sl m) q) ∗ Ps ph d q m c ∗ ow c n)
      ⊢ iprop(((ow c n ∗ Ps ph d q (m + 2) c ∗ pay A c (snt ph d (sl m) q) (m / 2) 0) -∗ WP c (kk ⟨⟩) Q)
        -∗ WP c (.op (.waitDma2 sem M M' h1 h2) kk) Q) := by
  rw [Ps_next]
  unfold Ps
  iintro ⟨#Hctx, Hc, ⟨Hat, -⟩, Ho⟩ Hk
  iapply (wait1 A (wpE_waitDma2_eq 𝒱₀ (c : Thread nD τ) none Set.univ) (snt ph d (sl m) q) (m / 2) 0 n
    (dut_snt ph d q hm) (Nat.zero_le _) hn hs hN) $$ [Hc Hat Ho]
  · isplitr; · iexact Hctx
    isplitl [Hc]; · iexact Hc
    isplitl [Ho] <;> iassumption
  iintro ⟨Ho, Hat, Hr, Hp⟩
  iapply Hk
  isplitl [Ho]; · iexact Ho
  isplitr [Hp]
  · isplitl [Hat] <;> iassumption
  iexact Hp

/-! ## The reduce-scatter -/

theorem pay_rr (d q : Fin 2) (m : ℕ) (c : Dev nD) : pay A c (rcv 0 d (sl m) q) (m / 2) 0
    = iprop(own c (slot4 (rsB d) (sl m) q) fullShare (Snd A d q m (src d c)) ∗ rideIf d q m c) := by
  show iprop(own c (slot4 (rsB d) (sl m) q) fullShare (Snd A d q (2 * (m / 2) + (sl m).val) (src d c)) ∗ rideIf d q (2 * (m / 2) + (sl m).val) c) = _
  rw [two_sl]
theorem pay_rs (d q : Fin 2) (m : ℕ) (c : Dev nD) : pay A c (snt 0 d (sl m) q) (m / 2) 0
    = own c (slot4 (sdB d) (sl m) q) fullShare (Snd A d q m c) := by
  show own c (slot4 (sdB d) (sl m) q) fullShare (Snd A d q (2 * (m / 2) + (sl m).val) c) = _
  rw [two_sl]

/-- The row of the maximum array kept at step `j` of the ride. -/
def keep1 (d q : Fin 2) (j : ℕ) (c : Dev nD) : sProp 𝕄 := if d = 0 ∧ q = 0 then anyAt (sh (7 * j) c) (rowM (pm c)) else iprop(emp)
def keep (d q : Fin 2) (m : ℕ) (c : Dev nD) : sProp 𝕄 := bigSep (Finset.Ico 1 (m + 1)) fun j => keep1 d q j c

theorem ride_step (d q : Fin 2) (m : ℕ) (hm : m < 7) : rideIf d q m c ⊢ (iprop(keep1 d q (m + 1) c ∗ rideIf d q (m + 1) (tgt d c)) : sProp 𝕄) := by
  unfold rideIf keep1
  split
  case isFalse h => iintro H; isplitl <;> iempintro
  case isTrue h =>
    obtain ⟨rfl, rfl⟩ := h
    unfold ride
    rw [pop (by omega : m + 1 < 8), sh_of_mod (a := m + 1 + 7 * (m + 1)) (by omega)]
    have hc : ∀ k ∈ Finset.Ico (m + 1 + 1) 8, anyAt (F := F) (sh (7 * (m + 1)) c) (rowM (pm (sh (k + 7 * (m + 1)) c)))
        = anyAt (sh (7 * (m + 1 + 1)) (tgt 0 c)) (rowM (pm (sh (k + 7 * (m + 1 + 1)) (tgt 0 c)))) := by
      intro k _
      have h1 : sh (7 * (m + 1 + 1)) (tgt 0 c) = sh (7 * (m + 1)) c := by
        unfold tgt; rw [sh_sh]; exact sh_congr (by show (7 * (m + 1 + 1) + 1) % 8 = _; omega) c
      have h2 : sh (k + 7 * (m + 1 + 1)) (tgt 0 c) = sh (k + 7 * (m + 1)) c := by
        unfold tgt; rw [sh_sh]; exact sh_congr (by show (k + 7 * (m + 1 + 1) + 1) % 8 = _; omega) c
      rw [h1, h2]
    rw [bs_congr hc]

/-- The send side before message `m + 1` is built. -/
def sndSt (d q : Fin 2) : ℕ → Dev nD → sProp 𝕄
  | 0, c => iprop(cr0 c (snt 0 d (sl 0) q) ∗ Ps 0 d q 0 c ∗ Ps 0 d q 1 c ∗ anyAt c (slot4 (sdB d) (sl 1) q))
  | m + 1, c => iprop(cr0 c (snt 0 d (sl m) q) ∗ cr0 c (snt 0 d (sl (m + 1)) q) ∗ Ps 0 d q m c ∗ Ps 0 d q (m + 1) c)

/-- A reduce-scatter lane when message `m` is sent. -/
def LaneR (d q : Fin 2) (m : ℕ) (c : Dev nD) : sProp 𝕄 :=
  iprop((bigSep (Finset.Ico m 7) fun i => crE c (.send 0 d q i)) ∗ (bigSep (Finset.Ico (m + 1) 7) fun i => tgtTok 0 d q i c)
    ∗ Pr 0 d q m c ∗ Pr 0 d q (m + 1) c ∗ sndSt d q m c ∗ keep d q m c)
/-- The reader's side of both slots. -/
def RdrR (ph d q : Fin 2) (m : ℕ) (c : Dev nD) : sProp 𝕄 := iprop(rdr ph d q m c ∗ rdr ph d q (m + 1) c)

/-- The compute part of a step. -/
theorem rsCore {Mr Ms : Memref sig .tc .vmem S2x2x512x512 .bf16} {o1 o2 : Fin 4 → ℕ} {o3 : Fin 3 → ℕ}
    {i1 : ∀ a, o1 a + S1x1x512x512.size a ≤ S2x2x512x512.size a} {i2 : ∀ a, o2 a + S1x1x512x512.size a ≤ S2x2x512x512.size a}
    {i3 : ∀ a, o3 a + S1x512x512.size a ≤ S8x512x2048.size a}
    (d q : Fin 2) (m : ℕ) (hMr : Mr = rsB d) (hMs : Ms = sdB d) (h1 : o1 = ![(sl m).val, q.val, 0, 0]) (h2 : o2 = ![(sl (m + 1)).val, q.val, 0, 0])
    (h3 : o3 = ![(pj d (m + 1)).val, 0, d.val * 1024 + q.val * 512])
    {l1 : Mr.view.LoadsAt (Rect.unit (s := S2x2x512x512) o1 S1x1x512x512.size i1).toLoadRect}
    {l3 : partM.view.LoadsAt (Rect.unit (s := S8x512x2048) o3 S1x512x512.size i3).toLoadRect}
    {l2 : Ms.view.LoadsAt (Rect.unit (s := S2x2x512x512) o2 S1x1x512x512.size i2).toLoadRect}
    {hx : (Ms.access (Rect.unit (s := S2x2x512x512) o2 S1x1x512x512.size i2)).Stores Finset.univ}
    {hm : (Finset.univ : Finset (Rect.unit (s := S2x2x512x512) o2 S1x1x512x512.size i2).shape.Idx) = Finset.univ ∨ ∀ a, (Rect.unit (s := S2x2x512x512) o2 S1x1x512x512.size i2).stride a = 1}
    {pf : Vec F S1x1x512x512 .bf16 → Vec F S1x512x512 .bf16 → Vec F S1x1x512x512 .bf16} (hpf : ∀ v w, pf v w = k0_pay12 v w)
    {kk : PUnit → Prog (TpuEff nD τ sig (Elt F) Λ₀ .tc) α} :
    iprop(own c (slot4 (rsB d) (sl m) q) fullShare (Snd A d q m (src d c)) ∗ own c (chunkM (pj d (m + 1))) fullShare (chunk A c (pj d (m + 1))) ∗ anyAt c (slot4 (sdB d) (sl (m + 1)) q))
      ⊢ iprop(((own c (slot4 (rsB d) (sl m) q) fullShare (Snd A d q m (src d c)) ∗ own c (chunkM (pj d (m + 1))) fullShare (chunk A c (pj d (m + 1)))
            ∗ own c (slot4 (sdB d) (sl (m + 1)) q) fullShare (Snd A d q (m + 1) c)) -∗ WP c (kk ⟨⟩) Q)
        -∗ WP c (.op (.load Mr (Rect.unit (s := S2x2x512x512) o1 S1x1x512x512.size i1).toLoadRect l1) fun v =>
            .op (.load partM (Rect.unit (s := S8x512x2048) o3 S1x512x512.size i3).toLoadRect l3) fun w =>
            .op (.load Ms (Rect.unit (s := S2x2x512x512) o2 S1x1x512x512.size i2).toLoadRect l2) fun _ =>
            .op (.store Ms (Rect.unit (s := S2x2x512x512) o2 S1x1x512x512.size i2) (pf v w) Finset.univ hx hm) kk) Q) := by
  subst hMr hMs h1 h2 h3
  iintro ⟨Hr, Hc, Hs⟩ Hk
  iapply (ld_slot4 (M := rsB d) (a := sl m) (b := q)) $$ Hr
  iintro Hr
  iapply (ld_quart (j := pj d (m + 1)) (d := d) (q := q)) $$ Hc
  iintro Hc
  iapply (dst_slot4 (M := sdB d) (a := sl (m + 1)) (b := q)) $$ Hs
  iintro Hs
  iapply Hk
  isplitl [Hr]; · iexact Hr
  isplitl [Hc]; · iexact Hc
  rw [hpf]
  iexact Hs

/-- The transfer of message `m`, its slot at the target in hand. -/
theorem sendL {ph : Fin 2} {sh' : Shape} {e : EltTy} {M : Memref sig .tc .vmem sh' e} {M' : Memref sig .tc .vmem sh' e} {cn : Dev nD}
    {hsc : (M' : Memref sig (Dev.tc cn : Thread nD τ).2.kind .vmem sh' e).view.ref.isScScratch = false} {sS sR : SemLoc sig}
    {hsrc : M.view.WordExact} {hdst : M'.view.WordExact}
    {hsem : DmaTarget.Typed .vmem sR (.remote (Dev.tc cn : Thread nD τ) (M' : Memref sig (Dev.tc cn : Thread nD τ).2.kind .vmem sh' e) sS hsc)}
    (d q : Fin 2) (m n : ℕ) (hm : m < 7) (hev : evs[n]? = some (.send ph d q m)) (hcn : cn = tgt d c)
    (hS : semOf (snt ph d (sl m) q) = sS) (hR : semOf (rcv ph d (sl m) q) = sR) (hN : M'.view.amount sR = amt (rcv ph d (sl m) q))
    (hN' : amt (snt ph d (sl m) q) = amt (rcv ph d (sl m) q)) {qq : PosShare TreeShare} {X : Vec F sh' e} {Fr : sProp 𝕄}
    (hp₁ : own c M qq X ⊢ pay A c (snt ph d (sl m) q) (m / 2) 0)
    (hp₂ : iprop(own (tgt d c) M' fullShare X ∗ Fr) ⊢ pay A (tgt d c) (rcv ph d (sl m) q) (m / 2) 0)
    {kk : PUnit → Prog (TpuEff nD τ sig (Elt F) Λ₀ .tc) α} :
    iprop(ctx A K Ks ∗ own c M qq X ∗ anyAt (tgt d c) M' ∗ Fr ∗ ow c n ∗ tk c (snt ph d (sl m) q) (m / 2) 0 ∗ rch c (snt ph d (sl m) q) (m / 2)
        ∗ tk (tgt d c) (rcv ph d (sl m) q) (m / 2) 0 ∗ rch (tgt d c) (rcv ph d (sl m) q) (m / 2))
      ⊢ iprop(((cr0 c (snt ph d (sl m) q) ∗ ow c (n + 1)) -∗ WP c (kk ⟨⟩) Q)
        -∗ WP c (.op (.enqueueDma M (.remote (Dev.tc cn : Thread nD τ) M' sS hsc) sR hsrc hdst hsem) kk) Q) :=
  send1 A (.send ph d q m) n (snt ph d (sl m) q) (m / 2) (m / 2) hev hcn hS hR hN hN' (dut_snt ph d q hm) (dut_rcv ph d q hm) hp₁ hp₂

theorem LaneR_open (d q : Fin 2) (m : ℕ) (hm : m + 2 < 7) (c : Dev nD) : (LaneR d q (m + 1) c : sProp 𝕄)
    = iprop((crE c (.send 0 d q (m + 1)) ∗ bigSep (Finset.Ico (m + 2) 7) fun i => crE c (.send 0 d q i))
      ∗ ((tk c (snt 0 d (sl (m + 2)) q) ((m + 2) / 2) 0 ∗ tk (tgt d c) (rcv 0 d (sl (m + 2)) q) ((m + 2) / 2) 0 ∗ slotT 0 d q (m + 2) c)
        ∗ bigSep (Finset.Ico (m + 3) 7) fun i => tgtTok 0 d q i c)
      ∗ Pr 0 d q (m + 1) c ∗ Pr 0 d q (m + 2) c
      ∗ (cr0 c (snt 0 d (sl m) q) ∗ cr0 c (snt 0 d (sl (m + 1)) q) ∗ Ps 0 d q m c ∗ Ps 0 d q (m + 1) c) ∗ keep d q (m + 1) c) := by
  unfold LaneR
  rw [pop (f := fun i => crE c (.send 0 d q i)) (by omega : m + 1 < 7), pop (f := fun i => tgtTok 0 d q i c) (by omega : m + 1 + 1 < 7)]
  rfl
theorem LaneR_mk (d q : Fin 2) (m : ℕ) (c : Dev nD) :
    iprop((bigSep (Finset.Ico (m + 1) 7) fun i => crE c (.send 0 d q i)) ∗ (bigSep (Finset.Ico (m + 2) 7) fun i => tgtTok 0 d q i c)
      ∗ Pr 0 d q (m + 1) c ∗ Pr 0 d q (m + 2) c
      ∗ (cr0 c (snt 0 d (sl m) q) ∗ cr0 c (snt 0 d (sl (m + 1)) q) ∗ Ps 0 d q m c ∗ Ps 0 d q (m + 1) c) ∗ keep1 d q (m + 1) c ∗ keep d q m c) ⊢ (LaneR d q (m + 1) c : sProp 𝕄) := by
  have hk : (keep d q (m + 1) c : sProp 𝕄) = iprop(keep1 d q (m + 1) c ∗ keep d q m c) := push (by omega)
  unfold LaneR
  rw [hk]
  exact BIBase.Entails.refl

/-- Sending message `m + 2` of a reduce-scatter lane when its slot at the target is in hand. -/
theorem rsSend {Mr Ms : Memref sig .tc .vmem S512x512 .bf16} {cn : Dev nD}
    {hsc : (Mr : Memref sig (Dev.tc cn : Thread nD τ).2.kind .vmem S512x512 .bf16).view.ref.isScScratch = false} {s1 s2 : SemLoc sig}
    {w5 : Ms.view.WordExact} {w6 : Mr.view.WordExact}
    {hsem : DmaTarget.Typed .vmem s2 (.remote (Dev.tc cn : Thread nD τ) (Mr : Memref sig (Dev.tc cn : Thread nD τ).2.kind .vmem S512x512 .bf16) s1 hsc)}
    (d q : Fin 2) (m n : ℕ) (hm : m < 7) (hMs : Ms = slot4 (sdB d) (sl m) q) (hMr : Mr = slot4 (rsB d) (sl m) q)
    (hcn : cn = tgt d c) (hs3 : semOf (.rs d (sl m) q) = s1) (hs4 : semOf (.rr d (sl m) q) = s2) (hN : Mr.view.amount s2 = NB) (hev : evs[n]? = some (.send 0 d q m))
    {kk : PUnit → Prog (TpuEff nD τ sig (Elt F) Λ₀ .tc) α} :
    iprop(ctx A K Ks ∗ own c (slot4 (sdB d) (sl m) q) fullShare (Snd A d q m c) ∗ slotOf (tgt d c, 0, d, sl m, q) ∗ rideIf d q m (tgt d c) ∗ ow c n
        ∗ tk c (snt 0 d (sl m) q) (m / 2) 0 ∗ Ps 0 d q m c
        ∗ tk (tgt d c) (rcv 0 d (sl m) q) (m / 2) 0 ∗ rch (tgt d c) (rcv 0 d (sl m) q) (m / 2))
      ⊢ iprop(((cr0 c (snt 0 d (sl m) q) ∗ ow c (n + 1) ∗ Ps 0 d q m c) -∗ WP c (kk ⟨⟩) Q)
        -∗ WP c (.op (.enqueueDma Ms (.remote (Dev.tc cn : Thread nD τ) Mr s1 hsc) s2 w5 w6 hsem) kk) Q) := by
  subst hMs hMr
  unfold Ps
  iintro ⟨#Hctx, Hs, Hslot, Hride, Ho, Ht1, ⟨Hat, #Hr1⟩, Ht2, Hr2⟩ Hk
  iapply (sendL A d q m n hm hev hcn hs3 hs4 hN rfl (Fr := rideIf d q m (tgt d c)) (by rw [pay_rs]) (by rw [pay_rr, src_tgt])) $$ [Hs Hslot Hride Ho Ht1 Ht2 Hr2]
  · isplitr; · iexact Hctx
    isplitl [Hs]; · iexact Hs
    isplitl [Hslot]; · iapply (Entails.of_eq (slotOf0 (tgt d c) d (sl m) q)); iexact Hslot
    isplitl [Hride]; · iexact Hride
    isplitl [Ho]; · iexact Ho
    isplitl [Ht1]; · iexact Ht1
    isplitr; · iexact Hr1
    isplitl [Ht2] <;> iassumption
  iintro ⟨Hd, Ho⟩
  iapply Hk
  isplitl [Hd]; · iexact Hd
  isplitl [Ho]; · iexact Ho
  isplitl [Hat]; · iexact Hat
  iexact Hr1

/-- The step sending message `m + 2`, every slot in use, up to the credit for the slot read. -/
theorem rsStep {Mr Ms : Memref sig .tc .vmem S2x2x512x512 .bf16} {o1 o2 : Fin 4 → ℕ} {o3 : Fin 3 → ℕ}
    {i1 : ∀ a, o1 a + S1x1x512x512.size a ≤ S2x2x512x512.size a} {i2 : ∀ a, o2 a + S1x1x512x512.size a ≤ S2x2x512x512.size a}
    {i3 : ∀ a, o3 a + S1x512x512.size a ≤ S8x512x2048.size a}
    (d q : Fin 2) (m n : ℕ) (hm : m < 4) (j : Fin 8) (hj : j = pj d (m + 2)) (k : ℕ) (hk : k = 2 * m + q.val) (i : ℕ) (hi : i = 2 * (m + 1) + q.val) (hMr : Mr = rsB d) (hMs : Ms = sdB d) (h1 : o1 = ![(sl (m + 1)).val, q.val, 0, 0]) (h2 : o2 = ![(sl m).val, q.val, 0, 0])
    (h3 : o3 = ![j.val, 0, d.val * 1024 + q.val * 512])
    {l1 : Mr.view.LoadsAt (Rect.unit (s := S2x2x512x512) o1 S1x1x512x512.size i1).toLoadRect}
    {l3 : partM.view.LoadsAt (Rect.unit (s := S8x512x2048) o3 S1x512x512.size i3).toLoadRect}
    {l2 : Ms.view.LoadsAt (Rect.unit (s := S2x2x512x512) o2 S1x1x512x512.size i2).toLoadRect}
    {hx : (Ms.access (Rect.unit (s := S2x2x512x512) o2 S1x1x512x512.size i2)).Stores Finset.univ}
    {hmm : (Finset.univ : Finset (Rect.unit (s := S2x2x512x512) o2 S1x1x512x512.size i2).shape.Idx) = Finset.univ ∨ ∀ a, (Rect.unit (s := S2x2x512x512) o2 S1x1x512x512.size i2).stride a = 1}
    {pf : Vec F S1x1x512x512 .bf16 → Vec F S1x512x512 .bf16 → Vec F S1x1x512x512 .bf16} (hpf : ∀ v w, pf v w = k0_pay12 v w)
    {se1 se2 : DmaSem sig} {s1 s2 : SemLoc sig} {sc : Sem sig} {w5 : ((Ms.slice (Rect.unit (s := S2x2x512x512) o2 S1x1x512x512.size i2) (fun _ => rfl)).squeeze S512x512 squeezes_S1x1x512x512_S512x512).view.WordExact}
    {w6 : ((Mr.slice (Rect.unit (s := S2x2x512x512) o2 S1x1x512x512.size i2) (fun _ => rfl)).squeeze S512x512 squeezes_S1x1x512x512_S512x512).view.WordExact} {cn cn' : Dev nD}
    {hsc : (((Mr.slice (Rect.unit (s := S2x2x512x512) o2 S1x1x512x512.size i2) (fun _ => rfl)).squeeze S512x512 squeezes_S1x1x512x512_S512x512) : Memref sig (Dev.tc cn : Thread nD τ).2.kind .vmem S512x512 .bf16).view.ref.isScScratch = false}
    {hsem : DmaTarget.Typed .vmem s2 (.remote (Dev.tc cn : Thread nD τ) (((Mr.slice (Rect.unit (s := S2x2x512x512) o2 S1x1x512x512.size i2) (fun _ => rfl)).squeeze S512x512 squeezes_S1x1x512x512_S512x512) : Memref sig (Dev.tc cn : Thread nD τ).2.kind .vmem S512x512 .bf16) s1 hsc)}
    {A1 A2 : Memref sig .tc .vmem S512x512 .bf16} {A3 A4 : Memref sig .tc .vmem S512x512 .bf16} {wa1 : A1.view.WordExact} {wa2 : A2.view.WordExact} {wa3 : A3.view.WordExact} {wa4 : A4.view.WordExact}
    (hA2 : A2.view.dmaCredit = NB) (hA4 : A4.view.dmaCredit = NB)
    (hN : ((Mr.slice (Rect.unit (s := S2x2x512x512) o2 S1x1x512x512.size i2) (fun _ => rfl)).squeeze S512x512 squeezes_S1x1x512x512_S512x512).view.amount s2 = NB)
    (hs1 : semOf (.rr d (sl (m + 1)) q) = .dma se1) (hs2 : semOf (.rs d (sl m) q) = .dma se2) (hs3 : semOf (.rs d (sl m) q) = s1) (hs4 : semOf (.rr d (sl m) q) = s2)
    (hsc' : semOf (.rc d) = .reg sc) (hcn : cn = tgt d c) (hcn' : cn' = src d c)
    (hn : n ≤ 104) (hι : ix (en (.send 0 d q (m + 1))) ≤ n) (hιc : ix (en (.crd 0 d q (m + 1))) ≤ n)
    (hev : evs[n]? = some (.send 0 d q (m + 2))) (hev' : evs[n + 1]? = some (.crd 0 d q (m + 2)))
    {kk : PUnit → Prog (TpuEff nD τ sig (Elt F) Λ₀ .tc) α} :
    iprop(ctx A K Ks ∗ ow c n ∗ LaneR d q (m + 1) c ∗ RdrR 0 d q (m + 1) c ∗ own c (chunkM j) fullShare (chunk A c j)
        ∗ DirW 0 d k c ∗ DirS 0 d i c)
      ⊢ iprop(((ow c (n + 2) ∗ LaneR d q (m + 2) c ∗ RdrR 0 d q (m + 2) c ∗ own c (chunkM j) fullShare (chunk A c j)
            ∗ DirW 0 d (k + 1) c ∗ DirS 0 d (i + 1) c) -∗ WP c (kk ⟨⟩) Q)
        -∗ WP c (.op (.waitDma2 se1 A1 A2 wa1 wa2) fun _ => .op (.waitDma2 se2 A3 A4 wa3 wa4) fun _ =>
            .op (.load Mr (Rect.unit (s := S2x2x512x512) o1 S1x1x512x512.size i1).toLoadRect l1) fun v =>
            .op (.load partM (Rect.unit (s := S8x512x2048) o3 S1x512x512.size i3).toLoadRect l3) fun w =>
            .op (.load Ms (Rect.unit (s := S2x2x512x512) o2 S1x1x512x512.size i2).toLoadRect l2) fun _ =>
            .op (.store Ms (Rect.unit (s := S2x2x512x512) o2 S1x1x512x512.size i2) (pf v w) Finset.univ hx hmm) fun _ =>
            .op (.semWait sc 1) fun _ =>
            .op (.enqueueDma ((Ms.slice (Rect.unit (s := S2x2x512x512) o2 S1x1x512x512.size i2) (fun _ => rfl)).squeeze S512x512 squeezes_S1x1x512x512_S512x512)
              (.remote (Dev.tc cn : Thread nD τ) ((Mr.slice (Rect.unit (s := S2x2x512x512) o2 S1x1x512x512.size i2) (fun _ => rfl)).squeeze S512x512 squeezes_S1x1x512x512_S512x512) s1 hsc) s2 w5 w6 hsem) fun _ =>
            .op (.semSignal (Dev.tc cn' : Thread nD τ) sc 1) kk) Q) := by
  subst hj hk hi
  have hq := q.isLt
  have hslm : sl (2 * m + q.val) = q := Fin.ext (by show (2 * m + q.val) % 2 = q.val; omega)
  subst h2 hMr hMs
  unfold RdrR
  rw [LaneR_open d q m (by omega)]
  iintro ⟨#Hctx, Ho, ⟨⟨Hc, Hcs⟩, ⟨⟨Ht1, Ht2, Hslot⟩, Hts⟩, HP, HP', ⟨Hd, Hd', HS, HS'⟩, Hkeep⟩, ⟨Hrd, Hrd'⟩, Hch, HW, HD⟩ Hk
  iapply (recvL A 0 d q (m + 1) n (by omega) hι (by omega) hs1 hA2) $$ [Hc HP Ho]
  · isplitr; · iexact Hctx
    isplitl [Hc]; · iexact Hc
    isplitl [HP] <;> iassumption
  iintro ⟨Ho, HP, Hpay⟩
  ihave Hpay := (Entails.of_eq (pay_rr A d q (m + 1) c)) $$ Hpay
  icases Hpay with ⟨Hr, Hride⟩
  ihave Hride := (ride_step d q (m + 1) (by omega)) $$ Hride
  icases Hride with ⟨Hk1, Hride⟩
  iapply (sentL A 0 d q m n (by omega) (by omega) hs2 hA4) $$ [Hd HS Ho]
  · isplitr; · iexact Hctx
    isplitl [Hd]; · iexact Hd
    isplitl [HS] <;> iassumption
  iintro ⟨Ho, HS, Hpay⟩
  ihave Hpay := (Entails.of_eq (pay_rs A d q m c)) $$ Hpay
  iapply (rsCore A d q (m + 1) rfl rfl h1 (by rw [show m + 1 + 1 = m + 2 from rfl, sl_add_two]) h3 hpf) $$ [Hr Hch Hpay]
  · isplitl [Hr]; · iexact Hr
    isplitl [Hch]; · iexact Hch
    rw [show m + 1 + 1 = m + 2 from rfl, sl_add_two]
    iapply own_any; iexact Hpay
  iintro ⟨Hr, Hch, Hs⟩
  iapply (wcr A 0 d (2 * m + q.val) n (by omega) (by omega) (by rw [hslm, show (2 * m + q.val) / 2 = m by omega]; exact hιc) hsc') $$ [Ho HW]
  · isplitr; · iexact Hctx
    isplitl [Ho] <;> iassumption
  iintro ⟨Ho, HW, Hrel⟩
  imod (take1 A 0 d q m) $$ [Hslot Hrel] with ⟨Hslot, Hrch⟩
  · isplitr; · iexact Hctx
    isplitl [Hslot] <;> iassumption
  iapply (rsSend A d q (m + 2) n (by omega) (by rw [sl_add_two]) (by rw [sl_add_two]) hcn (by rw [sl_add_two]; exact hs3) (by rw [sl_add_two]; exact hs4) hN hev)
    $$ [Hs Hslot Hride Ho Ht1 Ht2 HS Hrch]
  · isplitr; · iexact Hctx
    isplitl [Hs]; · iexact Hs
    isplitl [Hslot]; · rw [sl_add_two]; iexact Hslot
    isplitl [Hride]; · iexact Hride
    isplitl [Ho]; · iexact Ho
    isplitl [Ht1]; · iexact Ht1
    isplitl [HS]; · iexact HS
    isplitl [Ht2]; · iexact Ht2
    rw [sl_add_two, show (m + 2) / 2 = m / 2 + 1 by omega]; iexact Hrch
  iintro ⟨Hd, Ho, HS⟩
  imod (release1 A 0 d q (m + 1)) $$ [Hrd Hr HP] with ⟨Hrd, Hrel, HP⟩
  · isplitr; · iexact Hctx
    isplitl [Hrd]; · iexact Hrd
    isplitl [Hr]; · rw [slotOf0]; iapply own_any; iexact Hr
    iexact HP
  iapply (sigc A 0 d q (m + 2) (n + 1) (2 * (m + 1) + q.val) hev' hcn' hsc' (by omega)) $$ [Ho HD Hrel]
  · isplitr; · iexact Hctx
    isplitl [Ho]; · iexact Ho
    isplitl [HD] <;> iassumption
  iintro ⟨Ho, HD⟩
  iapply Hk
  isplitl [Ho]; · iexact Ho
  isplitl [Hcs Hts HP HP' Hd Hd' HS HS' Hkeep Hk1]
  · iapply (LaneR_mk d q (m + 1) c)
    isplitl [Hcs]; · iexact Hcs
    isplitl [Hts]; · iexact Hts
    isplitl [HP']; · iexact HP'
    isplitl [HP]; · iexact HP
    isplitl [Hd Hd' HS HS']
    · isplitl [Hd']; · iexact Hd'
      isplitl [Hd]; · iexact Hd
      isplitl [HS']; · iexact HS'
      iexact HS
    isplitl [Hk1] <;> iassumption
  isplitl [Hrd Hrd']
  · isplitl [Hrd']; · iexact Hrd'
    iexact Hrd
  isplitl [Hch]; · iexact Hch
  isplitl [HW] <;> iassumption

end Cert.KernelIdeal.Ring
-- ==== Proof.Steps2.lean ====
/-
# The first and last steps of the reduce-scatter, the barrier and the products
-/
module

public import proofs.«01_k».proof.Proof.Steps

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

omit [FloatOps F] in
/-- A rule used at the head of a program, -/
theorem use {P Pre Post W W' : sProp (MT nD τ sig ℕ (Elt F) ℕ UU ℕ)} (hm : Pre ⊢ iprop((Post -∗ W') -∗ W)) (h : Entails' P iprop(Pre ∗ (Post -∗ W'))) : Entails' P W := by
  refine BIBase.Entails.trans h ?_
  iintro ⟨H, Hk⟩
  iapply hm $$ H Hk

omit [FloatOps F] in
/-- and what is known of the rest of a program. -/
theorem goOn {P Post W : sProp (MT nD τ sig ℕ (Elt F) ℕ UU ℕ)} (hm : Post ⊢ W) (h : Entails' P Post) : Entails' P W :=
  BIBase.Entails.trans h hm

omit [FloatOps F] in
theorem sep_eq {P P' : sProp (MT nD τ sig ℕ (Elt F) ℕ UU ℕ)} (h : P ⊢ P') (h' : P' ⊢ P) : P = P' := Entails.antisymm h h'

/-! ## The weights and the products -/

/-- A store over a whole memref. -/
theorem st_whole {s : Shape} {e : EltTy} {M : Memref sig .tc .vmem s e} {r : Rect s} {w : Vec F r.shape e} (g : s.Idx → r.shape.Idx) (hg : ∀ i, r.emb (g i) = i)
    {hx : (M.access r).Stores Finset.univ} {hm : (Finset.univ : Finset r.shape.Idx) = Finset.univ ∨ ∀ a, r.stride a = 1}
    {k : PUnit → Prog (TpuEff nD τ sig (Elt F) Λ₀ .tc) α} :
    anyAt c M ⊢ iprop((own c M fullShare (fun i => w (g i)) -∗ WP c (k ⟨⟩) Q) -∗ WP c (.op (.store M r w Finset.univ hx hm) k) Q) := by
  unfold anyAt own owns
  iintro ⟨%X, %f, %hf, H⟩ Hk
  iapply (wp_store 𝒱₀ (c : Thread nD τ) none Set.univ (m := M) (r := r) (Mk := Finset.univ) (S := M.view.set) (f := f)
    (hS := by rw [View.setOn_univ]; exact View.set_slice_subset _ _)) $$ H
  iintro H
  iapply Hk
  iexists _
  isplitr
  swap; · iexact H
  ipureintro; funext i
  have h := congrFun (View.read_write_univ (Val := Elt F) (v := M.access r) f w) (g i)
  rw [← h]
  show M.view.read (Elt F) _ i = M.view.read (Elt F) _ (r.emb (g i))
  rw [hg]

theorem emb_full2 {o : Fin 2 → ℕ} {i2 : ∀ a, o a + S512x2048.size a ≤ S512x2048.size a} (h : o = ![0, 0]) (i : S512x2048.Idx) :
    (Rect.unit (s := S512x2048) o S512x2048.size i2).emb i = i := by
  subst h
  funext a; apply Fin.ext
  rw [Rect.emb_apply]
  fin_cases a
  · show 0 + 1 * (i (0 : Fin 2)).val = (i (0 : Fin 2)).val; omega
  · show 0 + 1 * (i (1 : Fin 2)).val = (i (1 : Fin 2)).val; omega

/-- The weights cast once. -/
theorem cast1 {o1 o2 : Fin 2 → ℕ} {i1 : ∀ a, o1 a + S512x2048.size a ≤ S512x2048.size a} {i2 : ∀ a, o2 a + S512x2048.size a ≤ S512x2048.size a}
    (h1 : o1 = ![0, 0]) (h2 : o2 = ![0, 0])
    {l1 : wM.view.LoadsAt (Rect.unit (s := S512x2048) o1 S512x2048.size i1).toLoadRect}
    {l2 : wbM.view.LoadsAt (Rect.unit (s := S512x2048) o2 S512x2048.size i2).toLoadRect}
    {hx : (wbM.access (Rect.unit (s := S512x2048) o2 S512x2048.size i2)).Stores Finset.univ}
    {hm : (Finset.univ : Finset (Rect.unit (s := S512x2048) o2 S512x2048.size i2).shape.Idx) = Finset.univ ∨ ∀ a, (Rect.unit (s := S512x2048) o2 S512x2048.size i2).stride a = 1}
    {pf : Vec F S512x2048 .bf16 → Vec F S512x2048 .bf16} (hpf : ∀ v, pf v = k0_pay1 v)
    {kk : PUnit → Prog (TpuEff nD τ sig (Elt F) Λ₀ .tc) α} {qw : PosShare TreeShare} :
    iprop(own c wM qw (A.w c) ∗ anyAt c wbM)
      ⊢ iprop(((own c wM qw (A.w c) ∗ own c wbM fullShare (k0_pay1 (A.w c))) -∗ WP c (kk ⟨⟩) Q)
        -∗ WP c (.op (.load wM (Rect.unit (s := S512x2048) o1 S512x2048.size i1).toLoadRect l1) fun v =>
            .op (.load wbM (Rect.unit (s := S512x2048) o2 S512x2048.size i2).toLoadRect l2) fun _ =>
            .op (.store wbM (Rect.unit (s := S512x2048) o2 S512x2048.size i2) (pf v) Finset.univ hx hm) kk) Q) := by
  iintro ⟨Hw, Hb⟩ Hk
  iapply ld_sub $$ Hw
  iintro Hw
  unfold anyAt
  icases Hb with ⟨%X, Hb⟩
  iapply ld_sub $$ Hb
  iintro Hb
  iapply (st_whole (fun i => i) (emb_full2 h2)) $$ [Hb]
  · iapply own_any; iexact Hb
  iintro Hb
  iapply Hk
  isplitl [Hw]; · iexact Hw
  have hv : (fun i : S512x2048.Idx => A.w c ((Rect.unit (s := S512x2048) o1 S512x2048.size i1).emb i)) = A.w c := funext fun i => by rw [emb_full2 h1]
  rw [hpf]
  iapply (Entails.of_eq (congrArg (fun w => own c wbM fullShare (k0_pay1 w)) hv)); iexact Hb

/-- Chunk `j` of the product. -/
theorem gemm {o1 o2 : Fin 2 → ℕ} {o3 : Fin 3 → ℕ} {i1 : ∀ a, o1 a + S512x512.size a ≤ S4096x512.size a} {i2 : ∀ a, o2 a + S512x2048.size a ≤ S512x2048.size a}
    {i3 : ∀ a, o3 a + S1x512x2048.size a ≤ S8x512x2048.size a}
    (j : Fin 8) (h1 : o1 = k0_off1 c (BitVec.ofNat 32 j.val)) (h2 : o2 = ![0, 0]) (h3 : o3 = ![j.val, 0, 0])
    {l1 : xM.view.LoadsAt (Rect.unit (s := S4096x512) o1 S512x512.size i1).toLoadRect}
    {l2 : wbM.view.LoadsAt (Rect.unit (s := S512x2048) o2 S512x2048.size i2).toLoadRect}
    {l3 : partM.view.LoadsAt (Rect.unit (s := S8x512x2048) o3 S1x512x2048.size i3).toLoadRect}
    {hx : (partM.access (Rect.unit (s := S8x512x2048) o3 S1x512x2048.size i3)).Stores Finset.univ}
    {hm : (Finset.univ : Finset (Rect.unit (s := S8x512x2048) o3 S1x512x2048.size i3).shape.Idx) = Finset.univ ∨ ∀ a, (Rect.unit (s := S8x512x2048) o3 S1x512x2048.size i3).stride a = 1}
    {pf : Vec F S512x512 .bf16 → Vec F S512x2048 .bf16 → Vec F S1x512x2048 .bf16} (hpf : ∀ v w, pf v w = k0_pay2 v w)
    {kk : PUnit → Prog (TpuEff nD τ sig (Elt F) Λ₀ .tc) α} {qx : PosShare TreeShare} :
    iprop(own c xM qx (A.x c) ∗ own c wbM fullShare (k0_pay1 (A.w c)) ∗ anyAt c (chunkM j))
      ⊢ iprop(((own c xM qx (A.x c) ∗ own c wbM fullShare (k0_pay1 (A.w c)) ∗ own c (chunkM j) fullShare (chunk A c j)) -∗ WP c (kk ⟨⟩) Q)
        -∗ WP c (.op (.load xM (Rect.unit (s := S4096x512) o1 S512x512.size i1).toLoadRect l1) fun v =>
            .op (.load wbM (Rect.unit (s := S512x2048) o2 S512x2048.size i2).toLoadRect l2) fun w =>
            .op (.load partM (Rect.unit (s := S8x512x2048) o3 S1x512x2048.size i3).toLoadRect l3) fun _ =>
            .op (.store partM (Rect.unit (s := S8x512x2048) o3 S1x512x2048.size i3) (pf v w) Finset.univ hx hm) kk) Q) := by
  subst h1 h3
  iintro ⟨Hx, Hb, Hc⟩ Hk
  iapply ld_sub $$ Hx
  iintro Hx
  iapply ld_sub $$ Hb
  iintro Hb
  iapply (dst_slice (hr := fun _ => rfl)) $$ Hc
  iintro Hc
  iapply Hk
  isplitl [Hx]; · iexact Hx
  isplitl [Hb]; · iexact Hb
  have hv : (fun i : S512x2048.Idx => k0_pay1 (A.w c) ((Rect.unit (s := S512x2048) o2 S512x2048.size i2).emb i)) = k0_pay1 (A.w c) := funext fun i => by rw [emb_full2 h2]
  rw [hpf]
  iapply (Entails.of_eq (congrArg (fun w => own c (chunkM j) fullShare (k0_pay2 (xT A c j) w)) hv)); iexact Hc

/-! ## The barrier -/

/-- The rights to send message `m`, before the target has announced itself. -/
def preTok (ph d q : Fin 2) (m : ℕ) (c : Dev nD) : sProp 𝕄 :=
  iprop(tk c (snt ph d (sl m) q) (m / 2) 0 ∗ tk (tgt d c) (rcv ph d (sl m) q) (m / 2) 0 ∗ if m < 2 then iprop(emp) else writeTok ES (tgt d c, ph, d, sl m, q) (m / 2))
/-- A lane before and -/
def PreL (ph d q : Fin 2) (c : Dev nD) : sProp 𝕄 :=
  iprop((bigSep (Finset.Ico 0 7) fun i => crE c (.send ph d q i)) ∗ (bigSep (Finset.Ico 0 7) fun i => preTok ph d q i c)
    ∗ Pr ph d q 0 c ∗ Pr ph d q 1 c ∗ Ps ph d q 0 c ∗ Ps ph d q 1 c)
/-- after the barrier. -/
def StL (ph d q : Fin 2) (c : Dev nD) : sProp 𝕄 :=
  iprop((bigSep (Finset.Ico 0 7) fun i => crE c (.send ph d q i)) ∗ (bigSep (Finset.Ico 0 7) fun i => tgtTok ph d q i c)
    ∗ Pr ph d q 0 c ∗ Pr ph d q 1 c ∗ Ps ph d q 0 c ∗ Ps ph d q 1 c)

theorem preTok_two (ph d q : Fin 2) (m : ℕ) (c : Dev nD) (hm : 2 ≤ m) : preTok ph d q m c ⊢ (tgtTok ph d q m c : sProp 𝕄) := by
  unfold preTok tgtTok slotT; rw [if_neg (by omega), if_neg (by omega)]
theorem preTok_lt (ph d q : Fin 2) (m : ℕ) (c : Dev nD) (hm : m < 2) : iprop(preTok ph d q m c ∗ slotOf (tgt d c, ph, d, sl m, q)) ⊢ (tgtTok ph d q m c : sProp 𝕄) := by
  unfold preTok tgtTok slotT; rw [if_pos hm, if_pos hm]
  iintro ⟨⟨H1, H2, -⟩, H3⟩
  isplitl [H1]; · iexact H1
  isplitl [H2] <;> iassumption

theorem PreL_start (ph d q : Fin 2) (c : Dev nD) :
    iprop(PreL ph d q c ∗ slotOf (tgt d c, ph, d, 0, q) ∗ slotOf (tgt d c, ph, d, 1, q)) ⊢ (StL ph d q c : sProp 𝕄) := by
  unfold PreL StL
  rw [pop (f := fun i => preTok ph d q i c) (by omega : 0 < 7), pop (f := fun i => preTok ph d q i c) (by omega : 0 + 1 < 7),
    pop (f := fun i => tgtTok ph d q i c) (by omega : 0 < 7), pop (f := fun i => tgtTok ph d q i c) (by omega : 0 + 1 < 7)]
  iintro ⟨⟨Hc, ⟨H0, H1, H2⟩, HP⟩, Hs0, Hs1⟩
  isplitl [Hc]; · iexact Hc
  isplitr [HP]
  · isplitl [H0 Hs0]
    · iapply (preTok_lt ph d q 0 c (by decide)); isplitl [H0]; · iexact H0
      iexact Hs0
    isplitl [H1 Hs1]
    · iapply (preTok_lt ph d q 1 c (by decide)); isplitl [H1]; · iexact H1
      iexact Hs1
    iapply (bs_mono (s := Finset.Ico (0 + 1 + 1) 7) fun i hi => preTok_two ph d q i c (Finset.mem_Ico.mp hi).1)
    iexact H2
  iexact HP

theorem barPay_eq (d : Fin 2) (e : Dev nD) : (barPay d e : sProp 𝕄)
    = iprop((slotOf (e, 0, d, 0, 0) ∗ slotOf (e, 0, d, 1, 0)) ∗ (slotOf (e, 0, d, 0, 1) ∗ slotOf (e, 0, d, 1, 1))
      ∗ (slotOf (e, 1, d, 0, 0) ∗ slotOf (e, 1, d, 1, 0)) ∗ slotOf (e, 1, d, 0, 1) ∗ slotOf (e, 1, d, 1, 1)) := by
  have hu : (Finset.univ : Finset (Fin 2 × Fin 2 × Fin 2)) = {(0, 0, 0), (0, 1, 0), (0, 0, 1), (0, 1, 1), (1, 0, 0), (1, 1, 0), (1, 0, 1), (1, 1, 1)} := by decide
  unfold barPay
  rw [hu, bs_insert (by decide), bs_insert (by decide), bs_insert (by decide), bs_insert (by decide), bs_insert (by decide), bs_insert (by decide), bs_insert (by decide), bs_one]
  refine sep_eq ?_ ?_
  · iintro ⟨H1, H2, H3, H4, H5, H6, H7, H8⟩
    isplitl [H1 H2]; · isplitl [H1] <;> iassumption
    isplitl [H3 H4]; · isplitl [H3] <;> iassumption
    isplitl [H5 H6]; · isplitl [H5] <;> iassumption
    isplitl [H7] <;> iassumption
  · iintro ⟨⟨H1, H2⟩, ⟨H3, H4⟩, ⟨H5, H6⟩, H7, H8⟩
    isplitl [H1]; · iexact H1
    isplitl [H2]; · iexact H2
    isplitl [H3]; · iexact H3
    isplitl [H4]; · iexact H4
    isplitl [H5]; · iexact H5
    isplitl [H6]; · iexact H6
    isplitl [H7] <;> iassumption

/-- The four lanes of a direction, both phases, before and after the barrier. -/
def PreD (d : Fin 2) (c : Dev nD) : sProp 𝕄 := iprop(PreL 0 d 0 c ∗ PreL 0 d 1 c ∗ PreL 1 d 0 c ∗ PreL 1 d 1 c)
def StD (d : Fin 2) (c : Dev nD) : sProp 𝕄 := iprop(StL 0 d 0 c ∗ StL 0 d 1 c ∗ StL 1 d 0 c ∗ StL 1 d 1 c)
theorem PreD_start (d : Fin 2) (c : Dev nD) : iprop(PreD d c ∗ barPay d (tgt d c)) ⊢ (StD d c : sProp 𝕄) := by
  unfold PreD StD
  rw [barPay_eq]
  iintro ⟨⟨H1, H2, H3, H4⟩, G1, G2, G3, G4⟩
  isplitl [H1 G1]; · iapply PreL_start; isplitl [H1] <;> iassumption
  isplitl [H2 G2]; · iapply PreL_start; isplitl [H2] <;> iassumption
  isplitl [H3 G3]; · iapply PreL_start; isplitl [H3] <;> iassumption
  iapply PreL_start; isplitl [H4] <;> iassumption

theorem tgt10 (c : Dev nD) : tgt 1 (tgt 0 c) = c := by revert c; decide
theorem tgt01 (c : Dev nD) : tgt 0 (tgt 1 c) = c := by revert c; decide

/-- Both neighbours are told, and both have told. -/
theorem barrier {c0 c1 : Dev nD} {sem : Sem sig} (h0 : c0 = tgt 0 c) (h1 : c1 = tgt 1 c) (hs : semOf .bar = .reg sem)
    {kk : PUnit → Prog (TpuEff nD τ sig (Elt F) Λ₀ .tc) α} :
    iprop(ctx A K Ks ∗ ow c 0 ∗ tk (tgt 0 c) .bar 0 1 ∗ tk (tgt 1 c) .bar 0 0 ∗ barPay 0 c ∗ barPay 1 c ∗ cred (tallyAt (cell c .bar) 2 2) ∗ at' c .bar 0
        ∗ PreD 0 c ∗ PreD 1 c)
      ⊢ iprop(((ow c 2 ∗ at' c .bar 1 ∗ StD 0 c ∗ StD 1 c) -∗ WP c (kk ⟨⟩) Q)
        -∗ WP c (.op (.semSignal (Dev.tc c0 : Thread nD τ) sem 1) fun _ => .op (.semSignal (Dev.tc c1 : Thread nD τ) sem 1) fun _ => .op (.semWait sem 2) kk) Q) := by
  have hcell : cell c .bar = ((c : Thread nD τ), SemLoc.reg sem) := by unfold cell; rw [hs]
  have hi := ctx_inv A (K := K) (Ks := Ks) c .bar
  rw [hcell] at hi
  unfold at'
  rw [hcell]
  have hb0 : pay A (tgt 0 c) .bar 0 1 = barPay 1 c := by
    show barPay 1 (tgt 1 (tgt 0 c)) = _
    rw [tgt10]
  have hb1 : pay A (tgt 1 c) .bar 0 0 = barPay 0 c := by
    show barPay 0 (tgt 0 (tgt 1 c)) = _
    rw [tgt01]
  iintro ⟨#Hctx, Ho, Ht0, Ht1, Hb0, Hb1, Hc, Hat, HP0, HP1⟩ Hk
  iapply (sig1 A (.bar 0) 0 1 rfl h0 hs rfl (by decide)) $$ [Ho Ht0 Hb1]
  · isplitr; · iexact Hctx
    isplitl [Ho]; · iexact Ho
    isplitl [Ht0]; · iexact Ht0
    iapply (Entails.of_eq hb0.symm); iexact Hb1
  iintro Ho
  iapply (sig1 A (.bar 1) 1 0 rfl h1 hs rfl (by decide)) $$ [Ho Ht1 Hb0]
  · isplitr; · iexact Hctx
    isplitl [Ho]; · iexact Ho
    isplitl [Ht1]; · iexact Ht1
    iapply (Entails.of_eq hb1.symm); iexact Hb0
  iintro Ho
  unfold ow
  icases Ho with ⟨%W, Ho⟩
  ihave #Hi := hi $$ Hctx
  ihave #Hl := (ctx_lev A) $$ Hctx
  iapply (Rounds.wp_wait_rest_token 𝒱₀ ER (Rd A) (c : Thread nD τ) none (κ := K (c, .bar)) (sm := .reg sem) (wpE_semWait_eq 𝒱₀ (c : Thread nD τ) none Set.univ) (Set.mem_univ _) 2
    (O := owed c 2) (W := W) (R := 0) (m := 0) (T := ∅) (by rw [← hcell, Rd_expect]; rfl)) $$ [Hc Ho Hat]
  · isplitr; · iexact Hi
    isplitl [Hc]; · iexact Hc
    isplitl [Ho]; · iexact Ho
    isplitr; · iapply (mayWait c (.reg sem) 2 2 (by decide) (by decide)); iexact Hl
    iexact Hat
  iintro ⟨Ho, Hat, -, Hp⟩
  have hp : bigSep ((Rd A).duties ((c : Thread nD τ), SemLoc.reg sem) 0 \ ∅) (fun i => (Rd A).payload ((c : Thread nD τ), SemLoc.reg sem) 0 i)
      = iprop(barPay 0 (tgt 0 c) ∗ barPay 1 (tgt 1 c)) := by
    rw [← hcell, Rd_duties, Finset.sdiff_empty, show dut .bar 0 = {0, 1} from rfl, bs_insert (by decide), bs_one, Rd_payload, Rd_payload]; rfl
  ihave Hp := (Entails.of_eq hp) $$ Hp
  icases Hp with ⟨Hp0, Hp1⟩
  iapply Hk
  isplitl [Ho]; · iexists _; iexact Ho
  isplitl [Hat]; · iexact Hat
  isplitl [HP0 Hp0]
  · iapply PreD_start; isplitl [HP0] <;> iassumption
  iapply PreD_start; isplitl [HP1] <;> iassumption

/-! ## The reduce-scatter's first steps -/

/-- Message 0. -/
theorem rs0 {Mr Ms : Memref sig .tc .vmem S2x2x512x512 .bf16} {o2 : Fin 4 → ℕ} {o3 : Fin 3 → ℕ}
    {i2 : ∀ a, o2 a + S1x1x512x512.size a ≤ S2x2x512x512.size a} {i3 : ∀ a, o3 a + S1x512x512.size a ≤ S8x512x2048.size a}
    (d q : Fin 2) (n : ℕ) (hMr : Mr = rsB d) (hMs : Ms = sdB d) (h2 : o2 = ![0, q.val, 0, 0])
    (h3 : o3 = ![0, 0, d.val * 1024 + q.val * 512])
    {l3 : partM.view.LoadsAt (Rect.unit (s := S8x512x2048) o3 S1x512x512.size i3).toLoadRect}
    {l2 : Ms.view.LoadsAt (Rect.unit (s := S2x2x512x512) o2 S1x1x512x512.size i2).toLoadRect}
    {hx : (Ms.access (Rect.unit (s := S2x2x512x512) o2 S1x1x512x512.size i2)).Stores Finset.univ}
    {hmm : (Finset.univ : Finset (Rect.unit (s := S2x2x512x512) o2 S1x1x512x512.size i2).shape.Idx) = Finset.univ ∨ ∀ a, (Rect.unit (s := S2x2x512x512) o2 S1x1x512x512.size i2).stride a = 1}
    {pf : Vec F S1x512x512 .bf16 → Vec F S1x1x512x512 .bf16} (hpf : ∀ v, pf v = k0_pay3 v)
    {s1 s2 : SemLoc sig} {w5 : ((Ms.slice (Rect.unit (s := S2x2x512x512) o2 S1x1x512x512.size i2) (fun _ => rfl)).squeeze S512x512 squeezes_S1x1x512x512_S512x512).view.WordExact}
    {w6 : ((Mr.slice (Rect.unit (s := S2x2x512x512) o2 S1x1x512x512.size i2) (fun _ => rfl)).squeeze S512x512 squeezes_S1x1x512x512_S512x512).view.WordExact} {cn : Dev nD}
    {hsc : (((Mr.slice (Rect.unit (s := S2x2x512x512) o2 S1x1x512x512.size i2) (fun _ => rfl)).squeeze S512x512 squeezes_S1x1x512x512_S512x512) : Memref sig (Dev.tc cn : Thread nD τ).2.kind .vmem S512x512 .bf16).view.ref.isScScratch = false}
    {hsem : DmaTarget.Typed .vmem s2 (.remote (Dev.tc cn : Thread nD τ) (((Mr.slice (Rect.unit (s := S2x2x512x512) o2 S1x1x512x512.size i2) (fun _ => rfl)).squeeze S512x512 squeezes_S1x1x512x512_S512x512) : Memref sig (Dev.tc cn : Thread nD τ).2.kind .vmem S512x512 .bf16) s1 hsc)}
    (hN : ((Mr.slice (Rect.unit (s := S2x2x512x512) o2 S1x1x512x512.size i2) (fun _ => rfl)).squeeze S512x512 squeezes_S1x1x512x512_S512x512).view.amount s2 = NB)
    (hs3 : semOf (.rs d 0 q) = s1) (hs4 : semOf (.rr d 0 q) = s2) (hcn : cn = tgt d c)
    (hev : evs[n]? = some (.send 0 d q 0))
    {kk : PUnit → Prog (TpuEff nD τ sig (Elt F) Λ₀ .tc) α} :
    iprop(ctx A K Ks ∗ ow c n ∗ StL 0 d q c ∗ (anyAt c (slot4 (sdB d) 0 q) ∗ anyAt c (slot4 (sdB d) 1 q)) ∗ rideIf d q 0 (tgt d c) ∗ own c (chunkM 0) fullShare (chunk A c 0))
      ⊢ iprop(((ow c (n + 1) ∗ LaneR d q 0 c ∗ own c (chunkM 0) fullShare (chunk A c 0)) -∗ WP c (kk ⟨⟩) Q)
        -∗ WP c (.op (.load partM (Rect.unit (s := S8x512x2048) o3 S1x512x512.size i3).toLoadRect l3) fun w =>
            .op (.load Ms (Rect.unit (s := S2x2x512x512) o2 S1x1x512x512.size i2).toLoadRect l2) fun _ =>
            .op (.store Ms (Rect.unit (s := S2x2x512x512) o2 S1x1x512x512.size i2) (pf w) Finset.univ hx hmm) fun _ =>
            .op (.enqueueDma ((Ms.slice (Rect.unit (s := S2x2x512x512) o2 S1x1x512x512.size i2) (fun _ => rfl)).squeeze S512x512 squeezes_S1x1x512x512_S512x512)
              (.remote (Dev.tc cn : Thread nD τ) ((Mr.slice (Rect.unit (s := S2x2x512x512) o2 S1x1x512x512.size i2) (fun _ => rfl)).squeeze S512x512 squeezes_S1x1x512x512_S512x512) s1 hsc) s2 w5 w6 hsem) kk) Q) := by
  subst h2 h3 hMr hMs
  unfold StL
  rw [pop (f := fun i => tgtTok 0 d q i c) (by omega : 0 < 7)]
  unfold tgtTok
  iintro ⟨#Hctx, Ho, ⟨Hcs, ⟨⟨Ht1, Ht2, Hslot⟩, Hts⟩, HP, HP', HS, HS'⟩, ⟨Hs0, Hs1⟩, Hride, Hch⟩ Hk
  iapply (ld_quart (j := 0) (d := d) (q := q)) $$ Hch
  iintro Hch
  iapply (dst_slot4 (M := sdB d) (a := 0) (b := q)) $$ Hs0
  iintro Hs0
  ihave #Hrch := (ctx_r0 A (tgt d c) (rcv 0 d (sl 0) q)) $$ Hctx
  iapply (rsSend A d q 0 n (by omega) rfl rfl hcn hs3 hs4 hN hev)
    $$ [Hs0 Hslot Hride Ho Ht1 Ht2 HS]
  · isplitr; · iexact Hctx
    isplitl [Hs0]
    · rw [hpf]; iexact Hs0
    isplitl [Hslot]; · iapply (Entails.of_eq (show slotT 0 d q 0 c = slotOf (tgt d c, 0, d, sl 0, q) from if_pos (by decide))); iexact Hslot
    isplitl [Hride]; · iexact Hride
    isplitl [Ho]; · iexact Ho
    isplitl [Ht1]; · iexact Ht1
    isplitl [HS]; · iexact HS
    isplitl [Ht2]; · iexact Ht2
    iexact Hrch
  iintro ⟨Hd, Ho, HS⟩
  iapply Hk
  isplitl [Ho]; · iexact Ho
  isplitr [Hch]
  · unfold LaneR
    isplitl [Hcs]; · iexact Hcs
    isplitl [Hts]; · iexact Hts
    isplitl [HP]; · iexact HP
    isplitl [HP']; · iexact HP'
    isplitl
    · iapply (Entails.of_eq (show iprop(cr0 c (snt 0 d (sl 0) q) ∗ Ps 0 d q 0 c ∗ Ps 0 d q 1 c ∗ anyAt c (slot4 (sdB d) (sl 1) q)) = sndSt d q 0 c from rfl))
      isplitl [Hd]; · iexact Hd
      isplitl [HS]; · iexact HS
      isplitl [HS']; · iexact HS'
      iexact Hs1
    unfold keep
    rw [Finset.Ico_self, bs_none]
    iempintro
  iexact Hch

end Cert.KernelIdeal.Ring
-- ==== Proof.Steps3.lean ====
/-
# The last steps of the reduce-scatter and the exchange of the maxima
-/
module

public import proofs.«01_k».proof.Proof.Steps2

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

theorem LaneR0_open (d q : Fin 2) (c : Dev nD) : (LaneR d q 0 c : sProp 𝕄)
    = iprop((crE c (.send 0 d q 0) ∗ bigSep (Finset.Ico 1 7) fun i => crE c (.send 0 d q i))
      ∗ ((tk c (snt 0 d (sl 1) q) (1 / 2) 0 ∗ tk (tgt d c) (rcv 0 d (sl 1) q) (1 / 2) 0 ∗ slotT 0 d q 1 c)
        ∗ bigSep (Finset.Ico 2 7) fun i => tgtTok 0 d q i c)
      ∗ Pr 0 d q 0 c ∗ Pr 0 d q 1 c
      ∗ (cr0 c (snt 0 d (sl 0) q) ∗ Ps 0 d q 0 c ∗ Ps 0 d q 1 c ∗ anyAt c (slot4 (sdB d) (sl 1) q)) ∗ keep d q 0 c) := by
  unfold LaneR
  rw [pop (f := fun i => crE c (.send 0 d q i)) (by omega : 0 < 7), pop (f := fun i => tgtTok 0 d q i c) (by omega : 0 + 1 < 7)]
  rfl

/-- The step sending message 1. -/
theorem rs1 {Mr Ms : Memref sig .tc .vmem S2x2x512x512 .bf16} {o1 o2 : Fin 4 → ℕ} {o3 : Fin 3 → ℕ}
    {i1 : ∀ a, o1 a + S1x1x512x512.size a ≤ S2x2x512x512.size a} {i2 : ∀ a, o2 a + S1x1x512x512.size a ≤ S2x2x512x512.size a}
    {i3 : ∀ a, o3 a + S1x512x512.size a ≤ S8x512x2048.size a}
    (d q : Fin 2) (n : ℕ) (j : Fin 8) (hj : j = pj d 1) (i : ℕ) (hi : i = 2 * 0 + q.val) (hMr : Mr = rsB d) (hMs : Ms = sdB d) (h1 : o1 = ![(sl 0).val, q.val, 0, 0]) (h2 : o2 = ![(sl 1).val, q.val, 0, 0])
    (h3 : o3 = ![j.val, 0, d.val * 1024 + q.val * 512])
    {l1 : Mr.view.LoadsAt (Rect.unit (s := S2x2x512x512) o1 S1x1x512x512.size i1).toLoadRect}
    {l3 : partM.view.LoadsAt (Rect.unit (s := S8x512x2048) o3 S1x512x512.size i3).toLoadRect}
    {l2 : Ms.view.LoadsAt (Rect.unit (s := S2x2x512x512) o2 S1x1x512x512.size i2).toLoadRect}
    {hx : (Ms.access (Rect.unit (s := S2x2x512x512) o2 S1x1x512x512.size i2)).Stores Finset.univ}
    {hmm : (Finset.univ : Finset (Rect.unit (s := S2x2x512x512) o2 S1x1x512x512.size i2).shape.Idx) = Finset.univ ∨ ∀ a, (Rect.unit (s := S2x2x512x512) o2 S1x1x512x512.size i2).stride a = 1}
    {pf : Vec F S1x1x512x512 .bf16 → Vec F S1x512x512 .bf16 → Vec F S1x1x512x512 .bf16} (hpf : ∀ v w, pf v w = k0_pay12 v w)
    {se1 : DmaSem sig} {s1 s2 : SemLoc sig} {sc : Sem sig} {w5 : ((Ms.slice (Rect.unit (s := S2x2x512x512) o2 S1x1x512x512.size i2) (fun _ => rfl)).squeeze S512x512 squeezes_S1x1x512x512_S512x512).view.WordExact}
    {w6 : ((Mr.slice (Rect.unit (s := S2x2x512x512) o2 S1x1x512x512.size i2) (fun _ => rfl)).squeeze S512x512 squeezes_S1x1x512x512_S512x512).view.WordExact} {cn cn' : Dev nD}
    {hsc : (((Mr.slice (Rect.unit (s := S2x2x512x512) o2 S1x1x512x512.size i2) (fun _ => rfl)).squeeze S512x512 squeezes_S1x1x512x512_S512x512) : Memref sig (Dev.tc cn : Thread nD τ).2.kind .vmem S512x512 .bf16).view.ref.isScScratch = false}
    {hsem : DmaTarget.Typed .vmem s2 (.remote (Dev.tc cn : Thread nD τ) (((Mr.slice (Rect.unit (s := S2x2x512x512) o2 S1x1x512x512.size i2) (fun _ => rfl)).squeeze S512x512 squeezes_S1x1x512x512_S512x512) : Memref sig (Dev.tc cn : Thread nD τ).2.kind .vmem S512x512 .bf16) s1 hsc)}
    {A1 A2 : Memref sig .tc .vmem S512x512 .bf16} {wa1 : A1.view.WordExact} {wa2 : A2.view.WordExact}
    (hA2 : A2.view.dmaCredit = NB)
    (hN : ((Mr.slice (Rect.unit (s := S2x2x512x512) o2 S1x1x512x512.size i2) (fun _ => rfl)).squeeze S512x512 squeezes_S1x1x512x512_S512x512).view.amount s2 = NB)
    (hs1 : semOf (.rr d (sl 0) q) = .dma se1) (hs3 : semOf (.rs d (sl 1) q) = s1) (hs4 : semOf (.rr d (sl 1) q) = s2)
    (hsc' : semOf (.rc d) = .reg sc) (hcn : cn = tgt d c) (hcn' : cn' = src d c)
    (hn : n ≤ 104) (hι : ix (en (.send 0 d q 0)) ≤ n)
    (hev : evs[n]? = some (.send 0 d q 1)) (hev' : evs[n + 1]? = some (.crd 0 d q 1))
    {kk : PUnit → Prog (TpuEff nD τ sig (Elt F) Λ₀ .tc) α} :
    iprop(ctx A K Ks ∗ ow c n ∗ LaneR d q 0 c ∗ RdrR 0 d q 0 c ∗ own c (chunkM j) fullShare (chunk A c j)
        ∗ DirS 0 d i c)
      ⊢ iprop(((ow c (n + 2) ∗ LaneR d q 1 c ∗ RdrR 0 d q 1 c ∗ own c (chunkM j) fullShare (chunk A c j)
            ∗ DirS 0 d (i + 1) c) -∗ WP c (kk ⟨⟩) Q)
        -∗ WP c (.op (.waitDma2 se1 A1 A2 wa1 wa2) fun _ =>
            .op (.load Mr (Rect.unit (s := S2x2x512x512) o1 S1x1x512x512.size i1).toLoadRect l1) fun v =>
            .op (.load partM (Rect.unit (s := S8x512x2048) o3 S1x512x512.size i3).toLoadRect l3) fun w =>
            .op (.load Ms (Rect.unit (s := S2x2x512x512) o2 S1x1x512x512.size i2).toLoadRect l2) fun _ =>
            .op (.store Ms (Rect.unit (s := S2x2x512x512) o2 S1x1x512x512.size i2) (pf v w) Finset.univ hx hmm) fun _ =>
            .op (.enqueueDma ((Ms.slice (Rect.unit (s := S2x2x512x512) o2 S1x1x512x512.size i2) (fun _ => rfl)).squeeze S512x512 squeezes_S1x1x512x512_S512x512)
              (.remote (Dev.tc cn : Thread nD τ) ((Mr.slice (Rect.unit (s := S2x2x512x512) o2 S1x1x512x512.size i2) (fun _ => rfl)).squeeze S512x512 squeezes_S1x1x512x512_S512x512) s1 hsc) s2 w5 w6 hsem) fun _ =>
            .op (.semSignal (Dev.tc cn' : Thread nD τ) sc 1) kk) Q) := by
  subst hj hi
  have hq := q.isLt
  subst h2 hMr hMs
  unfold RdrR
  rw [LaneR0_open]
  iintro ⟨#Hctx, Ho, ⟨⟨Hc, Hcs⟩, ⟨⟨Ht1, Ht2, Hslot⟩, Hts⟩, HP, HP', ⟨Hd, HS, HS', Hs1⟩, Hkeep⟩, ⟨Hrd, Hrd'⟩, Hch, HD⟩ Hk
  iapply (recvL A 0 d q 0 n (by omega) hι (by omega) hs1 hA2) $$ [Hc HP Ho]
  · isplitr; · iexact Hctx
    isplitl [Hc]; · iexact Hc
    isplitl [HP] <;> iassumption
  iintro ⟨Ho, HP, Hpay⟩
  ihave Hpay := (Entails.of_eq (pay_rr A d q 0 c)) $$ Hpay
  icases Hpay with ⟨Hr, Hride⟩
  ihave Hride := (ride_step d q 0 (by omega)) $$ Hride
  icases Hride with ⟨Hk1, Hride⟩
  iapply (rsCore A d q 0 rfl rfl h1 rfl h3 hpf) $$ [Hr Hch Hs1]
  · isplitl [Hr]; · iexact Hr
    isplitl [Hch]; · iexact Hch
    iexact Hs1
  iintro ⟨Hr, Hch, Hs⟩
  ihave #Hrch := (ctx_r0 A (tgt d c) (rcv 0 d (sl 1) q)) $$ Hctx
  iapply (rsSend A d q 1 n (by omega) rfl rfl hcn hs3 hs4 hN hev)
    $$ [Hs Hslot Hride Ho Ht1 Ht2 HS']
  · isplitr; · iexact Hctx
    isplitl [Hs]; · iexact Hs
    isplitl [Hslot]; · iapply (Entails.of_eq (show slotT 0 d q 1 c = slotOf (tgt d c, 0, d, sl 1, q) from if_pos (by decide))); iexact Hslot
    isplitl [Hride]; · iexact Hride
    isplitl [Ho]; · iexact Ho
    isplitl [Ht1]; · iexact Ht1
    isplitl [HS']; · iexact HS'
    isplitl [Ht2]; · iexact Ht2
    iexact Hrch
  iintro ⟨Hd', Ho, HS'⟩
  imod (release1 A 0 d q 0) $$ [Hrd Hr HP] with ⟨Hrd, Hrel, HP⟩
  · isplitr; · iexact Hctx
    isplitl [Hrd]; · iexact Hrd
    isplitl [Hr]; · rw [slotOf0]; iapply own_any; iexact Hr
    iexact HP
  iapply (sigc A 0 d q 1 (n + 1) (2 * 0 + q.val) hev' hcn' hsc' (by omega)) $$ [Ho HD Hrel]
  · isplitr; · iexact Hctx
    isplitl [Ho]; · iexact Ho
    isplitl [HD] <;> iassumption
  iintro ⟨Ho, HD⟩
  iapply Hk
  isplitl [Ho]; · iexact Ho
  isplitl [Hcs Hts HP HP' Hd Hd' HS HS' Hkeep Hk1]
  · iapply (LaneR_mk d q 0 c)
    isplitl [Hcs]; · iexact Hcs
    isplitl [Hts]; · iexact Hts
    isplitl [HP']; · iexact HP'
    isplitl [HP]; · iexact HP
    isplitl [Hd Hd' HS HS']
    · isplitl [Hd]; · iexact Hd
      isplitl [Hd']; · iexact Hd'
      isplitl [HS]; · iexact HS
      iexact HS'
    isplitl [Hk1] <;> iassumption
  isplitl [Hrd Hrd']
  · isplitl [Hrd']; · iexact Hrd'
    iexact Hrd
  isplitl [Hch]; · iexact Hch
  iexact HD

/-- The step sending message 6: the slot read stays with the reader. -/
theorem rs6 {Mr Ms : Memref sig .tc .vmem S2x2x512x512 .bf16} {o1 o2 : Fin 4 → ℕ} {o3 : Fin 3 → ℕ}
    {i1 : ∀ a, o1 a + S1x1x512x512.size a ≤ S2x2x512x512.size a} {i2 : ∀ a, o2 a + S1x1x512x512.size a ≤ S2x2x512x512.size a}
    {i3 : ∀ a, o3 a + S1x512x512.size a ≤ S8x512x2048.size a}
    (d q : Fin 2) (n : ℕ) (j : Fin 8) (hj : j = pj d 6) (k : ℕ) (hk : k = 2 * 4 + q.val) (hMr : Mr = rsB d) (hMs : Ms = sdB d) (h1 : o1 = ![(sl 5).val, q.val, 0, 0]) (h2 : o2 = ![(sl 4).val, q.val, 0, 0])
    (h3 : o3 = ![j.val, 0, d.val * 1024 + q.val * 512])
    {l1 : Mr.view.LoadsAt (Rect.unit (s := S2x2x512x512) o1 S1x1x512x512.size i1).toLoadRect}
    {l3 : partM.view.LoadsAt (Rect.unit (s := S8x512x2048) o3 S1x512x512.size i3).toLoadRect}
    {l2 : Ms.view.LoadsAt (Rect.unit (s := S2x2x512x512) o2 S1x1x512x512.size i2).toLoadRect}
    {hx : (Ms.access (Rect.unit (s := S2x2x512x512) o2 S1x1x512x512.size i2)).Stores Finset.univ}
    {hmm : (Finset.univ : Finset (Rect.unit (s := S2x2x512x512) o2 S1x1x512x512.size i2).shape.Idx) = Finset.univ ∨ ∀ a, (Rect.unit (s := S2x2x512x512) o2 S1x1x512x512.size i2).stride a = 1}
    {pf : Vec F S1x1x512x512 .bf16 → Vec F S1x512x512 .bf16 → Vec F S1x1x512x512 .bf16} (hpf : ∀ v w, pf v w = k0_pay12 v w)
    {se1 se2 : DmaSem sig} {s1 s2 : SemLoc sig} {sc : Sem sig} {w5 : ((Ms.slice (Rect.unit (s := S2x2x512x512) o2 S1x1x512x512.size i2) (fun _ => rfl)).squeeze S512x512 squeezes_S1x1x512x512_S512x512).view.WordExact}
    {w6 : ((Mr.slice (Rect.unit (s := S2x2x512x512) o2 S1x1x512x512.size i2) (fun _ => rfl)).squeeze S512x512 squeezes_S1x1x512x512_S512x512).view.WordExact} {cn : Dev nD}
    {hsc : (((Mr.slice (Rect.unit (s := S2x2x512x512) o2 S1x1x512x512.size i2) (fun _ => rfl)).squeeze S512x512 squeezes_S1x1x512x512_S512x512) : Memref sig (Dev.tc cn : Thread nD τ).2.kind .vmem S512x512 .bf16).view.ref.isScScratch = false}
    {hsem : DmaTarget.Typed .vmem s2 (.remote (Dev.tc cn : Thread nD τ) (((Mr.slice (Rect.unit (s := S2x2x512x512) o2 S1x1x512x512.size i2) (fun _ => rfl)).squeeze S512x512 squeezes_S1x1x512x512_S512x512) : Memref sig (Dev.tc cn : Thread nD τ).2.kind .vmem S512x512 .bf16) s1 hsc)}
    {A1 A2 : Memref sig .tc .vmem S512x512 .bf16} {A3 A4 : Memref sig .tc .vmem S512x512 .bf16} {wa1 : A1.view.WordExact} {wa2 : A2.view.WordExact} {wa3 : A3.view.WordExact} {wa4 : A4.view.WordExact}
    (hA2 : A2.view.dmaCredit = NB) (hA4 : A4.view.dmaCredit = NB)
    (hN : ((Mr.slice (Rect.unit (s := S2x2x512x512) o2 S1x1x512x512.size i2) (fun _ => rfl)).squeeze S512x512 squeezes_S1x1x512x512_S512x512).view.amount s2 = NB)
    (hs1 : semOf (.rr d (sl 5) q) = .dma se1) (hs2 : semOf (.rs d (sl 4) q) = .dma se2) (hs3 : semOf (.rs d (sl 4) q) = s1) (hs4 : semOf (.rr d (sl 4) q) = s2)
    (hsc' : semOf (.rc d) = .reg sc) (hcn : cn = tgt d c)
    (hn : n ≤ 104) (hι : ix (en (.send 0 d q 5)) ≤ n) (hιc : ix (en (.crd 0 d q 5)) ≤ n)
    (hev : evs[n]? = some (.send 0 d q 6))
    {kk : PUnit → Prog (TpuEff nD τ sig (Elt F) Λ₀ .tc) α} :
    iprop(ctx A K Ks ∗ ow c n ∗ LaneR d q 5 c ∗ own c (chunkM j) fullShare (chunk A c j)
        ∗ DirW 0 d k c)
      ⊢ iprop(((ow c (n + 1) ∗ LaneR d q 6 c ∗ anyAt c (slot4 (rsB d) 1 q) ∗ own c (chunkM j) fullShare (chunk A c j)
            ∗ DirW 0 d (k + 1) c) -∗ WP c (kk ⟨⟩) Q)
        -∗ WP c (.op (.waitDma2 se1 A1 A2 wa1 wa2) fun _ => .op (.waitDma2 se2 A3 A4 wa3 wa4) fun _ =>
            .op (.load Mr (Rect.unit (s := S2x2x512x512) o1 S1x1x512x512.size i1).toLoadRect l1) fun v =>
            .op (.load partM (Rect.unit (s := S8x512x2048) o3 S1x512x512.size i3).toLoadRect l3) fun w =>
            .op (.load Ms (Rect.unit (s := S2x2x512x512) o2 S1x1x512x512.size i2).toLoadRect l2) fun _ =>
            .op (.store Ms (Rect.unit (s := S2x2x512x512) o2 S1x1x512x512.size i2) (pf v w) Finset.univ hx hmm) fun _ =>
            .op (.semWait sc 1) fun _ =>
            .op (.enqueueDma ((Ms.slice (Rect.unit (s := S2x2x512x512) o2 S1x1x512x512.size i2) (fun _ => rfl)).squeeze S512x512 squeezes_S1x1x512x512_S512x512)
              (.remote (Dev.tc cn : Thread nD τ) ((Mr.slice (Rect.unit (s := S2x2x512x512) o2 S1x1x512x512.size i2) (fun _ => rfl)).squeeze S512x512 squeezes_S1x1x512x512_S512x512) s1 hsc) s2 w5 w6 hsem) kk) Q) := by
  subst hj hk
  have hq := q.isLt
  have hslm : sl (2 * 4 + q.val) = q := Fin.ext (by show (2 * 4 + q.val) % 2 = q.val; omega)
  subst h2 hMr hMs
  rw [LaneR_open d q 4 (by omega)]
  iintro ⟨#Hctx, Ho, ⟨⟨Hc, Hcs⟩, ⟨⟨Ht1, Ht2, Hslot⟩, Hts⟩, HP, HP', ⟨Hd, Hd', HS, HS'⟩, Hkeep⟩, Hch, HW⟩ Hk
  iapply (recvL A 0 d q 5 n (by omega) hι (by omega) hs1 hA2) $$ [Hc HP Ho]
  · isplitr; · iexact Hctx
    isplitl [Hc]; · iexact Hc
    isplitl [HP] <;> iassumption
  iintro ⟨Ho, HP, Hpay⟩
  ihave Hpay := (Entails.of_eq (pay_rr A d q 5 c)) $$ Hpay
  icases Hpay with ⟨Hr, Hride⟩
  ihave Hride := (ride_step d q 5 (by omega)) $$ Hride
  icases Hride with ⟨Hk1, Hride⟩
  iapply (sentL A 0 d q 4 n (by omega) (by omega) hs2 hA4) $$ [Hd HS Ho]
  · isplitr; · iexact Hctx
    isplitl [Hd]; · iexact Hd
    isplitl [HS] <;> iassumption
  iintro ⟨Ho, HS, Hpay⟩
  ihave Hpay := (Entails.of_eq (pay_rs A d q 4 c)) $$ Hpay
  iapply (rsCore A d q 5 rfl rfl h1 rfl h3 hpf) $$ [Hr Hch Hpay]
  · isplitl [Hr]; · iexact Hr
    isplitl [Hch]; · iexact Hch
    iapply own_any; iexact Hpay
  iintro ⟨Hr, Hch, Hs⟩
  iapply (wcr A 0 d (2 * 4 + q.val) n (by omega) (by omega) (by rw [hslm, show (2 * 4 + q.val) / 2 = 4 by omega]; exact hιc) hsc') $$ [Ho HW]
  · isplitr; · iexact Hctx
    isplitl [Ho] <;> iassumption
  iintro ⟨Ho, HW, Hrel⟩
  imod (take1 A 0 d q 4) $$ [Hslot Hrel] with ⟨Hslot, Hrch⟩
  · isplitr; · iexact Hctx
    isplitl [Hslot] <;> iassumption
  iapply (rsSend A d q 6 n (by omega) rfl rfl hcn hs3 hs4 hN hev)
    $$ [Hs Hslot Hride Ho Ht1 Ht2 HS Hrch]
  · isplitr; · iexact Hctx
    isplitl [Hs]; · iexact Hs
    isplitl [Hslot]; · iexact Hslot
    isplitl [Hride]; · iexact Hride
    isplitl [Ho]; · iexact Ho
    isplitl [Ht1]; · iexact Ht1
    isplitl [HS]; · iexact HS
    isplitl [Ht2]; · iexact Ht2
    iexact Hrch
  iintro ⟨Hd, Ho, HS⟩
  iapply Hk
  isplitl [Ho]; · iexact Ho
  isplitl [Hcs Hts HP HP' Hd Hd' HS HS' Hkeep Hk1]
  · iapply (LaneR_mk d q 5 c)
    isplitl [Hcs]; · iexact Hcs
    isplitl [Hts]; · iexact Hts
    isplitl [HP']; · iexact HP'
    isplitl [HP]; · iexact HP
    isplitl [Hd Hd' HS HS']
    · isplitl [Hd']; · iexact Hd'
      isplitl [Hd]; · iexact Hd
      isplitl [HS']; · iexact HS'
      iexact HS
    isplitl [Hk1] <;> iassumption
  isplitl [Hr]
  · iapply own_any; iexact Hr
  isplitl [Hch] <;> iassumption

/-- The last arrival, read for the finished block. -/
theorem rsFin {Mr : Memref sig .tc .vmem S2x2x512x512 .bf16} {o1 : Fin 4 → ℕ} {o3 : Fin 3 → ℕ}
    {i1 : ∀ a, o1 a + S1x1x512x512.size a ≤ S2x2x512x512.size a}
    {i3 : ∀ a, o3 a + S1x512x512.size a ≤ S8x512x2048.size a}
    (d q : Fin 2) (n : ℕ) (j : Fin 8) (hj : j = pj d 7) (hMr : Mr = rsB d) (h1 : o1 = ![(sl 6).val, q.val, 0, 0])
    (h3 : o3 = ![j.val, 0, d.val * 1024 + q.val * 512])
    {l1 : Mr.view.LoadsAt (Rect.unit (s := S2x2x512x512) o1 S1x1x512x512.size i1).toLoadRect}
    {l3 : partM.view.LoadsAt (Rect.unit (s := S8x512x2048) o3 S1x512x512.size i3).toLoadRect}
    {se1 : DmaSem sig} {A1 A2 : Memref sig .tc .vmem S512x512 .bf16} {wa1 : A1.view.WordExact} {wa2 : A2.view.WordExact}
    (hA2 : A2.view.dmaCredit = NB) (hs1 : semOf (.rr d 0 q) = .dma se1)
    (hn : n ≤ 104) (hι : ix (en (.send 0 d q 6)) ≤ n)
    {kk : Vec F S1x1x512x512 .bf16 → Vec F S1x512x512 .bf16 → Prog (TpuEff nD τ sig (Elt F) Λ₀ .tc) α} :
    iprop(ctx A K Ks ∗ ow c n ∗ LaneR d q 6 c ∗ own c (chunkM j) fullShare (chunk A c j))
      ⊢ iprop(((ow c n ∗ (Pr 0 d q 7 c ∗ Pr 0 d q 8 c ∗ anyAt c (slot4 (rsB d) 0 q)) ∗ sndSt d q 6 c ∗ keep d q 7 c
            ∗ own c (chunkM j) fullShare (chunk A c j)) -∗ WP c (kk (un4 (Snd A d q 6 (src d c))) (Pt A c j d q)) Q)
        -∗ WP c (.op (.waitDma2 se1 A1 A2 wa1 wa2) fun _ =>
            .op (.load Mr (Rect.unit (s := S2x2x512x512) o1 S1x1x512x512.size i1).toLoadRect l1) fun v =>
            .op (.load partM (Rect.unit (s := S8x512x2048) o3 S1x512x512.size i3).toLoadRect l3) fun w => kk v w) Q) := by
  subst hj
  subst h1 h3 hMr
  unfold LaneR
  rw [pop (f := fun i => crE c (.send 0 d q i)) (by omega : 6 < 7)]
  have hk : (keep d q 7 c : sProp 𝕄) = iprop(keep1 d q 7 c ∗ keep d q 6 c) := push (by omega)
  rw [hk]
  iintro ⟨#Hctx, Ho, ⟨⟨Hc, -⟩, -, HP, HP', Hsnd, Hkeep⟩, Hch⟩ Hk
  iapply (recvL A 0 d q 6 n (by omega) hι (by omega) hs1 hA2) $$ [Hc HP Ho]
  · isplitr; · iexact Hctx
    isplitl [Hc]; · iexact Hc
    isplitl [HP] <;> iassumption
  iintro ⟨Ho, HP, Hpay⟩
  ihave Hpay := (Entails.of_eq (pay_rr A d q 6 c)) $$ Hpay
  icases Hpay with ⟨Hr, Hride⟩
  ihave Hride := (ride_step d q 6 (by omega)) $$ Hride
  icases Hride with ⟨Hk1, Hride⟩
  iapply (ld_slot4 (M := rsB d) (a := sl 6) (b := q)) $$ Hr
  iintro Hr
  iapply (ld_quart (j := pj d 7) (d := d) (q := q)) $$ Hch
  iintro Hch
  iapply Hk
  isplitl [Ho]; · iexact Ho
  isplitl [HP HP' Hr]
  · isplitl [HP']; · iexact HP'
    isplitl [HP]; · iexact HP
    iapply own_any; iexact Hr
  isplitl [Hsnd]; · iexact Hsnd
  isplitl [Hk1 Hkeep]
  · isplitl [Hk1] <;> iassumption
  iexact Hch

/-- The two last departures. -/
theorem rsSent5 {se : DmaSem sig} {A1 A2 : Memref sig .tc .vmem S512x512 .bf16} {wa1 : A1.view.WordExact} {wa2 : A2.view.WordExact}
    (d q : Fin 2) (n : ℕ) (hA2 : A2.view.dmaCredit = NB) (hs1 : semOf (.rs d 1 q) = .dma se) (hn : n ≤ 104)
    {kk : PUnit → Prog (TpuEff nD τ sig (Elt F) Λ₀ .tc) α} :
    iprop(ctx A K Ks ∗ ow c n ∗ sndSt d q 6 c)
      ⊢ iprop(((ow c n ∗ (cr0 c (snt 0 d (sl 6) q) ∗ Ps 0 d q 6 c) ∗ Ps 0 d q 7 c ∗ anyAt c (slot4 (sdB d) 1 q)) -∗ WP c (kk ⟨⟩) Q)
        -∗ WP c (.op (.waitDma2 se A1 A2 wa1 wa2) kk) Q) := by
  iintro ⟨#Hctx, Ho, Hsnd⟩ Hk
  ihave Hsnd := (Entails.of_eq (show sndSt d q 6 c = iprop(cr0 c (snt 0 d (sl 5) q) ∗ cr0 c (snt 0 d (sl 6) q) ∗ Ps 0 d q 5 c ∗ Ps 0 d q 6 c) from rfl)) $$ Hsnd
  icases Hsnd with ⟨Hd, Hd', HS, HS'⟩
  iapply (sentL A 0 d q 5 n (by omega) (by omega) hs1 hA2) $$ [Hd HS Ho]
  · isplitr; · iexact Hctx
    isplitl [Hd]; · iexact Hd
    isplitl [HS] <;> iassumption
  iintro ⟨Ho, HS, Hpay⟩
  ihave Hpay := (Entails.of_eq (pay_rs A d q 5 c)) $$ Hpay
  iapply Hk
  isplitl [Ho]; · iexact Ho
  isplitl [Hd' HS']; · isplitl [Hd'] <;> iassumption
  isplitl [HS]; · iexact HS
  iapply own_any; iexact Hpay
theorem rsSent6 {se : DmaSem sig} {A1 A2 : Memref sig .tc .vmem S512x512 .bf16} {wa1 : A1.view.WordExact} {wa2 : A2.view.WordExact}
    (d q : Fin 2) (n : ℕ) (hA2 : A2.view.dmaCredit = NB) (hs1 : semOf (.rs d 0 q) = .dma se) (hn : n ≤ 104)
    {kk : PUnit → Prog (TpuEff nD τ sig (Elt F) Λ₀ .tc) α} :
    iprop(ctx A K Ks ∗ ow c n ∗ cr0 c (snt 0 d (sl 6) q) ∗ Ps 0 d q 6 c)
      ⊢ iprop(((ow c n ∗ Ps 0 d q 8 c ∗ anyAt c (slot4 (sdB d) 0 q)) -∗ WP c (kk ⟨⟩) Q)
        -∗ WP c (.op (.waitDma2 se A1 A2 wa1 wa2) kk) Q) := by
  iintro ⟨#Hctx, Ho, Hd, HS⟩ Hk
  iapply (sentL A 0 d q 6 n (by omega) (by omega) hs1 hA2) $$ [Hd HS Ho]
  · isplitr; · iexact Hctx
    isplitl [Hd]; · iexact Hd
    isplitl [HS] <;> iassumption
  iintro ⟨Ho, HS, Hpay⟩
  ihave Hpay := (Entails.of_eq (pay_rs A d q 6 c)) $$ Hpay
  iapply Hk
  isplitl [Ho]; · iexact Ho
  isplitl [HS]; · iexact HS
  iapply own_any; iexact Hpay

end Cert.KernelIdeal.Ring
-- ==== Proof.Steps4.lean ====
/-
# The exchange of the maxima and the all-gather
-/
module

public import proofs.«01_k».proof.Proof.Steps3

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

/-! ## The maxima -/

/-- The device's own row. -/
theorem axRow {o1 : Fin 3 → ℕ} {i1 : ∀ a, o1 a + S1x8x128.size a ≤ S8x8x128.size a} (h1 : o1 = ![(pm c).val, 0, 0])
    {l1 : amM.view.LoadsAt (Rect.unit (s := S8x8x128) o1 S1x8x128.size i1).toLoadRect}
    {hx : (amM.access (Rect.unit (s := S8x8x128) o1 S1x8x128.size i1)).Stores Finset.univ}
    {hmm : (Finset.univ : Finset (Rect.unit (s := S8x8x128) o1 S1x8x128.size i1).shape.Idx) = Finset.univ ∨ ∀ a, (Rect.unit (s := S8x8x128) o1 S1x8x128.size i1).stride a = 1}
    {w : Vec F S1x8x128 .f32} (hw : w = lrow A c) {kk : PUnit → Prog (TpuEff nD τ sig (Elt F) Λ₀ .tc) α} :
    anyAt c (rowM (pm c)) ⊢ iprop((own c (rowM (pm c)) (qs 0) (lrow A c) -∗ WP c (kk ⟨⟩) Q)
      -∗ WP c (.op (.load amM (Rect.unit (s := S8x8x128) o1 S1x8x128.size i1).toLoadRect l1) fun _ =>
          .op (.store amM (Rect.unit (s := S8x8x128) o1 S1x8x128.size i1) w Finset.univ hx hmm) kk) Q) := by
  subst h1 hw
  exact dst_slice (hr := fun _ => rfl)

/-- Its transfer to the device `o + 1` places further. -/
theorem axSend {o1 : Fin 3 → ℕ} {i1 : ∀ a, o1 a + S1x8x128.size a ≤ S8x8x128.size a} {cn : Dev nD} {s1 s2 : SemLoc sig}
    {hsc : ((amM.slice (Rect.unit (s := S8x8x128) o1 S1x8x128.size i1) (fun _ => rfl)) : Memref sig (Dev.tc cn : Thread nD τ).2.kind .vmem S1x8x128 .f32).view.ref.isScScratch = false}
    {w5 w6 : (amM.slice (Rect.unit (s := S8x8x128) o1 S1x8x128.size i1) (fun _ => rfl)).view.WordExact}
    {hsem : DmaTarget.Typed .vmem s2 (.remote (Dev.tc cn : Thread nD τ) ((amM.slice (Rect.unit (s := S8x8x128) o1 S1x8x128.size i1) (fun _ => rfl)) : Memref sig (Dev.tc cn : Thread nD τ).2.kind .vmem S1x8x128 .f32) s1 hsc)}
    (o : Fin 7) (n : ℕ) (h1 : o1 = ![(pm c).val, 0, 0]) (hev : evs[n]? = some (.ax o)) (hcn : cn = sh (o.val + 1) c)
    (hS : semOf (.axs o) = s1) (hR : semOf (.axr o) = s2) (hN : (amM.slice (Rect.unit (s := S8x8x128) o1 S1x8x128.size i1) (fun _ => rfl)).view.amount s2 = NA)
    {kk : PUnit → Prog (TpuEff nD τ sig (Elt F) Λ₀ .tc) α} :
    iprop(ctx A K Ks ∗ ow c n ∗ own c (rowM (pm c)) (qs o.val) (lrow A c) ∗ keep 0 0 (6 - o.val + 1) c ∗ tk c (.axs o) 0 0 ∗ tk (sh (o.val + 1) c) (.axr o) 0 0)
      ⊢ iprop(((ow c (n + 1) ∗ own c (rowM (pm c)) (qs (o.val + 1)) (lrow A c) ∗ keep 0 0 (6 - o.val) c ∗ cr0 c (.axs o)) -∗ WP c (kk ⟨⟩) Q)
        -∗ WP c (.op (.enqueueDma (amM.slice (Rect.unit (s := S8x8x128) o1 S1x8x128.size i1) (fun _ => rfl))
            (.remote (Dev.tc cn : Thread nD τ) (amM.slice (Rect.unit (s := S8x8x128) o1 S1x8x128.size i1) (fun _ => rfl)) s1 hsc) s2 w5 w6 hsem) kk) Q) := by
  subst h1
  have ho := o.isLt
  have hk : (keep 0 0 (6 - o.val + 1) c : sProp 𝕄) = iprop(anyAt (sh (o.val + 1) c) (rowM (pm c)) ∗ keep 0 0 (6 - o.val) c) := by
    have h2 : (keep1 0 0 (6 - o.val + 1) c : sProp 𝕄) = anyAt (sh (o.val + 1) c) (rowM (pm c)) := by
      unfold keep1; rw [if_pos ⟨rfl, rfl⟩, sh_congr (show (7 * (6 - o.val + 1)) % 8 = (o.val + 1) % 8 by omega)]
    rw [← h2]; exact push (by omega)
  rw [hk]
  have hq : qs (o.val + 1) = (qs o.val).right := rfl
  rw [hq]
  iintro ⟨#Hctx, Ho, HM, ⟨HT, Hkeep⟩, Ht1, Ht2⟩ Hk
  ihave HM := own_halves $$ HM
  icases HM with ⟨HL, HM⟩
  ihave #Hr1 := (ctx_r0 A c (.axs o)) $$ Hctx
  ihave #Hr2 := (ctx_r0 A (sh (o.val + 1) c) (.axr o)) $$ Hctx
  iapply (send1 A (.ax o) n (.axs o) 0 0 hev hcn hS hR hN rfl rfl rfl (Fr := iprop(emp))
    (hp₁ := BIBase.Entails.refl) (hp₂ := by
      have h3 : sh (7 - o.val) (evD c (.ax o)) = c := evS_evD c (.ax o)
      show iprop(own (evD c (.ax o)) (rowM (pm c)) fullShare (lrow A c) ∗ emp) ⊢ own (evD c (.ax o)) (rowM (pm (sh (7 - o.val) (evD c (.ax o))))) fullShare (lrow A (sh (7 - o.val) (evD c (.ax o))))
      rw [h3]
      iintro ⟨H, -⟩; iexact H)) $$ [HL HT Ho Ht1 Ht2]
  · isplitr; · iexact Hctx
    isplitl [HL]; · iexact HL
    isplitl [HT]; · iexact HT
    isplitr; · iempintro
    isplitl [Ho]; · iexact Ho
    isplitl [Ht1]; · iexact Ht1
    isplitr; · iexact Hr1
    isplitl [Ht2]; · iexact Ht2
    iexact Hr2
  iintro ⟨Hd, Ho⟩
  iapply Hk
  isplitl [Ho]; · iexact Ho
  isplitl [HM]; · iexact HM
  isplitl [Hkeep]; · iexact Hkeep
  iexact Hd

/-- Arrival of a row, -/
theorem axRecv {sem : DmaSem sig} {sp sp' : Space} {s s' : Shape} {e e' : EltTy} {M : Memref sig .tc sp' s' e'} {M' : Memref sig .tc sp s e}
    {h1 : M.view.WordExact} {h2 : M'.view.WordExact} (o : Fin 7) (n : ℕ) (hι : ix (en (.ax o)) ≤ n) (hn : n ≤ 105)
    (hs : semOf (.axr o) = .dma sem) (hN : M'.view.dmaCredit = NA) {kk : PUnit → Prog (TpuEff nD τ sig (Elt F) Λ₀ .tc) α} :
    iprop(ctx A K Ks ∗ ow c n ∗ crE c (.ax o) ∗ at' c (.axr o) 0)
      ⊢ iprop(((ow c n ∗ at' c (.axr o) 1 ∗ own c (rowM (pm (sh (7 - o.val) c))) fullShare (lrow A (sh (7 - o.val) c))) -∗ WP c (kk ⟨⟩) Q)
        -∗ WP c (.op (.waitDma2 sem M M' h1 h2) kk) Q) := by
  unfold crE
  iintro ⟨#Hctx, Ho, Hc, Hat⟩ Hk
  iapply (wait1 A (wpE_waitDma2_eq 𝒱₀ (c : Thread nD τ) none Set.univ) (.axr o) 0 (ix (en (.ax o))) n rfl hι hn hs hN) $$ [Hc Hat Ho]
  · isplitr; · iexact Hctx
    isplitl [Hc]; · iexact Hc
    isplitl [Ho] <;> iassumption
  iintro ⟨Ho, Hat, -, Hp⟩
  iapply Hk
  isplitl [Ho]; · iexact Ho
  isplitl [Hat]; · iexact Hat
  iapply (Entails.of_eq (show pay A c (.axr o) 0 0 = own c (rowM (pm (sh (7 - o.val) c))) fullShare (lrow A (sh (7 - o.val) c)) from rfl)); iexact Hp
/-- and departure of the own one. -/
theorem axSent {sem : DmaSem sig} {sp sp' : Space} {s s' : Shape} {e e' : EltTy} {M : Memref sig .tc sp' s' e'} {M' : Memref sig .tc sp s e}
    {h1 : M.view.WordExact} {h2 : M'.view.WordExact} (o : Fin 7) (n : ℕ) (hn : n ≤ 105)
    (hs : semOf (.axs o) = .dma sem) (hN : M'.view.dmaCredit = NA) {kk : PUnit → Prog (TpuEff nD τ sig (Elt F) Λ₀ .tc) α} :
    iprop(ctx A K Ks ∗ ow c n ∗ cr0 c (.axs o) ∗ at' c (.axs o) 0)
      ⊢ iprop(((ow c n ∗ at' c (.axs o) 1 ∗ own c (rowM (pm c)) (qs o.val).left (lrow A c)) -∗ WP c (kk ⟨⟩) Q)
        -∗ WP c (.op (.waitDma2 sem M M' h1 h2) kk) Q) := by
  iintro ⟨#Hctx, Ho, Hc, Hat⟩ Hk
  iapply (wait1 A (wpE_waitDma2_eq 𝒱₀ (c : Thread nD τ) none Set.univ) (.axs o) 0 0 n rfl (Nat.zero_le _) hn hs hN) $$ [Hc Hat Ho]
  · isplitr; · iexact Hctx
    isplitl [Hc]; · iexact Hc
    isplitl [Ho] <;> iassumption
  iintro ⟨Ho, Hat, -, Hp⟩
  iapply Hk
  isplitl [Ho]; · iexact Ho
  isplitl [Hat]; · iexact Hat
  iapply (Entails.of_eq (show pay A c (.axs o) 0 0 = own c (rowM (pm c)) (qs o.val).left (lrow A c) from rfl)); iexact Hp

theorem row_gAll (t : Fin 8) : (fun j => gAll A ((rectRow t).emb j)) = lrow A (pm t) := by
  funext j
  have h0 : (rectRow t).emb j (0 : Fin 3) = t := Fin.ext (by
    rw [Rect.emb_apply]; have hj : (j (0 : Fin 3)).val < 1 := (j (0 : Fin 3)).isLt
    show t.val + 1 * (j (0 : Fin 3)).val = t.val; omega)
  unfold gAll
  rw [h0]
  congr 1
  funext a; apply Fin.ext
  have hj : (j (0 : Fin 3)).val < 1 := (j (0 : Fin 3)).isLt
  fin_cases a
  · show 0 = (j (0 : Fin 3)).val; omega
  · show 0 + 1 * (j (1 : Fin 3)).val = (j (1 : Fin 3)).val; omega
  · show 0 + 1 * (j (2 : Fin 3)).val = (j (2 : Fin 3)).val; omega

/-- The shares of the own row, all back. -/
theorem qs_join (o : ℕ) {M : Memref sig .tc .vmem S1x8x128 .f32} {X : Vec F S1x8x128 .f32} :
    iprop(own c M (qs o).left X ∗ own c M (qs (o + 1)) X) ⊢ own c M (qs o) X := own_join

end Cert.KernelIdeal.Ring
-- ==== Proof.Blocks.lean ====
/-
# The buffers and their pieces
-/
module

public import proofs.«01_k».proof.Proof.Steps4

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {c : Dev nD}

/-! ## The pieces cover and are disjoint -/

section Sets
theorem row_d (t u : Fin 8) (h : t ≠ u) : Disjoint (rectRow t).set (rectRow u).set := by
  rw [Finset.disjoint_left]; intro x hx hy
  have h1 := Rect.mem_set_unit.1 hx (0 : Fin 3); have h2 := Rect.mem_set_unit.1 hy (0 : Fin 3)
  have h3 : t.val ≤ (x (0 : Fin 3)).val ∧ (x (0 : Fin 3)).val < t.val + 1 := h1
  have h4 : u.val ≤ (x (0 : Fin 3)).val ∧ (x (0 : Fin 3)).val < u.val + 1 := h2
  exact h (Fin.ext (by omega))
theorem row_c : (Finset.univ : Finset (Fin 8)).biUnion (fun t => (rectRow t).set) = Finset.univ := by
  refine Finset.eq_univ_iff_forall.mpr fun x => Finset.mem_biUnion.mpr ⟨(x (0 : Fin 3) : Fin 8), Finset.mem_univ _, Rect.mem_set_unit.2 fun a => ?_⟩
  have h1 : (x (1 : Fin 3)).val < 8 := (x (1 : Fin 3)).isLt
  have h2 : (x (2 : Fin 3)).val < 128 := (x (2 : Fin 3)).isLt
  fin_cases a
  · show (x (0 : Fin 3)).val ≤ (x (0 : Fin 3)).val ∧ (x (0 : Fin 3)).val < (x (0 : Fin 3)).val + 1; omega
  · show 0 ≤ (x (1 : Fin 3)).val ∧ (x (1 : Fin 3)).val < 0 + 8; omega
  · show 0 ≤ (x (2 : Fin 3)).val ∧ (x (2 : Fin 3)).val < 0 + 128; omega

theorem chunk_d (t u : Fin 8) (h : t ≠ u) : Disjoint (rectC t).set (rectC u).set := by
  rw [Finset.disjoint_left]; intro x hx hy
  have h1 := Rect.mem_set_unit.1 hx (0 : Fin 3); have h2 := Rect.mem_set_unit.1 hy (0 : Fin 3)
  have h3 : t.val ≤ (x (0 : Fin 3)).val ∧ (x (0 : Fin 3)).val < t.val + 1 := h1
  have h4 : u.val ≤ (x (0 : Fin 3)).val ∧ (x (0 : Fin 3)).val < u.val + 1 := h2
  exact h (Fin.ext (by omega))
theorem chunk_c : (Finset.univ : Finset (Fin 8)).biUnion (fun t => (rectC t).set) = Finset.univ := by
  refine Finset.eq_univ_iff_forall.mpr fun x => Finset.mem_biUnion.mpr ⟨(x (0 : Fin 3) : Fin 8), Finset.mem_univ _, Rect.mem_set_unit.2 fun a => ?_⟩
  have h1 : (x (1 : Fin 3)).val < 512 := (x (1 : Fin 3)).isLt
  have h2 : (x (2 : Fin 3)).val < 2048 := (x (2 : Fin 3)).isLt
  fin_cases a
  · show (x (0 : Fin 3)).val ≤ (x (0 : Fin 3)).val ∧ (x (0 : Fin 3)).val < (x (0 : Fin 3)).val + 1; omega
  · show 0 ≤ (x (1 : Fin 3)).val ∧ (x (1 : Fin 3)).val < 0 + 512; omega
  · show 0 ≤ (x (2 : Fin 3)).val ∧ (x (2 : Fin 3)).val < 0 + 2048; omega

theorem s4_d (t u : Fin 2 × Fin 2) (h : t ≠ u) : Disjoint (rect4 t.1 t.2).set (rect4 u.1 u.2).set := by
  rw [Finset.disjoint_left]; intro x hx hy
  have h1 := Rect.mem_set_unit.1 hx (0 : Fin 4); have h2 := Rect.mem_set_unit.1 hy (0 : Fin 4)
  have h3 : t.1.val ≤ (x (0 : Fin 4)).val ∧ (x (0 : Fin 4)).val < t.1.val + 1 := h1
  have h4 : u.1.val ≤ (x (0 : Fin 4)).val ∧ (x (0 : Fin 4)).val < u.1.val + 1 := h2
  have g1 := Rect.mem_set_unit.1 hx (1 : Fin 4); have g2 := Rect.mem_set_unit.1 hy (1 : Fin 4)
  have g3 : t.2.val ≤ (x (1 : Fin 4)).val ∧ (x (1 : Fin 4)).val < t.2.val + 1 := g1
  have g4 : u.2.val ≤ (x (1 : Fin 4)).val ∧ (x (1 : Fin 4)).val < u.2.val + 1 := g2
  exact h (Prod.ext (Fin.ext (by omega)) (Fin.ext (by omega)))
theorem s4_c : (Finset.univ : Finset (Fin 2 × Fin 2)).biUnion (fun t => (rect4 t.1 t.2).set) = Finset.univ := by
  refine Finset.eq_univ_iff_forall.mpr fun x => Finset.mem_biUnion.mpr ⟨((x (0 : Fin 4) : Fin 2), (x (1 : Fin 4) : Fin 2)), Finset.mem_univ _, Rect.mem_set_unit.2 fun a => ?_⟩
  have h1 : (x (2 : Fin 4)).val < 512 := (x (2 : Fin 4)).isLt
  have h2 : (x (3 : Fin 4)).val < 512 := (x (3 : Fin 4)).isLt
  fin_cases a
  · show (x (0 : Fin 4)).val ≤ (x (0 : Fin 4)).val ∧ (x (0 : Fin 4)).val < (x (0 : Fin 4)).val + 1; omega
  · show (x (1 : Fin 4)).val ≤ (x (1 : Fin 4)).val ∧ (x (1 : Fin 4)).val < (x (1 : Fin 4)).val + 1; omega
  · show 0 ≤ (x (2 : Fin 4)).val ∧ (x (2 : Fin 4)).val < 0 + 512; omega
  · show 0 ≤ (x (3 : Fin 4)).val ∧ (x (3 : Fin 4)).val < 0 + 512; omega

theorem s3_d (t u : Fin 2) (h : t ≠ u) : Disjoint (rect3 t).set (rect3 u).set := by
  rw [Finset.disjoint_left]; intro x hx hy
  have h1 := Rect.mem_set_unit.1 hx (0 : Fin 3); have h2 := Rect.mem_set_unit.1 hy (0 : Fin 3)
  have h3 : t.val ≤ (x (0 : Fin 3)).val ∧ (x (0 : Fin 3)).val < t.val + 1 := h1
  have h4 : u.val ≤ (x (0 : Fin 3)).val ∧ (x (0 : Fin 3)).val < u.val + 1 := h2
  exact h (Fin.ext (by omega))
theorem s3_c : (Finset.univ : Finset (Fin 2)).biUnion (fun t => (rect3 t).set) = Finset.univ := by
  refine Finset.eq_univ_iff_forall.mpr fun x => Finset.mem_biUnion.mpr ⟨(x (0 : Fin 3) : Fin 2), Finset.mem_univ _, Rect.mem_set_unit.2 fun a => ?_⟩
  have h1 : (x (1 : Fin 3)).val < 512 := (x (1 : Fin 3)).isLt
  have h2 : (x (2 : Fin 3)).val < 512 := (x (2 : Fin 3)).isLt
  fin_cases a
  · show (x (0 : Fin 3)).val ≤ (x (0 : Fin 3)).val ∧ (x (0 : Fin 3)).val < (x (0 : Fin 3)).val + 1; omega
  · show 0 ≤ (x (1 : Fin 3)).val ∧ (x (1 : Fin 3)).val < 0 + 512; omega
  · show 0 ≤ (x (2 : Fin 3)).val ∧ (x (2 : Fin 3)).val < 0 + 512; omega

theorem win_d (t u : Fin 2 × Fin 2 × Fin 8) (h : t ≠ u) : Disjoint (rectO t.2.2 t.1 t.2.1).set (rectO u.2.2 u.1 u.2.1).set := by
  rw [Finset.disjoint_left]; intro x hx hy
  have h1 := Rect.mem_set_unit.1 hx (0 : Fin 2); have h2 := Rect.mem_set_unit.1 hy (0 : Fin 2)
  have h3 : 512 * t.2.2.val ≤ (x (0 : Fin 2)).val ∧ (x (0 : Fin 2)).val < 512 * t.2.2.val + 512 := h1
  have h4 : 512 * u.2.2.val ≤ (x (0 : Fin 2)).val ∧ (x (0 : Fin 2)).val < 512 * u.2.2.val + 512 := h2
  have g1 := Rect.mem_set_unit.1 hx (1 : Fin 2); have g2 := Rect.mem_set_unit.1 hy (1 : Fin 2)
  have g3 : t.1.val * 1024 + t.2.1.val * 512 ≤ (x (1 : Fin 2)).val ∧ (x (1 : Fin 2)).val < t.1.val * 1024 + t.2.1.val * 512 + 512 := g1
  have g4 : u.1.val * 1024 + u.2.1.val * 512 ≤ (x (1 : Fin 2)).val ∧ (x (1 : Fin 2)).val < u.1.val * 1024 + u.2.1.val * 512 + 512 := g2
  have := t.2.1.isLt; have := u.2.1.isLt
  exact h (Prod.ext (Fin.ext (by omega)) (Prod.ext (Fin.ext (by omega)) (Fin.ext (by omega))))
theorem win_c : (Finset.univ : Finset (Fin 2 × Fin 2 × Fin 8)).biUnion (fun t => (rectO t.2.2 t.1 t.2.1).set) = Finset.univ := by
  refine Finset.eq_univ_iff_forall.mpr fun x => ?_
  have h0 : (x (0 : Fin 2)).val < 4096 := (x (0 : Fin 2)).isLt
  have h1 : (x (1 : Fin 2)).val < 2048 := (x (1 : Fin 2)).isLt
  refine Finset.mem_biUnion.mpr ⟨(⟨(x (1 : Fin 2)).val / 1024, by omega⟩, ⟨(x (1 : Fin 2)).val % 1024 / 512, by omega⟩, ⟨(x (0 : Fin 2)).val / 512, by omega⟩), Finset.mem_univ _, Rect.mem_set_unit.2 fun a => ?_⟩
  fin_cases a
  · show 512 * ((x (0 : Fin 2)).val / 512) ≤ (x (0 : Fin 2)).val ∧ (x (0 : Fin 2)).val < 512 * ((x (0 : Fin 2)).val / 512) + 512; omega
  · show (x (1 : Fin 2)).val / 1024 * 1024 + (x (1 : Fin 2)).val % 1024 / 512 * 512 ≤ (x (1 : Fin 2)).val ∧ (x (1 : Fin 2)).val < (x (1 : Fin 2)).val / 1024 * 1024 + (x (1 : Fin 2)).val % 1024 / 512 * 512 + 512; omega
end Sets

/-! ## A buffer owned somehow is its pieces owned somehow -/

section Any
variable {sp : Space} {s : Shape} {e : EltTy} {M : Memref sig .tc sp s e} {T : Type} [Fintype T] [DecidableEq T] {r : T → Rect s} {hr : ∀ t a, (r t).stride a = 1}

omit [FloatOps F] [DecidableEq T] in
include hr in
theorem any_split (hd : ∀ t t', t ≠ t' → Disjoint (r t).set (r t').set) (hcov : (Finset.univ : Finset T).biUnion (fun t => (r t).set) = Finset.univ) :
    anyAt c M ⊢ (bigSep Finset.univ fun t => anyAt c (M.slice (r t) (hr t)) : sProp 𝕄) := by
  have hm : ∀ X : Vec F s e, (bigSep Finset.univ (fun t => owns (c : Thread nD τ) (M.slice (r t) (hr t)) fullShare (fun j => X ((r t).emb j))) : sProp 𝕄)
      ⊢ bigSep Finset.univ fun t => anyAt c (M.slice (r t) (hr t)) := fun X => bigSep_mono fun t _ => own_any
  iintro H
  unfold anyAt at *
  icases H with ⟨%X, H⟩
  ihave H := (owns_rects (c : Thread nD τ) M fullShare r hr hd hcov X) $$ H
  iapply (hm X)
  iexact H

omit [FloatOps F] [Fintype T] in
theorem any_pull [∀ e, Nonempty (Elt F e)] (S : Finset T) : (bigSep S (fun t => anyAt c (M.slice (r t) (hr t))) : sProp 𝕄)
    ⊢ iprop(∃ Y : (t : T) → Vec F (r t).shape e, bigSep S fun t => own c (M.slice (r t) (hr t)) fullShare (Y t)) := by
  induction S using Finset.induction_on with
  | empty => iintro -; iexists (fun _ _ => Classical.arbitrary _); rw [bs_none]; iempintro
  | insert t S ht ih =>
    rw [bs_insert ht]
    iintro ⟨H, HS⟩
    ihave HS := ih $$ HS
    icases HS with ⟨%Y, HS⟩
    unfold anyAt
    icases H with ⟨%X, H⟩
    iexists (Function.update Y t X)
    have hu : ∀ u ∈ S, own c (M.slice (r u) (hr u)) fullShare (Function.update Y t X u) = (own c (M.slice (r u) (hr u)) fullShare (Y u) : sProp 𝕄) := fun u hu => by
      have hne : u ≠ t := fun h => ht (h ▸ hu)
      rw [Function.update_of_ne hne]
    have he : (bigSep (insert t S) fun u => own c (M.slice (r u) (hr u)) fullShare (Function.update Y t X u) : sProp 𝕄)
        = iprop(own c (M.slice (r t) (hr t)) fullShare X ∗ bigSep S fun t => own c (M.slice (r t) (hr t)) fullShare (Y t)) := by
      rw [bs_insert ht, Function.update_self, bs_congr hu]
    iapply (Entails.of_eq he.symm)
    isplitl [H] <;> iassumption

omit [FloatOps F] in
theorem any_join [∀ e, Nonempty (Elt F e)] (hd : ∀ t t', t ≠ t' → Disjoint (r t).set (r t').set) (hcov : (Finset.univ : Finset T).biUnion (fun t => (r t).set) = Finset.univ) :
    (bigSep Finset.univ fun t => anyAt c (M.slice (r t) (hr t)) : sProp 𝕄) ⊢ anyAt c M := by
  classical
  iintro H
  ihave H := (any_pull (r := r) (hr := hr) Finset.univ) $$ H
  icases H with ⟨%Y, H⟩
  have hX : ∃ X : Vec F s e, ∀ t, (fun j => X ((r t).emb j)) = Y t := by
    refine ⟨fun i => if h : ∃ t, ∃ j, (r t).emb j = i then Y h.choose h.choose_spec.choose else Classical.arbitrary _, fun t => funext fun j => ?_⟩
    have h : ∃ u, ∃ k, (r u).emb k = (r t).emb j := ⟨t, j, rfl⟩
    show (if h : ∃ u, ∃ k, (r u).emb k = (r t).emb j then Y h.choose h.choose_spec.choose else Classical.arbitrary _) = _
    rw [dif_pos h]
    have h2 := h.choose_spec.choose_spec
    generalize h.choose_spec.choose = k at h2
    revert k
    generalize h.choose = u
    intro k h2
    have hu : u = t := by
      by_contra hne
      have h3 := Finset.disjoint_left.mp (hd u t hne)
      have hmem : ∀ (v : T) (l : (r v).shape.Idx), (r v).emb l ∈ (r v).set := fun v l => by rw [← Rect.map_emb_univ]; exact Finset.mem_map_of_mem _ (Finset.mem_univ _)
      exact h3 (hmem u k) (h2 ▸ hmem t j)
    subst hu
    rw [(r u).emb.injective h2]
  obtain ⟨X, hX⟩ := hX
  iapply own_any (X := X)
  iapply (owns_of_rects (c : Thread nD τ) M fullShare r hr hd hcov X)
  rw [bs_congr (s := Finset.univ) (f := fun t => owns (c : Thread nD τ) (M.slice (r t) (hr t)) fullShare (fun j => X ((r t).emb j))) (g := fun t => own c (M.slice (r t) (hr t)) fullShare (Y t)) fun t _ => by rw [hX]]
  iexact H
end Any

end Cert.KernelIdeal.Ring
-- ==== Proof.Steps5.lean ====
/-
# The scale, the quantised blocks and their way round the ring
-/
module

public import proofs.«01_k».proof.Proof.Blocks

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

/-! ## The scale -/

theorem own_gAll : iprop(own c (rowM (pm c)) fullShare (lrow A c)
      ∗ own c (rowM (pm (sh 7 c))) fullShare (lrow A (sh 7 c)) ∗ own c (rowM (pm (sh 6 c))) fullShare (lrow A (sh 6 c))
      ∗ own c (rowM (pm (sh 5 c))) fullShare (lrow A (sh 5 c)) ∗ own c (rowM (pm (sh 4 c))) fullShare (lrow A (sh 4 c))
      ∗ own c (rowM (pm (sh 3 c))) fullShare (lrow A (sh 3 c)) ∗ own c (rowM (pm (sh 2 c))) fullShare (lrow A (sh 2 c))
      ∗ own c (rowM (pm (sh 1 c))) fullShare (lrow A (sh 1 c))) ⊢ own c amM fullShare (gAll A) := by
  have hu : ∀ c : Dev nD, (Finset.univ : Finset (Fin 8)) = {pm c, pm (sh 7 c), pm (sh 6 c), pm (sh 5 c), pm (sh 4 c), pm (sh 3 c), pm (sh 2 c), pm (sh 1 c)} := by decide
  have h1 : ∀ c : Dev nD, pm c ∉ ({pm (sh 7 c), pm (sh 6 c), pm (sh 5 c), pm (sh 4 c), pm (sh 3 c), pm (sh 2 c), pm (sh 1 c)} : Finset (Fin 8)) := by decide
  have h2 : ∀ c : Dev nD, pm (sh 7 c) ∉ ({pm (sh 6 c), pm (sh 5 c), pm (sh 4 c), pm (sh 3 c), pm (sh 2 c), pm (sh 1 c)} : Finset (Fin 8)) := by decide
  have h3 : ∀ c : Dev nD, pm (sh 6 c) ∉ ({pm (sh 5 c), pm (sh 4 c), pm (sh 3 c), pm (sh 2 c), pm (sh 1 c)} : Finset (Fin 8)) := by decide
  have h4 : ∀ c : Dev nD, pm (sh 5 c) ∉ ({pm (sh 4 c), pm (sh 3 c), pm (sh 2 c), pm (sh 1 c)} : Finset (Fin 8)) := by decide
  have h5 : ∀ c : Dev nD, pm (sh 4 c) ∉ ({pm (sh 3 c), pm (sh 2 c), pm (sh 1 c)} : Finset (Fin 8)) := by decide
  have h6 : ∀ c : Dev nD, pm (sh 3 c) ∉ ({pm (sh 2 c), pm (sh 1 c)} : Finset (Fin 8)) := by decide
  have h7 : ∀ c : Dev nD, pm (sh 2 c) ∉ ({pm (sh 1 c)} : Finset (Fin 8)) := by decide
  refine BIBase.Entails.trans ?_ (owns_of_rects (c : Thread nD τ) amM fullShare rectRow (fun _ _ => rfl) row_d row_c (gAll A))
  rw [bs_congr (g := fun t => own c (rowM t) fullShare (lrow A (pm t))) fun t _ => by rw [row_gAll],
    hu c, bs_insert (h1 c), bs_insert (h2 c), bs_insert (h3 c), bs_insert (h4 c), bs_insert (h5 c), bs_insert (h6 c), bs_insert (h7 c), bs_one]
  simp only [pm_pm]
  exact BIBase.Entails.refl

/-- The scale read off the maxima. -/
theorem axLoad {o1 : Fin 3 → ℕ} {i1 : ∀ a, o1 a + S8x8x128.size a ≤ S8x8x128.size a} (h1 : o1 = ![0, 0, 0])
    {l1 : amM.view.LoadsAt (Rect.unit (s := S8x8x128) o1 S8x8x128.size i1).toLoadRect}
    {kk : Vec F S8x8x128 .f32 → Prog (TpuEff nD τ sig (Elt F) Λ₀ .tc) α} :
    iprop(own c (rowM (pm c)) (qs 7) (lrow A c) ∗ own c (rowM (pm c)) (qs 6).left (lrow A c) ∗ own c (rowM (pm c)) (qs 5).left (lrow A c)
        ∗ own c (rowM (pm c)) (qs 4).left (lrow A c) ∗ own c (rowM (pm c)) (qs 3).left (lrow A c) ∗ own c (rowM (pm c)) (qs 2).left (lrow A c)
        ∗ own c (rowM (pm c)) (qs 1).left (lrow A c) ∗ own c (rowM (pm c)) (qs 0).left (lrow A c)
      ∗ own c (rowM (pm (sh 7 c))) fullShare (lrow A (sh 7 c)) ∗ own c (rowM (pm (sh 6 c))) fullShare (lrow A (sh 6 c))
      ∗ own c (rowM (pm (sh 5 c))) fullShare (lrow A (sh 5 c)) ∗ own c (rowM (pm (sh 4 c))) fullShare (lrow A (sh 4 c))
      ∗ own c (rowM (pm (sh 3 c))) fullShare (lrow A (sh 3 c)) ∗ own c (rowM (pm (sh 2 c))) fullShare (lrow A (sh 2 c))
      ∗ own c (rowM (pm (sh 1 c))) fullShare (lrow A (sh 1 c)))
      ⊢ iprop((anyAt c amM -∗ WP c (kk (gAll A)) Q) -∗ WP c (.op (.load amM (Rect.unit (s := S8x8x128) o1 S8x8x128.size i1).toLoadRect l1) kk) Q) := by
  subst h1
  iintro ⟨H7, H6, H5, H4, H3, H2, H1, H0, HR⟩ Hk
  ihave H := (qs_join 6) $$ [H6 H7]; · isplitl [H6] <;> iassumption
  ihave H := (qs_join 5) $$ [H5 H]; · isplitl [H5] <;> iassumption
  ihave H := (qs_join 4) $$ [H4 H]; · isplitl [H4] <;> iassumption
  ihave H := (qs_join 3) $$ [H3 H]; · isplitl [H3] <;> iassumption
  ihave H := (qs_join 2) $$ [H2 H]; · isplitl [H2] <;> iassumption
  ihave H := (qs_join 1) $$ [H1 H]; · isplitl [H1] <;> iassumption
  ihave H := (qs_join 0) $$ [H0 H]; · isplitl [H0] <;> iassumption
  ihave H := (own_gAll A) $$ [H HR]
  · isplitl [H]; · iexact H
    iexact HR
  iapply ld_sub $$ H
  iintro H
  have hv : (fun i : S8x8x128.Idx => gAll A ((Rect.unit (s := S8x8x128) ![0, 0, 0] S8x8x128.size i1).emb i)) = gAll A := funext fun i => by
    congr 1; funext a; apply Fin.ext
    rw [Rect.emb_apply]
    fin_cases a
    · show 0 + 1 * (i (0 : Fin 3)).val = (i (0 : Fin 3)).val; omega
    · show 0 + 1 * (i (1 : Fin 3)).val = (i (1 : Fin 3)).val; omega
    · show 0 + 1 * (i (2 : Fin 3)).val = (i (2 : Fin 3)).val; omega
  iapply (Entails.of_eq (congrArg (fun w => WP c (kk w) Q) hv.symm))
  iapply Hk
  iapply own_any; iexact H

/-! ## The own blocks -/

theorem quant {M : Memref sig .tc .vmem S2x512x512 .i8} {o1 : Fin 3 → ℕ} {i1 : ∀ a, o1 a + S1x512x512.size a ≤ S2x512x512.size a}
    (d q : Fin 2) (hM : M = qB d) (h1 : o1 = ![q.val, 0, 0])
    {l1 : M.view.LoadsAt (Rect.unit (s := S2x512x512) o1 S1x512x512.size i1).toLoadRect}
    {hx : (M.access (Rect.unit (s := S2x512x512) o1 S1x512x512.size i1)).Stores Finset.univ}
    {hmm : (Finset.univ : Finset (Rect.unit (s := S2x512x512) o1 S1x512x512.size i1).shape.Idx) = Finset.univ ∨ ∀ a, (Rect.unit (s := S2x512x512) o1 S1x512x512.size i1).stride a = 1}
    {w : Vec F S1x512x512 .i8} (hw : w = k0_pay50 (Yv A d q c) (scl A)) {kk : PUnit → Prog (TpuEff nD τ sig (Elt F) Λ₀ .tc) α} :
    anyAt c (slot3 (qB d) q) ⊢ iprop((own c (slot3 (qB d) q) fullShare (Qv A d q c) -∗ WP c (kk ⟨⟩) Q)
      -∗ WP c (.op (.load M (Rect.unit (s := S2x512x512) o1 S1x512x512.size i1).toLoadRect l1) fun _ =>
          .op (.store M (Rect.unit (s := S2x512x512) o1 S1x512x512.size i1) w Finset.univ hx hmm) kk) Q) := by
  subst hM h1 hw
  exact dst_slot3

theorem pay_gr (d q : Fin 2) (m : ℕ) (c : Dev nD) : pay A c (rcv 1 d (sl m) q) (m / 2) 0
    = own c (slot4 (agB d) (sl m) q) fullShare (Qv A d q (up d (m + 1) c)) := by
  show own c (slot4 (agB d) (sl m) q) fullShare (Qv A d q (up d (2 * (m / 2) + (sl m).val + 1) c)) = _
  rw [two_sl]
theorem pay_gs0 (d q : Fin 2) (c : Dev nD) : pay A c (snt 1 d (sl 0) q) 0 0
    = own c (slot3 (qB d) q) fullShare.left (Qv A d q c) := by
  show own c (slot3 (qB d) q) fullShare.left (Qv A d q (up d 0 c)) = _
  rw [up_zero]
theorem pay_gs (d q : Fin 2) (m : ℕ) (c : Dev nD) : pay A c (snt 1 d (sl (m + 1)) q) ((m + 1) / 2) 0
    = own c (slot4 (agB d) (sl m) q) fullShare.left (Qv A d q (up d (m + 1) c)) := by
  have h : ∀ t, t = m + 1 → own c (gsM d q t) fullShare.left (Qv A d q (up d t c)) = own c (slot4 (agB d) (sl m) q) fullShare.left (Qv A d q (up d (m + 1) c)) := by
    intro t ht; subst ht
    have hg : gsM d q (m + 1) = slot4 (agB d) (sl m) q := by
      unfold gsM; rw [if_neg (by omega), show m + 1 + 1 = m + 2 from rfl, sl_add_two]
    rw [hg]
  exact h _ (two_sl (m + 1))

/-- An all-gather lane when message `m` is awaited, -/
def LaneG (d q : Fin 2) (m : ℕ) (c : Dev nD) : sProp 𝕄 :=
  iprop((bigSep (Finset.Ico m 7) fun i => crE c (.send 1 d q i)) ∗ (bigSep (Finset.Ico (m + 1) 7) fun i => tgtTok 1 d q i c)
    ∗ Pr 1 d q m c ∗ Pr 1 d q (m + 1) c ∗ Ps 1 d q (m + 1) c ∗ Ps 1 d q (m + 2) c)
/-- and when it has been sent on as message `m + 1`; -/
def MidG (d q : Fin 2) (m : ℕ) (c : Dev nD) : sProp 𝕄 :=
  iprop((bigSep (Finset.Ico (m + 1) 7) fun i => crE c (.send 1 d q i)) ∗ (bigSep (Finset.Ico (m + 2) 7) fun i => tgtTok 1 d q i c)
    ∗ Pr 1 d q (m + 1) c ∗ Pr 1 d q (m + 2) c ∗ cr0 c (snt 1 d (sl (m + 1)) q) ∗ Ps 1 d q (m + 1) c ∗ Ps 1 d q (m + 2) c)
/-- the same when the own block has been sent. -/
def MidG0 (d q : Fin 2) (c : Dev nD) : sProp 𝕄 :=
  iprop((bigSep (Finset.Ico 0 7) fun i => crE c (.send 1 d q i)) ∗ (bigSep (Finset.Ico 1 7) fun i => tgtTok 1 d q i c)
    ∗ Pr 1 d q 0 c ∗ Pr 1 d q 1 c ∗ cr0 c (snt 1 d (sl 0) q) ∗ Ps 1 d q 0 c ∗ Ps 1 d q 1 c)

theorem agSend0 {Mr Ms : Memref sig .tc .vmem S512x512 .i8} {cn : Dev nD}
    {hsc : (Mr : Memref sig (Dev.tc cn : Thread nD τ).2.kind .vmem S512x512 .i8).view.ref.isScScratch = false} {s1 s2 : SemLoc sig}
    {w5 : Ms.view.WordExact} {w6 : Mr.view.WordExact}
    {hsem : DmaTarget.Typed .vmem s2 (.remote (Dev.tc cn : Thread nD τ) (Mr : Memref sig (Dev.tc cn : Thread nD τ).2.kind .vmem S512x512 .i8) s1 hsc)}
    (d q : Fin 2) (n : ℕ) (hMs : Ms = slot3 (qB d) q) (hMr : Mr = slot4 (agB d) 0 q)
    (hcn : cn = tgt d c) (hs3 : semOf (.gs d 0 q) = s1) (hs4 : semOf (.gr d 0 q) = s2) (hN : Mr.view.amount s2 = NG) (hev : evs[n]? = some (.send 1 d q 0))
    {kk : PUnit → Prog (TpuEff nD τ sig (Elt F) Λ₀ .tc) α} :
    iprop(ctx A K Ks ∗ ow c n ∗ StL 1 d q c ∗ own c (slot3 (qB d) q) fullShare (Qv A d q c))
      ⊢ iprop(((ow c (n + 1) ∗ MidG0 d q c ∗ own c (slot3 (qB d) q) fullShare.right (Qv A d q c)) -∗ WP c (kk ⟨⟩) Q)
        -∗ WP c (.op (.enqueueDma Ms (.remote (Dev.tc cn : Thread nD τ) Mr s1 hsc) s2 w5 w6 hsem) kk) Q) := by
  subst hMs hMr
  unfold StL MidG0
  rw [pop (f := fun i => tgtTok 1 d q i c) (by omega : 0 < 7)]
  unfold tgtTok Ps
  iintro ⟨#Hctx, Ho, ⟨Hcs, ⟨⟨Ht1, Ht2, Hslot⟩, Hts⟩, HP, HP', ⟨Hat, #Hr1⟩, HS'⟩, HM⟩ Hk
  ihave HM := own_halves $$ HM
  icases HM with ⟨HL, HM⟩
  ihave #Hrch := (ctx_r0 A (tgt d c) (rcv 1 d (sl 0) q)) $$ Hctx
  iapply (sendL A d q 0 n (by omega) hev hcn hs3 hs4 hN rfl (Fr := iprop(emp)) (by rw [pay_gs0]) (by
    rw [pay_gr, ← up_succ, src_tgt, up_zero]; iintro ⟨H, -⟩; iexact H)) $$ [HL Hslot Ho Ht1 Ht2]
  · isplitr; · iexact Hctx
    isplitl [HL]; · iexact HL
    isplitl [Hslot]; · iapply (Entails.of_eq (slotOf1 (tgt d c) d 0 q)); iapply (Entails.of_eq (show slotT 1 d q 0 c = slotOf (tgt d c, 1, d, sl 0, q) from if_pos (by decide))); iexact Hslot
    isplitr; · iempintro
    isplitl [Ho]; · iexact Ho
    isplitl [Ht1]; · iexact Ht1
    isplitr; · iexact Hr1
    isplitl [Ht2]; · iexact Ht2
    iexact Hrch
  iintro ⟨Hd, Ho⟩
  iapply Hk
  isplitl [Ho]; · iexact Ho
  isplitr [HM]
  · isplitl [Hcs]; · iexact Hcs
    isplitl [Hts]; · iexact Hts
    isplitl [HP]; · iexact HP
    isplitl [HP']; · iexact HP'
    isplitl [Hd]; · iexact Hd
    isplitl [Hat]
    · isplitl [Hat]; · iexact Hat
      iexact Hr1
    iexact HS'
  iexact HM

theorem agSent0 {se : DmaSem sig} {sp sp' : Space} {s s' : Shape} {e e' : EltTy} {A1 : Memref sig .tc sp' s' e'} {A2 : Memref sig .tc sp s e}
    {wa1 : A1.view.WordExact} {wa2 : A2.view.WordExact}
    (d q : Fin 2) (n : ℕ) (hA2 : A2.view.dmaCredit = NG) (hs1 : semOf (.gs d 0 q) = .dma se) (hn : n ≤ 105)
    {kk : PUnit → Prog (TpuEff nD τ sig (Elt F) Λ₀ .tc) α} :
    iprop(ctx A K Ks ∗ ow c n ∗ MidG0 d q c ∗ own c (slot3 (qB d) q) fullShare.right (Qv A d q c))
      ⊢ iprop(((ow c n ∗ LaneG d q 0 c ∗ anyAt c (slot3 (qB d) q)) -∗ WP c (kk ⟨⟩) Q) -∗ WP c (.op (.waitDma2 se A1 A2 wa1 wa2) kk) Q) := by
  unfold MidG0 LaneG
  iintro ⟨#Hctx, Ho, ⟨Hcs, Hts, HP, HP', Hd, HS, HS'⟩, HM⟩ Hk
  iapply (sentL A 1 d q 0 n (by omega) hn hs1 hA2) $$ [Hd HS Ho]
  · isplitr; · iexact Hctx
    isplitl [Hd]; · iexact Hd
    isplitl [HS] <;> iassumption
  iintro ⟨Ho, HS, Hpay⟩
  ihave Hpay := (Entails.of_eq (pay_gs0 A d q c)) $$ Hpay
  ihave HM := own_join $$ [Hpay HM]; · isplitl [Hpay] <;> iassumption
  iapply Hk
  isplitl [Ho]; · iexact Ho
  isplitr [HM]
  · isplitl [Hcs]; · iexact Hcs
    isplitl [Hts]; · iexact Hts
    isplitl [HP]; · iexact HP
    isplitl [HP']; · iexact HP'
    isplitl [HS'] <;> iassumption
  iapply own_any; iexact HM

/-! ## The blocks written to the result -/

theorem pay55_eq (a : F .f32) (X : Vec F S512x512 .i8) : k0_pay55 a (un3 X) = k0_pay59 a (un4 X) := by
  have h3 : shapeCast S512x512 (un3 X) shapeCasts_S1x512x512_S512x512 = X := sq3_un3 X
  have h4 : shapeCast S512x512 (un4 X) shapeCasts_S1x1x512x512_S512x512 = X := sq4_un4 X
  unfold k0_pay55 k0_pay59
  dsimp only
  rw [h3, h4]

/-- `i` blocks copied, -/
def OcI (d q : Fin 2) (i : ℕ) (c : Dev nD) : sProp 𝕄 :=
  iprop(at' c (.ocp d q) i ∗ rch c (.ocp d q) i ∗ (bigSep (Finset.Ico i 8) fun r => iprop(tk c (.ocp d q) r 0 ∗ anyAt c (winM (wn d r c) d q)))
    ∗ bigSep (Finset.Ico 0 i) fun r => own c (winM (wn d r c) d q) fullShare (ost A d q r c))
/-- and the next one on its way. -/
def OcB (d q : Fin 2) (i : ℕ) (c : Dev nD) : sProp 𝕄 :=
  iprop(cr0 c (.ocp d q) ∗ at' c (.ocp d q) i ∗ (bigSep (Finset.Ico (i + 1) 8) fun r => iprop(tk c (.ocp d q) r 0 ∗ anyAt c (winM (wn d r c) d q)))
    ∗ bigSep (Finset.Ico 0 i) fun r => own c (winM (wn d r c) d q) fullShare (ost A d q r c))

theorem ocpStart {Mo : Memref sig .tc .vmem S2x2x512x512 .bf16} {o1 : Fin 4 → ℕ} {o2 : Fin 2 → ℕ} {i1 : ∀ a, o1 a + S1x1x512x512.size a ≤ S2x2x512x512.size a}
    {i2 : ∀ a, o2 a + S512x512.size a ≤ S4096x2048.size a}
    (d q : Fin 2) (i : ℕ) (hi : i < 8) (hMo : Mo = ostM) (h1 : o1 = ![d.val, q.val, 0, 0]) (h2 : o2 = ![512 * (wn d i c).val, d.val * 1024 + q.val * 512])
    {l1 : Mo.view.LoadsAt (Rect.unit (s := S2x2x512x512) o1 S1x1x512x512.size i1).toLoadRect}
    {hx : (Mo.access (Rect.unit (s := S2x2x512x512) o1 S1x1x512x512.size i1)).Stores Finset.univ}
    {hmm : (Finset.univ : Finset (Rect.unit (s := S2x2x512x512) o1 S1x1x512x512.size i1).shape.Idx) = Finset.univ ∨ ∀ a, (Rect.unit (s := S2x2x512x512) o1 S1x1x512x512.size i1).stride a = 1}
    {w : Vec F S1x1x512x512 .bf16} (hw : sq4 w = ost A d q i c)
    {s1 : SemLoc sig} {w5 : ((Mo.slice (Rect.unit (s := S2x2x512x512) o1 S1x1x512x512.size i1) (fun _ => rfl)).squeeze S512x512 squeezes_S1x1x512x512_S512x512).view.WordExact}
    {w6 : (outM.slice (Rect.unit (s := S4096x2048) o2 S512x512.size i2) (fun _ => rfl)).view.WordExact}
    {hsem : DmaTarget.Typed (nD := nD) (τ := τ) (p := .tc) .vmem s1 (.here (outM.slice (Rect.unit (s := S4096x2048) o2 S512x512.size i2) (fun _ => rfl)))}
    (hs : semOf (.ocp d q) = s1) (hN : (outM.slice (Rect.unit (s := S4096x2048) o2 S512x512.size i2) (fun _ => rfl)).view.amount s1 = NO)
    {kk : PUnit → Prog (TpuEff nD τ sig (Elt F) Λ₀ .tc) α} :
    iprop(ctx A K Ks ∗ anyAt c (slot4 ostM d q) ∗ OcI A d q i c)
      ⊢ iprop((OcB A d q i c -∗ WP c (kk ⟨⟩) Q)
        -∗ WP c (.op (.load Mo (Rect.unit (s := S2x2x512x512) o1 S1x1x512x512.size i1).toLoadRect l1) fun _ =>
            .op (.store Mo (Rect.unit (s := S2x2x512x512) o1 S1x1x512x512.size i1) w Finset.univ hx hmm) fun _ =>
            .op (.enqueueDma ((Mo.slice (Rect.unit (s := S2x2x512x512) o1 S1x1x512x512.size i1) (fun _ => rfl)).squeeze S512x512 squeezes_S1x1x512x512_S512x512)
              (.here (outM.slice (Rect.unit (s := S4096x2048) o2 S512x512.size i2) (fun _ => rfl))) s1 w5 w6 hsem) kk) Q) := by
  subst hMo h1 h2
  unfold OcI OcB
  rw [pop hi]
  iintro ⟨#Hctx, HO, Hat, Hr, ⟨⟨Ht, Hw⟩, Hws⟩, Hdone⟩ Hk
  iapply (dst_slot4 (M := ostM) (a := d) (b := q)) $$ HO
  iintro HO
  iapply (cp1 A (.ocp d q) i hs hN (if_pos hi) (X := sq4 w) (q := fullShare) (hp := by
    rw [hw]
    show iprop(own c (winM (wn d i c) d q) fullShare (ost A d q i c) ∗ own c (slot4 ostM d q) fullShare (ost A d q i c))
      ⊢ iprop(own c (winM (wn d i c) d q) fullShare (ost A d q i c) ∗ anyAt c (slot4 ostM d q))
    exact sep_mono_right own_any)) $$ [HO Hw Ht Hr]
  · isplitr; · iexact Hctx
    isplitl [HO]; · iexact HO
    isplitl [Hw]; · iexact Hw
    isplitl [Ht] <;> iassumption
  iintro Hd
  iapply Hk
  isplitl [Hd]; · iexact Hd
  isplitl [Hat]; · iexact Hat
  isplitl [Hws] <;> iassumption

theorem ocpWait {se : DmaSem sig} {sp sp' : Space} {s s' : Shape} {e e' : EltTy} {A1 : Memref sig .tc sp' s' e'} {A2 : Memref sig .tc sp s e}
    {wa1 : A1.view.WordExact} {wa2 : A2.view.WordExact}
    (d q : Fin 2) (i n : ℕ) (hi : i < 8) (hA2 : A2.view.dmaCredit = NO) (hs : semOf (.ocp d q) = .dma se) (hn : n ≤ 105)
    {kk : PUnit → Prog (TpuEff nD τ sig (Elt F) Λ₀ .tc) α} :
    iprop(ctx A K Ks ∗ ow c n ∗ OcB A d q i c)
      ⊢ iprop(((ow c n ∗ OcI A d q (i + 1) c ∗ anyAt c (slot4 ostM d q)) -∗ WP c (kk ⟨⟩) Q) -∗ WP c (.op (.waitDma2 se A1 A2 wa1 wa2) kk) Q) := by
  unfold OcI OcB
  rw [push (f := fun r => own c (winM (wn d r c) d q) fullShare (ost A d q r c)) (Nat.zero_le i)]
  iintro ⟨#Hctx, Ho, Hd, Hat, Hws, Hdone⟩ Hk
  iapply (wait1 A (wpE_waitDma2_eq 𝒱₀ (c : Thread nD τ) none Set.univ) (.ocp d q) i 0 n (if_pos hi) (Nat.zero_le _) hn hs hA2) $$ [Hd Hat Ho]
  · isplitr; · iexact Hctx
    isplitl [Hd]; · iexact Hd
    isplitl [Ho] <;> iassumption
  iintro ⟨Ho, Hat, Hr, Hp⟩
  ihave Hp := (Entails.of_eq (show pay A c (.ocp d q) i 0 = iprop(own c (winM (wn d i c) d q) fullShare (ost A d q i c) ∗ anyAt c (slot4 ostM d q)) from rfl)) $$ Hp
  icases Hp with ⟨Hw, HO⟩
  iapply Hk
  isplitl [Ho]; · iexact Ho
  isplitr [HO]
  · isplitl [Hat]; · iexact Hat
    isplitl [Hr]; · iexact Hr
    isplitl [Hws]; · iexact Hws
    isplitl [Hw] <;> iassumption
  iexact HO

/-- The own block dequantised. -/
theorem deq0 {Mq : Memref sig .tc .vmem S2x512x512 .i8} {Mo : Memref sig .tc .vmem S2x2x512x512 .bf16} {o0 : Fin 3 → ℕ} {o1 : Fin 4 → ℕ} {o2 : Fin 2 → ℕ}
    {i0 : ∀ a, o0 a + S1x512x512.size a ≤ S2x512x512.size a} {i1 : ∀ a, o1 a + S1x1x512x512.size a ≤ S2x2x512x512.size a}
    {i2 : ∀ a, o2 a + S512x512.size a ≤ S4096x2048.size a}
    (d q : Fin 2) (hMq : Mq = qB d) (h0 : o0 = ![q.val, 0, 0]) (hMo : Mo = ostM) (h1 : o1 = ![d.val, q.val, 0, 0]) (h2 : o2 = ![512 * (wn d 0 c).val, d.val * 1024 + q.val * 512])
    {l0 : Mq.view.LoadsAt (Rect.unit (s := S2x512x512) o0 S1x512x512.size i0).toLoadRect}
    {l1 : Mo.view.LoadsAt (Rect.unit (s := S2x2x512x512) o1 S1x1x512x512.size i1).toLoadRect}
    {hx : (Mo.access (Rect.unit (s := S2x2x512x512) o1 S1x1x512x512.size i1)).Stores Finset.univ}
    {hmm : (Finset.univ : Finset (Rect.unit (s := S2x2x512x512) o1 S1x1x512x512.size i1).shape.Idx) = Finset.univ ∨ ∀ a, (Rect.unit (s := S2x2x512x512) o1 S1x1x512x512.size i1).stride a = 1}
    {pf : Vec F S1x512x512 .i8 → Vec F S1x1x512x512 .bf16} (hw : ∀ v, pf v = k0_pay55 (scl A) v)
    {s1 : SemLoc sig} {w5 : ((Mo.slice (Rect.unit (s := S2x2x512x512) o1 S1x1x512x512.size i1) (fun _ => rfl)).squeeze S512x512 squeezes_S1x1x512x512_S512x512).view.WordExact}
    {w6 : (outM.slice (Rect.unit (s := S4096x2048) o2 S512x512.size i2) (fun _ => rfl)).view.WordExact}
    {hsem : DmaTarget.Typed (nD := nD) (τ := τ) (p := .tc) .vmem s1 (.here (outM.slice (Rect.unit (s := S4096x2048) o2 S512x512.size i2) (fun _ => rfl)))}
    (hs : semOf (.ocp d q) = s1) (hN : (outM.slice (Rect.unit (s := S4096x2048) o2 S512x512.size i2) (fun _ => rfl)).view.amount s1 = NO)
    {kk : PUnit → Prog (TpuEff nD τ sig (Elt F) Λ₀ .tc) α} :
    iprop(ctx A K Ks ∗ own c (slot3 (qB d) q) fullShare.right (Qv A d q c) ∗ anyAt c (slot4 ostM d q) ∗ OcI A d q 0 c)
      ⊢ iprop(((own c (slot3 (qB d) q) fullShare.right (Qv A d q c) ∗ OcB A d q 0 c) -∗ WP c (kk ⟨⟩) Q)
        -∗ WP c (.op (.load Mq (Rect.unit (s := S2x512x512) o0 S1x512x512.size i0).toLoadRect l0) fun v =>
            .op (.load Mo (Rect.unit (s := S2x2x512x512) o1 S1x1x512x512.size i1).toLoadRect l1) fun _ =>
            .op (.store Mo (Rect.unit (s := S2x2x512x512) o1 S1x1x512x512.size i1) (pf v) Finset.univ hx hmm) fun _ =>
            .op (.enqueueDma ((Mo.slice (Rect.unit (s := S2x2x512x512) o1 S1x1x512x512.size i1) (fun _ => rfl)).squeeze S512x512 squeezes_S1x1x512x512_S512x512)
              (.here (outM.slice (Rect.unit (s := S4096x2048) o2 S512x512.size i2) (fun _ => rfl))) s1 w5 w6 hsem) kk) Q) := by
  subst hMq h0
  iintro ⟨#Hctx, HM, HO, HI⟩ Hk
  iapply (ld_slot3 (M := qB d) (a := q)) $$ HM
  iintro HM
  iapply (ocpStart A d q 0 (by omega) hMo h1 h2 (by
    rw [hw]; unfold ost deqB; rw [up_zero]; exact congrArg sq4 (pay55_eq _ _)) hs hN) $$ [HO HI]
  · isplitr; · iexact Hctx
    isplitl [HO] <;> iassumption
  iintro HB
  iapply Hk
  isplitl [HM] <;> iassumption

end Cert.KernelIdeal.Ring
-- ==== Proof.Steps6.lean ====
/-
# The quantised blocks on their way round the ring
-/
module

public import proofs.«01_k».proof.Proof.Steps5

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {α : Type} {Q : α → sProp (MT nD τ sig ℕ (Elt F) ℕ UU ℕ)} {c : Dev nD} {K : Dev nD × CK → ℕ} {Ks : Key → ℕ}

/-- Sending message `m` on as message `m + 1`. -/
theorem agFwd {Mr Ms : Memref sig .tc .vmem S512x512 .i8} {cn : Dev nD}
    {hsc : (Mr : Memref sig (Dev.tc cn : Thread nD τ).2.kind .vmem S512x512 .i8).view.ref.isScScratch = false} {s1 s2 : SemLoc sig}
    {w5 : Ms.view.WordExact} {w6 : Mr.view.WordExact}
    {hsem : DmaTarget.Typed .vmem s2 (.remote (Dev.tc cn : Thread nD τ) (Mr : Memref sig (Dev.tc cn : Thread nD τ).2.kind .vmem S512x512 .i8) s1 hsc)}
    (d q : Fin 2) (m n : ℕ) (hm : m < 6) (hMs : Ms = slot4 (agB d) (sl m) q) (hMr : Mr = slot4 (agB d) (sl (m + 1)) q)
    (hcn : cn = tgt d c) (hs3 : semOf (.gs d (sl (m + 1)) q) = s1) (hs4 : semOf (.gr d (sl (m + 1)) q) = s2) (hN : Mr.view.amount s2 = NG)
    (hev : evs[n]? = some (.send 1 d q (m + 1)))
    {kk : PUnit → Prog (TpuEff nD τ sig (Elt F) Λ₀ .tc) α} :
    iprop(ctx A K Ks ∗ own c (slot4 (agB d) (sl m) q) fullShare (Qv A d q (up d (m + 1) c)) ∗ slotOf (tgt d c, 1, d, sl (m + 1), q) ∗ ow c n
        ∗ tk c (snt 1 d (sl (m + 1)) q) ((m + 1) / 2) 0 ∗ Ps 1 d q (m + 1) c
        ∗ tk (tgt d c) (rcv 1 d (sl (m + 1)) q) ((m + 1) / 2) 0 ∗ rch (tgt d c) (rcv 1 d (sl (m + 1)) q) ((m + 1) / 2))
      ⊢ iprop(((cr0 c (snt 1 d (sl (m + 1)) q) ∗ ow c (n + 1) ∗ Ps 1 d q (m + 1) c ∗ own c (slot4 (agB d) (sl m) q) fullShare.right (Qv A d q (up d (m + 1) c))) -∗ WP c (kk ⟨⟩) Q)
        -∗ WP c (.op (.enqueueDma Ms (.remote (Dev.tc cn : Thread nD τ) Mr s1 hsc) s2 w5 w6 hsem) kk) Q) := by
  subst hMs hMr
  unfold Ps
  iintro ⟨#Hctx, Hs, Hslot, Ho, Ht1, ⟨Hat, #Hr1⟩, Ht2, Hr2⟩ Hk
  ihave Hs := own_halves $$ Hs
  icases Hs with ⟨HL, HM⟩
  iapply (sendL A d q (m + 1) n (by omega) hev hcn hs3 hs4 hN rfl (Fr := iprop(emp)) (by rw [pay_gs]) (by
    rw [pay_gr, show up d (m + 1 + 1) (tgt d c) = up d (m + 1) c by rw [← up_succ, src_tgt]]; iintro ⟨H, -⟩; iexact H)) $$ [HL Hslot Ho Ht1 Ht2 Hr2]
  · isplitr; · iexact Hctx
    isplitl [HL]; · iexact HL
    isplitl [Hslot]; · iapply (Entails.of_eq (slotOf1 (tgt d c) d (sl (m + 1)) q)); iexact Hslot
    isplitr; · iempintro
    isplitl [Ho]; · iexact Ho
    isplitl [Ht1]; · iexact Ht1
    isplitr; · iexact Hr1
    isplitl [Ht2] <;> iassumption
  iintro ⟨Hd, Ho⟩
  iapply Hk
  isplitl [Hd]; · iexact Hd
  isplitl [Ho]; · iexact Ho
  isplitr [HM]
  · isplitl [Hat]; · iexact Hat
    iexact Hr1
  iexact HM

/-- The first block received and sent on. -/
theorem agHop0 {Mr Ms : Memref sig .tc .vmem S512x512 .i8} {cn : Dev nD}
    {hsc : (Mr : Memref sig (Dev.tc cn : Thread nD τ).2.kind .vmem S512x512 .i8).view.ref.isScScratch = false} {s1 s2 : SemLoc sig}
    {w5 : Ms.view.WordExact} {w6 : Mr.view.WordExact}
    {hsem : DmaTarget.Typed .vmem s2 (.remote (Dev.tc cn : Thread nD τ) (Mr : Memref sig (Dev.tc cn : Thread nD τ).2.kind .vmem S512x512 .i8) s1 hsc)}
    {se : DmaSem sig} {sp sp' : Space} {s s' : Shape} {e e' : EltTy} {A1 : Memref sig .tc sp' s' e'} {A2 : Memref sig .tc sp s e}
    {wa1 : A1.view.WordExact} {wa2 : A2.view.WordExact}
    (d q : Fin 2) (n : ℕ) (hA2 : A2.view.dmaCredit = NG) (hs1 : semOf (.gr d 0 q) = .dma se)
    (hMs : Ms = slot4 (agB d) 0 q) (hMr : Mr = slot4 (agB d) 1 q)
    (hcn : cn = tgt d c) (hs3 : semOf (.gs d 1 q) = s1) (hs4 : semOf (.gr d 1 q) = s2) (hN : Mr.view.amount s2 = NG)
    (hn : n ≤ 105) (hι : ix (en (.send 1 d q 0)) ≤ n) (hev : evs[n]? = some (.send 1 d q 1))
    {kk : PUnit → Prog (TpuEff nD τ sig (Elt F) Λ₀ .tc) α} :
    iprop(ctx A K Ks ∗ ow c n ∗ LaneG d q 0 c)
      ⊢ iprop(((ow c (n + 1) ∗ MidG d q 0 c ∗ own c (slot4 (agB d) (sl 0) q) fullShare.right (Qv A d q (up d (0 + 1) c))) -∗ WP c (kk ⟨⟩) Q)
        -∗ WP c (.op (.waitDma2 se A1 A2 wa1 wa2) fun _ => .op (.enqueueDma Ms (.remote (Dev.tc cn : Thread nD τ) Mr s1 hsc) s2 w5 w6 hsem) kk) Q) := by
  unfold LaneG MidG
  rw [pop (f := fun i => crE c (.send 1 d q i)) (by omega : 0 < 7), pop (f := fun i => tgtTok 1 d q i c) (by omega : 0 + 1 < 7)]
  unfold tgtTok
  iintro ⟨#Hctx, Ho, ⟨Hc, Hcs⟩, ⟨⟨Ht1, Ht2, Hslot⟩, Hts⟩, HP, HP', HS, HS'⟩ Hk
  iapply (recvL A 1 d q 0 n (by omega) hι hn hs1 hA2) $$ [Hc HP Ho]
  · isplitr; · iexact Hctx
    isplitl [Hc]; · iexact Hc
    isplitl [HP] <;> iassumption
  iintro ⟨Ho, HP, Hpay⟩
  ihave Hpay := (Entails.of_eq (pay_gr A d q 0 c)) $$ Hpay
  ihave #Hrch := (ctx_r0 A (tgt d c) (rcv 1 d (sl (0 + 1)) q)) $$ Hctx
  iapply (agFwd A d q 0 n (by omega) hMs hMr hcn hs3 hs4 hN hev) $$ [Hpay Hslot Ho Ht1 Ht2 HS]
  · isplitr; · iexact Hctx
    isplitl [Hpay]; · iexact Hpay
    isplitl [Hslot]; · iapply (Entails.of_eq (show slotT 1 d q (0 + 1) c = slotOf (tgt d c, 1, d, sl (0 + 1), q) from if_pos (by decide))); iexact Hslot
    isplitl [Ho]; · iexact Ho
    isplitl [Ht1]; · iexact Ht1
    isplitl [HS]; · iexact HS
    isplitl [Ht2]; · iexact Ht2
    iexact Hrch
  iintro ⟨Hd, Ho, HS, HM⟩
  iapply Hk
  isplitl [Ho]; · iexact Ho
  isplitr [HM]
  · isplitl [Hcs]; · iexact Hcs
    isplitl [Hts]; · iexact Hts
    isplitl [HP']; · iexact HP'
    isplitl [HP]; · iexact HP
    isplitl [Hd]; · iexact Hd
    isplitl [HS] <;> iassumption
  iexact HM

/-- Message `m + 1` received and sent on once its slot has been credited. -/
theorem agHop {Mr Ms : Memref sig .tc .vmem S512x512 .i8} {cn : Dev nD}
    {hsc : (Mr : Memref sig (Dev.tc cn : Thread nD τ).2.kind .vmem S512x512 .i8).view.ref.isScScratch = false} {s1 s2 : SemLoc sig}
    {w5 : Ms.view.WordExact} {w6 : Mr.view.WordExact}
    {hsem : DmaTarget.Typed .vmem s2 (.remote (Dev.tc cn : Thread nD τ) (Mr : Memref sig (Dev.tc cn : Thread nD τ).2.kind .vmem S512x512 .i8) s1 hsc)}
    {se : DmaSem sig} {sc : Sem sig} {sp sp' : Space} {s s' : Shape} {e e' : EltTy} {A1 : Memref sig .tc sp' s' e'} {A2 : Memref sig .tc sp s e}
    {wa1 : A1.view.WordExact} {wa2 : A2.view.WordExact}
    (d q : Fin 2) (m n : ℕ) (hm : m + 1 < 6) (k : ℕ) (hk : k = 2 * m + q.val) (hA2 : A2.view.dmaCredit = NG) (hs1 : semOf (.gr d (sl (m + 1)) q) = .dma se)
    (hsc' : semOf (.gc d) = .reg sc)
    (hMs : Ms = slot4 (agB d) (sl (m + 1)) q) (hMr : Mr = slot4 (agB d) (sl (m + 2)) q)
    (hcn : cn = tgt d c) (hs3 : semOf (.gs d (sl (m + 2)) q) = s1) (hs4 : semOf (.gr d (sl (m + 2)) q) = s2) (hN : Mr.view.amount s2 = NG)
    (hn : n ≤ 105) (hι : ix (en (.send 1 d q (m + 1))) ≤ n) (hιc : ix (en (.crd 1 d q (m + 1))) ≤ n) (hev : evs[n]? = some (.send 1 d q (m + 2)))
    {kk : PUnit → Prog (TpuEff nD τ sig (Elt F) Λ₀ .tc) α} :
    iprop(ctx A K Ks ∗ ow c n ∗ LaneG d q (m + 1) c ∗ DirW 1 d k c)
      ⊢ iprop(((ow c (n + 1) ∗ MidG d q (m + 1) c ∗ own c (slot4 (agB d) (sl (m + 1)) q) fullShare.right (Qv A d q (up d (m + 1 + 1) c)) ∗ DirW 1 d (k + 1) c) -∗ WP c (kk ⟨⟩) Q)
        -∗ WP c (.op (.waitDma2 se A1 A2 wa1 wa2) fun _ => .op (.semWait sc 1) fun _ =>
            .op (.enqueueDma Ms (.remote (Dev.tc cn : Thread nD τ) Mr s1 hsc) s2 w5 w6 hsem) kk) Q) := by
  subst hk
  have hq := q.isLt
  have hslm : sl (2 * m + q.val) = q := Fin.ext (by show (2 * m + q.val) % 2 = q.val; omega)
  unfold LaneG MidG
  rw [pop (f := fun i => crE c (.send 1 d q i)) (by omega : m + 1 < 7), pop (f := fun i => tgtTok 1 d q i c) (by omega : m + 1 + 1 < 7)]
  unfold tgtTok
  iintro ⟨#Hctx, Ho, ⟨⟨Hc, Hcs⟩, ⟨⟨Ht1, Ht2, Hslot⟩, Hts⟩, HP, HP', HS, HS'⟩, HW⟩ Hk
  iapply (recvL A 1 d q (m + 1) n (by omega) hι hn hs1 hA2) $$ [Hc HP Ho]
  · isplitr; · iexact Hctx
    isplitl [Hc]; · iexact Hc
    isplitl [HP] <;> iassumption
  iintro ⟨Ho, HP, Hpay⟩
  ihave Hpay := (Entails.of_eq (pay_gr A d q (m + 1) c)) $$ Hpay
  iapply (wcr A 1 d (2 * m + q.val) n (by omega) hn (by rw [hslm, show (2 * m + q.val) / 2 = m by omega]; exact hιc) hsc') $$ [Ho HW]
  · isplitr; · iexact Hctx
    isplitl [Ho] <;> iassumption
  iintro ⟨Ho, HW, Hrel⟩
  imod (take1 A 1 d q m) $$ [Hslot Hrel] with ⟨Hslot, Hrch⟩
  · isplitr; · iexact Hctx
    isplitl [Hslot] <;> iassumption
  iapply (agFwd A d q (m + 1) n (by omega) hMs hMr hcn hs3 hs4 hN hev) $$ [Hpay Hslot Ho Ht1 Ht2 HS Hrch]
  · isplitr; · iexact Hctx
    isplitl [Hpay]; · iexact Hpay
    isplitl [Hslot]; · rw [show m + 1 + 1 = m + 2 from rfl, sl_add_two]; iexact Hslot
    isplitl [Ho]; · iexact Ho
    isplitl [Ht1]; · iexact Ht1
    isplitl [HS]; · iexact HS
    isplitl [Ht2]; · iexact Ht2
    rw [show m + 1 + 1 = m + 2 from rfl, sl_add_two, show (m + 2) / 2 = m / 2 + 1 by omega]; iexact Hrch
  iintro ⟨Hd, Ho, HS, HM⟩
  iapply Hk
  isplitl [Ho]; · iexact Ho
  isplitr [HM HW]
  · isplitl [Hcs]; · iexact Hcs
    isplitl [Hts]; · iexact Hts
    isplitl [HP']; · iexact HP'
    isplitl [HP]; · iexact HP
    isplitl [Hd]; · iexact Hd
    isplitl [HS] <;> iassumption
  isplitl [HM] <;> iassumption

/-- Block `m + 1` dequantised, once the copy before it has left. -/
theorem deqW {Mg : Memref sig .tc .vmem S2x2x512x512 .i8} {Mo : Memref sig .tc .vmem S2x2x512x512 .bf16} {o0 : Fin 4 → ℕ} {o1 : Fin 4 → ℕ} {o2 : Fin 2 → ℕ}
    {i0 : ∀ a, o0 a + S1x1x512x512.size a ≤ S2x2x512x512.size a} {i1 : ∀ a, o1 a + S1x1x512x512.size a ≤ S2x2x512x512.size a}
    {i2 : ∀ a, o2 a + S512x512.size a ≤ S4096x2048.size a}
    (d q : Fin 2) (m n : ℕ) (hm : m < 7) (hMg : Mg = agB d) (h0 : o0 = ![(sl m).val, q.val, 0, 0]) (hMo : Mo = ostM) (h1 : o1 = ![d.val, q.val, 0, 0])
    (h2 : o2 = ![512 * (wn d (m + 1) c).val, d.val * 1024 + q.val * 512])
    {l0 : Mg.view.LoadsAt (Rect.unit (s := S2x2x512x512) o0 S1x1x512x512.size i0).toLoadRect}
    {l1 : Mo.view.LoadsAt (Rect.unit (s := S2x2x512x512) o1 S1x1x512x512.size i1).toLoadRect}
    {hx : (Mo.access (Rect.unit (s := S2x2x512x512) o1 S1x1x512x512.size i1)).Stores Finset.univ}
    {hmm : (Finset.univ : Finset (Rect.unit (s := S2x2x512x512) o1 S1x1x512x512.size i1).shape.Idx) = Finset.univ ∨ ∀ a, (Rect.unit (s := S2x2x512x512) o1 S1x1x512x512.size i1).stride a = 1}
    {pf : Vec F S1x1x512x512 .i8 → Vec F S1x1x512x512 .bf16} (hw : ∀ v, pf v = k0_pay59 (scl A) v)
    {se : DmaSem sig} {sp sp' : Space} {s s' : Shape} {e e' : EltTy} {A1 : Memref sig .tc sp' s' e'} {A2 : Memref sig .tc sp s e}
    {wa1 : A1.view.WordExact} {wa2 : A2.view.WordExact}
    {s1 : SemLoc sig} {w5 : ((Mo.slice (Rect.unit (s := S2x2x512x512) o1 S1x1x512x512.size i1) (fun _ => rfl)).squeeze S512x512 squeezes_S1x1x512x512_S512x512).view.WordExact}
    {w6 : (outM.slice (Rect.unit (s := S4096x2048) o2 S512x512.size i2) (fun _ => rfl)).view.WordExact}
    {hsem : DmaTarget.Typed (nD := nD) (τ := τ) (p := .tc) .vmem s1 (.here (outM.slice (Rect.unit (s := S4096x2048) o2 S512x512.size i2) (fun _ => rfl)))}
    (hA2 : A2.view.dmaCredit = NO) (hs0 : semOf (.ocp d q) = .dma se) (hn : n ≤ 105)
    (hs : semOf (.ocp d q) = s1) (hN : (outM.slice (Rect.unit (s := S4096x2048) o2 S512x512.size i2) (fun _ => rfl)).view.amount s1 = NO)
    {qq : PosShare TreeShare} {kk : PUnit → Prog (TpuEff nD τ sig (Elt F) Λ₀ .tc) α} :
    iprop(ctx A K Ks ∗ ow c n ∗ own c (slot4 (agB d) (sl m) q) qq (Qv A d q (up d (m + 1) c)) ∗ OcB A d q m c)
      ⊢ iprop(((ow c n ∗ own c (slot4 (agB d) (sl m) q) qq (Qv A d q (up d (m + 1) c)) ∗ OcB A d q (m + 1) c) -∗ WP c (kk ⟨⟩) Q)
        -∗ WP c (.op (.load Mg (Rect.unit (s := S2x2x512x512) o0 S1x1x512x512.size i0).toLoadRect l0) fun v =>
            .op (.waitDma2 se A1 A2 wa1 wa2) fun _ =>
            .op (.load Mo (Rect.unit (s := S2x2x512x512) o1 S1x1x512x512.size i1).toLoadRect l1) fun _ =>
            .op (.store Mo (Rect.unit (s := S2x2x512x512) o1 S1x1x512x512.size i1) (pf v) Finset.univ hx hmm) fun _ =>
            .op (.enqueueDma ((Mo.slice (Rect.unit (s := S2x2x512x512) o1 S1x1x512x512.size i1) (fun _ => rfl)).squeeze S512x512 squeezes_S1x1x512x512_S512x512)
              (.here (outM.slice (Rect.unit (s := S4096x2048) o2 S512x512.size i2) (fun _ => rfl))) s1 w5 w6 hsem) kk) Q) := by
  subst hMg h0
  iintro ⟨#Hctx, Ho, HM, HB⟩ Hk
  iapply (ld_slot4 (M := agB d) (a := sl m) (b := q)) $$ HM
  iintro HM
  iapply (ocpWait A d q m n (by omega) hA2 hs0 hn) $$ [Ho HB]
  · isplitr; · iexact Hctx
    isplitl [Ho] <;> iassumption
  iintro ⟨Ho, HI, HO⟩
  iapply (ocpStart A d q (m + 1) (by omega) hMo h1 h2 (by rw [hw]; rfl) hs hN) $$ [HO HI]
  · isplitr; · iexact Hctx
    isplitl [HO] <;> iassumption
  iintro HB
  iapply Hk
  isplitl [Ho]; · iexact Ho
  isplitl [HM] <;> iassumption

/-- The block sent on has left: its slot is credited. -/
theorem agSent {se : DmaSem sig} {sem : Sem sig} {cn : Dev nD} {sp sp' : Space} {s s' : Shape} {e e' : EltTy} {A1 : Memref sig .tc sp' s' e'} {A2 : Memref sig .tc sp s e}
    {wa1 : A1.view.WordExact} {wa2 : A2.view.WordExact}
    (d q : Fin 2) (m n : ℕ) (hm : m < 5) (i : ℕ) (hi : i = 2 * m + q.val) (hA2 : A2.view.dmaCredit = NG) (hs1 : semOf (.gs d (sl (m + 1)) q) = .dma se) (hn : n ≤ 105)
    (hev : evs[n]? = some (.crd 1 d q (m + 1))) (hcn : cn = src d c) (hs : semOf (.gc d) = .reg sem)
    {kk : PUnit → Prog (TpuEff nD τ sig (Elt F) Λ₀ .tc) α} :
    iprop(ctx A K Ks ∗ ow c n ∗ MidG d q m c ∗ own c (slot4 (agB d) (sl m) q) fullShare.right (Qv A d q (up d (m + 1) c)) ∗ RdrR 1 d q m c ∗ DirS 1 d i c)
      ⊢ iprop(((ow c (n + 1) ∗ LaneG d q (m + 1) c ∗ RdrR 1 d q (m + 1) c ∗ DirS 1 d (i + 1) c) -∗ WP c (kk ⟨⟩) Q)
        -∗ WP c (.op (.waitDma2 se A1 A2 wa1 wa2) fun _ => .op (.semSignal (Dev.tc cn : Thread nD τ) sem 1) kk) Q) := by
  subst hi
  have hq := q.isLt
  unfold MidG LaneG RdrR
  iintro ⟨#Hctx, Ho, ⟨Hcs, Hts, HP, HP', Hd, HS, HS'⟩, HM, ⟨Hrd, Hrd'⟩, HD⟩ Hk
  iapply (sentL A 1 d q (m + 1) n (by omega) hn hs1 hA2) $$ [Hd HS Ho]
  · isplitr; · iexact Hctx
    isplitl [Hd]; · iexact Hd
    isplitl [HS] <;> iassumption
  iintro ⟨Ho, HS, Hpay⟩
  ihave Hpay := (Entails.of_eq (pay_gs A d q m c)) $$ Hpay
  ihave HM := own_join $$ [Hpay HM]; · isplitl [Hpay] <;> iassumption
  imod (release1 A 1 d q m) $$ [Hrd HM HP'] with ⟨Hrd, Hrel, HP'⟩
  · isplitr; · iexact Hctx
    isplitl [Hrd]; · iexact Hrd
    isplitl [HM]; · rw [slotOf1]; iapply own_any; iexact HM
    iexact HP'
  iapply (sigc A 1 d q (m + 1) n (2 * m + q.val) hev hcn hs (by omega)) $$ [Ho HD Hrel]
  · isplitr; · iexact Hctx
    isplitl [Ho]; · iexact Ho
    isplitl [HD] <;> iassumption
  iintro ⟨Ho, HD⟩
  iapply Hk
  isplitl [Ho]; · iexact Ho
  isplitl [Hcs Hts HP HP' HS HS']
  · isplitl [Hcs]; · iexact Hcs
    isplitl [Hts]; · iexact Hts
    isplitl [HP]; · iexact HP
    isplitl [HP']; · iexact HP'
    isplitl [HS'] <;> iassumption
  isplitl [Hrd Hrd']
  · isplitl [Hrd'] <;> iassumption
  iexact HD

/-- The last block sent on has left. -/
theorem agSent5 {se : DmaSem sig} {sp sp' : Space} {s s' : Shape} {e e' : EltTy} {A1 : Memref sig .tc sp' s' e'} {A2 : Memref sig .tc sp s e}
    {wa1 : A1.view.WordExact} {wa2 : A2.view.WordExact}
    (d q : Fin 2) (n : ℕ) (hA2 : A2.view.dmaCredit = NG) (hs1 : semOf (.gs d 0 q) = .dma se) (hn : n ≤ 105)
    {kk : PUnit → Prog (TpuEff nD τ sig (Elt F) Λ₀ .tc) α} :
    iprop(ctx A K Ks ∗ ow c n ∗ MidG d q 5 c ∗ own c (slot4 (agB d) (sl 5) q) fullShare.right (Qv A d q (up d (5 + 1) c)))
      ⊢ iprop(((ow c n ∗ LaneG d q 6 c ∗ anyAt c (slot4 (agB d) 1 q)) -∗ WP c (kk ⟨⟩) Q)
        -∗ WP c (.op (.waitDma2 se A1 A2 wa1 wa2) kk) Q) := by
  unfold MidG LaneG
  iintro ⟨#Hctx, Ho, ⟨Hcs, Hts, HP, HP', Hd, HS, HS'⟩, HM⟩ Hk
  iapply (sentL A 1 d q (5 + 1) n (by omega) hn hs1 hA2) $$ [Hd HS Ho]
  · isplitr; · iexact Hctx
    isplitl [Hd]; · iexact Hd
    isplitl [HS] <;> iassumption
  iintro ⟨Ho, HS, Hpay⟩
  ihave Hpay := (Entails.of_eq (pay_gs A d q 5 c)) $$ Hpay
  ihave HM := own_join $$ [Hpay HM]; · isplitl [Hpay] <;> iassumption
  iapply Hk
  isplitl [Ho]; · iexact Ho
  isplitl [Hcs Hts HP HP' HS HS']
  · isplitl [Hcs]; · iexact Hcs
    isplitl [Hts]; · iexact Hts
    isplitl [HP]; · iexact HP
    isplitl [HP']; · iexact HP'
    isplitl [HS'] <;> iassumption
  iapply own_any; iexact HM

/-- The last block received. -/
theorem agLast {se : DmaSem sig} {sp sp' : Space} {s s' : Shape} {e e' : EltTy} {A1 : Memref sig .tc sp' s' e'} {A2 : Memref sig .tc sp s e}
    {wa1 : A1.view.WordExact} {wa2 : A2.view.WordExact}
    (d q : Fin 2) (n : ℕ) (hA2 : A2.view.dmaCredit = NG) (hs1 : semOf (.gr d 0 q) = .dma se) (hn : n ≤ 105) (hι : ix (en (.send 1 d q 6)) ≤ n)
    {kk : PUnit → Prog (TpuEff nD τ sig (Elt F) Λ₀ .tc) α} :
    iprop(ctx A K Ks ∗ ow c n ∗ LaneG d q 6 c)
      ⊢ iprop(((ow c n ∗ (Pr 1 d q 7 c ∗ Pr 1 d q 8 c ∗ Ps 1 d q 7 c ∗ Ps 1 d q 8 c)
          ∗ own c (slot4 (agB d) (sl 6) q) fullShare (Qv A d q (up d (6 + 1) c))) -∗ WP c (kk ⟨⟩) Q)
        -∗ WP c (.op (.waitDma2 se A1 A2 wa1 wa2) kk) Q) := by
  unfold LaneG
  rw [pop (f := fun i => crE c (.send 1 d q i)) (by omega : 6 < 7)]
  iintro ⟨#Hctx, Ho, ⟨Hc, -⟩, -, HP, HP', HS, HS'⟩ Hk
  iapply (recvL A 1 d q 6 n (by omega) hι hn hs1 hA2) $$ [Hc HP Ho]
  · isplitr; · iexact Hctx
    isplitl [Hc]; · iexact Hc
    isplitl [HP] <;> iassumption
  iintro ⟨Ho, HP, Hpay⟩
  ihave Hpay := (Entails.of_eq (pay_gr A d q 6 c)) $$ Hpay
  iapply Hk
  isplitl [Ho]; · iexact Ho
  isplitr [Hpay]
  · isplitl [HP']; · iexact HP'
    isplitl [HP]; · iexact HP
    isplitl [HS] <;> iassumption
  iexact Hpay

/-! ## The exchange of the maxima, with the offset a numeral -/

theorem axSend' {o1 : Fin 3 → ℕ} {i1 : ∀ a, o1 a + S1x8x128.size a ≤ S8x8x128.size a} {cn : Dev nD} {s1 s2 : SemLoc sig}
    {hsc : ((amM.slice (Rect.unit (s := S8x8x128) o1 S1x8x128.size i1) (fun _ => rfl)) : Memref sig (Dev.tc cn : Thread nD τ).2.kind .vmem S1x8x128 .f32).view.ref.isScScratch = false}
    {w5 w6 : (amM.slice (Rect.unit (s := S8x8x128) o1 S1x8x128.size i1) (fun _ => rfl)).view.WordExact}
    {hsem : DmaTarget.Typed .vmem s2 (.remote (Dev.tc cn : Thread nD τ) ((amM.slice (Rect.unit (s := S8x8x128) o1 S1x8x128.size i1) (fun _ => rfl)) : Memref sig (Dev.tc cn : Thread nD τ).2.kind .vmem S1x8x128 .f32) s1 hsc)}
    (o : Fin 7) (k : ℕ) (hk : o.val = k) (n : ℕ) (h1 : o1 = ![(pm c).val, 0, 0]) (hev : evs[n]? = some (.ax o)) (hcn : cn = sh (k + 1) c)
    (hS : semOf (.axs o) = s1) (hR : semOf (.axr o) = s2) (hN : (amM.slice (Rect.unit (s := S8x8x128) o1 S1x8x128.size i1) (fun _ => rfl)).view.amount s2 = NA)
    {kk : PUnit → Prog (TpuEff nD τ sig (Elt F) Λ₀ .tc) α} :
    iprop(ctx A K Ks ∗ ow c n ∗ own c (rowM (pm c)) (qs k) (lrow A c) ∗ keep 0 0 (6 - k + 1) c ∗ tk c (.axs o) 0 0 ∗ tk (sh (k + 1) c) (.axr o) 0 0)
      ⊢ iprop(((ow c (n + 1) ∗ own c (rowM (pm c)) (qs (k + 1)) (lrow A c) ∗ keep 0 0 (6 - k) c ∗ cr0 c (.axs o)) -∗ WP c (kk ⟨⟩) Q)
        -∗ WP c (.op (.enqueueDma (amM.slice (Rect.unit (s := S8x8x128) o1 S1x8x128.size i1) (fun _ => rfl))
            (.remote (Dev.tc cn : Thread nD τ) (amM.slice (Rect.unit (s := S8x8x128) o1 S1x8x128.size i1) (fun _ => rfl)) s1 hsc) s2 w5 w6 hsem) kk) Q) := by
  subst hk
  exact axSend A o n h1 hev hcn hS hR hN

theorem axRecv' {sem : DmaSem sig} {sp sp' : Space} {s s' : Shape} {e e' : EltTy} {M : Memref sig .tc sp' s' e'} {M' : Memref sig .tc sp s e}
    {h1 : M.view.WordExact} {h2 : M'.view.WordExact} (o : Fin 7) (k : ℕ) (hk : o.val = k) (n : ℕ) (hι : ix (en (.ax o)) ≤ n) (hn : n ≤ 105)
    (hs : semOf (.axr o) = .dma sem) (hN : M'.view.dmaCredit = NA) {kk : PUnit → Prog (TpuEff nD τ sig (Elt F) Λ₀ .tc) α} :
    iprop(ctx A K Ks ∗ ow c n ∗ crE c (.ax o) ∗ at' c (.axr o) 0)
      ⊢ iprop(((ow c n ∗ at' c (.axr o) 1 ∗ own c (rowM (pm (sh (7 - k) c))) fullShare (lrow A (sh (7 - k) c))) -∗ WP c (kk ⟨⟩) Q)
        -∗ WP c (.op (.waitDma2 sem M M' h1 h2) kk) Q) := by
  subst hk
  exact axRecv A o n hι hn hs hN

theorem axSent' {sem : DmaSem sig} {sp sp' : Space} {s s' : Shape} {e e' : EltTy} {M : Memref sig .tc sp' s' e'} {M' : Memref sig .tc sp s e}
    {h1 : M.view.WordExact} {h2 : M'.view.WordExact} (o : Fin 7) (k : ℕ) (hk : o.val = k) (n : ℕ) (hn : n ≤ 105)
    (hs : semOf (.axs o) = .dma sem) (hN : M'.view.dmaCredit = NA) {kk : PUnit → Prog (TpuEff nD τ sig (Elt F) Λ₀ .tc) α} :
    iprop(ctx A K Ks ∗ ow c n ∗ cr0 c (.axs o) ∗ at' c (.axs o) 0)
      ⊢ iprop(((ow c n ∗ at' c (.axs o) 1 ∗ own c (rowM (pm c)) (qs k).left (lrow A c)) -∗ WP c (kk ⟨⟩) Q)
        -∗ WP c (.op (.waitDma2 sem M M' h1 h2) kk) Q) := by
  subst hk
  exact axSent A o n hn hs hN

end Cert.KernelIdeal.Ring
-- ==== Proof.Whole.lean ====
/-
# The cells by kind and the buffers as wholes
-/
module

public import proofs.«01_k».proof.Proof.Steps6
public import proofs.«01_k».proof.Proof.Blocks

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {c : Dev nD} {K : Dev nD × CK → ℕ} {Ks : Key → ℕ}

/-! ## The cells by kind -/

omit [FloatOps F] in
/-- The cells of a device, one kind after the other. -/
theorem ck_split (f : CK → sProp (MT nD τ sig ℕ (Elt F) ℕ UU ℕ)) : bigSep Finset.univ f
    = iprop(f .bar ∗ (bigSep Finset.univ fun x : Fin 2 × Fin 2 × Fin 2 => iprop(f (rcv x.1 x.2.1 0 x.2.2) ∗ f (rcv x.1 x.2.1 1 x.2.2)
        ∗ f (snt x.1 x.2.1 0 x.2.2) ∗ f (snt x.1 x.2.1 1 x.2.2)))
      ∗ (bigSep Finset.univ fun o : Fin 7 => iprop(f (.axs o) ∗ f (.axr o)))
      ∗ (bigSep Finset.univ fun x : Fin 2 × Fin 2 => f (crdK x.1 x.2)) ∗ bigSep Finset.univ fun x : Fin 2 × Fin 2 => f (.ocp x.1 x.2)) := by
  have hu : (Finset.univ : Finset CK) = {CK.bar} ∪ ((Finset.univ.biUnion fun x : Fin 2 × Fin 2 × Fin 2 =>
        ({rcv x.1 x.2.1 0 x.2.2, rcv x.1 x.2.1 1 x.2.2, snt x.1 x.2.1 0 x.2.2, snt x.1 x.2.1 1 x.2.2} : Finset CK))
      ∪ ((Finset.univ.biUnion fun o : Fin 7 => ({CK.axs o, CK.axr o} : Finset CK))
      ∪ ((Finset.univ.biUnion fun x : Fin 2 × Fin 2 => ({crdK x.1 x.2} : Finset CK))
      ∪ (Finset.univ.biUnion fun x : Fin 2 × Fin 2 => ({CK.ocp x.1 x.2} : Finset CK))))) := by decide +kernel
  rw [hu, bigSep_union (by decide +kernel), bigSep_union (by decide +kernel), bigSep_union (by decide +kernel), bigSep_union (by decide +kernel),
    bigSep_biUnion_eq _ _ _ (by decide +kernel), bigSep_biUnion_eq _ _ _ (by decide +kernel), bigSep_biUnion_eq _ _ _ (by decide +kernel), bigSep_biUnion_eq _ _ _ (by decide +kernel),
    bs_one, bs_congr (s := (Finset.univ : Finset (Fin 2 × Fin 2 × Fin 2))) (g := fun x => iprop(f (rcv x.1 x.2.1 0 x.2.2) ∗ f (rcv x.1 x.2.1 1 x.2.2)
        ∗ f (snt x.1 x.2.1 0 x.2.2) ∗ f (snt x.1 x.2.1 1 x.2.2))) (fun x _ => by
      have h : ∀ x : Fin 2 × Fin 2 × Fin 2, rcv x.1 x.2.1 0 x.2.2 ∉ ({rcv x.1 x.2.1 1 x.2.2, snt x.1 x.2.1 0 x.2.2, snt x.1 x.2.1 1 x.2.2} : Finset CK)
        ∧ rcv x.1 x.2.1 1 x.2.2 ∉ ({snt x.1 x.2.1 0 x.2.2, snt x.1 x.2.1 1 x.2.2} : Finset CK)
        ∧ snt x.1 x.2.1 0 x.2.2 ∉ ({snt x.1 x.2.1 1 x.2.2} : Finset CK) := by decide +kernel
      rw [bs_insert (h x).1, bs_insert (h x).2.1, bs_insert (h x).2.2, bs_one]),
    bs_congr (s := (Finset.univ : Finset (Fin 7))) (g := fun o => iprop(f (.axs o) ∗ f (.axr o))) (fun o _ => by
      have h : ∀ o : Fin 7, CK.axs o ∉ ({CK.axr o} : Finset CK) := by decide +kernel
      rw [bs_insert (h o), bs_one]),
    bs_congr (s := (Finset.univ : Finset (Fin 2 × Fin 2))) (g := fun x => f (crdK x.1 x.2)) (fun x _ => by rw [bs_one]),
    bs_congr (s := (Finset.univ : Finset (Fin 2 × Fin 2))) (f := fun x => bigSep {CK.ocp x.1 x.2} f) (g := fun x => f (.ocp x.1 x.2)) (fun x _ => by rw [bs_one])]
  rfl

omit [FloatOps F] in
theorem l8 (g : Fin 2 × Fin 2 × Fin 2 → sProp (MT nD τ sig ℕ (Elt F) ℕ UU ℕ)) : bigSep Finset.univ g
    = iprop(g (0, 0, 0) ∗ g (0, 1, 0) ∗ g (0, 0, 1) ∗ g (0, 1, 1) ∗ g (1, 0, 0) ∗ g (1, 1, 0) ∗ g (1, 0, 1) ∗ g (1, 1, 1)) :=
  bigSep_univ_eq_bigSepL [(0, 0, 0), (0, 1, 0), (0, 0, 1), (0, 1, 1), (1, 0, 0), (1, 1, 0), (1, 0, 1), (1, 1, 1)] (by decide) (by decide) g
omit [FloatOps F] in
theorem l7 (g : Fin 7 → sProp (MT nD τ sig ℕ (Elt F) ℕ UU ℕ)) : bigSep Finset.univ g = iprop(g 0 ∗ g 1 ∗ g 2 ∗ g 3 ∗ g 4 ∗ g 5 ∗ g 6) :=
  bigSep_univ_eq_bigSepL [0, 1, 2, 3, 4, 5, 6] (by decide) (by decide) g
omit [FloatOps F] in
theorem f8 (g : Fin 8 → sProp (MT nD τ sig ℕ (Elt F) ℕ UU ℕ)) : bigSep Finset.univ g = iprop(g 0 ∗ g 1 ∗ g 2 ∗ g 3 ∗ g 4 ∗ g 5 ∗ g 6 ∗ g 7) :=
  bigSep_univ_eq_bigSepL [0, 1, 2, 3, 4, 5, 6, 7] (by decide) (by decide) g
omit [FloatOps F] in
theorem l4 (g : Fin 2 × Fin 2 → sProp (MT nD τ sig ℕ (Elt F) ℕ UU ℕ)) : bigSep Finset.univ g = iprop(g (0, 0) ∗ g (0, 1) ∗ g (1, 0) ∗ g (1, 1)) :=
  bigSep_univ_eq_bigSepL [(0, 0), (0, 1), (1, 0), (1, 1)] (by decide) (by decide) g
omit [FloatOps F] in
theorem l2 (g : Fin 2 → sProp (MT nD τ sig ℕ (Elt F) ℕ UU ℕ)) : bigSep Finset.univ g = iprop(g 0 ∗ g 1) :=
  bigSep_univ_eq_bigSepL [0, 1] (by decide) (by decide) g

/-! ## Closing the cells -/

/-- The round after a cell's last. -/
def fin : CK → ℕ
  | .rr _ σ _ | .rs _ σ _ | .gr _ σ _ | .gs _ σ _ => rnds σ
  | .ocp _ _ => 8
  | _ => 1
theorem dut_fin (k : CK) (r : ℕ) (h : fin k ≤ r) : dut k r = ∅ := by
  cases k <;> simp only [fin] at h <;> simp only [dut] <;> exact if_neg (by omega)
theorem fin_rcv (ph d σ q : Fin 2) : fin (rcv ph d σ q) = rnds σ := by unfold rcv; split <;> rfl
theorem fin_snt (ph d σ q : Fin 2) : fin (snt ph d σ q) = rnds σ := by unfold snt; split <;> rfl
theorem fin_crd (ph d : Fin 2) : fin (crdK ph d) = 1 := by unfold crdK; split <;> rfl

theorem close1 (k : CK) : iprop(ctx A K Ks ∗ at' c k (fin k)) ⊢ |={Set.univ}=> semVal (cell c k) 0 := by
  iintro ⟨#H, Ha⟩
  iapply (Rounds.cell_close ER (Rd A) (Set.mem_univ (K (c, k))) (fun h => h) (R := fin k) (fun r hr => by rw [Rd_duties]; exact dut_fin k r hr))
  isplitr
  · iapply (ctx_inv A c k); iexact H
  iexact Ha

theorem close_all : iprop(ctx A K Ks ∗ bigSep Finset.univ fun k => at' c k (fin k)) ⊢ |={Set.univ}=> bigSep Finset.univ fun k => semVal (cell c k) 0 :=
  BIBase.Entails.trans (bigSep_with_persistent (Ψ := fun k => iprop(|={Set.univ}=> semVal (cell c k) 0)) fun k _ => close1 A k) (bigSep_fupd _ _)

/-- A credit cell whose ten units have come. -/
theorem crd_end (ph d : Fin 2) : iprop(ctx A K Ks ∗ DirW ph d 10 c) ⊢ |={Set.univ}=> at' c (crdK ph d) (fin (crdK ph d)) := by
  unfold DirW
  iintro ⟨#H, ⟨%T, %hT, Ha, -⟩, -⟩
  have hT' : T = Finset.range 10 := Finset.eq_of_subset_of_card_le hT.1 (by rw [Finset.card_range]; exact hT.2)
  subst hT'
  rw [fin_crd]
  imod (Rounds.fupd_skip ER (Rd A) (κ := K (c, crdK ph d)) (g := cell c (crdK ph d)) (R := 0) (m := 10) (T := Finset.range 10) (by rw [Rd_duties, dut_crdK])
    (by rw [Rd_expect, dut_crdK, amt_crdK]; rfl) (Set.mem_univ _)) $$ [Ha] with ⟨H1, -⟩
  · isplitr
    · iapply (ctx_inv A c (crdK ph d)); iexact H
    iexact Ha
  imodintro
  iexact H1

omit [FloatOps F] in
/-- A lane's four cells at their ends. -/
theorem lane_end (ph d q : Fin 2) : (iprop(Pr ph d q 7 c ∗ Pr ph d q 8 c ∗ Ps ph d q 7 c ∗ Ps ph d q 8 c) : sProp 𝕄)
    ⊢ iprop(at' c (rcv ph d 0 q) (fin (rcv ph d 0 q)) ∗ at' c (rcv ph d 1 q) (fin (rcv ph d 1 q)) ∗ at' c (snt ph d 0 q) (fin (snt ph d 0 q)) ∗ at' c (snt ph d 1 q) (fin (snt ph d 1 q))) := by
  rw [fin_rcv, fin_rcv, fin_snt, fin_snt]
  unfold Pr Ps
  iintro ⟨⟨H1, -⟩, ⟨H2, -⟩, ⟨H3, -⟩, ⟨H4, -⟩⟩
  isplitl [H2]; · iexact H2
  isplitl [H1]; · iexact H1
  isplitl [H4]; · iexact H4
  iexact H3

/-! ## Whole buffers -/

omit [FloatOps F] in
theorem any_slot4 {e : EltTy} (M : Memref sig .tc .vmem S2x2x512x512 e) (a b : Fin 2) :
    (anyAt c (slot4 M a b) : sProp 𝕄) = anyAt c (M.slice (rect4 a b) (fun _ => rfl)) := by
  refine sep_eq ?_ ?_
  · unfold anyAt; iintro ⟨%X, H⟩; iexists (un4 X); iapply (Entails.of_eq (own_slot4 M a b fullShare X)); iexact H
  · unfold anyAt; iintro ⟨%X, H⟩; iexists (sq4 X); iapply (Entails.of_eq (own_slot4 M a b fullShare (sq4 X)).symm); rw [un4_sq4]; iexact H
omit [FloatOps F] in
theorem any_slot3 {e : EltTy} (M : Memref sig .tc .vmem S2x512x512 e) (a : Fin 2) :
    (anyAt c (slot3 M a) : sProp 𝕄) = anyAt c (M.slice (rect3 a) (fun _ => rfl)) := by
  refine sep_eq ?_ ?_
  · unfold anyAt; iintro ⟨%X, H⟩; iexists (un3 X); iapply (Entails.of_eq (own_slot3 M a fullShare X)); iexact H
  · unfold anyAt; iintro ⟨%X, H⟩; iexists (sq3 X); iapply (Entails.of_eq (own_slot3 M a fullShare (sq3 X)).symm); rw [un3_sq3]; iexact H

theorem four {e : EltTy} (M : Memref sig .tc .vmem S2x2x512x512 e) : (anyAt c M : sProp 𝕄)
    = iprop(anyAt c (slot4 M 0 0) ∗ anyAt c (slot4 M 0 1) ∗ anyAt c (slot4 M 1 0) ∗ anyAt c (slot4 M 1 1)) := by
  rw [any_slot4, any_slot4, any_slot4, any_slot4, ← l4 fun t => anyAt c (M.slice (rect4 t.1 t.2) (fun _ => rfl))]
  exact sep_eq (any_split (hr := fun _ _ => rfl) s4_d s4_c) (any_join (hr := fun _ _ => rfl) s4_d s4_c)
theorem two {e : EltTy} (M : Memref sig .tc .vmem S2x512x512 e) : (anyAt c M : sProp 𝕄) = iprop(anyAt c (slot3 M 0) ∗ anyAt c (slot3 M 1)) := by
  rw [any_slot3, any_slot3, ← l2 fun t => anyAt c (M.slice (rect3 t) (fun _ => rfl))]
  exact sep_eq (any_split (hr := fun _ _ => rfl) s3_d s3_c) (any_join (hr := fun _ _ => rfl) s3_d s3_c)
theorem eight : (anyAt c partM : sProp 𝕄) = iprop(anyAt c (chunkM 0) ∗ anyAt c (chunkM 1) ∗ anyAt c (chunkM 2) ∗ anyAt c (chunkM 3)
    ∗ anyAt c (chunkM 4) ∗ anyAt c (chunkM 5) ∗ anyAt c (chunkM 6) ∗ anyAt c (chunkM 7)) := by
  rw [← f8 fun t => anyAt c (chunkM t)]
  exact sep_eq (any_split (hr := fun _ _ => rfl) chunk_d chunk_c) (any_join (hr := fun _ _ => rfl) chunk_d chunk_c)

omit [FloatOps F] in
theorem owns_whole_eq (c : Dev nD) (b : Ref sig .tc) (q : PosShare TreeShare) (X : b.ty.Contents (Elt F)) :
    (owns (Ix := ℕ) (Name := ℕ) (U := UU) (Lvl := ℕ) (c : Thread nD τ) (Memref.whole b) q X : sProp 𝕄)
      = iprop(∃ f : Buf (Elt F) (((c : Dev nD) : Thread nD τ).loc b), ⌜f = X⌝ ∗ (((c : Thread nD τ).loc b) ↦{q} f)) := by
  unfold owns; simp only [Memref.view_whole, View.read_whole, View.set_whole]

omit [FloatOps F] in
theorem any_whole (c : Dev nD) (b : Ref sig .tc) : (anyAt c (Memref.whole b) : sProp 𝕄)
    = iprop(∃ f : Buf (Elt F) (((c : Dev nD) : Thread nD τ).loc b), ((c : Thread nD τ).loc b) ↦{fullShare} f) := by
  unfold anyAt
  refine sep_eq ?_ ?_
  · iintro ⟨%X, H⟩
    ihave H := (Entails.of_eq (owns_whole_eq c b fullShare X)) $$ H
    icases H with ⟨%f, -, H⟩
    iexists f; iexact H
  · iintro ⟨%f, H⟩
    iexists f
    iapply (Entails.of_eq (owns_whole_eq c b fullShare f).symm)
    iexists f
    isplitr; · ipureintro; rfl
    iexact H

/-! ## The result -/

set_option backward.proofsInPublic true in
/-- The device whose block of direction `d` is row block `n` of the result. -/
def ownr (d : Fin 2) (n : Fin 8) : Dev nD := pm ⟨(n.val + (if d = 0 then 7 else 1)) % 8, Nat.mod_lt _ (by decide)⟩
theorem ownr_wn (d : Fin 2) (i : Fin 8) (c : Dev nD) : ownr d (wn d i.val c) = up d i.val c := by revert d i c; decide +kernel

set_option backward.proofsInPublic true in
/-- The whole result. -/
def res : Vec F S4096x2048 .bf16 := fun i =>
  deqB A (Qv A ⟨(i (1 : Fin 2)).val / 1024, by have h : (i (1 : Fin 2)).val < 2048 := (i (1 : Fin 2)).isLt; omega⟩
      ⟨(i (1 : Fin 2)).val % 1024 / 512, by omega⟩
      (ownr ⟨(i (1 : Fin 2)).val / 1024, by have h : (i (1 : Fin 2)).val < 2048 := (i (1 : Fin 2)).isLt; omega⟩
        ⟨(i (0 : Fin 2)).val / 512, by have h : (i (0 : Fin 2)).val < 4096 := (i (0 : Fin 2)).isLt; omega⟩))
    (fun a => ⟨(i a).val % 512, by fin_cases a <;> exact Nat.mod_lt _ (by decide)⟩)

theorem res_win (n : Fin 8) (d q : Fin 2) : (fun j => res A ((rectO n d q).emb j)) = deqB A (Qv A d q (ownr d n)) := by
  funext j
  have h0 : ((rectO n d q).emb j (0 : Fin 2)).val = 512 * n.val + 1 * (j (0 : Fin 2)).val := by rw [Rect.emb_apply]; rfl
  have h1 : ((rectO n d q).emb j (1 : Fin 2)).val = d.val * 1024 + q.val * 512 + 1 * (j (1 : Fin 2)).val := by rw [Rect.emb_apply]; rfl
  have g0 : (j (0 : Fin 2)).val < 512 := (j (0 : Fin 2)).isLt
  have g1 : (j (1 : Fin 2)).val < 512 := (j (1 : Fin 2)).isLt
  have hq := q.isLt
  have hd := d.isLt
  show deqB A (Qv A ⟨((rectO n d q).emb j (1 : Fin 2)).val / 1024, _⟩ ⟨((rectO n d q).emb j (1 : Fin 2)).val % 1024 / 512, _⟩
    (ownr ⟨((rectO n d q).emb j (1 : Fin 2)).val / 1024, _⟩ ⟨((rectO n d q).emb j (0 : Fin 2)).val / 512, _⟩)) (fun a => ⟨((rectO n d q).emb j a).val % 512, _⟩) = _
  have e1 : (⟨((rectO n d q).emb j (1 : Fin 2)).val / 1024, by rw [h1]; omega⟩ : Fin 2) = d := Fin.ext (by show _ / 1024 = _; rw [h1]; omega)
  have e2 : (⟨((rectO n d q).emb j (1 : Fin 2)).val % 1024 / 512, by rw [h1]; omega⟩ : Fin 2) = q := Fin.ext (by show _ % 1024 / 512 = _; rw [h1]; omega)
  have e3 : (⟨((rectO n d q).emb j (0 : Fin 2)).val / 512, by rw [h0]; omega⟩ : Fin 8) = n := Fin.ext (by show _ / 512 = _; rw [h0]; omega)
  rw [e1, e2, e3]
  refine congrArg _ (funext fun a => Fin.ext ?_)
  fin_cases a
  · show ((rectO n d q).emb j (0 : Fin 2)).val % 512 = (j (0 : Fin 2)).val; rw [h0]; omega
  · show ((rectO n d q).emb j (1 : Fin 2)).val % 512 = (j (1 : Fin 2)).val; rw [h1]; omega

/-- The windows in the order of the writes. -/
def wnE (d : Fin 2) (c : Dev nD) : Fin 8 ≃ Fin 8 := Equiv.ofBijective (fun i => wn d i.val c)
  ((Fintype.bijective_iff_injective_and_card _).mpr ⟨by revert d c; decide +kernel, rfl⟩)

omit [FloatOps F] in
theorem ico8 (f : ℕ → sProp (MT nD τ sig ℕ (Elt F) ℕ UU ℕ)) : bigSep (Finset.Ico 0 8) f = bigSep Finset.univ fun i : Fin 8 => f i.val := by
  have h : (Finset.Ico 0 8) = {0, 1, 2, 3, 4, 5, 6, 7} := by decide
  rw [f8, h, bs_insert (by decide), bs_insert (by decide), bs_insert (by decide), bs_insert (by decide), bs_insert (by decide), bs_insert (by decide), bs_insert (by decide), bs_one]
  rfl

theorem oc_end (d q : Fin 2) : OcI A d q 8 c ⊢ iprop(at' c (.ocp d q) 8 ∗ bigSep Finset.univ fun n : Fin 8 => own c (winM n d q) fullShare (fun j => res A ((rectO n d q).emb j))) := by
  unfold OcI
  have he : (bigSep (Finset.Ico 0 8) fun r => own c (winM (wn d r c) d q) fullShare (ost A d q r c) : sProp 𝕄)
      = bigSep Finset.univ fun n : Fin 8 => own c (winM n d q) fullShare (fun j => res A ((rectO n d q).emb j)) := by
    have h2 : ∀ n : Fin 8, (own c (winM n d q) fullShare (fun j => res A ((rectO n d q).emb j)) : sProp 𝕄) = own c (winM n d q) fullShare (deqB A (Qv A d q (ownr d n))) :=
      fun n => congrArg (own c (winM n d q) fullShare) (res_win A n d q)
    rw [bs_congr (fun n _ => h2 n), ico8, bigSep_univ_equiv (wnE d c) (fun n => own c (winM n d q) fullShare (deqB A (Qv A d q (ownr d n))))]
    refine bs_congr fun i _ => ?_
    have hw : wnE d c i = wn d i.val c := rfl
    rw [hw, ownr_wn]
    unfold ost
    rfl
  rw [he]
  iintro ⟨H, -, -, HW⟩
  isplitl [H] <;> iassumption

omit [FloatOps F] in
theorem by_lane (f : Fin 2 × Fin 2 × Fin 8 → sProp (MT nD τ sig ℕ (Elt F) ℕ UU ℕ)) :
    bigSep Finset.univ f = bigSep Finset.univ fun x : Fin 2 × Fin 2 => bigSep Finset.univ fun n : Fin 8 => f (x.1, x.2, n) := by
  rw [bigSep_univ_equiv (Equiv.prodAssoc (Fin 2) (Fin 2) (Fin 8)) f, bigSep_univ_prod (α := Fin 2 × Fin 2)]
  rfl

omit [FloatOps F] in
theorem any_out : (anyAt c outM : sProp 𝕄) ⊢ bigSep Finset.univ fun x : Fin 2 × Fin 2 => bigSep (Finset.Ico 0 8) fun r => anyAt c (winM (wn x.1 r c) x.1 x.2) := by
  have he : (bigSep Finset.univ fun x : Fin 2 × Fin 2 => bigSep (Finset.Ico 0 8) fun r => anyAt c (winM (wn x.1 r c) x.1 x.2) : sProp 𝕄)
      = bigSep Finset.univ fun t : Fin 2 × Fin 2 × Fin 8 => anyAt c (winM t.2.2 t.1 t.2.1) := by
    refine Eq.trans (bs_congr fun x _ => ?_) (by_lane fun t => anyAt c (winM t.2.2 t.1 t.2.1)).symm
    dsimp only
    rw [ico8, bigSep_univ_equiv (wnE x.1 c) (fun n => anyAt c (winM n x.1 x.2))]
    rfl
  exact BIBase.Entails.trans (any_split (r := fun t : Fin 2 × Fin 2 × Fin 8 => rectO t.2.2 t.1 t.2.1) (hr := fun _ _ => rfl) win_d win_c) (Entails.of_eq he.symm)

theorem out_join : (bigSep Finset.univ fun x : Fin 2 × Fin 2 => bigSep Finset.univ fun n : Fin 8 => own c (winM n x.1 x.2) fullShare (fun j => res A ((rectO n x.1 x.2).emb j)))
    ⊢ own c outM fullShare (res A) :=
  BIBase.Entails.trans (Entails.of_eq (by_lane fun t => own c (winM t.2.2 t.1 t.2.1) fullShare (fun j => res A ((rectO t.2.2 t.1 t.2.1).emb j))).symm)
    (owns_of_rects (c : Thread nD τ) outM fullShare (fun t : Fin 2 × Fin 2 × Fin 8 => rectO t.2.2 t.1 t.2.1) (fun _ _ => rfl) win_d win_c (res A))

end Cert.KernelIdeal.Ring
-- ==== Proof.Finish.lean ====
/-
# The end of a device's program
-/
module

public import proofs.«01_k».proof.Proof.Whole

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {c : Dev nD} {K : Dev nD × CK → ℕ} {Ks : Key → ℕ} {qw qx : PosShare TreeShare}

/-! ## What a device holds at the end -/

omit [FloatOps F] in
/-- All positions of a device, after the last rounds. -/
theorem ends_eq (c : Dev nD) : (bigSep Finset.univ fun k => at' c k (fin k) : sProp 𝕄)
    = iprop(at' c .bar 1
      ∗ ((at' c (rcv 0 0 0 0) (fin (rcv 0 0 0 0)) ∗ at' c (rcv 0 0 1 0) (fin (rcv 0 0 1 0)) ∗ at' c (snt 0 0 0 0) (fin (snt 0 0 0 0)) ∗ at' c (snt 0 0 1 0) (fin (snt 0 0 1 0))) ∗ (at' c (rcv 0 1 0 0) (fin (rcv 0 1 0 0)) ∗ at' c (rcv 0 1 1 0) (fin (rcv 0 1 1 0)) ∗ at' c (snt 0 1 0 0) (fin (snt 0 1 0 0)) ∗ at' c (snt 0 1 1 0) (fin (snt 0 1 1 0))) ∗ (at' c (rcv 0 0 0 1) (fin (rcv 0 0 0 1)) ∗ at' c (rcv 0 0 1 1) (fin (rcv 0 0 1 1)) ∗ at' c (snt 0 0 0 1) (fin (snt 0 0 0 1)) ∗ at' c (snt 0 0 1 1) (fin (snt 0 0 1 1))) ∗ (at' c (rcv 0 1 0 1) (fin (rcv 0 1 0 1)) ∗ at' c (rcv 0 1 1 1) (fin (rcv 0 1 1 1)) ∗ at' c (snt 0 1 0 1) (fin (snt 0 1 0 1)) ∗ at' c (snt 0 1 1 1) (fin (snt 0 1 1 1))) ∗ (at' c (rcv 1 0 0 0) (fin (rcv 1 0 0 0)) ∗ at' c (rcv 1 0 1 0) (fin (rcv 1 0 1 0)) ∗ at' c (snt 1 0 0 0) (fin (snt 1 0 0 0)) ∗ at' c (snt 1 0 1 0) (fin (snt 1 0 1 0))) ∗ (at' c (rcv 1 1 0 0) (fin (rcv 1 1 0 0)) ∗ at' c (rcv 1 1 1 0) (fin (rcv 1 1 1 0)) ∗ at' c (snt 1 1 0 0) (fin (snt 1 1 0 0)) ∗ at' c (snt 1 1 1 0) (fin (snt 1 1 1 0))) ∗ (at' c (rcv 1 0 0 1) (fin (rcv 1 0 0 1)) ∗ at' c (rcv 1 0 1 1) (fin (rcv 1 0 1 1)) ∗ at' c (snt 1 0 0 1) (fin (snt 1 0 0 1)) ∗ at' c (snt 1 0 1 1) (fin (snt 1 0 1 1))) ∗ (at' c (rcv 1 1 0 1) (fin (rcv 1 1 0 1)) ∗ at' c (rcv 1 1 1 1) (fin (rcv 1 1 1 1)) ∗ at' c (snt 1 1 0 1) (fin (snt 1 1 0 1)) ∗ at' c (snt 1 1 1 1) (fin (snt 1 1 1 1))))
      ∗ ((at' c (.axs 0) 1 ∗ at' c (.axr 0) 1) ∗ (at' c (.axs 1) 1 ∗ at' c (.axr 1) 1) ∗ (at' c (.axs 2) 1 ∗ at' c (.axr 2) 1) ∗ (at' c (.axs 3) 1 ∗ at' c (.axr 3) 1) ∗ (at' c (.axs 4) 1 ∗ at' c (.axr 4) 1) ∗ (at' c (.axs 5) 1 ∗ at' c (.axr 5) 1) ∗ (at' c (.axs 6) 1 ∗ at' c (.axr 6) 1))
      ∗ (at' c (crdK 0 0) (fin (crdK 0 0)) ∗ at' c (crdK 0 1) (fin (crdK 0 1)) ∗ at' c (crdK 1 0) (fin (crdK 1 0)) ∗ at' c (crdK 1 1) (fin (crdK 1 1)))
      ∗ (at' c (.ocp 0 0) 8 ∗ at' c (.ocp 0 1) 8 ∗ at' c (.ocp 1 0) 8 ∗ at' c (.ocp 1 1) 8)) := by
  rw [ck_split, l8, l7, l4, l4]
  rfl

set_option maxHeartbeats 4000000 in
/-- The end: the cells closed, the buffers whole, the result there. -/
theorem finish : iprop(ctx A K Ks ∗ (own c wM qw (A.w c) ∗ at' c .bar 1 ∗ own c (chunkM 0) fullShare (chunk A c 0) ∗ own c xM qx (A.x c) ∗ own c wbM fullShare (k0_pay1 (A.w c)) ∗ own c (chunkM 4) fullShare (chunk A c 4) ∗ RdrR 0 0 0 5 c ∗ RdrR 0 1 0 5 c ∗ RdrR 0 0 1 5 c ∗ own c (chunkM 5) fullShare (chunk A c 5) ∗ DirS 0 0 10 c ∗ RdrR 0 1 1 5 c ∗ own c (chunkM 3) fullShare (chunk A c 3) ∗ DirS 0 1 10 c ∗ anyAt c (slot4 (rsB 0) 1 0) ∗ anyAt c (slot4 (rsB 1) 1 0) ∗ anyAt c (slot4 (rsB 0) 1 1) ∗ own c (chunkM 6) fullShare (chunk A c 6) ∗ DirW 0 0 10 c ∗ anyAt c (slot4 (rsB 1) 1 1) ∗ own c (chunkM 2) fullShare (chunk A c 2) ∗ DirW 0 1 10 c ∗ (Pr 0 0 0 7 c ∗ Pr 0 0 0 8 c ∗ anyAt c (slot4 (rsB 0) 0 0)) ∗ (Pr 0 1 0 7 c ∗ Pr 0 1 0 8 c ∗ anyAt c (slot4 (rsB 1) 0 0)) ∗ keep 1 0 7 c ∗ (Pr 0 0 1 7 c ∗ Pr 0 0 1 8 c ∗ anyAt c (slot4 (rsB 0) 0 1)) ∗ keep 0 1 7 c ∗ own c (chunkM 7) fullShare (chunk A c 7) ∗ (Pr 0 1 1 7 c ∗ Pr 0 1 1 8 c ∗ anyAt c (slot4 (rsB 1) 0 1)) ∗ keep 1 1 7 c ∗ own c (chunkM 1) fullShare (chunk A c 1) ∗ keep 0 0 0 c ∗ Ps 0 0 0 7 c ∗ anyAt c (slot4 (sdB 0) 1 0) ∗ Ps 0 1 0 7 c ∗ anyAt c (slot4 (sdB 1) 1 0) ∗ Ps 0 0 1 7 c ∗ anyAt c (slot4 (sdB 0) 1 1) ∗ Ps 0 1 1 7 c ∗ anyAt c (slot4 (sdB 1) 1 1) ∗ Ps 0 0 0 8 c ∗ anyAt c (slot4 (sdB 0) 0 0) ∗ Ps 0 1 0 8 c ∗ anyAt c (slot4 (sdB 1) 0 0) ∗ Ps 0 0 1 8 c ∗ anyAt c (slot4 (sdB 0) 0 1) ∗ Ps 0 1 1 8 c ∗ anyAt c (slot4 (sdB 1) 0 1) ∗ at' c (.axr 0) 1 ∗ at' c (.axr 1) 1 ∗ at' c (.axr 2) 1 ∗ at' c (.axr 3) 1 ∗ at' c (.axr 4) 1 ∗ at' c (.axr 5) 1 ∗ at' c (.axr 6) 1 ∗ at' c (.axs 0) 1 ∗ at' c (.axs 1) 1 ∗ at' c (.axs 2) 1 ∗ at' c (.axs 3) 1 ∗ at' c (.axs 4) 1 ∗ at' c (.axs 5) 1 ∗ at' c (.axs 6) 1 ∗ anyAt c amM ∗ anyAt c (slot3 (qB 0) 0) ∗ anyAt c (slot3 (qB 1) 0) ∗ anyAt c (slot3 (qB 0) 1) ∗ anyAt c (slot3 (qB 1) 1) ∗ RdrR 1 0 0 5 c ∗ RdrR 1 1 0 5 c ∗ RdrR 1 0 1 5 c ∗ DirS 1 0 10 c ∗ RdrR 1 1 1 5 c ∗ DirS 1 1 10 c ∗ DirW 1 0 10 c ∗ DirW 1 1 10 c ∗ anyAt c (slot4 (agB 0) 1 0) ∗ anyAt c (slot4 (agB 1) 1 0) ∗ anyAt c (slot4 (agB 0) 1 1) ∗ anyAt c (slot4 (agB 1) 1 1) ∗ (Pr 1 0 0 7 c ∗ Pr 1 0 0 8 c ∗ Ps 1 0 0 7 c ∗ Ps 1 0 0 8 c) ∗ own c (slot4 (agB 0) (sl 6) 0) fullShare (Qv A 0 0 (up 0 7 c)) ∗ (Pr 1 1 0 7 c ∗ Pr 1 1 0 8 c ∗ Ps 1 1 0 7 c ∗ Ps 1 1 0 8 c) ∗ own c (slot4 (agB 1) (sl 6) 0) fullShare (Qv A 1 0 (up 1 7 c)) ∗ (Pr 1 0 1 7 c ∗ Pr 1 0 1 8 c ∗ Ps 1 0 1 7 c ∗ Ps 1 0 1 8 c) ∗ own c (slot4 (agB 0) (sl 6) 1) fullShare (Qv A 0 1 (up 0 7 c)) ∗ (Pr 1 1 1 7 c ∗ Pr 1 1 1 8 c ∗ Ps 1 1 1 7 c ∗ Ps 1 1 1 8 c) ∗ own c (slot4 (agB 1) (sl 6) 1) fullShare (Qv A 1 1 (up 1 7 c)) ∗ OcI A 0 0 8 c ∗ anyAt c (slot4 ostM 0 0) ∗ OcI A 1 0 8 c ∗ anyAt c (slot4 ostM 1 0) ∗ OcI A 0 1 8 c ∗ anyAt c (slot4 ostM 0 1) ∗ ow c 105 ∗ OcI A 1 1 8 c ∗ anyAt c (slot4 ostM 1 1))) ⊢ |={Set.univ}=>
    (ow c 105 ∗ own c xM qx (A.x c) ∗ own c wM qw (A.w c) ∗ (bigSep Finset.univ fun k => semVal (cell c k) 0)
      ∗ (anyAt c wbM ∗ anyAt c ostM ∗ anyAt c partM ∗ anyAt c (rsB 0) ∗ anyAt c (rsB 1) ∗ anyAt c (sdB 0) ∗ anyAt c (sdB 1) ∗ anyAt c (agB 0) ∗ anyAt c (agB 1) ∗ anyAt c (qB 0) ∗ anyAt c (qB 1) ∗ anyAt c amM) ∗ own c outM fullShare (res A)) := by
  iintro ⟨#Hctx, Hw, Hba, C0, Hx, Hwb, C4, Hq00, Hq10, Hq01, C5, HS0, Hq11, C3, HS1, Hr001, Hr101, Hr011, C6, HW0, Hr111, C2, HW1, HPr00, HPr10, Hkp10, HPr01, Hkp01, C7, HPr11, Hkp11, C1, Hkp00, HPs007, Hs001, HPs107, Hs101, HPs017, Hs011, HPs117, Hs111, HPs008, Hs000, HPs108, Hs100, HPs018, Hs010, HPs118, Hs110, Hxb0, Hxb1, Hxb2, Hxb3, Hxb4, Hxb5, Hxb6, Hxa0, Hxa1, Hxa2, Hxa3, Hxa4, Hxa5, Hxa6, Ham, Hqs00, Hqs10, Hqs01, Hqs11, Hgq00, Hgq10, Hgq01, HGS0, Hgq11, HGS1, HGW0, HGW1, Hg001, Hg101, Hg011, Hg111, G00, Hm00, G10, Hm10, G01, Hm01, G11, Hm11, Hoc00, Hos00, Hoc10, Hos10, Hoc01, Hos01, HO, Hoc11, Hos11⟩
  icases HPr00 with ⟨Ha00, Hb00, Hr000⟩
  ihave HL000 := (lane_end 0 0 0) $$ [Ha00 Hb00 HPs007 HPs008]
  · isplitl [Ha00]; · iexact Ha00
    isplitl [Hb00]; · iexact Hb00
    isplitl [HPs007]; · iexact HPs007
    iexact HPs008
  ihave HL100 := (lane_end 1 0 0) $$ [G00]
  · iexact G00
  ihave Ho00 := (oc_end A 0 0) $$ [Hoc00]
  · iexact Hoc00
  icases Ho00 with ⟨Hp00, Hv00⟩
  icases HPr10 with ⟨Ha10, Hb10, Hr100⟩
  ihave HL010 := (lane_end 0 1 0) $$ [Ha10 Hb10 HPs107 HPs108]
  · isplitl [Ha10]; · iexact Ha10
    isplitl [Hb10]; · iexact Hb10
    isplitl [HPs107]; · iexact HPs107
    iexact HPs108
  ihave HL110 := (lane_end 1 1 0) $$ [G10]
  · iexact G10
  ihave Ho10 := (oc_end A 1 0) $$ [Hoc10]
  · iexact Hoc10
  icases Ho10 with ⟨Hp10, Hv10⟩
  icases HPr01 with ⟨Ha01, Hb01, Hr010⟩
  ihave HL001 := (lane_end 0 0 1) $$ [Ha01 Hb01 HPs017 HPs018]
  · isplitl [Ha01]; · iexact Ha01
    isplitl [Hb01]; · iexact Hb01
    isplitl [HPs017]; · iexact HPs017
    iexact HPs018
  ihave HL101 := (lane_end 1 0 1) $$ [G01]
  · iexact G01
  ihave Ho01 := (oc_end A 0 1) $$ [Hoc01]
  · iexact Hoc01
  icases Ho01 with ⟨Hp01, Hv01⟩
  icases HPr11 with ⟨Ha11, Hb11, Hr110⟩
  ihave HL011 := (lane_end 0 1 1) $$ [Ha11 Hb11 HPs117 HPs118]
  · isplitl [Ha11]; · iexact Ha11
    isplitl [Hb11]; · iexact Hb11
    isplitl [HPs117]; · iexact HPs117
    iexact HPs118
  ihave HL111 := (lane_end 1 1 1) $$ [G11]
  · iexact G11
  ihave Ho11 := (oc_end A 1 1) $$ [Hoc11]
  · iexact Hoc11
  icases Ho11 with ⟨Hp11, Hv11⟩
  imod (crd_end A 0 0 (K := K) (Ks := Ks)) $$ [HW0] with HW0
  · isplitr; · iexact Hctx
    iexact HW0
  imod (crd_end A 0 1 (K := K) (Ks := Ks)) $$ [HW1] with HW1
  · isplitr; · iexact Hctx
    iexact HW1
  imod (crd_end A 1 0 (K := K) (Ks := Ks)) $$ [HGW0] with HGW0
  · isplitr; · iexact Hctx
    iexact HGW0
  imod (crd_end A 1 1 (K := K) (Ks := Ks)) $$ [HGW1] with HGW1
  · isplitr; · iexact Hctx
    iexact HGW1
  ihave HA := (Entails.of_eq (ends_eq c).symm) $$ [Hba HL000 HL010 HL001 HL011 HL100 HL110 HL101 HL111 Hxa0 Hxb0 Hxa1 Hxb1 Hxa2 Hxb2 Hxa3 Hxb3 Hxa4 Hxb4 Hxa5 Hxb5 Hxa6 Hxb6 HW0 HW1 HGW0 HGW1 Hp00 Hp01 Hp10 Hp11]
  · isplitl [Hba]
    · iexact Hba
    isplitl [HL000 HL010 HL001 HL011 HL100 HL110 HL101 HL111]
    · isplitl [HL000]
      · iexact HL000
      isplitl [HL010]
      · iexact HL010
      isplitl [HL001]
      · iexact HL001
      isplitl [HL011]
      · iexact HL011
      isplitl [HL100]
      · iexact HL100
      isplitl [HL110]
      · iexact HL110
      isplitl [HL101]
      · iexact HL101
      iexact HL111
    isplitl [Hxa0 Hxb0 Hxa1 Hxb1 Hxa2 Hxb2 Hxa3 Hxb3 Hxa4 Hxb4 Hxa5 Hxb5 Hxa6 Hxb6]
    · isplitl [Hxa0 Hxb0]
      · isplitl [Hxa0]
        · iexact Hxa0
        iexact Hxb0
      isplitl [Hxa1 Hxb1]
      · isplitl [Hxa1]
        · iexact Hxa1
        iexact Hxb1
      isplitl [Hxa2 Hxb2]
      · isplitl [Hxa2]
        · iexact Hxa2
        iexact Hxb2
      isplitl [Hxa3 Hxb3]
      · isplitl [Hxa3]
        · iexact Hxa3
        iexact Hxb3
      isplitl [Hxa4 Hxb4]
      · isplitl [Hxa4]
        · iexact Hxa4
        iexact Hxb4
      isplitl [Hxa5 Hxb5]
      · isplitl [Hxa5]
        · iexact Hxa5
        iexact Hxb5
      isplitl [Hxa6]
      · iexact Hxa6
      iexact Hxb6
    isplitl [HW0 HW1 HGW0 HGW1]
    · isplitl [HW0]
      · iexact HW0
      isplitl [HW1]
      · iexact HW1
      isplitl [HGW0]
      · iexact HGW0
      iexact HGW1
    isplitl [Hp00]
    · iexact Hp00
    isplitl [Hp01]
    · iexact Hp01
    isplitl [Hp10]
    · iexact Hp10
    iexact Hp11
  imod (close_all A (K := K) (Ks := Ks)) $$ [HA] with HA
  · isplitr; · iexact Hctx
    iexact HA
  ihave C0 := (own_any) $$ [C0]
  · iexact C0
  ihave C1 := (own_any) $$ [C1]
  · iexact C1
  ihave C2 := (own_any) $$ [C2]
  · iexact C2
  ihave C3 := (own_any) $$ [C3]
  · iexact C3
  ihave C4 := (own_any) $$ [C4]
  · iexact C4
  ihave C5 := (own_any) $$ [C5]
  · iexact C5
  ihave C6 := (own_any) $$ [C6]
  · iexact C6
  ihave C7 := (own_any) $$ [C7]
  · iexact C7
  ihave Hwb := (own_any) $$ [Hwb]
  · iexact Hwb
  ihave Hm00 := (own_any) $$ [Hm00]
  · iexact Hm00
  ihave Hm10 := (own_any) $$ [Hm10]
  · iexact Hm10
  ihave Hm01 := (own_any) $$ [Hm01]
  · iexact Hm01
  ihave Hm11 := (own_any) $$ [Hm11]
  · iexact Hm11
  ihave Bp := (Entails.of_eq (eight (F := F) (c := c)).symm) $$ [C0 C1 C2 C3 C4 C5 C6 C7]
  · isplitl [C0]
    · iexact C0
    isplitl [C1]
    · iexact C1
    isplitl [C2]
    · iexact C2
    isplitl [C3]
    · iexact C3
    isplitl [C4]
    · iexact C4
    isplitl [C5]
    · iexact C5
    isplitl [C6]
    · iexact C6
    iexact C7
  ihave Bo := (Entails.of_eq (four (F := F) (c := c) ostM).symm) $$ [Hos00 Hos01 Hos10 Hos11]
  · isplitl [Hos00]
    · iexact Hos00
    isplitl [Hos01]
    · iexact Hos01
    isplitl [Hos10]
    · iexact Hos10
    iexact Hos11
  ihave Br0 := (Entails.of_eq (four (F := F) (c := c) (rsB 0)).symm) $$ [Hr000 Hr010 Hr001 Hr011]
  · isplitl [Hr000]
    · iexact Hr000
    isplitl [Hr010]
    · iexact Hr010
    isplitl [Hr001]
    · iexact Hr001
    iexact Hr011
  ihave Br1 := (Entails.of_eq (four (F := F) (c := c) (rsB 1)).symm) $$ [Hr100 Hr110 Hr101 Hr111]
  · isplitl [Hr100]
    · iexact Hr100
    isplitl [Hr110]
    · iexact Hr110
    isplitl [Hr101]
    · iexact Hr101
    iexact Hr111
  ihave Bs0 := (Entails.of_eq (four (F := F) (c := c) (sdB 0)).symm) $$ [Hs000 Hs010 Hs001 Hs011]
  · isplitl [Hs000]
    · iexact Hs000
    isplitl [Hs010]
    · iexact Hs010
    isplitl [Hs001]
    · iexact Hs001
    iexact Hs011
  ihave Bs1 := (Entails.of_eq (four (F := F) (c := c) (sdB 1)).symm) $$ [Hs100 Hs110 Hs101 Hs111]
  · isplitl [Hs100]
    · iexact Hs100
    isplitl [Hs110]
    · iexact Hs110
    isplitl [Hs101]
    · iexact Hs101
    iexact Hs111
  ihave Bg0 := (Entails.of_eq (four (F := F) (c := c) (agB 0)).symm) $$ [Hm00 Hm01 Hg001 Hg011]
  · isplitl [Hm00]
    · iexact Hm00
    isplitl [Hm01]
    · iexact Hm01
    isplitl [Hg001]
    · iexact Hg001
    iexact Hg011
  ihave Bg1 := (Entails.of_eq (four (F := F) (c := c) (agB 1)).symm) $$ [Hm10 Hm11 Hg101 Hg111]
  · isplitl [Hm10]
    · iexact Hm10
    isplitl [Hm11]
    · iexact Hm11
    isplitl [Hg101]
    · iexact Hg101
    iexact Hg111
  ihave Bq0 := (Entails.of_eq (two (F := F) (c := c) (qB 0)).symm) $$ [Hqs00 Hqs01]
  · isplitl [Hqs00]
    · iexact Hqs00
    iexact Hqs01
  ihave Bq1 := (Entails.of_eq (two (F := F) (c := c) (qB 1)).symm) $$ [Hqs10 Hqs11]
  · isplitl [Hqs10]
    · iexact Hqs10
    iexact Hqs11
  ihave HV := (Entails.of_eq (l4 fun x : Fin 2 × Fin 2 => bigSep Finset.univ fun n : Fin 8 => own c (winM n x.1 x.2) fullShare (fun j => res A ((rectO n x.1 x.2).emb j))).symm) $$ [Hv00 Hv01 Hv10 Hv11]
  · isplitl [Hv00]
    · iexact Hv00
    isplitl [Hv01]
    · iexact Hv01
    isplitl [Hv10]
    · iexact Hv10
    iexact Hv11
  ihave HV := (out_join A) $$ HV
  imodintro
  isplitl [HO]
  · iexact HO
  isplitl [Hx]
  · iexact Hx
  isplitl [Hw]
  · iexact Hw
  isplitl [HA]
  · iexact HA
  isplitl [Hwb Bo Bp Br0 Br1 Bs0 Bs1 Bg0 Bg1 Bq0 Bq1 Ham]
  · isplitl [Hwb]
    · iexact Hwb
    isplitl [Bo]
    · iexact Bo
    isplitl [Bp]
    · iexact Bp
    isplitl [Br0]
    · iexact Br0
    isplitl [Br1]
    · iexact Br1
    isplitl [Bs0]
    · iexact Bs0
    isplitl [Bs1]
    · iexact Bs1
    isplitl [Bg0]
    · iexact Bg0
    isplitl [Bg1]
    · iexact Bg1
    isplitl [Bq0]
    · iexact Bq0
    isplitl [Bq1]
    · iexact Bq1
    iexact Ham
  iexact HV

end Cert.KernelIdeal.Ring
-- ==== Proof.Credits.lean ====
/-
# The rights to wait that the launch gives
-/
module

public import proofs.«01_k».proof.Proof.Steps6

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable {c : Dev nD}

/-! ## What the devices owe at launch, as each one's rights to wait -/

theorem evs_nodup : evs.Nodup := by decide +kernel
theorem en_at {n : ℕ} {e : Ev} {l : List Ev} (h : evs.drop n = e :: l) : en e = n := by
  have h1 : n < evs.length := by
    by_contra hn
    rw [List.drop_eq_nil_of_le (by omega)] at h
    cases h
  rw [List.drop_eq_getElem_cons h1] at h
  have h2 := (List.cons.inj h).1
  unfold en
  rw [← h2]
  exact evs_nodup.idxOf_getElem n h1

omit [FloatOps F] in
theorem creds_from (c : Dev nD) : ∀ (l : List Ev) (n : ℕ), evs.drop n = l →
    (Pipeline.launchCred (fun d => owedL d n l) c : sProp 𝕄) ⊢ bigSep l.toFinset (crE c)
  | [], n, _ => by
    rw [List.toFinset_nil, bs_none]
    exact Entails.of_eq (Pipeline.launchCred_zero c)
  | e :: l, n, h => by
    have hl : evs.drop (n + 1) = l := by rw [← List.drop_drop, h]; rfl
    have hn : (e :: l).Nodup := h ▸ evs_nodup.sublist (List.drop_sublist n evs)
    have he : e ∉ l.toFinset := fun h' => (List.nodup_cons.mp hn).1 (List.mem_toFinset.mp h')
    rw [List.toFinset_cons, bs_insert he]
    have h1 := Pipeline.launchCred_add (Val := Elt F) (Name := ℕ) (U := UU) (Lvl := ℕ) (fun d => owedL d (n + 1) l) (fun d => evTally d n e) c
    have h2 := Pipeline.launchCred_tallyAt (τ := τ) (Val := Elt F) (Name := ℕ) (U := UU) (Lvl := ℕ) (semOf (evK e)) (fun d => evD d e) (fun d => evS d e)
      (fun d => evD_evS d e) (fun d => evS_evD d e) (ix n) (amt (evK e)) c
    have h3 := creds_from c l (n + 1) hl
    iintro H
    ihave H := (Entails.of_eq (show Pipeline.launchCred (fun d => owedL d n (e :: l)) c = _ from h1)) $$ H
    icases H with ⟨H1, H2⟩
    isplitl [H2]
    · unfold crE
      rw [en_at h]
      iapply h2
      iexact H2
    · iapply h3; iexact H1

theorem evs_sets : evs.toFinset = {Ev.bar 0} ∪ ({Ev.bar 1}
    ∪ ((Finset.univ.biUnion fun x : Fin 2 × Fin 2 × Fin 2 => (Finset.Ico 0 7).biUnion fun i => ({Ev.send x.1 x.2.1 x.2.2 i} : Finset Ev))
    ∪ ((Finset.univ.biUnion fun x : Fin 2 × Fin 2 => (Finset.Ico 0 10).biUnion fun i => ({Ev.crd x.1 x.2 (sl i) (i / 2 + 1)} : Finset Ev))
    ∪ (Finset.univ.biUnion fun o : Fin 7 => ({Ev.ax o} : Finset Ev))))) := by decide +kernel

omit [FloatOps F] in
theorem creds (c : Dev nD) : (Pipeline.launchCred (fun d => owed d 0) c : sProp 𝕄)
    ⊢ iprop(cred (tallyAt (cell c .bar) 2 2)
      ∗ (bigSep Finset.univ fun x : Fin 2 × Fin 2 × Fin 2 => bigSep (Finset.Ico 0 7) fun i => crE c (.send x.1 x.2.1 x.2.2 i))
      ∗ (bigSep Finset.univ fun x : Fin 2 × Fin 2 => bigSep (Finset.Ico 0 10) fun i => crE c (.crd x.1 x.2 (sl i) (i / 2 + 1)))
      ∗ bigSep Finset.univ fun o : Fin 7 => crE c (.ax o)) := by
  refine BIBase.Entails.trans (creds_from c evs 0 rfl) ?_
  rw [evs_sets, bigSep_union (by decide +kernel), bigSep_union (by decide +kernel), bigSep_union (by decide +kernel), bigSep_union (by decide +kernel),
    bigSep_biUnion_eq _ _ _ (by decide +kernel), bigSep_biUnion_eq _ _ _ (by decide +kernel), bigSep_biUnion_eq _ _ _ (by decide +kernel), bs_one, bs_one,
    bs_congr (s := (Finset.univ : Finset (Fin 2 × Fin 2 × Fin 2))) (g := fun x => bigSep (Finset.Ico 0 7) fun i => crE (F := F) c (.send x.1 x.2.1 x.2.2 i)) (fun x _ => by
      rw [bigSep_biUnion_eq _ _ _ (by revert x; decide +kernel)]; exact bs_congr fun i _ => bs_one _ _),
    bs_congr (s := (Finset.univ : Finset (Fin 2 × Fin 2))) (g := fun x => bigSep (Finset.Ico 0 10) fun i => crE (F := F) c (.crd x.1 x.2 (sl i) (i / 2 + 1))) (fun x _ => by
      rw [bigSep_biUnion_eq _ _ _ (by revert x; decide +kernel)]; exact bs_congr fun i _ => bs_one _ _),
    bs_congr (s := (Finset.univ : Finset (Fin 7))) (g := fun o => crE (F := F) c (.ax o)) (fun o _ => bs_one _ _)]
  have hb : (iprop(crE c (.bar 0) ∗ crE c (.bar 1)) : sProp 𝕄) ⊢ cred (tallyAt (cell c .bar) 2 2) := by
    have h : (tallyAt (cell c .bar) 2 2 : CellTallies nD τ sig ℕ) = tallyAt (cell c .bar) 2 1 + tallyAt (cell c .bar) 2 1 := (tallyAt_add (nD := nD) (τ := τ) (sig := sig) (Ix := ℕ) (cell c .bar) 2 1 1).symm
    rw [h]
    exact (cred_add _ _).2
  show iprop(crE c (.bar 0) ∗ crE c (.bar 1)
      ∗ (bigSep Finset.univ fun x : Fin 2 × Fin 2 × Fin 2 => bigSep (Finset.Ico 0 7) fun i => crE c (.send x.1 x.2.1 x.2.2 i))
      ∗ (bigSep Finset.univ fun x : Fin 2 × Fin 2 => bigSep (Finset.Ico 0 10) fun i => crE c (.crd x.1 x.2 (sl i) (i / 2 + 1)))
      ∗ bigSep Finset.univ fun o : Fin 7 => crE c (.ax o)) ⊢ _
  iintro ⟨H0, H1, H2, H3, H4⟩
  isplitl [H0 H1]
  · iapply hb; isplitl [H0] <;> iassumption
  isplitl [H2]; · iexact H2
  isplitl [H3]; · iexact H3
  iexact H4

end Cert.KernelIdeal.Ring
-- ==== Proof.Deal.lean ====
/-
# The ghost state dealt to the devices
-/
module

public import proofs.«01_k».proof.Proof.Whole
public import proofs.«01_k».proof.Proof.Credits

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {c : Dev nD} {K : Dev nD × CK → ℕ} {Ks : Key → ℕ}

/-! ## The rights to pay, dealt to those who pay -/

/-- The rights to pay a cell. -/
def Tk (e : Dev nD) (k : CK) : sProp 𝕄 := bigSep (Finset.range 8) fun r => bigSep (dut k r) fun i => tk e k r i

/-- The rights a device has at the cells of one kind, its own or another's. -/
def PT (c : Dev nD) : CK → sProp 𝕄
  | .bar => iprop(tk (tgt 0 c) .bar 0 1 ∗ tk (tgt 1 c) .bar 0 0)
  | .rr d σ q => Tk (tgt d c) (.rr d σ q)
  | .gr d σ q => Tk (tgt d c) (.gr d σ q)
  | .rc d => Tk (src d c) (.rc d)
  | .gc d => Tk (src d c) (.gc d)
  | .axr o => Tk (sh (o.val + 1) c) (.axr o)
  | k => Tk c k

omit [FloatOps F] in
theorem emps {I : Type} [DecidableEq I] (s : Finset I) : (bigSep s (fun _ => iprop(emp)) : sProp 𝕄) = iprop(emp) := by
  induction s using Finset.induction_on with
  | empty => exact bs_none _
  | insert a s h ih =>
    rw [bs_insert h, ih]
    refine sep_eq ?_ ?_
    · iintro ⟨-, -⟩; iempintro
    · iintro -; isplitr <;> iempintro

omit [FloatOps F] in
/-- Rounds with one duty up to `n` and none after. -/
theorem rounds (n : ℕ) (hn : n ≤ 8) (f : ℕ → ℕ → sProp (MT nD τ sig ℕ (Elt F) ℕ UU ℕ)) :
    (bigSep (Finset.range 8) fun r => bigSep (if r < n then ({0} : Finset ℕ) else ∅) (f r)) = bigSep (Finset.range n) fun r => f r 0 := by
  have h : Finset.range 8 = Finset.range n ∪ Finset.Ico n 8 := by
    ext a; rw [Finset.mem_union, Finset.mem_range, Finset.mem_range, Finset.mem_Ico]; omega
  have hd : Disjoint (Finset.range n) (Finset.Ico n 8) := by
    rw [Finset.disjoint_left]; intro a h1 h2; rw [Finset.mem_range] at h1; rw [Finset.mem_Ico] at h2; omega
  rw [h, bigSep_union hd, bs_congr (s := Finset.range n) (g := fun r => f r 0) (fun r hr => by
      rw [Finset.mem_range] at hr; rw [if_pos hr, bs_one]),
    bs_congr (s := Finset.Ico n 8) (g := fun _ => iprop(emp)) (fun r hr => by
      rw [Finset.mem_Ico] at hr; rw [if_neg (by omega), bs_none]), emps]
  show iprop((bigSep (Finset.range n) fun r => f r 0) ∗ emp) = _
  refine sep_eq ?_ ?_
  · iintro ⟨H, -⟩; iexact H
  · iintro H; isplitl [H]; · iexact H
    iempintro

omit [FloatOps F] in
theorem Tk_bar (e : Dev nD) : (Tk e .bar : sProp 𝕄) = iprop(tk e .bar 0 0 ∗ tk e .bar 0 1) := by
  have h : Finset.range 8 = insert 0 (Finset.Ico 1 8) := by decide
  unfold Tk
  rw [h, bs_insert (by decide), bs_congr (s := Finset.Ico 1 8) (g := fun _ => iprop(emp)) (fun r hr => by
      rw [Finset.mem_Ico] at hr; show bigSep (if r = 0 then ({0, 1} : Finset ℕ) else ∅) _ = _; rw [if_neg (by omega), bs_none]), emps]
  have h2 : (bigSep (dut .bar 0) fun i => tk e .bar 0 i : sProp 𝕄) = iprop(tk e .bar 0 0 ∗ tk e .bar 0 1) := by
    show bigSep ({0, 1} : Finset ℕ) _ = _
    rw [bs_insert (by decide), bs_one]
  rw [h2]
  refine sep_eq ?_ ?_
  · iintro ⟨H, -⟩; iexact H
  · iintro H; isplitl [H]; · iexact H
    iempintro
omit [FloatOps F] in
theorem Tk_slot (e : Dev nD) (k : CK) (σ : Fin 2) (h : ∀ r, dut k r = if r < rnds σ then {0} else ∅) :
    (Tk e k : sProp 𝕄) = bigSep (Finset.range (rnds σ)) fun r => tk e k r 0 := by
  unfold Tk
  rw [← rounds (rnds σ) (by unfold rnds; split <;> omega) (fun r i => tk e k r i)]
  exact bs_congr fun r _ => by rw [h r]
omit [FloatOps F] in
theorem Tk_one (e : Dev nD) (k : CK) (h : ∀ r, dut k r = if r = 0 then {0} else ∅) : (Tk e k : sProp 𝕄) = tk e k 0 0 := by
  have h1 : ∀ r, dut k r = if r < 1 then {0} else ∅ := fun r => by rw [h r]; exact if_congr (by omega) rfl rfl
  unfold Tk
  rw [bs_congr (fun r _ => by rw [h1 r]), rounds 1 (by omega) (fun r i => tk e k r i)]
  exact bs_one 0 _
omit [FloatOps F] in
theorem Tk_ocp (e : Dev nD) (d q : Fin 2) : (Tk e (.ocp d q) : sProp 𝕄) = bigSep (Finset.range 8) fun r => tk e (.ocp d q) r 0 :=
  rounds 8 (by omega) (fun r i => tk e (.ocp d q) r i)
omit [FloatOps F] in
theorem Tk_crd (e : Dev nD) (ph d : Fin 2) : (Tk e (crdK ph d) : sProp 𝕄) = bigSep (Finset.range 10) fun i => tk e (crdK ph d) 0 i := by
  have h : Finset.range 8 = insert 0 (Finset.Ico 1 8) := by decide
  have hd : ∀ r, dut (crdK ph d) r = if r = 0 then Finset.range 10 else ∅ := by intro r; unfold crdK; split <;> rfl
  unfold Tk
  rw [bs_congr (fun r _ => by rw [hd r]), h, bs_insert (by decide), bs_congr (s := Finset.Ico 1 8) (g := fun _ => iprop(emp)) (fun r hr => by
      rw [Finset.mem_Ico] at hr; rw [if_neg (by omega), bs_none]), emps, if_pos rfl]
  refine sep_eq ?_ ?_
  · iintro ⟨H, -⟩; iexact H
  · iintro H; isplitl [H]; · iexact H
    iempintro

theorem tgt_inj (d : Fin 2) : Function.Bijective (tgt d) := (Fintype.bijective_iff_injective_and_card _).mpr ⟨by revert d; decide +kernel, rfl⟩
theorem src_inj (d : Fin 2) : Function.Bijective (src d) := (Fintype.bijective_iff_injective_and_card _).mpr ⟨by revert d; decide +kernel, rfl⟩
theorem sh_inj (o : Fin 7) : Function.Bijective (sh (o.val + 1)) := (Fintype.bijective_iff_injective_and_card _).mpr ⟨by revert o; decide +kernel, rfl⟩

omit [FloatOps F] in
theorem reix {f : Dev nD → Dev nD} (hf : Function.Bijective f) (g : Dev nD → sProp (MT nD τ sig ℕ (Elt F) ℕ UU ℕ)) :
    bigSep Finset.univ g = bigSep Finset.univ fun c => g (f c) := bigSep_univ_equiv (Equiv.ofBijective f hf) g

omit [FloatOps F] in
theorem deal_k (k : CK) : (bigSep Finset.univ fun e => Tk e k : sProp 𝕄) = bigSep Finset.univ fun c => PT c k := by
  cases k with
  | bar =>
    have h : ∀ e, (Tk e .bar : sProp 𝕄) = iprop(tk e .bar 0 0 ∗ tk e .bar 0 1) := Tk_bar
    rw [bs_congr (fun e _ => h e), bs_sep, reix (tgt_inj 1) (fun e => tk e .bar 0 0), reix (tgt_inj 0) (fun e => tk e .bar 0 1)]
    show _ = bigSep Finset.univ fun c => iprop(tk (tgt 0 c) .bar 0 1 ∗ tk (tgt 1 c) .bar 0 0)
    rw [bs_sep]
    refine sep_eq ?_ ?_ <;> · iintro ⟨H1, H2⟩; isplitl [H2] <;> iassumption
  | rr d σ q => exact reix (tgt_inj d) fun e => Tk e (.rr d σ q)
  | gr d σ q => exact reix (tgt_inj d) fun e => Tk e (.gr d σ q)
  | rc d => exact reix (src_inj d) fun e => Tk e (.rc d)
  | gc d => exact reix (src_inj d) fun e => Tk e (.gc d)
  | axr o => exact reix (sh_inj o) fun e => Tk e (.axr o)
  | rs d σ q => rfl
  | gs d σ q => rfl
  | axs o => rfl
  | ocp d q => rfl

omit [FloatOps F] in
theorem deal : (bigSep Finset.univ fun x : Dev nD × CK => Tk x.1 x.2 : sProp 𝕄) = bigSep Finset.univ fun c => bigSep Finset.univ fun k => PT c k := by
  rw [bigSep_univ_prod, BI.bigSep_univ_comm, bs_congr (fun k _ => deal_k k), BI.bigSep_univ_comm]

/-! ## The rights to write a slot, dealt to those who write -/

/-- A slot of a device. -/
abbrev Slot : Type := Fin 2 × Fin 2 × Fin 2 × Fin 2
/-- The rights to write a slot again. -/
def Wt (k : Key) : sProp 𝕄 := bigSep (Finset.range 3) fun w => writeTok ES k (w + 1)

omit [FloatOps F] in
theorem dealW : (bigSep (Finset.univ ×ˢ Finset.range 3) fun x : Key × ℕ => writeTok ES x.1 (x.2 + 1) : sProp 𝕄)
    = bigSep Finset.univ fun c : Dev nD => bigSep Finset.univ fun y : Slot => Wt (tgt y.2.1 c, y) := by
  have h : (bigSep (Finset.univ ×ˢ Finset.range 3) fun x : Key × ℕ => writeTok ES x.1 (x.2 + 1) : sProp 𝕄) = bigSep Finset.univ fun k : Key => Wt k := by

    rw [Finset.product_eq_biUnion, bigSep_biUnion_eq _ _ _ (fun a _ b _ hab => by
      rw [Finset.disjoint_left]
      intro x h1 h2
      obtain ⟨u, -, hu⟩ := Finset.mem_image.mp h1
      obtain ⟨v, -, hv⟩ := Finset.mem_image.mp h2
      exact hab (by rw [← hv] at hu; exact congrArg Prod.fst hu))]
    refine bs_congr fun k _ => ?_
    rw [show (Finset.range 3).image (fun b => (k, b)) = (Finset.range 3).map ⟨fun b => (k, b), fun _ _ h => congrArg Prod.snd h⟩ from by ext x; simp only [Finset.mem_image, Finset.mem_map, Function.Embedding.coeFn_mk]; rfl, BI.bigSep_map]
    rfl
  rw [h, bigSep_univ_prod (fun k : Key => Wt k), BI.bigSep_univ_comm]
  refine Eq.trans (bs_congr fun y _ => ?_) (BI.bigSep_univ_comm fun (y : Slot) (c : Dev nD) => Wt (tgt y.2.1 c, y))
  exact reix (tgt_inj y.2.1) fun e => Wt (e, y)

omit [FloatOps F] in
/-- The slots of a device by lanes. -/
theorem by_slot (f : Slot → sProp (MT nD τ sig ℕ (Elt F) ℕ UU ℕ)) : bigSep Finset.univ f
    = bigSep Finset.univ fun x : Fin 2 × Fin 2 × Fin 2 => iprop(f (x.1, x.2.1, 0, x.2.2) ∗ f (x.1, x.2.1, 1, x.2.2)) := by
  have hu : (Finset.univ : Finset Slot) = Finset.univ.biUnion fun x : Fin 2 × Fin 2 × Fin 2 => ({(x.1, x.2.1, 0, x.2.2), (x.1, x.2.1, 1, x.2.2)} : Finset Slot) := by decide +kernel
  rw [hu, bigSep_biUnion_eq _ _ _ (by decide +kernel)]
  refine bs_congr fun x _ => ?_
  rw [bs_insert (by revert x; decide +kernel), bs_one]

/-! ## A lane's start -/

omit [FloatOps F] in
theorem seven (g : Fin 2 → ℕ → sProp (MT nD τ sig ℕ (Elt F) ℕ UU ℕ)) :
    iprop((bigSep (Finset.range 4) (g 0)) ∗ bigSep (Finset.range 3) (g 1)) ⊢ bigSep (Finset.Ico 0 7) fun m => g (sl m) (m / 2) := by
  have h1 : Finset.range 4 = {0, 1, 2, 3} := by decide
  have h2 : Finset.range 3 = {0, 1, 2} := by decide
  have h3 : Finset.Ico 0 7 = {0, 1, 2, 3, 4, 5, 6} := by decide
  rw [h1, h2, h3, bs_insert (by decide), bs_insert (by decide), bs_insert (by decide), bs_one, bs_insert (by decide), bs_insert (by decide), bs_one,
    bs_insert (by decide), bs_insert (by decide), bs_insert (by decide), bs_insert (by decide), bs_insert (by decide), bs_insert (by decide), bs_one]
  show _ ⊢ iprop(g 0 0 ∗ g 1 0 ∗ g 0 1 ∗ g 1 1 ∗ g 0 2 ∗ g 1 2 ∗ g 0 3)
  iintro ⟨⟨A0, A1, A2, A3⟩, B0, B1, B2⟩
  isplitl [A0]; · iexact A0
  isplitl [B0]; · iexact B0
  isplitl [A1]; · iexact A1
  isplitl [B1]; · iexact B1
  isplitl [A2]; · iexact A2
  isplitl [B2]; · iexact B2
  iexact A3

omit [FloatOps F] in
theorem writes (k0 k1 : Key) : (iprop(Wt k0 ∗ Wt k1) : sProp 𝕄)
    ⊢ iprop((bigSep (Finset.range 4) fun w => if w < 1 then iprop(emp) else writeTok ES k0 w) ∗ bigSep (Finset.range 3) fun w => if w < 1 then iprop(emp) else writeTok ES k1 w) := by
  have h1 : Finset.range 4 = {0, 1, 2, 3} := by decide
  have h2 : Finset.range 3 = {0, 1, 2} := by decide
  unfold Wt
  rw [h1, h2, bs_insert (by decide), bs_insert (by decide), bs_one, bs_insert (by decide), bs_insert (by decide), bs_one,
    bs_insert (by decide), bs_insert (by decide), bs_insert (by decide), bs_one, bs_insert (by decide), bs_insert (by decide), bs_one]
  show iprop((writeTok ES k0 1 ∗ writeTok ES k0 2 ∗ writeTok ES k0 3) ∗ writeTok ES k1 1 ∗ writeTok ES k1 2 ∗ writeTok ES k1 3)
    ⊢ iprop((emp ∗ writeTok ES k0 1 ∗ writeTok ES k0 2 ∗ writeTok ES k0 3) ∗ emp ∗ writeTok ES k1 1 ∗ writeTok ES k1 2)
  iintro ⟨⟨A0, A1, A2⟩, B0, B1, -⟩
  isplitl [A0 A1 A2]
  · isplitr; · iempintro
    isplitl [A0]; · iexact A0
    isplitl [A1]; · iexact A1
    iexact A2
  isplitr; · iempintro
  isplitl [B0]; · iexact B0
  iexact B1

theorem dut_rcv' (ph d σ q : Fin 2) (r : ℕ) : dut (rcv ph d σ q) r = if r < rnds σ then {0} else ∅ := by unfold rcv; split <;> rfl
theorem dut_snt' (ph d σ q : Fin 2) (r : ℕ) : dut (snt ph d σ q) r = if r < rnds σ then {0} else ∅ := by unfold snt; split <;> rfl
omit [FloatOps F] in
theorem PT_rcv (ph d σ q : Fin 2) : (PT c (rcv ph d σ q) : sProp 𝕄) = bigSep (Finset.range (rnds σ)) fun r => tk (tgt d c) (rcv ph d σ q) r 0 := by
  rw [← Tk_slot (tgt d c) (rcv ph d σ q) σ (dut_rcv' ph d σ q)]; unfold rcv; split <;> rfl
omit [FloatOps F] in
theorem PT_snt (ph d σ q : Fin 2) : (PT c (snt ph d σ q) : sProp 𝕄) = bigSep (Finset.range (rnds σ)) fun r => tk c (snt ph d σ q) r 0 := by
  rw [← Tk_slot c (snt ph d σ q) σ (dut_snt' ph d σ q)]; unfold snt; split <;> rfl

theorem mkPreL (ph d q : Fin 2) : iprop(ctx A K Ks ∗ ((PT c (rcv ph d 0 q) ∗ PT c (rcv ph d 1 q) ∗ PT c (snt ph d 0 q) ∗ PT c (snt ph d 1 q))
      ∗ (Wt (tgt d c, ph, d, 0, q) ∗ Wt (tgt d c, ph, d, 1, q))
      ∗ (at' c (rcv ph d 0 q) 0 ∗ at' c (rcv ph d 1 q) 0 ∗ at' c (snt ph d 0 q) 0 ∗ at' c (snt ph d 1 q) 0)
      ∗ bigSep (Finset.Ico 0 7) fun i => crE c (.send ph d q i))) ⊢ PreL ph d q c := by
  have e0 : rnds 0 = 4 := rfl
  have e1 : rnds 1 = 3 := rfl
  rw [PT_rcv, PT_rcv, PT_snt, PT_snt, e0, e1]
  unfold PreL Pr Ps
  iintro ⟨#Hctx, ⟨R0, R1, S0, S1⟩, HW, ⟨A0, A1, B0, B1⟩, HC⟩
  ihave HW := (writes _ _) $$ HW
  ihave HR := (seven fun σ r => tk (tgt d c) (rcv ph d σ q) r 0) $$ [R0 R1]
  · isplitl [R0] <;> iassumption
  ihave HS := (seven fun σ r => tk c (snt ph d σ q) r 0) $$ [S0 S1]
  · isplitl [S0] <;> iassumption
  ihave HW := (seven fun σ w => if w < 1 then iprop(emp) else writeTok ES (tgt d c, ph, d, σ, q) w) $$ [HW]
  · iexact HW
  isplitl [HC]; · iexact HC
  isplitl [HR HS HW]
  · have he : (bigSep (Finset.Ico 0 7) fun i => preTok ph d q i c : sProp 𝕄) = iprop((bigSep (Finset.Ico 0 7) fun m => tk c (snt ph d (sl m) q) (m / 2) 0)
        ∗ (bigSep (Finset.Ico 0 7) fun m => tk (tgt d c) (rcv ph d (sl m) q) (m / 2) 0)
        ∗ bigSep (Finset.Ico 0 7) fun m => if m / 2 < 1 then iprop(emp) else writeTok ES (tgt d c, ph, d, sl m, q) (m / 2)) := by
      rw [← bs_sep, ← bs_sep]
      refine bs_congr fun m _ => ?_
      unfold preTok
      have hm : (m < 2) = (m / 2 < 1) := propext (by omega)
      rw [if_congr (iff_of_eq hm) rfl rfl]
    iapply (Entails.of_eq he.symm)
    isplitl [HS]; · iexact HS
    isplitl [HR]; · iexact HR
    iexact HW
  isplitl [A0]
  · isplitl [A0]; · iexact A0
    iapply (ctx_r0 A c (rcv ph d (sl 0) q)); iexact Hctx
  isplitl [A1]
  · isplitl [A1]; · iexact A1
    iapply (ctx_r0 A c (rcv ph d (sl 1) q)); iexact Hctx
  isplitl [B0]
  · isplitl [B0]; · iexact B0
    iapply (ctx_r0 A c (snt ph d (sl 0) q)); iexact Hctx
  isplitl [B1]; · iexact B1
  iapply (ctx_r0 A c (snt ph d (sl 1) q)); iexact Hctx

omit [FloatOps F] in
/-- A direction's credits before the first. -/
theorem mkDir (ph d : Fin 2) : (iprop(PT c (crdK ph d) ∗ at' c (crdK ph d) 0 ∗ bigSep (Finset.Ico 0 10) fun i => crE c (.crd ph d (sl i) (i / 2 + 1))) : sProp 𝕄)
    ⊢ iprop(DirS ph d 0 c ∗ DirW ph d 0 c) := by
  have h : (PT c (crdK ph d) : sProp 𝕄) = Tk (src d c) (crdK ph d) := by unfold crdK; split <;> rfl
  rw [h, Tk_crd]
  unfold DirS DirW relUpTo
  iintro ⟨H1, H2, H3⟩
  isplitl [H1]
  · isplitr
    · rw [Finset.range_zero, bs_none]; iempintro
    rw [Finset.range_eq_Ico]; iexact H1
  isplitl [H2]
  · iexists (∅ : Finset ℕ)
    isplitr
    · ipureintro; exact ⟨Finset.empty_subset _, Nat.zero_le _⟩
    isplitl [H2]; · iexact H2
    rw [bs_none]; iempintro
  iexact H3

/-! ## What a device is given -/

/-- The ghost state of a device at launch, as dealt. -/
def Dealt (c : Dev nD) : sProp 𝕄 :=
  iprop((bigSep Finset.univ fun k => PT c k) ∗ (bigSep Finset.univ fun y : Slot => Wt (tgt y.2.1 c, y))
    ∗ (bigSep Finset.univ fun k => at' c k 0) ∗ bigSep Finset.univ fun y : Slot => readerAt ES (c, y) 0)

/-- The ghost state of a device at launch, as used. -/
def Ghost (c : Dev nD) : sProp 𝕄 :=
  iprop(tk (tgt 0 c) .bar 0 1 ∗ tk (tgt 1 c) .bar 0 0 ∗ cred (tallyAt (cell c .bar) 2 2) ∗ at' c .bar 0
    ∗ (bigSep Finset.univ fun x : Fin 2 × Fin 2 × Fin 2 => iprop(PreL x.1 x.2.1 x.2.2 c ∗ RdrR x.1 x.2.1 x.2.2 0 c))
    ∗ (bigSep Finset.univ fun x : Fin 2 × Fin 2 => iprop(DirS x.1 x.2 0 c ∗ DirW x.1 x.2 0 c))
    ∗ (bigSep Finset.univ fun o : Fin 7 => iprop(tk c (.axs o) 0 0 ∗ tk (sh (o.val + 1) c) (.axr o) 0 0 ∗ crE c (.ax o) ∗ at' c (.axs o) 0 ∗ at' c (.axr o) 0))
    ∗ bigSep Finset.univ fun x : Fin 2 × Fin 2 => iprop(at' c (.ocp x.1 x.2) 0 ∗ rch c (.ocp x.1 x.2) 0 ∗ bigSep (Finset.Ico 0 8) fun r => tk c (.ocp x.1 x.2) r 0))

theorem mkGhost (c : Dev nD) : iprop(ctx A K Ks ∗ Dealt c ∗ Pipeline.launchCred (fun d => owed d 0) c) ⊢ Ghost c := by
  unfold Dealt
  rw [ck_split (fun k => PT c k), ck_split (fun k => at' c k 0), by_slot, by_slot]
  iintro ⟨#Hctx, ⟨⟨TB, TL, TX, TC, TO⟩, HW, ⟨AB, AL, AX, AC, AO⟩, HR⟩, HC⟩
  ihave HC := (creds c) $$ HC
  icases HC with ⟨CB, CL, CC, CX⟩
  unfold Ghost
  ihave TB := (Entails.of_eq (show PT c .bar = iprop(tk (tgt 0 c) .bar 0 1 ∗ tk (tgt 1 c) .bar 0 0) from rfl)) $$ TB
  icases TB with ⟨TB0, TB1⟩
  isplitl [TB0]; · iexact TB0
  isplitl [TB1]; · iexact TB1
  isplitl [CB]; · iexact CB
  isplitl [AB]; · iexact AB
  isplitl [TL HW AL CL HR]
  · iapply (Entails.of_eq (bs_sep _ _ _).symm)
    isplitl [TL HW AL CL]
    · iapply (bigSep_with_persistent (R := ctx A K Ks) (Φ := fun x : Fin 2 × Fin 2 × Fin 2 => iprop((PT c (rcv x.1 x.2.1 0 x.2.2) ∗ PT c (rcv x.1 x.2.1 1 x.2.2) ∗ PT c (snt x.1 x.2.1 0 x.2.2) ∗ PT c (snt x.1 x.2.1 1 x.2.2))
        ∗ (Wt (tgt x.2.1 c, x.1, x.2.1, 0, x.2.2) ∗ Wt (tgt x.2.1 c, x.1, x.2.1, 1, x.2.2))
        ∗ (at' c (rcv x.1 x.2.1 0 x.2.2) 0 ∗ at' c (rcv x.1 x.2.1 1 x.2.2) 0 ∗ at' c (snt x.1 x.2.1 0 x.2.2) 0 ∗ at' c (snt x.1 x.2.1 1 x.2.2) 0)
        ∗ bigSep (Finset.Ico 0 7) fun i => crE c (.send x.1 x.2.1 x.2.2 i))) (fun x _ => mkPreL A x.1 x.2.1 x.2.2))
      isplitr; · iexact Hctx
      iapply (Entails.of_eq (bs_sep _ _ _).symm)
      isplitl [TL]; · iexact TL
      iapply (Entails.of_eq (bs_sep _ _ _).symm)
      isplitl [HW]; · iexact HW
      iapply (Entails.of_eq (bs_sep _ _ _).symm)
      isplitl [AL]; · iexact AL
      iexact CL
    · iexact HR
  isplitl [TC AC CC]
  · iapply (bs_mono (f := fun x : Fin 2 × Fin 2 => iprop(PT c (crdK x.1 x.2) ∗ at' c (crdK x.1 x.2) 0 ∗ bigSep (Finset.Ico 0 10) fun i => crE c (.crd x.1 x.2 (sl i) (i / 2 + 1)))) (fun x _ => mkDir x.1 x.2))
    iapply (Entails.of_eq (bs_sep _ _ _).symm)
    isplitl [TC]; · iexact TC
    iapply (Entails.of_eq (bs_sep _ _ _).symm)
    isplitl [AC] <;> iassumption
  isplitl [TX AX CX]
  · iapply (bs_mono (f := fun o : Fin 7 => iprop((PT c (.axs o) ∗ PT c (.axr o)) ∗ (at' c (.axs o) 0 ∗ at' c (.axr o) 0) ∗ crE c (.ax o))) (fun o _ => by
      have h1 : (PT c (.axs o) : sProp 𝕄) = tk c (.axs o) 0 0 := Tk_one c (.axs o) (fun _ => rfl)
      have h2 : (PT c (.axr o) : sProp 𝕄) = tk (sh (o.val + 1) c) (.axr o) 0 0 := Tk_one (sh (o.val + 1) c) (.axr o) (fun _ => rfl)
      rw [h1, h2]
      iintro ⟨⟨H1, H2⟩, ⟨H3, H4⟩, H5⟩
      isplitl [H1]; · iexact H1
      isplitl [H2]; · iexact H2
      isplitl [H5]; · iexact H5
      isplitl [H3] <;> iassumption))
    iapply (Entails.of_eq (bs_sep _ _ _).symm)
    isplitl [TX]; · iexact TX
    iapply (Entails.of_eq (bs_sep _ _ _).symm)
    isplitl [AX] <;> iassumption
  iapply (bigSep_with_persistent (R := ctx A K Ks) (Φ := fun x : Fin 2 × Fin 2 => iprop(PT c (.ocp x.1 x.2) ∗ at' c (.ocp x.1 x.2) 0)) (fun x _ => by
    have h1 : (PT c (.ocp x.1 x.2) : sProp 𝕄) = bigSep (Finset.range 8) fun r => tk c (.ocp x.1 x.2) r 0 := Tk_ocp c x.1 x.2
    rw [h1, Finset.range_eq_Ico]
    iintro ⟨#Hctx, H1, H2⟩
    isplitl [H2]; · iexact H2
    isplitr
    · iapply (ctx_r0 A c (.ocp x.1 x.2)); iexact Hctx
    iexact H1))
  isplitr; · iexact Hctx
  iapply (Entails.of_eq (bs_sep _ _ _).symm)
  isplitl [TO] <;> iassumption

end Cert.KernelIdeal.Ring
-- ==== Proof.Start.lean ====
/-
# The launch: ghost state and invariants
-/
module

public import proofs.«01_k».proof.Proof.Finish
public import proofs.«01_k».proof.Proof.Deal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)

/-! ## The ghost state at launch -/

omit [FloatOps F] in
theorem cell_inj : Function.Injective (fun x : Dev nD × CK => cell x.1 x.2) := by
  rintro ⟨c, k⟩ ⟨c', k'⟩ h
  have h1 : c = c' := congrArg (fun g : GSem nD τ sig => g.1.1) h
  have h2 : k = k' := semOf_inj (congrArg Prod.snd h)
  rw [h1, h2]
/-- All cells, -/
def allCells : Finset (GSem nD τ sig) := Finset.univ.map ⟨fun x : Dev nD × CK => cell x.1 x.2, cell_inj⟩
/-- a right: the cell, its round and which of the round's. -/
abbrev tokOf (y : (_ : Dev nD × CK) × (_ : ℕ) × ℕ) : GSem nD τ sig × ℕ × ℕ := (cell y.1.1 y.1.2, y.2.1, y.2.2)
theorem tokOf_inj : Function.Injective tokOf := by
  rintro ⟨x, r, i⟩ ⟨x', r', i'⟩ h
  have h1 : x = x' := cell_inj (congrArg (fun t : GSem nD τ sig × ℕ × ℕ => t.1) h)
  have h2 : r = r' := congrArg (fun t : GSem nD τ sig × ℕ × ℕ => t.2.1) h
  have h3 : i = i' := congrArg (fun t : GSem nD τ sig × ℕ × ℕ => t.2.2) h
  subst h1; subst h2; subst h3; rfl
/-- All rights. -/
def allToks : Finset (GSem nD τ sig × ℕ × ℕ) :=
  (Finset.univ.sigma fun x : Dev nD × CK => (Finset.range 8).sigma fun r => dut x.2 r).map ⟨tokOf, tokOf_inj⟩

def u₀ : UU :=
  (initOf (Pipeline.cells cfgs cellOf_inj) (Pipeline.launchToks cfgs cellOf_inj), (initOf allCells allToks, Release.initSlots Finset.univ 3))

omit [FloatOps F] in
theorem all_cells (Φ : GSem nD τ sig → sProp (MT nD τ sig ℕ (Elt F) ℕ UU ℕ)) : bigSep allCells Φ = bigSep Finset.univ fun x : Dev nD × CK => Φ (cell x.1 x.2) := by
  unfold allCells; rw [BI.bigSep_map]; rfl
omit [FloatOps F] in
theorem all_toks : (bigSep allToks fun x => dutyTok ER x.1 x.2.1 x.2.2 : sProp (MT nD τ sig ℕ (Elt F) ℕ UU ℕ)) = bigSep Finset.univ fun x : Dev nD × CK => Tk x.1 x.2 := by
  unfold allToks; rw [BI.bigSep_map, Pipeline.bigSep_sigma]
  refine bs_congr fun x _ => ?_
  rw [Pipeline.bigSep_sigma]; rfl

/-- The ghost state, all of it with the first device. -/
def G (c : Dev nD) : sProp (MT nD τ sig ℕ (Elt F) ℕ UU ℕ) :=
  if c = 0 then iprop(BI.own (ER (initOf allCells allToks)) ∗ BI.own (ES (Release.initSlots Finset.univ 3))) else iprop(emp)

omit [FloatOps F] in
theorem G_all : (bigSep Finset.univ (G (F := F)) : sProp (MT nD τ sig ℕ (Elt F) ℕ UU ℕ)) = iprop(BI.own (ER (initOf allCells allToks)) ∗ BI.own (ES (Release.initSlots Finset.univ 3))) := by
  rw [bs_erase (Finset.mem_univ (0 : Dev nD)), show (bigSep (Finset.univ.erase (0 : Dev nD)) (G (F := F)) : sProp (MT nD τ sig ℕ (Elt F) ℕ UU ℕ)) = iprop(emp) from
    Eq.trans (bs_congr fun c hc => by unfold G; rw [if_neg (Finset.ne_of_mem_erase hc)]) (emps _), show (G (F := F)) (0 : Dev nD) = _ from if_pos rfl]
  exact sep_eq (by iintro ⟨H, -⟩; iexact H) (by iintro H; isplitl; · iexact H
                                                iempintro)

omit [FloatOps F] in
theorem split_u : ownU u₀ ⊢ (|={Set.univ}=> (BI.own (EP (initOf (Pipeline.cells cfgs cellOf_inj) (Pipeline.launchToks cfgs cellOf_inj))) ∗ bigSep Finset.univ (G (F := F))) : sProp (MT nD τ sig ℕ (Elt F) ℕ UU ℕ)) := by
  unfold u₀
  rw [G_all]
  iintro Hu
  ihave H := (ownU_pair _ _) $$ Hu
  icases H with ⟨HP, HX⟩
  ihave H := (own_pair_emb (embR) (initOf allCells allToks) (Release.initSlots Finset.univ 3)) $$ HX
  icases H with ⟨H1, H2⟩
  imodintro
  isplitl [HP]; · iexact HP
  isplitl [H1]
  · iapply (Entails.of_eq (show BI.own (((Emb.inl : Emb (URounds (GSem nD τ sig) ℕ) UG).trans embR) (initOf allCells allToks)) = BI.own (ER (F := F) (initOf allCells allToks)) from rfl)); iexact H1
  · iapply (Entails.of_eq (show BI.own (((Emb.inr : Emb (USlots Key) UG).trans embR) (Release.initSlots Finset.univ 3)) = BI.own (ES (F := F) (Release.initSlots Finset.univ 3)) from rfl)); iexact H2

/-! ## The semaphores -/

/-- The kinds of cell that are the kernel's own. -/
abbrev OK : Type := {k : CK // k ≠ CK.bar}
abbrev osem : OK → SemLoc sig := fun k => semOf k.1

set_option maxRecDepth 100000 in
theorem ownSemFacts : Pipeline.OwnSemFacts cfg0.spec osem where
  isScoped := by decide +kernel
  inj := fun a b h => Subtype.ext (semOf_inj h)
  disj := by decide +kernel

omit [FloatOps F] in
theorem unscopedSems0_eq (c : Dev nD) : (unscopedSems0 c : sProp (MT nD τ sig ℕ (Elt F) ℕ UU ℕ)) = semVal (cell c .bar) 0 := by
  unfold unscopedSems0; rw [bigSep_eq_bigSepL_of_eq [semOf .bar] (by decide) (by decide)]; rfl

omit [FloatOps F] in
theorem sems_eq (c : Dev nD) : (iprop(Pipeline.ownSems0 (Ix := ℕ) (Name := ℕ) (U := UU) (Lvl := ℕ) (Val := Elt F) (τ := τ) osem c ∗ unscopedSems0 c) : sProp (MT nD τ sig ℕ (Elt F) ℕ UU ℕ))
    = bigSep Finset.univ fun k : CK => semVal (cell c k) 0 := by
  have h : (Finset.univ : Finset CK).erase .bar = (Finset.univ : Finset OK).map ⟨Subtype.val, Subtype.val_injective⟩ := by
    ext k; simp only [Finset.mem_erase, Finset.mem_univ, and_true, Finset.mem_map, Function.Embedding.coeFn_mk, true_and]
    exact ⟨fun hk => ⟨⟨k, hk⟩, rfl⟩, fun ⟨a, ha⟩ => ha ▸ a.2⟩
  rw [unscopedSems0_eq, bs_erase (Finset.mem_univ CK.bar), h, BI.bigSep_map]
  unfold Pipeline.ownSems0
  exact sep_eq (by iintro ⟨H1, H2⟩; isplitl [H2]; · iexact H2
                   iexact H1) (by iintro ⟨H1, H2⟩; isplitl [H2]; · iexact H2
                                  iexact H1)

/-! ## The invariants -/

/-- The facts all devices share, but for the levels. -/
def shared (K : Dev nD × CK → ℕ) (Ks : Key → ℕ) : sProp (MT nD τ sig ℕ (Elt F) ℕ UU ℕ) :=
  iprop(bigSep Finset.univ (fun x : Dev nD × CK => cellInv ER (Rd A) (K x) (cell x.1 x.2))
    ∗ bigSep Finset.univ (fun x : Dev nD × CK => reached ER (cell x.1 x.2) 0)
    ∗ bigSep Finset.univ (fun k : Key => slotInv ES (Ks k) k (slotOf k)))
instance shared_persistent (K : Dev nD × CK → ℕ) (Ks : Key → ℕ) : Persistent (shared A K Ks) := by unfold shared; infer_instance

/-- What a device has after the invariants are made. -/
def G' (c : Dev nD) : sProp (MT nD τ sig ℕ (Elt F) ℕ UU ℕ) := iprop(∃ K Ks, shared A K Ks ∗ Dealt c)

theorem alloc : (iprop((bigSep Finset.univ fun x : Dev nD × CK => semVal (cell x.1 x.2) 0) ∗ bigSep Finset.univ fun x : Dev nD × CK => roundState ER (Rd A) (cell x.1 x.2) 0) : sProp (MT nD τ sig ℕ (Elt F) ℕ UU ℕ))
    ⊢ |={Set.univ}=> bigSep Finset.univ fun x : Dev nD × CK => iprop(∃ κ : ℕ, cellInv ER (Rd A) κ (cell x.1 x.2)) := by
  rw [← bs_sep]
  exact BIBase.Entails.trans (bs_mono fun x _ => (Rounds.body_intro ER (Rd A) (cell x.1 x.2)).trans inv_alloc) (bigSep_fupd _ _)

theorem dealt_all : (iprop((bigSep Finset.univ fun x : Dev nD × CK => Tk x.1 x.2) ∗ (bigSep (Finset.univ ×ˢ Finset.range 3) fun x : Key × ℕ => writeTok ES x.1 (x.2 + 1))
      ∗ (bigSep Finset.univ fun x : Dev nD × CK => at' x.1 x.2 0) ∗ bigSep Finset.univ fun k : Key => readerAt ES k 0) : sProp (MT nD τ sig ℕ (Elt F) ℕ UU ℕ))
    = bigSep Finset.univ fun c => Dealt c := by
  unfold Dealt
  rw [bs_sep, bs_sep, bs_sep, deal, dealW, bigSep_univ_prod (fun x : Dev nD × CK => at' x.1 x.2 0), bigSep_univ_prod (fun k : Key => readerAt ES k 0)]

/-- The invariants are made for all devices at once. -/
theorem glob : (bigSep Finset.univ fun c => iprop(Pipeline.ownSems0 (Ix := ℕ) (Name := ℕ) (U := UU) (Lvl := ℕ) (Val := Elt F) (τ := τ) osem c ∗ unscopedSems0 c ∗ G c) : sProp (MT nD τ sig ℕ (Elt F) ℕ UU ℕ))
    ⊢ |={Set.univ}=> bigSep Finset.univ (G' A) := by
  have hs : (bigSep Finset.univ fun c => iprop(Pipeline.ownSems0 (Ix := ℕ) (Name := ℕ) (U := UU) (Lvl := ℕ) (Val := Elt F) (τ := τ) osem c ∗ unscopedSems0 c ∗ G c) : sProp (MT nD τ sig ℕ (Elt F) ℕ UU ℕ))
      = iprop((bigSep Finset.univ fun x : Dev nD × CK => semVal (cell x.1 x.2) 0) ∗ (BI.own (ER (initOf allCells allToks)) ∗ BI.own (ES (Release.initSlots Finset.univ 3)))) := by
    rw [← G_all, bigSep_univ_prod (fun x : Dev nD × CK => semVal (cell x.1 x.2) 0), ← bs_sep]
    refine bs_congr fun c _ => ?_
    rw [← sems_eq]
    exact sep_eq (by iintro ⟨H1, H2, H3⟩; isplitl [H1 H2]; · isplitl [H1]; · iexact H1
                                                             iexact H2
                     iexact H3) (by iintro ⟨⟨H1, H2⟩, H3⟩; isplitl [H1]; · iexact H1
                                    isplitl [H2]; · iexact H2
                                    iexact H3)
  rw [hs]
  iintro ⟨HS, H1, H2⟩
  imod (Rounds.fund ER (Rd A) allCells allToks) $$ H1 with ⟨Hst, Hr, Hat, Htk⟩
  imod (Release.slots_init ES (Finset.univ : Finset Key) 3 slotOf) $$ H2 with ⟨%Ks, -, #Hsl, Hrd, Hwt⟩
  ihave Hst := (Entails.of_eq (all_cells fun g => roundState ER (Rd A) g 0)) $$ Hst
  ihave Hat := (Entails.of_eq (all_cells fun g => atPos ER g 0 ∅ 0)) $$ Hat
  ihave #Hr := (Entails.of_eq (all_cells fun g => reached ER g 0)) $$ Hr
  ihave Htk := (Entails.of_eq all_toks) $$ Htk
  imod (alloc A) $$ [HS Hst] with HI
  · isplitl [HS]; · iexact HS
    iexact Hst
  ihave HK := (BI.bigSep_exists_pi Finset.univ (fun (x : Dev nD × CK) (κ : ℕ) => (cellInv ER (Rd A) κ (cell x.1 x.2) : sProp (MT nD τ sig ℕ (Elt F) ℕ UU ℕ)))) $$ HI
  icases HK with ⟨%K, #HI⟩
  imodintro
  ihave HD := (Entails.of_eq (dealt_all (F := F))) $$ [Htk Hwt Hat Hrd]
  · isplitl [Htk]; · iexact Htk
    isplitl [Hwt]; · iexact Hwt
    isplitl [Hat]; · iexact Hat
    iexact Hrd
  iapply (bigSep_with_persistent (R := shared A K Ks) (Φ := fun c => Dealt c) (Ψ := G' A) fun c _ => by
    unfold G'; iintro H; iexists K; iexists Ks; iexact H)
  isplitr
  · unfold shared; isplitr; · iexact HI
    isplitr; · iexact Hr
    iexact Hsl
  iexact HD

/-- What a device's program starts from, the buffers of the launch aside. -/
def start (c : Dev nD) : sProp (MT nD τ sig ℕ (Elt F) ℕ UU ℕ) := iprop(∃ K Ks, ctx A K Ks ∗ Ghost c ∗ anyAt c outM)

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred (fun d => owed d 0) c ∗ prngReg c (ρ c) ∗ G' A c)
      ⊢ (|={Set.univ}=> iprop(start A c ∗ emp) : sProp (MT nD τ sig ℕ (Elt F) ℕ UU ℕ)) := by
  rw [Pipeline.unscopedRestP_none, unscopedRest0_eq]
  unfold G' start
  iintro ⟨Hout, #Hlev, Hcr, -, ⟨%K, %Ks, #Hs, HD⟩⟩
  ihave #Hctx := (show iprop(shared A K Ks ∗ levAts L lv) ⊢ ctx A K Ks from by
    unfold shared ctx
    iintro ⟨⟨H1, H2, H3⟩, H4⟩
    isplitl [H1]; · iexact H1
    isplitl [H2]; · iexact H2
    isplitl [H3]; · iexact H3
    iexact H4) $$ []
  · isplitr; · iexact Hs
    iexact Hlev
  ihave HG := (mkGhost A c) $$ [HD Hcr]
  · isplitr; · iexact Hctx
    isplitl [HD]; · iexact HD
    iexact Hcr
  imodintro
  isplitl
  · iexists K; iexists Ks
    isplitr; · iexact Hctx
    isplitl [HG]; · iexact HG
    iapply (Entails.of_eq (any_whole c main_v1).symm)
    iexists _; iexact Hout
  iempintro

end Cert.KernelIdeal.Ring
-- ==== Proof.Init.lean ====
/-
# What the program starts from
-/
module

public import proofs.«01_k».proof.Proof.Finish
public import proofs.«01_k».proof.Proof.Deal

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F) {c : Dev nD} {qw qx : PosShare TreeShare}

/-! ## What the program starts from -/

theorem row_inj (c : Dev nD) : Function.Bijective (fun n : Fin 8 => pm (sh n.val c)) :=
  (Fintype.bijective_iff_injective_and_card _).mpr ⟨by revert c; decide +kernel, rfl⟩

omit [FloatOps F] in
/-- The rows of a device's maximum array: its own, and those that ride to their writers. -/
theorem rows : (anyAt c amM : sProp (MT nD τ sig ℕ (Elt F) ℕ UU ℕ)) ⊢ iprop(anyAt c (rowM (pm c)) ∗ rideIf 0 0 0 (tgt 0 c)) := by
  refine BIBase.Entails.trans (any_split (r := fun t : Fin 8 => rectRow t) (hr := fun _ _ => rfl) row_d row_c) ?_
  show bigSep Finset.univ (fun t : Fin 8 => anyAt c (rowM t)) ⊢ _
  have h0 : Finset.Ico 0 8 = insert 0 (Finset.Ico 1 8) := by decide
  rw [bigSep_univ_equiv (Equiv.ofBijective _ (row_inj c)) (fun t : Fin 8 => anyAt c (rowM t))]
  rw [show (bigSep Finset.univ fun n : Fin 8 => anyAt c (rowM ((Equiv.ofBijective _ (row_inj c)) n)) : sProp (MT nD τ sig ℕ (Elt F) ℕ UU ℕ)) = bigSep Finset.univ fun n : Fin 8 => (fun k : ℕ => anyAt c (rowM (pm (sh k c)))) n.val from rfl,
    ← ico8 (fun k : ℕ => anyAt c (rowM (pm (sh k c)))), h0, bs_insert (by decide), sh_zero]
  rw [show rideIf (F := F) 0 0 0 (tgt 0 c) = bigSep (Finset.Ico 1 8) fun k => anyAt c (rowM (pm (sh k c))) from by
    rw [show rideIf (F := F) 0 0 0 (tgt 0 c) = ride 0 (tgt 0 c) from if_pos ⟨rfl, rfl⟩]
    unfold ride
    refine bs_congr fun k _ => ?_
    rw [show sh (7 * (0 + 1)) (tgt 0 c) = c from by unfold tgt; rw [sh_sh]; exact sh_of_mod rfl c,
      show sh (k + 7 * (0 + 1)) (tgt 0 c) = sh k c from by unfold tgt; rw [sh_sh]; exact sh_congr (by show (k + 7 + 1) % 8 = k % 8; omega) c]]

theorem mkOc (d q : Fin 2) : iprop((at' c (.ocp d q) 0 ∗ rch c (.ocp d q) 0 ∗ bigSep (Finset.Ico 0 8) fun r => tk c (.ocp d q) r 0) ∗ bigSep (Finset.Ico 0 8) fun r => anyAt c (winM (wn d r c) d q))
    ⊢ OcI A d q 0 c := by
  unfold OcI
  rw [bs_sep, show Finset.Ico 0 0 = (∅ : Finset ℕ) from rfl, bs_none]
  iintro ⟨⟨H1, H2, H3⟩, H4⟩
  isplitl [H1]; · iexact H1
  isplitl [H2]; · iexact H2
  isplitl [H3 H4]
  · isplitl [H3]; · iexact H3
    iexact H4
  iempintro

set_option maxHeartbeats 4000000 in
theorem mkInit : iprop(ow c 0 ∗ own c xM qx (A.x c) ∗ own c wM qw (A.w c) ∗ (anyAt c wbM ∗ anyAt c ostM ∗ anyAt c partM ∗ anyAt c (rsB 0) ∗ anyAt c (rsB 1) ∗ anyAt c (sdB 0) ∗ anyAt c (sdB 1) ∗ anyAt c (agB 0) ∗ anyAt c (agB 1) ∗ anyAt c (qB 0) ∗ anyAt c (qB 1) ∗ anyAt c amM) ∗ Ghost c ∗ anyAt c outM)
    ⊢ iprop(ow c 0 ∗ tk (tgt 0 c) .bar 0 1 ∗ tk (tgt 1 c) .bar 0 0 ∗ barPay 0 c ∗ barPay 1 c ∗ cred (tallyAt (cell c .bar) 2 2) ∗ at' c .bar 0 ∗ PreD 0 c ∗ PreD 1 c ∗ own c xM qx (A.x c) ∗ own c wM qw (A.w c) ∗ anyAt c wbM ∗ anyAt c (chunkM 0) ∗ anyAt c (chunkM 1) ∗ anyAt c (chunkM 2) ∗ anyAt c (chunkM 3) ∗ anyAt c (chunkM 4) ∗ anyAt c (chunkM 5) ∗ anyAt c (chunkM 6) ∗ anyAt c (chunkM 7) ∗ anyAt c (slot4 (sdB 0) 0 0) ∗ anyAt c (slot4 (sdB 0) 1 0) ∗ rideIf 0 0 0 (tgt 0 c) ∗ RdrR 0 0 0 0 c ∗ anyAt c (slot4 (sdB 1) 0 0) ∗ anyAt c (slot4 (sdB 1) 1 0) ∗ rideIf 1 0 0 (tgt 1 c) ∗ RdrR 0 1 0 0 c ∗ anyAt c (slot4 (sdB 0) 0 1) ∗ anyAt c (slot4 (sdB 0) 1 1) ∗ rideIf 0 1 0 (tgt 0 c) ∗ RdrR 0 0 1 0 c ∗ anyAt c (slot4 (sdB 1) 0 1) ∗ anyAt c (slot4 (sdB 1) 1 1) ∗ rideIf 1 1 0 (tgt 1 c) ∗ RdrR 0 1 1 0 c ∗ DirS 0 0 0 c ∗ DirW 0 0 0 c ∗ DirS 0 1 0 c ∗ DirW 0 1 0 c ∗ anyAt c (rowM (pm c)) ∗ tk c (.axs 0) 0 0 ∗ tk (sh 1 c) (.axr 0) 0 0 ∗ crE c (.ax 0) ∗ at' c (.axs 0) 0 ∗ at' c (.axr 0) 0 ∗ tk c (.axs 1) 0 0 ∗ tk (sh 2 c) (.axr 1) 0 0 ∗ crE c (.ax 1) ∗ at' c (.axs 1) 0 ∗ at' c (.axr 1) 0 ∗ tk c (.axs 2) 0 0 ∗ tk (sh 3 c) (.axr 2) 0 0 ∗ crE c (.ax 2) ∗ at' c (.axs 2) 0 ∗ at' c (.axr 2) 0 ∗ tk c (.axs 3) 0 0 ∗ tk (sh 4 c) (.axr 3) 0 0 ∗ crE c (.ax 3) ∗ at' c (.axs 3) 0 ∗ at' c (.axr 3) 0 ∗ tk c (.axs 4) 0 0 ∗ tk (sh 5 c) (.axr 4) 0 0 ∗ crE c (.ax 4) ∗ at' c (.axs 4) 0 ∗ at' c (.axr 4) 0 ∗ tk c (.axs 5) 0 0 ∗ tk (sh 6 c) (.axr 5) 0 0 ∗ crE c (.ax 5) ∗ at' c (.axs 5) 0 ∗ at' c (.axr 5) 0 ∗ tk c (.axs 6) 0 0 ∗ tk (sh 7 c) (.axr 6) 0 0 ∗ crE c (.ax 6) ∗ at' c (.axs 6) 0 ∗ at' c (.axr 6) 0 ∗ anyAt c (slot3 (qB 0) 0) ∗ anyAt c (slot4 ostM 0 0) ∗ OcI A 0 0 0 c ∗ RdrR 1 0 0 0 c ∗ anyAt c (slot3 (qB 1) 0) ∗ anyAt c (slot4 ostM 1 0) ∗ OcI A 1 0 0 c ∗ RdrR 1 1 0 0 c ∗ anyAt c (slot3 (qB 0) 1) ∗ anyAt c (slot4 ostM 0 1) ∗ OcI A 0 1 0 c ∗ RdrR 1 0 1 0 c ∗ anyAt c (slot3 (qB 1) 1) ∗ anyAt c (slot4 ostM 1 1) ∗ OcI A 1 1 0 c ∗ RdrR 1 1 1 0 c ∗ DirS 1 0 0 c ∗ DirW 1 0 0 c ∗ DirS 1 1 0 c ∗ DirW 1 1 0 c) := by
  unfold Ghost
  rw [l8, l4, l7, l4]
  show iprop(ow c 0 ∗ own c xM qx (A.x c) ∗ own c wM qw (A.w c) ∗ (anyAt c wbM ∗ anyAt c ostM ∗ anyAt c partM ∗ anyAt c (rsB 0) ∗ anyAt c (rsB 1) ∗ anyAt c (sdB 0) ∗ anyAt c (sdB 1) ∗ anyAt c (agB 0) ∗ anyAt c (agB 1) ∗ anyAt c (qB 0) ∗ anyAt c (qB 1) ∗ anyAt c amM) ∗ (tk (tgt 0 c) .bar 0 1 ∗ tk (tgt 1 c) .bar 0 0 ∗ cred (tallyAt (cell c .bar) 2 2) ∗ at' c .bar 0 ∗ ((PreL 0 0 0 c ∗ RdrR 0 0 0 0 c) ∗ (PreL 0 1 0 c ∗ RdrR 0 1 0 0 c) ∗ (PreL 0 0 1 c ∗ RdrR 0 0 1 0 c) ∗ (PreL 0 1 1 c ∗ RdrR 0 1 1 0 c) ∗ (PreL 1 0 0 c ∗ RdrR 1 0 0 0 c) ∗ (PreL 1 1 0 c ∗ RdrR 1 1 0 0 c) ∗ (PreL 1 0 1 c ∗ RdrR 1 0 1 0 c) ∗ (PreL 1 1 1 c ∗ RdrR 1 1 1 0 c)) ∗ ((DirS 0 0 0 c ∗ DirW 0 0 0 c) ∗ (DirS 0 1 0 c ∗ DirW 0 1 0 c) ∗ (DirS 1 0 0 c ∗ DirW 1 0 0 c) ∗ (DirS 1 1 0 c ∗ DirW 1 1 0 c)) ∗ ((tk c (.axs 0) 0 0 ∗ tk (sh 1 c) (.axr 0) 0 0 ∗ crE c (.ax 0) ∗ at' c (.axs 0) 0 ∗ at' c (.axr 0) 0) ∗ (tk c (.axs 1) 0 0 ∗ tk (sh 2 c) (.axr 1) 0 0 ∗ crE c (.ax 1) ∗ at' c (.axs 1) 0 ∗ at' c (.axr 1) 0) ∗ (tk c (.axs 2) 0 0 ∗ tk (sh 3 c) (.axr 2) 0 0 ∗ crE c (.ax 2) ∗ at' c (.axs 2) 0 ∗ at' c (.axr 2) 0) ∗ (tk c (.axs 3) 0 0 ∗ tk (sh 4 c) (.axr 3) 0 0 ∗ crE c (.ax 3) ∗ at' c (.axs 3) 0 ∗ at' c (.axr 3) 0) ∗ (tk c (.axs 4) 0 0 ∗ tk (sh 5 c) (.axr 4) 0 0 ∗ crE c (.ax 4) ∗ at' c (.axs 4) 0 ∗ at' c (.axr 4) 0) ∗ (tk c (.axs 5) 0 0 ∗ tk (sh 6 c) (.axr 5) 0 0 ∗ crE c (.ax 5) ∗ at' c (.axs 5) 0 ∗ at' c (.axr 5) 0) ∗ (tk c (.axs 6) 0 0 ∗ tk (sh 7 c) (.axr 6) 0 0 ∗ crE c (.ax 6) ∗ at' c (.axs 6) 0 ∗ at' c (.axr 6) 0)) ∗ ((at' c (.ocp 0 0) 0 ∗ rch c (.ocp 0 0) 0 ∗ bigSep (Finset.Ico 0 8) fun r => tk c (.ocp 0 0) r 0) ∗ (at' c (.ocp 0 1) 0 ∗ rch c (.ocp 0 1) 0 ∗ bigSep (Finset.Ico 0 8) fun r => tk c (.ocp 0 1) r 0) ∗ (at' c (.ocp 1 0) 0 ∗ rch c (.ocp 1 0) 0 ∗ bigSep (Finset.Ico 0 8) fun r => tk c (.ocp 1 0) r 0) ∗ (at' c (.ocp 1 1) 0 ∗ rch c (.ocp 1 1) 0 ∗ bigSep (Finset.Ico 0 8) fun r => tk c (.ocp 1 1) r 0))) ∗ anyAt c outM) ⊢ _
  iintro ⟨HO, Hx, Hw, ⟨Bwb, Bos, Bpt, Brs0, Brs1, Bsd0, Bsd1, Bag0, Bag1, Bq0, Bq1, Bam⟩, ⟨Htb0, Htb1, Hbc, Hba, ⟨⟨P000, R000⟩, ⟨P010, R010⟩, ⟨P001, R001⟩, ⟨P011, R011⟩, ⟨P100, R100⟩, ⟨P110, R110⟩, ⟨P101, R101⟩, ⟨P111, R111⟩⟩, ⟨⟨D00, W00⟩, ⟨D01, W01⟩, ⟨D10, W10⟩, ⟨D11, W11⟩⟩, ⟨⟨Hxt0a, Hxt0b, Hxc0, Hxa0, Hxb0⟩, ⟨Hxt1a, Hxt1b, Hxc1, Hxa1, Hxb1⟩, ⟨Hxt2a, Hxt2b, Hxc2, Hxa2, Hxb2⟩, ⟨Hxt3a, Hxt3b, Hxc3, Hxa3, Hxb3⟩, ⟨Hxt4a, Hxt4b, Hxc4, Hxa4, Hxb4⟩, ⟨Hxt5a, Hxt5b, Hxc5, Hxa5, Hxb5⟩, ⟨Hxt6a, Hxt6b, Hxc6, Hxa6, Hxb6⟩⟩, ⟨K00, K01, K10, K11⟩⟩, Hout⟩
  ihave Bpt := (Entails.of_eq (eight (c := c))) $$ Bpt
  icases Bpt with ⟨C0, C1, C2, C3, C4, C5, C6, C7⟩
  ihave Brs0 := (Entails.of_eq (four (c := c) (rsB 0))) $$ Brs0
  icases Brs0 with ⟨Srs000, Srs001, Srs010, Srs011⟩
  ihave Brs1 := (Entails.of_eq (four (c := c) (rsB 1))) $$ Brs1
  icases Brs1 with ⟨Srs100, Srs101, Srs110, Srs111⟩
  ihave Bsd0 := (Entails.of_eq (four (c := c) (sdB 0))) $$ Bsd0
  icases Bsd0 with ⟨Ssd000, Ssd001, Ssd010, Ssd011⟩
  ihave Bsd1 := (Entails.of_eq (four (c := c) (sdB 1))) $$ Bsd1
  icases Bsd1 with ⟨Ssd100, Ssd101, Ssd110, Ssd111⟩
  ihave Bag0 := (Entails.of_eq (four (c := c) (agB 0))) $$ Bag0
  icases Bag0 with ⟨Sag000, Sag001, Sag010, Sag011⟩
  ihave Bag1 := (Entails.of_eq (four (c := c) (agB 1))) $$ Bag1
  icases Bag1 with ⟨Sag100, Sag101, Sag110, Sag111⟩
  ihave Bos := (Entails.of_eq (four (c := c) ostM)) $$ Bos
  icases Bos with ⟨Hos00, Hos01, Hos10, Hos11⟩
  ihave Bq0 := (Entails.of_eq (two (c := c) (qB 0))) $$ Bq0
  icases Bq0 with ⟨Hqs00, Hqs01⟩
  ihave Bq1 := (Entails.of_eq (two (c := c) (qB 1))) $$ Bq1
  icases Bq1 with ⟨Hqs10, Hqs11⟩
  ihave Bam := (rows (c := c)) $$ Bam
  icases Bam with ⟨Hra, Hrd00⟩
  ihave Hout := (any_out (c := c)) $$ Hout
  ihave Hout := (Entails.of_eq ((l4 _).trans (show _ = iprop((bigSep (Finset.Ico 0 8) fun r => anyAt c (winM (wn 0 r c) 0 0)) ∗ (bigSep (Finset.Ico 0 8) fun r => anyAt c (winM (wn 0 r c) 0 1)) ∗ (bigSep (Finset.Ico 0 8) fun r => anyAt c (winM (wn 1 r c) 1 0)) ∗ (bigSep (Finset.Ico 0 8) fun r => anyAt c (winM (wn 1 r c) 1 1))) from rfl))) $$ Hout
  icases Hout with ⟨V00, V01, V10, V11⟩
  ihave Hoc00 := (mkOc A 0 0) $$ [K00 V00]
  · isplitl [K00]; · iexact K00
    iexact V00
  ihave Hoc01 := (mkOc A 0 1) $$ [K01 V01]
  · isplitl [K01]; · iexact K01
    iexact V01
  ihave Hoc10 := (mkOc A 1 0) $$ [K10 V10]
  · isplitl [K10]; · iexact K10
    iexact V10
  ihave Hoc11 := (mkOc A 1 1) $$ [K11 V11]
  · isplitl [K11]; · iexact K11
    iexact V11
  ihave Hbp0 := (Entails.of_eq (barPay_eq 0 c).symm) $$ [Srs000 Srs010 Srs001 Srs011 Sag000 Sag010 Sag001 Sag011]
  · isplitl [Srs000 Srs010]
    · isplitl [Srs000]
      · iapply (Entails.of_eq (slotOf0 c 0 0 0).symm); iexact Srs000
      iapply (Entails.of_eq (slotOf0 c 0 1 0).symm); iexact Srs010
    isplitl [Srs001 Srs011]
    · isplitl [Srs001]
      · iapply (Entails.of_eq (slotOf0 c 0 0 1).symm); iexact Srs001
      iapply (Entails.of_eq (slotOf0 c 0 1 1).symm); iexact Srs011
    isplitl [Sag000 Sag010]
    · isplitl [Sag000]
      · iapply (Entails.of_eq (slotOf1 c 0 0 0).symm); iexact Sag000
      iapply (Entails.of_eq (slotOf1 c 0 1 0).symm); iexact Sag010
    isplitl [Sag001]
    · iapply (Entails.of_eq (slotOf1 c 0 0 1).symm); iexact Sag001
    iapply (Entails.of_eq (slotOf1 c 0 1 1).symm); iexact Sag011
  ihave HP0 := (Entails.of_eq (show iprop(PreL 0 0 0 c ∗ PreL 0 0 1 c ∗ PreL 1 0 0 c ∗ PreL 1 0 1 c) = PreD 0 c from rfl)) $$ [P000 P001 P100 P101]
  · isplitl [P000]; · iexact P000
    isplitl [P001]; · iexact P001
    isplitl [P100]; · iexact P100
    iexact P101
  ihave Hbp1 := (Entails.of_eq (barPay_eq 1 c).symm) $$ [Srs100 Srs110 Srs101 Srs111 Sag100 Sag110 Sag101 Sag111]
  · isplitl [Srs100 Srs110]
    · isplitl [Srs100]
      · iapply (Entails.of_eq (slotOf0 c 1 0 0).symm); iexact Srs100
      iapply (Entails.of_eq (slotOf0 c 1 1 0).symm); iexact Srs110
    isplitl [Srs101 Srs111]
    · isplitl [Srs101]
      · iapply (Entails.of_eq (slotOf0 c 1 0 1).symm); iexact Srs101
      iapply (Entails.of_eq (slotOf0 c 1 1 1).symm); iexact Srs111
    isplitl [Sag100 Sag110]
    · isplitl [Sag100]
      · iapply (Entails.of_eq (slotOf1 c 1 0 0).symm); iexact Sag100
      iapply (Entails.of_eq (slotOf1 c 1 1 0).symm); iexact Sag110
    isplitl [Sag101]
    · iapply (Entails.of_eq (slotOf1 c 1 0 1).symm); iexact Sag101
    iapply (Entails.of_eq (slotOf1 c 1 1 1).symm); iexact Sag111
  ihave HP1 := (Entails.of_eq (show iprop(PreL 0 1 0 c ∗ PreL 0 1 1 c ∗ PreL 1 1 0 c ∗ PreL 1 1 1 c) = PreD 1 c from rfl)) $$ [P010 P011 P110 P111]
  · isplitl [P010]; · iexact P010
    isplitl [P011]; · iexact P011
    isplitl [P110]; · iexact P110
    iexact P111
  isplitl [HO]; · iexact HO
  isplitl [Htb0]; · iexact Htb0
  isplitl [Htb1]; · iexact Htb1
  isplitl [Hbp0]; · iexact Hbp0
  isplitl [Hbp1]; · iexact Hbp1
  isplitl [Hbc]; · iexact Hbc
  isplitl [Hba]; · iexact Hba
  isplitl [HP0]; · iexact HP0
  isplitl [HP1]; · iexact HP1
  isplitl [Hx]; · iexact Hx
  isplitl [Hw]; · iexact Hw
  isplitl [Bwb]; · iexact Bwb
  isplitl [C0]; · iexact C0
  isplitl [C1]; · iexact C1
  isplitl [C2]; · iexact C2
  isplitl [C3]; · iexact C3
  isplitl [C4]; · iexact C4
  isplitl [C5]; · iexact C5
  isplitl [C6]; · iexact C6
  isplitl [C7]; · iexact C7
  isplitl [Ssd000]; · iexact Ssd000
  isplitl [Ssd010]; · iexact Ssd010
  isplitl [Hrd00]; · iexact Hrd00
  isplitl [R000]; · iexact R000
  isplitl [Ssd100]; · iexact Ssd100
  isplitl [Ssd110]; · iexact Ssd110
  isplitr; · iapply (Entails.of_eq (show iprop(emp) = rideIf 1 0 0 (tgt 1 c) from (if_neg (by decide)).symm)); iempintro
  isplitl [R010]; · iexact R010
  isplitl [Ssd001]; · iexact Ssd001
  isplitl [Ssd011]; · iexact Ssd011
  isplitr; · iapply (Entails.of_eq (show iprop(emp) = rideIf 0 1 0 (tgt 0 c) from (if_neg (by decide)).symm)); iempintro
  isplitl [R001]; · iexact R001
  isplitl [Ssd101]; · iexact Ssd101
  isplitl [Ssd111]; · iexact Ssd111
  isplitr; · iapply (Entails.of_eq (show iprop(emp) = rideIf 1 1 0 (tgt 1 c) from (if_neg (by decide)).symm)); iempintro
  isplitl [R011]; · iexact R011
  isplitl [D00]; · iexact D00
  isplitl [W00]; · iexact W00
  isplitl [D01]; · iexact D01
  isplitl [W01]; · iexact W01
  isplitl [Hra]; · iexact Hra
  isplitl [Hxt0a]; · iexact Hxt0a
  isplitl [Hxt0b]; · iexact Hxt0b
  isplitl [Hxc0]; · iexact Hxc0
  isplitl [Hxa0]; · iexact Hxa0
  isplitl [Hxb0]; · iexact Hxb0
  isplitl [Hxt1a]; · iexact Hxt1a
  isplitl [Hxt1b]; · iexact Hxt1b
  isplitl [Hxc1]; · iexact Hxc1
  isplitl [Hxa1]; · iexact Hxa1
  isplitl [Hxb1]; · iexact Hxb1
  isplitl [Hxt2a]; · iexact Hxt2a
  isplitl [Hxt2b]; · iexact Hxt2b
  isplitl [Hxc2]; · iexact Hxc2
  isplitl [Hxa2]; · iexact Hxa2
  isplitl [Hxb2]; · iexact Hxb2
  isplitl [Hxt3a]; · iexact Hxt3a
  isplitl [Hxt3b]; · iexact Hxt3b
  isplitl [Hxc3]; · iexact Hxc3
  isplitl [Hxa3]; · iexact Hxa3
  isplitl [Hxb3]; · iexact Hxb3
  isplitl [Hxt4a]; · iexact Hxt4a
  isplitl [Hxt4b]; · iexact Hxt4b
  isplitl [Hxc4]; · iexact Hxc4
  isplitl [Hxa4]; · iexact Hxa4
  isplitl [Hxb4]; · iexact Hxb4
  isplitl [Hxt5a]; · iexact Hxt5a
  isplitl [Hxt5b]; · iexact Hxt5b
  isplitl [Hxc5]; · iexact Hxc5
  isplitl [Hxa5]; · iexact Hxa5
  isplitl [Hxb5]; · iexact Hxb5
  isplitl [Hxt6a]; · iexact Hxt6a
  isplitl [Hxt6b]; · iexact Hxt6b
  isplitl [Hxc6]; · iexact Hxc6
  isplitl [Hxa6]; · iexact Hxa6
  isplitl [Hxb6]; · iexact Hxb6
  isplitl [Hqs00]; · iexact Hqs00
  isplitl [Hos00]; · iexact Hos00
  isplitl [Hoc00]; · iexact Hoc00
  isplitl [R100]; · iexact R100
  isplitl [Hqs10]; · iexact Hqs10
  isplitl [Hos10]; · iexact Hos10
  isplitl [Hoc10]; · iexact Hoc10
  isplitl [R110]; · iexact R110
  isplitl [Hqs01]; · iexact Hqs01
  isplitl [Hos01]; · iexact Hos01
  isplitl [Hoc01]; · iexact Hoc01
  isplitl [R101]; · iexact R101
  isplitl [Hqs11]; · iexact Hqs11
  isplitl [Hos11]; · iexact Hos11
  isplitl [Hoc11]; · iexact Hoc11
  isplitl [R111]; · iexact R111
  isplitl [D10]; · iexact D10
  isplitl [W10]; · iexact W10
  isplitl [D11]; · iexact D11
  iexact W11

end Cert.KernelIdeal.Ring
-- ==== Proof.Parts.lean ====
/-
# The program of a device, one part after the other
-/
module

public import proofs.«01_k».proof.Proof.Ops
public import proofs.«01_k».proof.Proof.Gen.KernelIdeal.Points

@[expose] public section

noncomputable section

namespace Cert.KernelIdeal.Ring

open Cert.KernelIdeal Cert.KernelIdeal.Gen
open Idealize.ShloMosaic
open Idealize.ShloMosaic.TcCoe
open Idealize.SL Idealize.SL.Sem

variable {F : FTy → Type} [FloatOps F]

abbrev b4 : Memref sig .tc .vmem S2x2x512x512 .bf16 := Memref.whole cc0_scratch4
abbrev b5 : Memref sig .tc .vmem S2x2x512x512 .bf16 := Memref.whole cc0_scratch5
abbrev b6 : Memref sig .tc .vmem S2x2x512x512 .bf16 := Memref.whole cc0_scratch6
abbrev b7 : Memref sig .tc .vmem S2x2x512x512 .bf16 := Memref.whole cc0_scratch7
abbrev b8 : Memref sig .tc .vmem S2x2x512x512 .i8 := Memref.whole cc0_scratch8
abbrev b9 : Memref sig .tc .vmem S2x2x512x512 .i8 := Memref.whole cc0_scratch9
abbrev b10 : Memref sig .tc .vmem S2x512x512 .i8 := Memref.whole cc0_scratch10
abbrev b11 : Memref sig .tc .vmem S2x512x512 .i8 := Memref.whole cc0_scratch11
theorem hx : xM.IsWhole := Memref.isWhole_whole _
theorem hw : wM.IsWhole := Memref.isWhole_whole _
theorem h2 : outM.IsWhole := Memref.isWhole_whole _
theorem h3 : wbM.IsWhole := Memref.isWhole_whole _
theorem h4 : ostM.IsWhole := Memref.isWhole_whole _
theorem h6 : partM.IsWhole := Memref.isWhole_whole _
theorem h7 : b4.IsWhole := Memref.isWhole_whole _
theorem h8 : b5.IsWhole := Memref.isWhole_whole _
theorem h9 : b6.IsWhole := Memref.isWhole_whole _
theorem h10 : b7.IsWhole := Memref.isWhole_whole _
theorem h11 : b8.IsWhole := Memref.isWhole_whole _
theorem h12 : b9.IsWhole := Memref.isWhole_whole _
theorem h13 : b10.IsWhole := Memref.isWhole_whole _
theorem h14 : b11.IsWhole := Memref.isWhole_whole _
theorem h15 : amM.IsWhole := Memref.isWhole_whole _

/-- A part of the program on the buffers and semaphores it runs on. -/
abbrev call {β : Type 1} (f : ∀ (arg0 : Memref sig .tc .vmem S4096x512 .bf16) (harg0 : arg0.IsWhole) (arg1 : Memref sig .tc .vmem S512x2048 .bf16) (harg1 : arg1.IsWhole) (arg2 : Memref sig .tc .hbm S4096x2048 .bf16) (harg2 : arg2.IsWhole) (arg3 : Memref sig .tc .vmem S512x2048 .bf16) (harg3 : arg3.IsWhole) (arg4 : Memref sig .tc .vmem S2x2x512x512 .bf16) (harg4 : arg4.IsWhole) (arg5 : DmaSems sig S2x2) (arg6 : Memref sig .tc .vmem S8x512x2048 .bf16) (harg6 : arg6.IsWhole) (arg7 : Memref sig .tc .vmem S2x2x512x512 .bf16) (harg7 : arg7.IsWhole) (arg8 : Memref sig .tc .vmem S2x2x512x512 .bf16) (harg8 : arg8.IsWhole) (arg9 : Memref sig .tc .vmem S2x2x512x512 .bf16) (harg9 : arg9.IsWhole) (arg10 : Memref sig .tc .vmem S2x2x512x512 .bf16) (harg10 : arg10.IsWhole) (arg11 : Memref sig .tc .vmem S2x2x512x512 .i8) (harg11 : arg11.IsWhole) (arg12 : Memref sig .tc .vmem S2x2x512x512 .i8) (harg12 : arg12.IsWhole) (arg13 : Memref sig .tc .vmem S2x512x512 .i8) (harg13 : arg13.IsWhole) (arg14 : Memref sig .tc .vmem S2x512x512 .i8) (harg14 : arg14.IsWhole) (arg15 : Memref sig .tc .vmem S8x8x128 .f32) (harg15 : arg15.IsWhole) (arg16 : DmaSems sig S2x2) (arg17 : DmaSems sig S2x2) (arg18 : DmaSems sig S2x2) (arg19 : DmaSems sig S2x2) (arg20 : DmaSems sig S2x2) (arg21 : DmaSems sig S2x2) (arg22 : DmaSems sig S2x2) (arg23 : DmaSems sig S2x2) (arg24 : DmaSems sig S7) (arg25 : DmaSems sig S7) (arg26 : Sems sig S_) (arg27 : Sems sig S_) (arg28 : Sems sig S_) (arg29 : Sems sig S_), β) : β :=
  f xM hx wM hw outM h2 wbM h3 ostM h4 cc0_scratch2 partM h6 b4 h7 b5 h8 b6 h9 b7 h10 b8 h11 b9 h12 b10 h13 b11 h14 amM h15 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26

/-- The program from its part `n` on. -/
def T134 (c : Dev nD) : Prog (TpuEff nD τ sig (Elt F) Λ₀ .tc) PUnit := do
  let v3329 : Memref sig .tc .vmem S1x1x512x512 .bf16 := ostM.slice (Rect.unit (s := S2x2x512x512) ![1, 1, 0, 0] S1x1x512x512.size inb_S2x2x512x512_S1x1x512x512_1_1_0_0) (fun _ => rfl)
  let v3330 : Memref sig .tc .vmem S512x512 .bf16 := v3329.squeeze S512x512 squeezes_S1x1x512x512_S512x512
  let v3326 : DmaSems sig S1x1 := cc0_scratch2.slice (Rect.unit (s := S2x2) ![1, 1] S1x1.size inb_S2x2_S1x1_1_1)
  let v3327 : DmaSems sig S_ := v3326.squeeze S_ squeezes_S1x1_S_
  let v3328 : Memref sig .tc .hbm S512x512 .bf16 := outM.slice (Rect.unit (s := S4096x2048) (k0_off12 c 6#32) S512x512.size (k0_off12_inb c 6)) (fun _ => rfl)
  Prog.lift (.enqueueDma v3330 (.here v3328) (.dma v3327.sem) ((h4.wordExact_slice rfl _ wordsbf16_S2x2x512x512_S1x1x512x512_1_1_0_0).reshape _ _) (h2.wordExact_slice rfl _ (k0_off12_wordsbf16 c 6)) ⟨Or.inl rfl, trivial⟩)
  let v3331 : DmaSems sig S1x1 := cc0_scratch2.slice (Rect.unit (s := S2x2) ![0, 0] S1x1.size inb_S2x2_S1x1_0_0)
  let v3332 : DmaSems sig S_ := v3331.squeeze S_ squeezes_S1x1_S_
  let v3333 : Memref sig .tc .hbm S512x512 .bf16 := outM.slice (Rect.unit (s := S4096x2048) (k0_off9 c 6#32) S512x512.size (k0_off9_inb c 6)) (fun _ => rfl)
  let v3334 : Memref sig .tc .vmem S1x1x512x512 .bf16 := ostM.slice (Rect.unit (s := S2x2x512x512) ![0, 0, 0, 0] S1x1x512x512.size inb_S2x2x512x512_S1x1x512x512_0_0_0_0) (fun _ => rfl)
  let v3335 : Memref sig .tc .vmem S512x512 .bf16 := v3334.squeeze S512x512 squeezes_S1x1x512x512_S512x512
  Prog.lift (.waitDma2 v3332.sem v3335 v3333 ((h4.wordExact_slice rfl _ wordsbf16_S2x2x512x512_S1x1x512x512_0_0_0_0).reshape _ _) (h2.wordExact_slice rfl _ (k0_off9_wordsbf16 c 6)))
  let v3336 : DmaSems sig S1x1 := cc0_scratch2.slice (Rect.unit (s := S2x2) ![1, 0] S1x1.size inb_S2x2_S1x1_1_0)
  let v3337 : DmaSems sig S_ := v3336.squeeze S_ squeezes_S1x1_S_
  let v3338 : Memref sig .tc .hbm S512x512 .bf16 := outM.slice (Rect.unit (s := S4096x2048) (k0_off10 c 6#32) S512x512.size (k0_off10_inb c 6)) (fun _ => rfl)
  let v3339 : Memref sig .tc .vmem S1x1x512x512 .bf16 := ostM.slice (Rect.unit (s := S2x2x512x512) ![1, 0, 0, 0] S1x1x512x512.size inb_S2x2x512x512_S1x1x512x512_1_0_0_0) (fun _ => rfl)
  let v3340 : Memref sig .tc .vmem S512x512 .bf16 := v3339.squeeze S512x512 squeezes_S1x1x512x512_S512x512
  Prog.lift (.waitDma2 v3337.sem v3340 v3338 ((h4.wordExact_slice rfl _ wordsbf16_S2x2x512x512_S1x1x512x512_1_0_0_0).reshape _ _) (h2.wordExact_slice rfl _ (k0_off10_wordsbf16 c 6)))
  let v3341 : DmaSems sig S1x1 := cc0_scratch2.slice (Rect.unit (s := S2x2) ![0, 1] S1x1.size inb_S2x2_S1x1_0_1)
  let v3342 : DmaSems sig S_ := v3341.squeeze S_ squeezes_S1x1_S_
  let v3343 : Memref sig .tc .hbm S512x512 .bf16 := outM.slice (Rect.unit (s := S4096x2048) (k0_off11 c 6#32) S512x512.size (k0_off11_inb c 6)) (fun _ => rfl)
  let v3344 : Memref sig .tc .vmem S1x1x512x512 .bf16 := ostM.slice (Rect.unit (s := S2x2x512x512) ![0, 1, 0, 0] S1x1x512x512.size inb_S2x2x512x512_S1x1x512x512_0_1_0_0) (fun _ => rfl)
  let v3345 : Memref sig .tc .vmem S512x512 .bf16 := v3344.squeeze S512x512 squeezes_S1x1x512x512_S512x512
  Prog.lift (.waitDma2 v3342.sem v3345 v3343 ((h4.wordExact_slice rfl _ wordsbf16_S2x2x512x512_S1x1x512x512_0_1_0_0).reshape _ _) (h2.wordExact_slice rfl _ (k0_off11_wordsbf16 c 6)))
  let v3346 : DmaSems sig S1x1 := cc0_scratch2.slice (Rect.unit (s := S2x2) ![1, 1] S1x1.size inb_S2x2_S1x1_1_1)
  let v3347 : DmaSems sig S_ := v3346.squeeze S_ squeezes_S1x1_S_
  let v3348 : Memref sig .tc .hbm S512x512 .bf16 := outM.slice (Rect.unit (s := S4096x2048) (k0_off12 c 6#32) S512x512.size (k0_off12_inb c 6)) (fun _ => rfl)
  let v3349 : Memref sig .tc .vmem S1x1x512x512 .bf16 := ostM.slice (Rect.unit (s := S2x2x512x512) ![1, 1, 0, 0] S1x1x512x512.size inb_S2x2x512x512_S1x1x512x512_1_1_0_0) (fun _ => rfl)
  let v3350 : Memref sig .tc .vmem S512x512 .bf16 := v3349.squeeze S512x512 squeezes_S1x1x512x512_S512x512
  Prog.lift (.waitDma2 v3347.sem v3350 v3348 ((h4.wordExact_slice rfl _ wordsbf16_S2x2x512x512_S1x1x512x512_1_1_0_0).reshape _ _) (h2.wordExact_slice rfl _ (k0_off12_wordsbf16 c 6)))
  pure ⟨⟩

def T133 (c : Dev nD) (v1624 : F .f32) (v3300 : BitVec 32) : Prog (TpuEff nD τ sig (Elt F) Λ₀ .tc) PUnit :=
  call k0_part133 c v1624 v3300 >>= fun _ => T134 c
def T132 (c : Dev nD) (v10 : BitVec 32) (v48 : BitVec 32) (v1624 : F .f32) (v3271 : BitVec 32) (v3277 : FVec F S512x512 .bf16) : Prog (TpuEff nD τ sig (Elt F) Λ₀ .tc) PUnit :=
  call k0_part132 c v10 v48 v3271 v3277 >>= fun p => T133 c v1624 p
def T131 (c : Dev nD) (v10 : BitVec 32) (v29 : BitVec 32) (v48 : BitVec 32) (v1624 : F .f32) : Prog (TpuEff nD τ sig (Elt F) Λ₀ .tc) PUnit :=
  call k0_part131 c v10 v29 v1624 >>= fun p => T132 c v10 v48 v1624 (p.1) (p.2)
def T130 (c : Dev nD) (v10 : BitVec 32) (v29 : BitVec 32) (v48 : BitVec 32) (v1624 : F .f32) : Prog (TpuEff nD τ sig (Elt F) Λ₀ .tc) PUnit :=
  call k0_part130 c v10 v1624 >>= fun _ => T131 c v10 v29 v48 v1624
def T129 (c : Dev nD) (v10 : BitVec 32) (v29 : BitVec 32) (v48 : BitVec 32) (v1624 : F .f32) (v3193 : BitVec 32) (v3194 : Vec F S1x1x512x512 .i8) : Prog (TpuEff nD τ sig (Elt F) Λ₀ .tc) PUnit :=
  call k0_part129 c v48 v1624 v3193 v3194 >>= fun _ => T130 c v10 v29 v48 v1624
def T128 (c : Dev nD) (v10 : BitVec 32) (v29 : BitVec 32) (v48 : BitVec 32) (v1624 : F .f32) : Prog (TpuEff nD τ sig (Elt F) Λ₀ .tc) PUnit :=
  call k0_part128 v10 v29 >>= fun p => T129 c v10 v29 v48 v1624 (p.1) (p.2)
def T127 (c : Dev nD) (v10 : BitVec 32) (v29 : BitVec 32) (v48 : BitVec 32) (v1624 : F .f32) (v3140 : BitVec 32) (v3141 : BitVec 32) (v3142 : BitVec 1) : Prog (TpuEff nD τ sig (Elt F) Λ₀ .tc) PUnit :=
  call k0_part127 c v1624 v3140 v3141 v3142 >>= fun _ => T128 c v10 v29 v48 v1624
def T126 (c : Dev nD) (v10 : BitVec 32) (v29 : BitVec 32) (v48 : BitVec 32) (v1624 : F .f32) (v3111 : BitVec 32) (v3117 : FVec F S512x512 .bf16) : Prog (TpuEff nD τ sig (Elt F) Λ₀ .tc) PUnit :=
  call k0_part126 c v10 v3111 v3117 >>= fun p => T127 c v10 v29 v48 v1624 (p.1) (p.2.1) (p.2.2)
def T125 (c : Dev nD) (v10 : BitVec 32) (v29 : BitVec 32) (v48 : BitVec 32) (v1624 : F .f32) : Prog (TpuEff nD τ sig (Elt F) Λ₀ .tc) PUnit :=
  call k0_part125 c v10 v1624 >>= fun p => T126 c v10 v29 v48 v1624 (p.1) (p.2)
def T124 (c : Dev nD) (v10 : BitVec 32) (v29 : BitVec 32) (v48 : BitVec 32) (v1624 : F .f32) : Prog (TpuEff nD τ sig (Elt F) Λ₀ .tc) PUnit :=
  call k0_part124 c v10 v1624 >>= fun _ => T125 c v10 v29 v48 v1624
def T123 (c : Dev nD) (v10 : BitVec 32) (v29 : BitVec 32) (v48 : BitVec 32) (v1624 : F .f32) (v3037 : BitVec 32) : Prog (TpuEff nD τ sig (Elt F) Λ₀ .tc) PUnit :=
  call k0_part123 c v1624 v3037 >>= fun _ => T124 c v10 v29 v48 v1624
def T122 (c : Dev nD) (v10 : BitVec 32) (v29 : BitVec 32) (v48 : BitVec 32) (v1624 : F .f32) : Prog (TpuEff nD τ sig (Elt F) Λ₀ .tc) PUnit :=
  call k0_part122 c v10 v48 >>= fun p => T123 c v10 v29 v48 v1624 p
def T121 (c : Dev nD) (v10 : BitVec 32) (v29 : BitVec 32) (v48 : BitVec 32) (v1624 : F .f32) : Prog (TpuEff nD τ sig (Elt F) Λ₀ .tc) PUnit :=
  call k0_part121 c v29 v48 >>= fun _ => T122 c v10 v29 v48 v1624
def T120 (c : Dev nD) (v10 : BitVec 32) (v29 : BitVec 32) (v48 : BitVec 32) (v1624 : F .f32) : Prog (TpuEff nD τ sig (Elt F) Λ₀ .tc) PUnit :=
  call k0_part120 c v48 >>= fun _ => T121 c v10 v29 v48 v1624
def T119 (c : Dev nD) (v10 : BitVec 32) (v29 : BitVec 32) (v48 : BitVec 32) (v1624 : F .f32) : Prog (TpuEff nD τ sig (Elt F) Λ₀ .tc) PUnit :=
  call k0_part119 c v29 >>= fun _ => T120 c v10 v29 v48 v1624
def T118 (c : Dev nD) (v10 : BitVec 32) (v29 : BitVec 32) (v48 : BitVec 32) (v1624 : F .f32) (v2918 : BitVec 32) (v2919 : BitVec 32) (v2924 : BitVec 1) : Prog (TpuEff nD τ sig (Elt F) Λ₀ .tc) PUnit :=
  call k0_part118 c v1624 v2918 v2919 v2924 >>= fun _ => T119 c v10 v29 v48 v1624
def T117 (c : Dev nD) (v10 : BitVec 32) (v29 : BitVec 32) (v48 : BitVec 32) (v1624 : F .f32) (v2887 : BitVec 32) (v2893 : FVec F S512x512 .bf16) (v2899 : Vec F S1x1x512x512 .bf16) : Prog (TpuEff nD τ sig (Elt F) Λ₀ .tc) PUnit :=
  call k0_part117 c v10 v48 v2887 v2893 v2899 >>= fun p => T118 c v10 v29 v48 v1624 (p.1) (p.2.1) (p.2.2)
def T116 (c : Dev nD) (v10 : BitVec 32) (v29 : BitVec 32) (v48 : BitVec 32) (v1624 : F .f32) : Prog (TpuEff nD τ sig (Elt F) Λ₀ .tc) PUnit :=
  call k0_part116 c v10 v29 v1624 >>= fun p => T117 c v10 v29 v48 v1624 (p.1) (p.2.1) (p.2.2)
def T115 (c : Dev nD) (v10 : BitVec 32) (v29 : BitVec 32) (v48 : BitVec 32) (v1624 : F .f32) (v2840 : BitVec 32) (v2841 : BitVec 32) (v2846 : BitVec 1) : Prog (TpuEff nD τ sig (Elt F) Λ₀ .tc) PUnit :=
  call k0_part115 c v1624 v2840 v2841 v2846 >>= fun _ => T116 c v10 v29 v48 v1624
def T114 (c : Dev nD) (v10 : BitVec 32) (v29 : BitVec 32) (v48 : BitVec 32) (v1624 : F .f32) (v2809 : BitVec 32) (v2815 : FVec F S512x512 .bf16) (v2821 : Vec F S1x1x512x512 .bf16) : Prog (TpuEff nD τ sig (Elt F) Λ₀ .tc) PUnit :=
  call k0_part114 c v10 v48 v2809 v2815 v2821 >>= fun p => T115 c v10 v29 v48 v1624 (p.1) (p.2.1) (p.2.2)
def T113 (c : Dev nD) (v10 : BitVec 32) (v29 : BitVec 32) (v48 : BitVec 32) (v1624 : F .f32) (v2789 : BitVec 32) (c0_i32_3562 : BitVec 32) : Prog (TpuEff nD τ sig (Elt F) Λ₀ .tc) PUnit :=
  call k0_part113 c v10 v1624 v2789 c0_i32_3562 >>= fun p => T114 c v10 v29 v48 v1624 (p.1) (p.2.1) (p.2.2)
def T112 (c : Dev nD) (v10 : BitVec 32) (v29 : BitVec 32) (v48 : BitVec 32) (v1624 : F .f32) : Prog (TpuEff nD τ sig (Elt F) Λ₀ .tc) PUnit :=
  call k0_part112 c v29 v48 >>= fun p => T113 c v10 v29 v48 v1624 (p.1) (p.2)
def T111 (c : Dev nD) (v10 : BitVec 32) (v29 : BitVec 32) (v48 : BitVec 32) (v1624 : F .f32) : Prog (TpuEff nD τ sig (Elt F) Λ₀ .tc) PUnit :=
  call k0_part111 c v29 v48 >>= fun _ => T112 c v10 v29 v48 v1624
def T110 (c : Dev nD) (v10 : BitVec 32) (v29 : BitVec 32) (v48 : BitVec 32) (v1624 : F .f32) (v2727 : BitVec 32) : Prog (TpuEff nD τ sig (Elt F) Λ₀ .tc) PUnit :=
  call k0_part110 c v29 v48 v2727 >>= fun _ => T111 c v10 v29 v48 v1624
def T109 (c : Dev nD) (v10 : BitVec 32) (v29 : BitVec 32) (v48 : BitVec 32) (v1624 : F .f32) (v2698 : BitVec 32) (v2704 : FVec F S512x512 .bf16) : Prog (TpuEff nD τ sig (Elt F) Λ₀ .tc) PUnit :=
  call k0_part109 c v29 v2698 v2704 >>= fun p => T110 c v10 v29 v48 v1624 p
def T108 (c : Dev nD) (v10 : BitVec 32) (v29 : BitVec 32) (v48 : BitVec 32) (v1624 : F .f32) : Prog (TpuEff nD τ sig (Elt F) Λ₀ .tc) PUnit :=
  call k0_part108 c v10 v48 v1624 >>= fun p => T109 c v10 v29 v48 v1624 (p.1) (p.2)
def T107 (c : Dev nD) (v10 : BitVec 32) (v29 : BitVec 32) (v48 : BitVec 32) (v1624 : F .f32) (v2651 : BitVec 32) (v2652 : BitVec 32) (v2653 : BitVec 1) : Prog (TpuEff nD τ sig (Elt F) Λ₀ .tc) PUnit :=
  call k0_part107 c v1624 v2651 v2652 v2653 >>= fun _ => T108 c v10 v29 v48 v1624
def T106 (c : Dev nD) (v10 : BitVec 32) (v29 : BitVec 32) (v48 : BitVec 32) (v1624 : F .f32) (v2620 : BitVec 32) (v2626 : FVec F S512x512 .bf16) : Prog (TpuEff nD τ sig (Elt F) Λ₀ .tc) PUnit :=
  call k0_part106 c v10 v29 v2620 v2626 >>= fun p => T107 c v10 v29 v48 v1624 (p.1) (p.2.1) (p.2.2)
def T105 (c : Dev nD) (v10 : BitVec 32) (v29 : BitVec 32) (v48 : BitVec 32) (v1624 : F .f32) : Prog (TpuEff nD τ sig (Elt F) Λ₀ .tc) PUnit :=
  call k0_part105 c v10 v48 v1624 >>= fun p => T106 c v10 v29 v48 v1624 (p.1) (p.2)
def T104 (c : Dev nD) (v10 : BitVec 32) (v29 : BitVec 32) (v48 : BitVec 32) (v1624 : F .f32) (v2573 : BitVec 32) (v2574 : BitVec 32) (v2575 : BitVec 1) : Prog (TpuEff nD τ sig (Elt F) Λ₀ .tc) PUnit :=
  call k0_part104 c v1624 v2573 v2574 v2575 >>= fun _ => T105 c v10 v29 v48 v1624
def T103 (c : Dev nD) (v10 : BitVec 32) (v29 : BitVec 32) (v48 : BitVec 32) (v1624 : F .f32) : Prog (TpuEff nD τ sig (Elt F) Λ₀ .tc) PUnit :=
  call k0_part103 c v10 v48 >>= fun p => T104 c v10 v29 v48 v1624 (p.1) (p.2.1) (p.2.2)
def T102 (c : Dev nD) (v10 : BitVec 32) (v29 : BitVec 32) (v48 : BitVec 32) (v1624 : F .f32) : Prog (TpuEff nD τ sig (Elt F) Λ₀ .tc) PUnit :=
  call k0_part102 c v29 >>= fun _ => T103 c v10 v29 v48 v1624
def T101 (c : Dev nD) (v10 : BitVec 32) (v29 : BitVec 32) (v48 : BitVec 32) (v1624 : F .f32) : Prog (TpuEff nD τ sig (Elt F) Λ₀ .tc) PUnit :=
  call k0_part101 c v29 v48 >>= fun _ => T102 c v10 v29 v48 v1624
def T100 (c : Dev nD) (v10 : BitVec 32) (v29 : BitVec 32) (v48 : BitVec 32) (v1624 : F .f32) : Prog (TpuEff nD τ sig (Elt F) Λ₀ .tc) PUnit :=
  call k0_part100 c v29 >>= fun _ => T101 c v10 v29 v48 v1624
def T99 (c : Dev nD) (v10 : BitVec 32) (v29 : BitVec 32) (v48 : BitVec 32) (v1624 : F .f32) (v2460 : BitVec 32) (c8_i32_3098 : BitVec 32) (c0_i32_3099 : BitVec 32) : Prog (TpuEff nD τ sig (Elt F) Λ₀ .tc) PUnit :=
  call k0_part99 c v1624 v2460 c8_i32_3098 c0_i32_3099 >>= fun _ => T100 c v10 v29 v48 v1624
def T98 (c : Dev nD) (v10 : BitVec 32) (v29 : BitVec 32) (v48 : BitVec 32) (v1624 : F .f32) (v2431 : BitVec 32) (v2437 : FVec F S512x512 .bf16) : Prog (TpuEff nD τ sig (Elt F) Λ₀ .tc) PUnit :=
  call k0_part98 c v10 v48 v2431 v2437 >>= fun p => T99 c v10 v29 v48 v1624 (p.1) (p.2.1) (p.2.2)
def T97 (c : Dev nD) (v10 : BitVec 32) (v29 : BitVec 32) (v48 : BitVec 32) (v1624 : F .f32) : Prog (TpuEff nD τ sig (Elt F) Λ₀ .tc) PUnit :=
  call k0_part97 c v10 v29 v1624 >>= fun p => T98 c v10 v29 v48 v1624 (p.1) (p.2)
def T96 (c : Dev nD) (v10 : BitVec 32) (v29 : BitVec 32) (v48 : BitVec 32) (v1624 : F .f32) (v2382 : BitVec 32) (c8_i32_3006 : BitVec 32) (c0_i32_3007 : BitVec 32) : Prog (TpuEff nD τ sig (Elt F) Λ₀ .tc) PUnit :=
  call k0_part96 c v1624 v2382 c8_i32_3006 c0_i32_3007 >>= fun _ => T97 c v10 v29 v48 v1624
def T95 (c : Dev nD) (v10 : BitVec 32) (v29 : BitVec 32) (v48 : BitVec 32) (v1624 : F .f32) (v2353 : BitVec 32) (v2359 : FVec F S512x512 .bf16) : Prog (TpuEff nD τ sig (Elt F) Λ₀ .tc) PUnit :=
  call k0_part95 c v10 v48 v2353 v2359 >>= fun p => T96 c v10 v29 v48 v1624 (p.1) (p.2.1) (p.2.2)
def T94 (c : Dev nD) (v10 : BitVec 32) (v29 : BitVec 32) (v48 : BitVec 32) (v1624 : F .f32) : Prog (TpuEff nD τ sig (Elt F) Λ₀ .tc) PUnit :=
  call k0_part94 c v10 v48 v1624 >>= fun p => T95 c v10 v29 v48 v1624 (p.1) (p.2)
def T93 (c : Dev nD) (v10 : BitVec 32) (v29 : BitVec 32) (v48 : BitVec 32) (v1624 : F .f32) : Prog (TpuEff nD τ sig (Elt F) Λ₀ .tc) PUnit :=
  call k0_part93 c v29 v48 >>= fun _ => T94 c v10 v29 v48 v1624
def T92 (c : Dev nD) (v10 : BitVec 32) (v29 : BitVec 32) (v48 : BitVec 32) (v1624 : F .f32) : Prog (TpuEff nD τ sig (Elt F) Λ₀ .tc) PUnit :=
  call k0_part92 c v29 v48 >>= fun _ => T93 c v10 v29 v48 v1624
def T91 (c : Dev nD) (v10 : BitVec 32) (v29 : BitVec 32) (v48 : BitVec 32) (v1624 : F .f32) (v2269 : BitVec 32) (c0_i32_2838 : BitVec 32) : Prog (TpuEff nD τ sig (Elt F) Λ₀ .tc) PUnit :=
  call k0_part91 c v29 v2269 c0_i32_2838 >>= fun _ => T92 c v10 v29 v48 v1624
def T90 (c : Dev nD) (v10 : BitVec 32) (v29 : BitVec 32) (v48 : BitVec 32) (v1624 : F .f32) (v2242 : BitVec 32) (v2248 : FVec F S512x512 .bf16) : Prog (TpuEff nD τ sig (Elt F) Λ₀ .tc) PUnit :=
  call k0_part90 c v29 v2242 v2248 >>= fun p => T91 c v10 v29 v48 v1624 (p.1) (p.2)
def T89 (c : Dev nD) (v10 : BitVec 32) (v29 : BitVec 32) (v48 : BitVec 32) (v1624 : F .f32) : Prog (TpuEff nD τ sig (Elt F) Λ₀ .tc) PUnit :=
  call k0_part89 c v10 v48 v1624 >>= fun p => T90 c v10 v29 v48 v1624 (p.1) (p.2)
def T88 (c : Dev nD) (v10 : BitVec 32) (v29 : BitVec 32) (v48 : BitVec 32) (v1624 : F .f32) (v2191 : BitVec 32) (c0_i32_2746 : BitVec 32) : Prog (TpuEff nD τ sig (Elt F) Λ₀ .tc) PUnit :=
  call k0_part88 c v10 v1624 v2191 c0_i32_2746 >>= fun _ => T89 c v10 v29 v48 v1624
def T87 (c : Dev nD) (v10 : BitVec 32) (v29 : BitVec 32) (v48 : BitVec 32) (v1624 : F .f32) (v2164 : BitVec 32) (v2170 : FVec F S512x512 .bf16) : Prog (TpuEff nD τ sig (Elt F) Λ₀ .tc) PUnit :=
  call k0_part87 c v29 v2164 v2170 >>= fun p => T88 c v10 v29 v48 v1624 (p.1) (p.2)
def T86 (c : Dev nD) (v10 : BitVec 32) (v29 : BitVec 32) (v48 : BitVec 32) (v1624 : F .f32) : Prog (TpuEff nD τ sig (Elt F) Λ₀ .tc) PUnit :=
  call k0_part86 c v10 v48 v1624 >>= fun p => T87 c v10 v29 v48 v1624 (p.1) (p.2)
def T85 (c : Dev nD) (v10 : BitVec 32) (v29 : BitVec 32) (v48 : BitVec 32) (v1624 : F .f32) : Prog (TpuEff nD τ sig (Elt F) Λ₀ .tc) PUnit :=
  call k0_part85 c v10 v1624 >>= fun _ => T86 c v10 v29 v48 v1624
def T84 (c : Dev nD) (v10 : BitVec 32) (v29 : BitVec 32) (v48 : BitVec 32) (v1624 : F .f32) : Prog (TpuEff nD τ sig (Elt F) Λ₀ .tc) PUnit :=
  call k0_part84 c v48 >>= fun _ => T85 c v10 v29 v48 v1624
def T83 (c : Dev nD) (v10 : BitVec 32) (v29 : BitVec 32) (v48 : BitVec 32) (v1624 : F .f32) : Prog (TpuEff nD τ sig (Elt F) Λ₀ .tc) PUnit :=
  call k0_part83 c v29 v48 >>= fun _ => T84 c v10 v29 v48 v1624
def T82 (c : Dev nD) (v10 : BitVec 32) (v29 : BitVec 32) (v48 : BitVec 32) (v1624 : F .f32) : Prog (TpuEff nD τ sig (Elt F) Λ₀ .tc) PUnit :=
  call k0_part82 c v29 v48 >>= fun _ => T83 c v10 v29 v48 v1624
def T81 (c : Dev nD) (v10 : BitVec 32) (v29 : BitVec 32) (v48 : BitVec 32) (v1624 : F .f32) : Prog (TpuEff nD τ sig (Elt F) Λ₀ .tc) PUnit :=
  call k0_part81 c v29 >>= fun _ => T82 c v10 v29 v48 v1624
def T80 (c : Dev nD) (v10 : BitVec 32) (v29 : BitVec 32) (v48 : BitVec 32) (v1624 : F .f32) : Prog (TpuEff nD τ sig (Elt F) Λ₀ .tc) PUnit :=
  call k0_part80 c v10 v48 v1624 >>= fun _ => T81 c v10 v29 v48 v1624
def T79 (c : Dev nD) (v10 : BitVec 32) (v29 : BitVec 32) (v48 : BitVec 32) (v1624 : F .f32) (v1975 : BitVec 32) : Prog (TpuEff nD τ sig (Elt F) Λ₀ .tc) PUnit :=
  call k0_part79 c v1624 v1975 >>= fun _ => T80 c v10 v29 v48 v1624
def T78 (c : Dev nD) (v10 : BitVec 32) (v29 : BitVec 32) (v48 : BitVec 32) (v1624 : F .f32) : Prog (TpuEff nD τ sig (Elt F) Λ₀ .tc) PUnit :=
  call k0_part78 c v10 v29 >>= fun p => T79 c v10 v29 v48 v1624 p
def T77 (c : Dev nD) (v10 : BitVec 32) (v29 : BitVec 32) (v48 : BitVec 32) (v1624 : F .f32) : Prog (TpuEff nD τ sig (Elt F) Λ₀ .tc) PUnit :=
  call k0_part77 c v10 v48 v1624 >>= fun _ => T78 c v10 v29 v48 v1624
def T76 (c : Dev nD) (v10 : BitVec 32) (v29 : BitVec 32) (v48 : BitVec 32) (v1624 : F .f32) (v1897 : BitVec 32) : Prog (TpuEff nD τ sig (Elt F) Λ₀ .tc) PUnit :=
  call k0_part76 c v1624 v1897 >>= fun _ => T77 c v10 v29 v48 v1624
def T75 (c : Dev nD) (v10 : BitVec 32) (v29 : BitVec 32) (v48 : BitVec 32) (v1624 : F .f32) (v1869 : BitVec 32) : Prog (TpuEff nD τ sig (Elt F) Λ₀ .tc) PUnit :=
  call k0_part75 c v10 v48 v1869 >>= fun p => T76 c v10 v29 v48 v1624 p
def T74 (c : Dev nD) (v10 : BitVec 32) (v29 : BitVec 32) (v48 : BitVec 32) (v1624 : F .f32) : Prog (TpuEff nD τ sig (Elt F) Λ₀ .tc) PUnit :=
  call k0_part74 c v29 v48 >>= fun p => T75 c v10 v29 v48 v1624 p
def T73 (c : Dev nD) (v10 : BitVec 32) (v29 : BitVec 32) (v48 : BitVec 32) (v1624 : F .f32) (v1823 : BitVec 32) (c0_i32_2262 : BitVec 32) : Prog (TpuEff nD τ sig (Elt F) Λ₀ .tc) PUnit :=
  call k0_part73 c v48 v1823 c0_i32_2262 >>= fun _ => T74 c v10 v29 v48 v1624
def T72 (c : Dev nD) (v10 : BitVec 32) (v29 : BitVec 32) (v48 : BitVec 32) (v1624 : F .f32) : Prog (TpuEff nD τ sig (Elt F) Λ₀ .tc) PUnit :=
  call k0_part72 v29 >>= fun p => T73 c v10 v29 v48 v1624 (p.1) (p.2)
def T71 (c : Dev nD) (v10 : BitVec 32) (v29 : BitVec 32) (v48 : BitVec 32) (v1624 : F .f32) : Prog (TpuEff nD τ sig (Elt F) Λ₀ .tc) PUnit :=
  call k0_part71 c >>= fun _ => T72 c v10 v29 v48 v1624
def T70 (c : Dev nD) (v10 : BitVec 32) (v29 : BitVec 32) (v48 : BitVec 32) (v1624 : F .f32) (v1635 : BitVec 32) (v1646 : BitVec 32) : Prog (TpuEff nD τ sig (Elt F) Λ₀ .tc) PUnit :=
  call k0_part70 c v1624 v1635 v1646 >>= fun _ => T71 c v10 v29 v48 v1624
def T69 (c : Dev nD) (v10 : BitVec 32) (v29 : BitVec 32) (v48 : BitVec 32) (v1624 : F .f32) (v1635 : BitVec 32) (v1646 : BitVec 32) : Prog (TpuEff nD τ sig (Elt F) Λ₀ .tc) PUnit :=
  call k0_part69 c v1624 v1635 v1646 >>= fun _ => T70 c v10 v29 v48 v1624 v1635 v1646
def T68 (c : Dev nD) (v10 : BitVec 32) (v29 : BitVec 32) (v48 : BitVec 32) (v1624 : F .f32) (v1635 : BitVec 32) (v1646 : BitVec 32) (v1702 : FVec F S512x512 .f32) : Prog (TpuEff nD τ sig (Elt F) Λ₀ .tc) PUnit :=
  call k0_part68 c v29 v48 v1702 >>= fun _ => T69 c v10 v29 v48 v1624 v1635 v1646
def T67 (c : Dev nD) (v10 : BitVec 32) (v29 : BitVec 32) (v48 : BitVec 32) (v1193 : FVec F S512x512 .f32) (v1210 : FVec F S512x512 .f32) (v1624 : F .f32) (v1635 : BitVec 32) (v1646 : BitVec 32) (c1_i32_2078 : BitVec 32) : Prog (TpuEff nD τ sig (Elt F) Λ₀ .tc) PUnit :=
  call k0_part67 c v29 v48 v1193 v1210 v1624 c1_i32_2078 >>= fun p => T68 c v10 v29 v48 v1624 v1635 v1646 p
def T66 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1624 : F .f32) (v1635 : BitVec 32) : Prog (TpuEff nD τ sig (Elt F) Λ₀ .tc) PUnit :=
  call k0_part66 v10 v1159 v1176 v1624 >>= fun p => T67 c v10 v29 v48 v1193 v1210 v1624 v1635 (p.1) (p.2)
def T65 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part65 c v10 >>= fun p => T66 c v10 v29 v48 v1159 v1176 v1193 v1210 (p.1) (p.2)
def T64 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part64 c >>= fun _ => T65 c v10 v29 v48 v1159 v1176 v1193 v1210
def T63 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part63 c v10 v29 >>= fun _ => T64 c v10 v29 v48 v1159 v1176 v1193 v1210
def T62 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1523 : BitVec 32) (c8_i32_1934 : BitVec 32) (v1524 : BitVec 1) : Prog (TpuEff nD τ sig (Elt F) Λ₀ .tc) PUnit :=
  call k0_part62 c v10 v29 v1523 c8_i32_1934 v1524 >>= fun _ => T63 c v10 v29 v48 v1159 v1176 v1193 v1210
def T61 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1491 : BitVec 32) (v1492 : BitVec 32) (v1493 : BitVec 1) (c0_i32_1908 : BitVec 32) : Prog (TpuEff nD τ sig (Elt F) Λ₀ .tc) PUnit :=
  call k0_part61 c v10 v29 v1491 v1492 v1493 c0_i32_1908 >>= fun p => T62 c v10 v29 v48 v1159 v1176 v1193 v1210 (p.1) (p.2.1) (p.2.2)
def T60 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part60 c v10 v29 >>= fun p => T61 c v10 v29 v48 v1159 v1176 v1193 v1210 (p.1) (p.2.1) (p.2.2.1) (p.2.2.2)
def T59 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part59  >>= fun _ => T60 c v10 v29 v48 v1159 v1176 v1193 v1210
def T58 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part58  >>= fun _ => T59 c v10 v29 v48 v1159 v1176 v1193 v1210
def T57 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1399 : BitVec 32) (v1400 : BitVec 32) (v1401 : BitVec 1) (v1404 : BitVec 1) : Prog (TpuEff nD τ sig (Elt F) Λ₀ .tc) PUnit :=
  call k0_part57 c v1399 v1400 v1401 v1404 >>= fun _ => T58 c v10 v29 v48 v1159 v1176 v1193 v1210
def T56 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1370 : BitVec 32) (c8_i32_1739 : BitVec 32) (v1371 : BitVec 1) (c1_i32_1741 : BitVec 32) : Prog (TpuEff nD τ sig (Elt F) Λ₀ .tc) PUnit :=
  call k0_part56 c v10 v1370 c8_i32_1739 v1371 c1_i32_1741 >>= fun p => T57 c v10 v29 v48 v1159 v1176 v1193 v1210 (p.1) (p.2.1) (p.2.2.1) (p.2.2.2)
def T55 (c : Dev nD) (v10 : BitVec 32) (v29 : BitVec 32) (v48 : BitVec 32) (v1159 : FVec F S512x512 .f32) (v1176 : FVec F S512x512 .f32) (v1193 : FVec F S512x512 .f32) (v1210 : FVec F S512x512 .f32) : Prog (TpuEff nD τ sig (Elt F) Λ₀ .tc) PUnit :=
  call k0_part55 c v10 >>= fun p => T56 c v10 v29 v48 v1159 v1176 v1193 v1210 (p.1) (p.2.1) (p.2.2.1) (p.2.2.2)
def T54 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1308 : BitVec 32) (c0_i32_1687 : BitVec 32) : Prog (TpuEff nD τ sig (Elt F) Λ₀ .tc) PUnit :=
  call k0_part54 c v10 v1308 c0_i32_1687 >>= fun _ => T55 c v10 v29 v48 v1159 v1176 v1193 v1210
def T53 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1276 : BitVec 32) (v1277 : BitVec 1) (v1278 : BitVec 1) : Prog (TpuEff nD τ sig (Elt F) Λ₀ .tc) PUnit :=
  call k0_part53 c v10 v1276 v1277 v1278 >>= fun p => T54 c v10 v29 v48 v1159 v1176 v1193 v1210 (p.1) (p.2)
def T52 (c : Dev nD) (v10 : BitVec 32) (v29 : BitVec 32) (v48 : BitVec 32) (v1159 : FVec F S512x512 .f32) (v1176 : FVec F S512x512 .f32) (v1193 : FVec F S512x512 .f32) (v1210 : FVec F S512x512 .f32) (v1245 : BitVec 32) (v1246 : BitVec 1) (c7_i32_1631 : BitVec 32) : Prog (TpuEff nD τ sig (Elt F) Λ₀ .tc) PUnit :=
  call k0_part52 c v10 v1245 v1246 c7_i32_1631 >>= fun p => T53 c v10 v29 v48 v1159 v1176 v1193 v1210 (p.1) (p.2.1) (p.2.2)
def T51 (c : Dev nD) (v10 : BitVec 32) (v29 : BitVec 32) (v48 : BitVec 32) (v1159 : FVec F S512x512 .f32) (v1176 : FVec F S512x512 .f32) (v1193 : FVec F S512x512 .f32) (v1204 : FVec F S512x512 .f32) : Prog (TpuEff nD τ sig (Elt F) Λ₀ .tc) PUnit :=
  call k0_part51 c v10 v1159 v1176 v1193 v1204 >>= fun p => T52 c v10 v29 v48 v1159 v1176 v1193 (p.1) (p.2.1) (p.2.2.1) (p.2.2.2)
def T50 (c : Dev nD) (v10 : BitVec 32) (v29 : BitVec 32) (v48 : BitVec 32) (v1159 : FVec F S512x512 .f32) (v1176 : FVec F S512x512 .f32) : Prog (TpuEff nD τ sig (Elt F) Λ₀ .tc) PUnit :=
  call k0_part50 v48 >>= fun p => T51 c v10 v29 v48 v1159 v1176 (p.1) (p.2)
def T49 (c : Dev nD) (v10 : BitVec 32) (v29 : BitVec 32) (v48 : BitVec 32) (v1153 : FVec F S512x512 .f32) : Prog (TpuEff nD τ sig (Elt F) Λ₀ .tc) PUnit :=
  call k0_part49 v29 v48 v1153 >>= fun p => T50 c v10 v29 v48 (p.1) (p.2)
def T48 (c : Dev nD) (v10 : BitVec 32) (v29 : BitVec 32) (v48 : BitVec 32) : Prog (TpuEff nD τ sig (Elt F) Λ₀ .tc) PUnit :=
  call k0_part48 c v29 v48 >>= fun p => T49 c v10 v29 v48 p
def T47 (c : Dev nD) (v10 : BitVec 32) (v29 : BitVec 32) (v48 : BitVec 32) : Prog (TpuEff nD τ sig (Elt F) Λ₀ .tc) PUnit :=
  call k0_part47 v48 >>= fun _ => T48 c v10 v29 v48
def T46 (c : Dev nD) (v10 : BitVec 32) (v29 : BitVec 32) (v48 : BitVec 32) : Prog (TpuEff nD τ sig (Elt F) Λ₀ .tc) PUnit :=
  call k0_part46 c v29 >>= fun _ => T47 c v10 v29 v48
def T45 (c : Dev nD) (v10 : BitVec 32) (v29 : BitVec 32) (v48 : BitVec 32) : Prog (TpuEff nD τ sig (Elt F) Λ₀ .tc) PUnit :=
  call k0_part45 c v29 v48 >>= fun _ => T46 c v10 v29 v48
def T44 (c : Dev nD) (v10 : BitVec 32) (v29 : BitVec 32) (v48 : BitVec 32) : Prog (TpuEff nD τ sig (Elt F) Λ₀ .tc) PUnit :=
  call k0_part44  >>= fun _ => T45 c v10 v29 v48
def T43 (c : Dev nD) (v10 : BitVec 32) (v29 : BitVec 32) (v48 : BitVec 32) (v1017 : Vec F S1x1x512x512 .bf16) : Prog (TpuEff nD τ sig (Elt F) Λ₀ .tc) PUnit :=
  call k0_part43 c v29 v48 v1017 >>= fun _ => T44 c v10 v29 v48
def T42 (c : Dev nD) (v10 : BitVec 32) (v29 : BitVec 32) (v48 : BitVec 32) : Prog (TpuEff nD τ sig (Elt F) Λ₀ .tc) PUnit :=
  call k0_part42 c v29 >>= fun p => T43 c v10 v29 v48 p
def T41 (c : Dev nD) (v10 : BitVec 32) (v29 : BitVec 32) (v48 : BitVec 32) : Prog (TpuEff nD τ sig (Elt F) Λ₀ .tc) PUnit :=
  call k0_part41 v48 >>= fun _ => T42 c v10 v29 v48
def T40 (c : Dev nD) (v10 : BitVec 32) (v29 : BitVec 32) (v48 : BitVec 32) : Prog (TpuEff nD τ sig (Elt F) Λ₀ .tc) PUnit :=
  call k0_part40 c v29 v48 >>= fun _ => T41 c v10 v29 v48
def T39 (c : Dev nD) (v10 : BitVec 32) (v29 : BitVec 32) (v48 : BitVec 32) : Prog (TpuEff nD τ sig (Elt F) Λ₀ .tc) PUnit :=
  call k0_part39 v29 >>= fun _ => T40 c v10 v29 v48
def T38 (c : Dev nD) (v10 : BitVec 32) (v29 : BitVec 32) (v48 : BitVec 32) (v906 : Vec F S1x1x512x512 .bf16) : Prog (TpuEff nD τ sig (Elt F) Λ₀ .tc) PUnit :=
  call k0_part38 c v29 v48 v906 >>= fun _ => T39 c v10 v29 v48
def T37 (c : Dev nD) (v10 : BitVec 32) (v29 : BitVec 32) (v48 : BitVec 32) : Prog (TpuEff nD τ sig (Elt F) Λ₀ .tc) PUnit :=
  call k0_part37 c v48 >>= fun p => T38 c v10 v29 v48 p
def T36 (c : Dev nD) (v10 : BitVec 32) (v29 : BitVec 32) (v48 : BitVec 32) : Prog (TpuEff nD τ sig (Elt F) Λ₀ .tc) PUnit :=
  call k0_part36 v29 >>= fun _ => T37 c v10 v29 v48
def T35 (c : Dev nD) (v10 : BitVec 32) (v29 : BitVec 32) (v48 : BitVec 32) : Prog (TpuEff nD τ sig (Elt F) Λ₀ .tc) PUnit :=
  call k0_part35 c v29 v48 >>= fun _ => T36 c v10 v29 v48
def T34 (c : Dev nD) (v10 : BitVec 32) (v29 : BitVec 32) (v48 : BitVec 32) : Prog (TpuEff nD τ sig (Elt F) Λ₀ .tc) PUnit :=
  call k0_part34 v48 >>= fun _ => T35 c v10 v29 v48
def T33 (c : Dev nD) (v10 : BitVec 32) (v29 : BitVec 32) (v48 : BitVec 32) (v795 : Vec F S1x1x512x512 .bf16) : Prog (TpuEff nD τ sig (Elt F) Λ₀ .tc) PUnit :=
  call k0_part33 c v29 v48 v795 >>= fun _ => T34 c v10 v29 v48
def T32 (c : Dev nD) (v10 : BitVec 32) (v29 : BitVec 32) (v48 : BitVec 32) : Prog (TpuEff nD τ sig (Elt F) Λ₀ .tc) PUnit :=
  call k0_part32 c v29 >>= fun p => T33 c v10 v29 v48 p
def T31 (c : Dev nD) (v10 : BitVec 32) (v29 : BitVec 32) (v48 : BitVec 32) : Prog (TpuEff nD τ sig (Elt F) Λ₀ .tc) PUnit :=
  call k0_part31 v48 >>= fun _ => T32 c v10 v29 v48
def T30 (c : Dev nD) (v10 : BitVec 32) (v29 : BitVec 32) (v48 : BitVec 32) : Prog (TpuEff nD τ sig (Elt F) Λ₀ .tc) PUnit :=
  call k0_part30 c v29 v48 >>= fun _ => T31 c v10 v29 v48
def T29 (c : Dev nD) (v10 : BitVec 32) (v29 : BitVec 32) (v48 : BitVec 32) : Prog (TpuEff nD τ sig (Elt F) Λ₀ .tc) PUnit :=
  call k0_part29 v29 >>= fun _ => T30 c v10 v29 v48
def T28 (c : Dev nD) (v10 : BitVec 32) (v29 : BitVec 32) (v48 : BitVec 32) : Prog (TpuEff nD τ sig (Elt F) Λ₀ .tc) PUnit :=
  call k0_part28 c v10 v29 >>= fun _ => T29 c v10 v29 v48
def T27 (c : Dev nD) (v10 : BitVec 32) (v29 : BitVec 32) (v48 : BitVec 32) : Prog (TpuEff nD τ sig (Elt F) Λ₀ .tc) PUnit :=
  call k0_part27 v48 >>= fun _ => T28 c v10 v29 v48
def T26 (c : Dev nD) (v10 : BitVec 32) (v29 : BitVec 32) (v48 : BitVec 32) (v636 : FVec F S1x1x512x512 .bf16) : Prog (TpuEff nD τ sig (Elt F) Λ₀ .tc) PUnit :=
  call k0_part26 c v29 v48 v636 >>= fun _ => T27 c v10 v29 v48
def T25 (c : Dev nD) (v10 : BitVec 32) (v29 : BitVec 32) (v48 : BitVec 32) : Prog (TpuEff nD τ sig (Elt F) Λ₀ .tc) PUnit :=
  call k0_part25 v29 >>= fun p => T26 c v10 v29 v48 p
def T24 (c : Dev nD) (v10 : BitVec 32) (v29 : BitVec 32) (v48 : BitVec 32) : Prog (TpuEff nD τ sig (Elt F) Λ₀ .tc) PUnit :=
  call k0_part24 c v29 v48 >>= fun _ => T25 c v10 v29 v48
def T23 (c : Dev nD) (v10 : BitVec 32) (v29 : BitVec 32) (v48 : BitVec 32) : Prog (TpuEff nD τ sig (Elt F) Λ₀ .tc) PUnit :=
  call k0_part23 c v48 >>= fun _ => T24 c v10 v29 v48
def T22 (c : Dev nD) (v10 : BitVec 32) (v29 : BitVec 32) (v48 : BitVec 32) : Prog (TpuEff nD τ sig (Elt F) Λ₀ .tc) PUnit :=
  call k0_part22 v29 >>= fun _ => T23 c v10 v29 v48
def T21 (c : Dev nD) (v10 : BitVec 32) (v29 : BitVec 32) (v48 : BitVec 32) (v517 : BitVec 32) : Prog (TpuEff nD τ sig (Elt F) Λ₀ .tc) PUnit :=
  call k0_part21 c v29 v517 >>= fun _ => T22 c v10 v29 v48
def T20 (c : Dev nD) (v10 : BitVec 32) (v29 : BitVec 32) (v48 : BitVec 32) (v484 : BitVec 32) : Prog (TpuEff nD τ sig (Elt F) Λ₀ .tc) PUnit :=
  call k0_part20 c v10 v29 v484 >>= fun p => T21 c v10 v29 v48 p
def T19 (c : Dev nD) (v10 : BitVec 32) (v29 : BitVec 32) (v48 : BitVec 32) : Prog (TpuEff nD τ sig (Elt F) Λ₀ .tc) PUnit :=
  call k0_part19 v48 >>= fun p => T20 c v10 v29 v48 p
def T18 (c : Dev nD) (v10 : BitVec 32) (v29 : BitVec 32) (v48 : BitVec 32) (v443 : FVec F S512x512 .bf16) : Prog (TpuEff nD τ sig (Elt F) Λ₀ .tc) PUnit :=
  call k0_part18 c v29 v48 v443 >>= fun _ => T19 c v10 v29 v48
def T17 (c : Dev nD) (v10 : BitVec 32) (v29 : BitVec 32) (v48 : BitVec 32) : Prog (TpuEff nD τ sig (Elt F) Λ₀ .tc) PUnit :=
  call k0_part17 c v29 >>= fun p => T18 c v10 v29 v48 p
def T16 (c : Dev nD) (v10 : BitVec 32) (v29 : BitVec 32) (v48 : BitVec 32) : Prog (TpuEff nD τ sig (Elt F) Λ₀ .tc) PUnit :=
  call k0_part16 c v29 v48 >>= fun _ => T17 c v10 v29 v48
def T15 (c : Dev nD) (v10 : BitVec 32) (v29 : BitVec 32) (v48 : BitVec 32) (v373 : BitVec 32) : Prog (TpuEff nD τ sig (Elt F) Λ₀ .tc) PUnit :=
  call k0_part15 c v48 v373 >>= fun _ => T16 c v10 v29 v48
def T14 (c : Dev nD) (v10 : BitVec 32) (v29 : BitVec 32) (v48 : BitVec 32) : Prog (TpuEff nD τ sig (Elt F) Λ₀ .tc) PUnit :=
  call k0_part14 v29 >>= fun p => T15 c v10 v29 v48 p
def T13 (c : Dev nD) (v10 : BitVec 32) (v29 : BitVec 32) (v48 : BitVec 32) (v323 : FVec F S512x2048 .bf16) : Prog (TpuEff nD τ sig (Elt F) Λ₀ .tc) PUnit :=
  call k0_part13 c v10 v29 v323 >>= fun _ => T14 c v10 v29 v48
def T12 (c : Dev nD) (v10 : BitVec 32) (v29 : BitVec 32) (v48 : BitVec 32) : Prog (TpuEff nD τ sig (Elt F) Λ₀ .tc) PUnit :=
  call k0_part12 c v10 v29 v48 >>= fun p => T13 c v10 v29 v48 p
def T11 (c : Dev nD) (v10 : BitVec 32) (v29 : BitVec 32) (v48 : BitVec 32) : Prog (TpuEff nD τ sig (Elt F) Λ₀ .tc) PUnit :=
  call k0_part11 c v48 >>= fun _ => T12 c v10 v29 v48
def T10 (c : Dev nD) (v10 : BitVec 32) (v29 : BitVec 32) (v48 : BitVec 32) : Prog (TpuEff nD τ sig (Elt F) Λ₀ .tc) PUnit :=
  call k0_part10 v29 >>= fun _ => T11 c v10 v29 v48
def T9 (c : Dev nD) (v10 : BitVec 32) (v29 : BitVec 32) (v48 : BitVec 32) : Prog (TpuEff nD τ sig (Elt F) Λ₀ .tc) PUnit :=
  call k0_part9 c v29 v48 >>= fun _ => T10 c v10 v29 v48
def T8 (c : Dev nD) (v10 : BitVec 32) (v29 : BitVec 32) (v48 : BitVec 32) (v197 : FVec F S512x512 .bf16) : Prog (TpuEff nD τ sig (Elt F) Λ₀ .tc) PUnit :=
  call k0_part8 c v29 v48 v197 >>= fun _ => T9 c v10 v29 v48
def T7 (c : Dev nD) (v10 : BitVec 32) (v29 : BitVec 32) (v48 : BitVec 32) (v171 : BitVec 32) : Prog (TpuEff nD τ sig (Elt F) Λ₀ .tc) PUnit :=
  call k0_part7 c v29 v171 >>= fun p => T8 c v10 v29 v48 p
def T6 (c : Dev nD) (v10 : BitVec 32) (v29 : BitVec 32) (v48 : BitVec 32) : Prog (TpuEff nD τ sig (Elt F) Λ₀ .tc) PUnit :=
  call k0_part6 c v10 >>= fun p => T7 c v10 v29 v48 p
def T5 (c : Dev nD) (v10 : BitVec 32) (v29 : BitVec 32) (v48 : BitVec 32) (v111 : FVec F S512x512 .bf16) : Prog (TpuEff nD τ sig (Elt F) Λ₀ .tc) PUnit :=
  call k0_part5 c v29 v48 v111 >>= fun _ => T6 c v10 v29 v48
def T4 (c : Dev nD) (v10 : BitVec 32) (v29 : BitVec 32) (v48 : BitVec 32) : Prog (TpuEff nD τ sig (Elt F) Λ₀ .tc) PUnit :=
  call k0_part4 c v48 >>= fun p => T5 c v10 v29 v48 p
def T3 (c : Dev nD) (v10 : BitVec 32) (v29 : BitVec 32) (v48 : BitVec 32) (v65 : BitVec 32) : Prog (TpuEff nD τ sig (Elt F) Λ₀ .tc) PUnit :=
  call k0_part3 c v29 v48 v65 >>= fun _ => T4 c v10 v29 v48
def T2 (c : Dev nD) (v10 : BitVec 32) (v29 : BitVec 32) (v30 : BitVec 32) (c8_i32_19 : BitVec 32) (c0_i32_20 : BitVec 32) : Prog (TpuEff nD τ sig (Elt F) Λ₀ .tc) PUnit :=
  call k0_part2 v10 v30 c8_i32_19 c0_i32_20 >>= fun p => T3 c v10 v29 (p.1) (p.2)
def T1 : Prog (TpuEff nD τ sig (Elt F) Λ₀ .tc) PUnit :=
  call k0_part1  >>= fun p => T2 (p.1) (p.2.1) (p.2.2.1) (p.2.2.2.1) (p.2.2.2.2.1) (p.2.2.2.2.2)

theorem body_eq : (bodyAt0 (F := F) t0_0) = T1 := by
  show cc0__body xM hx wM hw outM h2 wbM h3 ostM h4 cc0_scratch2 partM h6 b4 h7 b5 h8 b6 h9 b7 h10 b8 h11 b9 h12 b10 h13 b11 h14 amM h15 cc0_scratch13 cc0_scratch14 cc0_scratch15 cc0_scratch16 cc0_scratch17 cc0_scratch18 cc0_scratch19 cc0_scratch20 cc0_scratch21 cc0_scratch22 cc0_scratch23 cc0_scratch24 cc0_scratch25 cc0_scratch26 = _
  simp only [cc0__body, call, k0_part134, k0_part135, k0_part136, T1, T2, T3, T4, T5, T6, T7, T8, T9, T10, T11, T12, T13, T14, T15, T16, T17, T18, T19, T20, T21, T22, T23, T24, T25, T26, T27, T28, T29, T30, T31, T32, T33, T34, T35, T36, T37, T38, T39, T40, T41, T42, T43, T44, T45, T46, T47, T48, T49, T50, T51, T52, T53, T54, T55, T56, T57, T58, T59, T60, T61, T62, T63, T64, T65, T66, T67, T68, T69, T70, T71, T72, T73, T74, T75, T76, T77, T78, T79, T80, T81, T82, T83, T84, T85, T86, T87, T88, T89, T90, T91, T92, T93, T94, T95, T96, T97, T98, T99, T100, T101, T102, T103, T104, T105, T106, T107, T108, T109, T110, T111, T112, T113, T114, T115, T116, T117, T118, T119, T120, T121, T122, T123, T124, T125, T126, T127, T128, T129, T130, T131, T132, T133, T134, Prog.bind_assoc, Prog.pure_eq_ret, Prog.bind_ret]

end Cert.KernelIdeal.Ring
-- ==== Proof.SegA.lean ====
/-
# The reduce-scatter along the program, by its parts
-/
module

public import proofs.«01_k».proof.Proof.Steps3
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxRecDepth 1000000 in
theorem seg0 {P : sProp (MT nD τ sig ℕ (Elt F) ℕ UU ℕ)}
    (h : ∀ (v10 v29 v30 c8 c0 : BitVec 32), P ⊢ WP c (T2 c v10 v29 v30 c8 c0) Q) : P ⊢ WP c T1 Q := by
  simp only [T1, call, k0_part1_eq_skeleton, k0_part1_skel, Prog.lift, Prog.bind_op, Prog.bind_ret, Prog.pure_eq_ret, wp_deviceId]
  exact h _ _ _ _ _

set_option maxHeartbeats 4000000 in
theorem segA {R : sProp (MT nD τ sig ℕ (Elt F) ℕ UU ℕ)} (v10 v29 v30 c8_i32_19 c0_i32_20 : BitVec 32)
    (h : ∀ (v48 : BitVec 32), iprop((own c wM qw (A.w c) ∗ at' c .bar 1 ∗ StL 1 0 0 c ∗ StL 1 0 1 c ∗ StL 1 1 0 c ∗ StL 1 1 1 c ∗ LaneR 0 1 0 c ∗ LaneR 1 1 0 c ∗ own c (chunkM 0) fullShare (chunk A c 0) ∗ own c xM qx (A.x c) ∗ own c wbM fullShare (k0_pay1 (A.w c)) ∗ LaneR 0 0 1 c ∗ RdrR 0 0 0 1 c ∗ own c (chunkM 1) fullShare (chunk A c 1) ∗ DirS 0 0 1 c ∗ ow c 10 ∗ LaneR 1 0 1 c ∗ RdrR 0 1 0 1 c ∗ own c (chunkM 7) fullShare (chunk A c 7) ∗ DirS 0 1 1 c) ∗ R) ⊢ WP c (T10 c v10 v29 v48) Q) :
    iprop((ctx A K Ks ∗ own c wM qw (A.w c) ∗ anyAt c wbM ∗ own c xM qx (A.x c) ∗ anyAt c (chunkM 0) ∗ ow c 0 ∗ tk (tgt 0 c) .bar 0 1 ∗ tk (tgt 1 c) .bar 0 0 ∗ barPay 0 c ∗ barPay 1 c ∗ cred (tallyAt (cell c .bar) 2 2) ∗ at' c .bar 0 ∗ PreD 0 c ∗ PreD 1 c ∗ anyAt c (slot4 (sdB 0) 0 0) ∗ anyAt c (slot4 (sdB 0) 1 0) ∗ rideIf 0 0 0 (tgt 0 c) ∗ anyAt c (slot4 (sdB 1) 0 0) ∗ anyAt c (slot4 (sdB 1) 1 0) ∗ rideIf 1 0 0 (tgt 1 c) ∗ anyAt c (slot4 (sdB 0) 0 1) ∗ anyAt c (slot4 (sdB 0) 1 1) ∗ rideIf 0 1 0 (tgt 0 c) ∗ anyAt c (slot4 (sdB 1) 0 1) ∗ anyAt c (slot4 (sdB 1) 1 1) ∗ rideIf 1 1 0 (tgt 1 c) ∗ anyAt c (chunkM 1) ∗ anyAt c (chunkM 7) ∗ RdrR 0 0 0 0 c ∗ DirS 0 0 0 c ∗ RdrR 0 1 0 0 c ∗ DirS 0 1 0 c) ∗ R) ⊢ WP c (T2 c v10 v29 v30 c8_i32_19 c0_i32_20) Q := by
  simp only [T2, T3, T4, T5, T6, T7, T8, T9, call, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, semSignalWord, semWaitWord, Prog.lift, Prog.bind_op, Prog.bind_ret, Prog.pure_eq_ret]
  iintro ⟨⟨#Hctx, Hw, Hwb, Hx, C0, HO, Htb0, Htb1, Hbp0, Hbp1, Hbc, Hba, HP0, HP1, Hs000, Hs001, Hrd00, Hs100, Hs101, Hrd10, Hs010, Hs011, Hrd01, Hs110, Hs111, Hrd11, C1, C7, Hq00, HS0, Hq10, HS1⟩, HR⟩
  refine use (cast1 (qw := qw) A (by rfl) (by rfl) (fun v => by rfl)) ?_
  isplitl [Hw Hwb]
  · isplitl [Hw]; · iexact Hw
    iexact Hwb
  iintro ⟨Hw, Hwb⟩
  refine use (gemm (qx := qx) A 0 (by rfl) (by rfl) (by rfl) (fun v w => by rfl)) ?_
  isplitl [Hx Hwb C0]
  · isplitl [Hx]; · iexact Hx
    isplitl [Hwb]; · iexact Hwb
    iexact C0
  iintro ⟨Hx, Hwb, C0⟩
  refine use (barrier (K := K) (Ks := Ks) A (by clear h; revert c; decide) (by clear h; revert c; decide) (by rfl)) ?_
  isplitl [HO Htb0 Htb1 Hbp0 Hbp1 Hbc Hba HP0 HP1]
  · isplitr; · iexact Hctx
    isplitl [HO]; · iexact HO
    isplitl [Htb0]; · iexact Htb0
    isplitl [Htb1]; · iexact Htb1
    isplitl [Hbp0]; · iexact Hbp0
    isplitl [Hbp1]; · iexact Hbp1
    isplitl [Hbc]; · iexact Hbc
    isplitl [Hba]; · iexact Hba
    isplitl [HP0]; · iexact HP0
    iexact HP1
  iintro ⟨HO, Hba, HD0, HD1⟩
  ihave HD0 := (Entails.of_eq (show StD (F := F) 0 c = iprop(StL 0 0 0 c ∗ StL 0 0 1 c ∗ StL 1 0 0 c ∗ StL 1 0 1 c) from rfl)) $$ HD0
  icases HD0 with ⟨L00, L01, G00, G01⟩
  ihave HD1 := (Entails.of_eq (show StD (F := F) 1 c = iprop(StL 0 1 0 c ∗ StL 0 1 1 c ∗ StL 1 1 0 c ∗ StL 1 1 1 c) from rfl)) $$ HD1
  icases HD1 with ⟨L10, L11, G10, G11⟩
  refine use (rs0 (K := K) (Ks := Ks) A 0 0 2 (by rfl) (by rfl) (by rfl) (by rfl) (fun v => by rfl) (by rfl) (by rfl) (by rfl) (by clear h; revert c; decide) (by rfl)) ?_
  isplitl [HO L00 Hs000 Hs001 Hrd00 C0]
  · isplitr; · iexact Hctx
    isplitl [HO]; · iexact HO
    isplitl [L00]; · iexact L00
    isplitl [Hs000 Hs001]
    · isplitl [Hs000]; · iexact Hs000
      iexact Hs001
    isplitl [Hrd00]; · iexact Hrd00
    iexact C0
  iintro ⟨HO, L00, C0⟩
  refine use (rs0 (K := K) (Ks := Ks) A 1 0 3 (by rfl) (by rfl) (by rfl) (by rfl) (fun v => by rfl) (by rfl) (by rfl) (by rfl) (by clear h; revert c; decide) (by rfl)) ?_
  isplitl [HO L10 Hs100 Hs101 Hrd10 C0]
  · isplitr; · iexact Hctx
    isplitl [HO]; · iexact HO
    isplitl [L10]; · iexact L10
    isplitl [Hs100 Hs101]
    · isplitl [Hs100]; · iexact Hs100
      iexact Hs101
    isplitl [Hrd10]; · iexact Hrd10
    iexact C0
  iintro ⟨HO, L10, C0⟩
  refine use (rs0 (K := K) (Ks := Ks) A 0 1 4 (by rfl) (by rfl) (by rfl) (by rfl) (fun v => by rfl) (by rfl) (by rfl) (by rfl) (by clear h; revert c; decide) (by rfl)) ?_
  isplitl [HO L01 Hs010 Hs011 Hrd01 C0]
  · isplitr; · iexact Hctx
    isplitl [HO]; · iexact HO
    isplitl [L01]; · iexact L01
    isplitl [Hs010 Hs011]
    · isplitl [Hs010]; · iexact Hs010
      iexact Hs011
    isplitl [Hrd01]; · iexact Hrd01
    iexact C0
  iintro ⟨HO, L01, C0⟩
  refine use (rs0 (K := K) (Ks := Ks) A 1 1 5 (by rfl) (by rfl) (by rfl) (by rfl) (fun v => by rfl) (by rfl) (by rfl) (by rfl) (by clear h; revert c; decide) (by rfl)) ?_
  isplitl [HO L11 Hs110 Hs111 Hrd11 C0]
  · isplitr; · iexact Hctx
    isplitl [HO]; · iexact HO
    isplitl [L11]; · iexact L11
    isplitl [Hs110 Hs111]
    · isplitl [Hs110]; · iexact Hs110
      iexact Hs111
    isplitl [Hrd11]; · iexact Hrd11
    iexact C0
  iintro ⟨HO, L11, C0⟩
  refine use (gemm (qx := qx) A 1 (by rfl) (by rfl) (by rfl) (fun v w => by rfl)) ?_
  isplitl [Hx Hwb C1]
  · isplitl [Hx]; · iexact Hx
    isplitl [Hwb]; · iexact Hwb
    iexact C1
  iintro ⟨Hx, Hwb, C1⟩
  refine use (gemm (qx := qx) A 7 (by rfl) (by rfl) (by rfl) (fun v w => by rfl)) ?_
  isplitl [Hx Hwb C7]
  · isplitl [Hx]; · iexact Hx
    isplitl [Hwb]; · iexact Hwb
    iexact C7
  iintro ⟨Hx, Hwb, C7⟩
  refine use (rs1 (K := K) (Ks := Ks) A 0 0 6 1 (by rfl) 0 (by rfl) (by rfl) (by rfl) (by rfl) (by rfl) (by rfl) (fun v w => by rfl) (by rfl) (by rfl) (by rfl) (by rfl) (by rfl) (by rfl) (by clear h; revert c; decide) (by clear h; revert c; decide) (by decide) (by decide) (by rfl) (by rfl)) ?_
  isplitl [HO L00 Hq00 C1 HS0]
  · isplitr; · iexact Hctx
    isplitl [HO]; · iexact HO
    isplitl [L00]; · iexact L00
    isplitl [Hq00]; · iexact Hq00
    isplitl [C1]; · iexact C1
    iexact HS0
  iintro ⟨HO, L00, Hq00, C1, HS0⟩
  refine use (rs1 (K := K) (Ks := Ks) A 1 0 8 7 (by rfl) 0 (by rfl) (by rfl) (by rfl) (by rfl) (by rfl) (by rfl) (fun v w => by rfl) (by rfl) (by rfl) (by rfl) (by rfl) (by rfl) (by rfl) (by clear h; revert c; decide) (by clear h; revert c; decide) (by decide) (by decide) (by rfl) (by rfl)) ?_
  isplitl [HO L10 Hq10 C7 HS1]
  · isplitr; · iexact Hctx
    isplitl [HO]; · iexact HO
    isplitl [L10]; · iexact L10
    isplitl [Hq10]; · iexact Hq10
    isplitl [C7]; · iexact C7
    iexact HS1
  iintro ⟨HO, L10, Hq10, C7, HS1⟩
  refine goOn (h _) ?_
  isplitl [Hw Hba G00 G01 G10 G11 L01 L11 C0 Hx Hwb L00 Hq00 C1 HS0 HO L10 Hq10 C7 HS1]
  · isplitl [Hw]; · iexact Hw
    isplitl [Hba]; · iexact Hba
    isplitl [G00]; · iexact G00
    isplitl [G01]; · iexact G01
    isplitl [G10]; · iexact G10
    isplitl [G11]; · iexact G11
    isplitl [L01]; · iexact L01
    isplitl [L11]; · iexact L11
    isplitl [C0]; · iexact C0
    isplitl [Hx]; · iexact Hx
    isplitl [Hwb]; · iexact Hwb
    isplitl [L00]; · iexact L00
    isplitl [Hq00]; · iexact Hq00
    isplitl [C1]; · iexact C1
    isplitl [HS0]; · iexact HS0
    isplitl [HO]; · iexact HO
    isplitl [L10]; · iexact L10
    isplitl [Hq10]; · iexact Hq10
    isplitl [C7]; · iexact C7
    iexact HS1
  iexact HR

set_option maxHeartbeats 4000000 in
theorem segB {R : sProp (MT nD τ sig ℕ (Elt F) ℕ UU ℕ)} (v10 v29 v48 : BitVec 32)
    (h : iprop((LaneR 0 1 1 c ∗ RdrR 0 0 1 1 c ∗ own c (chunkM 1) fullShare (chunk A c 1) ∗ DirS 0 0 2 c ∗ ow c 14 ∗ LaneR 1 1 1 c ∗ RdrR 0 1 1 1 c ∗ own c (chunkM 7) fullShare (chunk A c 7) ∗ DirS 0 1 2 c ∗ own c (chunkM 2) fullShare (chunk A c 2) ∗ own c xM qx (A.x c) ∗ own c wbM fullShare (k0_pay1 (A.w c)) ∗ own c (chunkM 6) fullShare (chunk A c 6)) ∗ R) ⊢ WP c (T14 c v10 v29 v48) Q) :
    iprop((ctx A K Ks ∗ ow c 10 ∗ LaneR 0 1 0 c ∗ RdrR 0 0 1 0 c ∗ own c (chunkM 1) fullShare (chunk A c 1) ∗ DirS 0 0 1 c ∗ LaneR 1 1 0 c ∗ RdrR 0 1 1 0 c ∗ own c (chunkM 7) fullShare (chunk A c 7) ∗ DirS 0 1 1 c ∗ own c xM qx (A.x c) ∗ own c wbM fullShare (k0_pay1 (A.w c)) ∗ anyAt c (chunkM 2) ∗ anyAt c (chunkM 6)) ∗ R) ⊢ WP c (T10 c v10 v29 v48) Q := by
  simp only [T10, T11, T12, T13, call, k0_part10_eq_skeleton, k0_part10_skel, k0_part11_eq_skeleton, k0_part11_skel, k0_part12_eq_skeleton, k0_part12_skel, k0_part13_eq_skeleton, k0_part13_skel, semSignalWord, semWaitWord, Prog.lift, Prog.bind_op, Prog.bind_ret, Prog.pure_eq_ret]
  iintro ⟨⟨#Hctx, HO, L01, Hq01, C1, HS0, L11, Hq11, C7, HS1, Hx, Hwb, C2, C6⟩, HR⟩
  refine use (rs1 (K := K) (Ks := Ks) A 0 1 10 1 (by rfl) 1 (by rfl) (by rfl) (by rfl) (by rfl) (by rfl) (by rfl) (fun v w => by rfl) (by rfl) (by rfl) (by rfl) (by rfl) (by rfl) (by rfl) (by clear h; revert c; decide) (by clear h; revert c; decide) (by decide) (by decide) (by rfl) (by rfl)) ?_
  isplitl [HO L01 Hq01 C1 HS0]
  · isplitr; · iexact Hctx
    isplitl [HO]; · iexact HO
    isplitl [L01]; · iexact L01
    isplitl [Hq01]; · iexact Hq01
    isplitl [C1]; · iexact C1
    iexact HS0
  iintro ⟨HO, L01, Hq01, C1, HS0⟩
  refine use (rs1 (K := K) (Ks := Ks) A 1 1 12 7 (by rfl) 1 (by rfl) (by rfl) (by rfl) (by rfl) (by rfl) (by rfl) (fun v w => by rfl) (by rfl) (by rfl) (by rfl) (by rfl) (by rfl) (by rfl) (by clear h; revert c; decide) (by clear h; revert c; decide) (by decide) (by decide) (by rfl) (by rfl)) ?_
  isplitl [HO L11 Hq11 C7 HS1]
  · isplitr; · iexact Hctx
    isplitl [HO]; · iexact HO
    isplitl [L11]; · iexact L11
    isplitl [Hq11]; · iexact Hq11
    isplitl [C7]; · iexact C7
    iexact HS1
  iintro ⟨HO, L11, Hq11, C7, HS1⟩
  refine use (gemm (qx := qx) A 2 (by rfl) (by rfl) (by rfl) (fun v w => by rfl)) ?_
  isplitl [Hx Hwb C2]
  · isplitl [Hx]; · iexact Hx
    isplitl [Hwb]; · iexact Hwb
    iexact C2
  iintro ⟨Hx, Hwb, C2⟩
  refine use (gemm (qx := qx) A 6 (by rfl) (by rfl) (by rfl) (fun v w => by rfl)) ?_
  isplitl [Hx Hwb C6]
  · isplitl [Hx]; · iexact Hx
    isplitl [Hwb]; · iexact Hwb
    iexact C6
  iintro ⟨Hx, Hwb, C6⟩
  refine goOn (h) ?_
  isplitl [L01 Hq01 C1 HS0 HO L11 Hq11 C7 HS1 C2 Hx Hwb C6]
  · isplitl [L01]; · iexact L01
    isplitl [Hq01]; · iexact Hq01
    isplitl [C1]; · iexact C1
    isplitl [HS0]; · iexact HS0
    isplitl [HO]; · iexact HO
    isplitl [L11]; · iexact L11
    isplitl [Hq11]; · iexact Hq11
    isplitl [C7]; · iexact C7
    isplitl [HS1]; · iexact HS1
    isplitl [C2]; · iexact C2
    isplitl [Hx]; · iexact Hx
    isplitl [Hwb]; · iexact Hwb
    iexact C6
  iexact HR

end Cert.KernelIdeal.Ring
-- ==== Proof.SegB.lean ====
/-
# The reduce-scatter along the program, by its parts
-/
module

public import proofs.«01_k».proof.Proof.Steps3
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segC {R : sProp (MT nD τ sig ℕ (Elt F) ℕ UU ℕ)} (v10 v29 v48 : BitVec 32)
    (h : iprop((own c (chunkM 2) fullShare (chunk A c 2) ∗ own c (chunkM 6) fullShare (chunk A c 6) ∗ LaneR 0 0 3 c ∗ RdrR 0 0 0 3 c ∗ LaneR 1 0 3 c ∗ RdrR 0 1 0 3 c ∗ LaneR 0 1 3 c ∗ RdrR 0 0 1 3 c ∗ own c (chunkM 3) fullShare (chunk A c 3) ∗ DirW 0 0 4 c ∗ DirS 0 0 6 c ∗ ow c 30 ∗ LaneR 1 1 3 c ∗ RdrR 0 1 1 3 c ∗ own c (chunkM 5) fullShare (chunk A c 5) ∗ DirW 0 1 4 c ∗ DirS 0 1 6 c ∗ own c xM qx (A.x c) ∗ own c wbM fullShare (k0_pay1 (A.w c)) ∗ own c (chunkM 4) fullShare (chunk A c 4)) ∗ R) ⊢ WP c (T29 c v10 v29 v48) Q) :
    iprop((ctx A K Ks ∗ ow c 14 ∗ LaneR 0 0 1 c ∗ RdrR 0 0 0 1 c ∗ own c (chunkM 2) fullShare (chunk A c 2) ∗ DirW 0 0 0 c ∗ DirS 0 0 2 c ∗ LaneR 1 0 1 c ∗ RdrR 0 1 0 1 c ∗ own c (chunkM 6) fullShare (chunk A c 6) ∗ DirW 0 1 0 c ∗ DirS 0 1 2 c ∗ LaneR 0 1 1 c ∗ RdrR 0 0 1 1 c ∗ LaneR 1 1 1 c ∗ RdrR 0 1 1 1 c ∗ own c xM qx (A.x c) ∗ own c wbM fullShare (k0_pay1 (A.w c)) ∗ anyAt c (chunkM 3) ∗ anyAt c (chunkM 5) ∗ anyAt c (chunkM 4)) ∗ R) ⊢ WP c (T14 c v10 v29 v48) Q := by
  simp only [T14, T15, T16, T17, T18, T19, T20, T21, T22, T23, T24, T25, T26, T27, T28, call, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, semSignalWord, semWaitWord, Prog.lift, Prog.bind_op, Prog.bind_ret, Prog.pure_eq_ret]
  iintro ⟨⟨#Hctx, HO, L00, Hq00, C2, HW0, HS0, L10, Hq10, C6, HW1, HS1, L01, Hq01, L11, Hq11, Hx, Hwb, C3, C5, C4⟩, HR⟩
  refine use (rsStep (K := K) (Ks := Ks) A 0 0 0 14 (by decide) 2 (by rfl) 0 (by rfl) 2 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L00 Hq00 C2 HW0 HS0]
  · isplitr; · iexact Hctx
    isplitl [HO]; · iexact HO
    isplitl [L00]; · iexact L00
    isplitl [Hq00]; · iexact Hq00
    isplitl [C2]; · iexact C2
    isplitl [HW0]; · iexact HW0
    iexact HS0
  iintro ⟨HO, L00, Hq00, C2, HW0, HS0⟩
  refine use (rsStep (K := K) (Ks := Ks) A 1 0 0 16 (by decide) 6 (by rfl) 0 (by rfl) 2 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L10 Hq10 C6 HW1 HS1]
  · isplitr; · iexact Hctx
    isplitl [HO]; · iexact HO
    isplitl [L10]; · iexact L10
    isplitl [Hq10]; · iexact Hq10
    isplitl [C6]; · iexact C6
    isplitl [HW1]; · iexact HW1
    iexact HS1
  iintro ⟨HO, L10, Hq10, C6, HW1, HS1⟩
  refine use (rsStep (K := K) (Ks := Ks) A 0 1 0 18 (by decide) 2 (by rfl) 1 (by rfl) 3 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L01 Hq01 C2 HW0 HS0]
  · isplitr; · iexact Hctx
    isplitl [HO]; · iexact HO
    isplitl [L01]; · iexact L01
    isplitl [Hq01]; · iexact Hq01
    isplitl [C2]; · iexact C2
    isplitl [HW0]; · iexact HW0
    iexact HS0
  iintro ⟨HO, L01, Hq01, C2, HW0, HS0⟩
  refine use (rsStep (K := K) (Ks := Ks) A 1 1 0 20 (by decide) 6 (by rfl) 1 (by rfl) 3 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L11 Hq11 C6 HW1 HS1]
  · isplitr; · iexact Hctx
    isplitl [HO]; · iexact HO
    isplitl [L11]; · iexact L11
    isplitl [Hq11]; · iexact Hq11
    isplitl [C6]; · iexact C6
    isplitl [HW1]; · iexact HW1
    iexact HS1
  iintro ⟨HO, L11, Hq11, C6, HW1, HS1⟩
  refine use (gemm (qx := qx) A 3 (by rfl) (by rfl) (by rfl) (fun v w => by rfl)) ?_
  isplitl [Hx Hwb C3]
  · isplitl [Hx]; · iexact Hx
    isplitl [Hwb]; · iexact Hwb
    iexact C3
  iintro ⟨Hx, Hwb, C3⟩
  refine use (gemm (qx := qx) A 5 (by rfl) (by rfl) (by rfl) (fun v w => by rfl)) ?_
  isplitl [Hx Hwb C5]
  · isplitl [Hx]; · iexact Hx
    isplitl [Hwb]; · iexact Hwb
    iexact C5
  iintro ⟨Hx, Hwb, C5⟩
  refine use (rsStep (K := K) (Ks := Ks) A 0 0 1 22 (by decide) 3 (by rfl) 2 (by rfl) 4 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L00 Hq00 C3 HW0 HS0]
  · isplitr; · iexact Hctx
    isplitl [HO]; · iexact HO
    isplitl [L00]; · iexact L00
    isplitl [Hq00]; · iexact Hq00
    isplitl [C3]; · iexact C3
    isplitl [HW0]; · iexact HW0
    iexact HS0
  iintro ⟨HO, L00, Hq00, C3, HW0, HS0⟩
  refine use (rsStep (K := K) (Ks := Ks) A 1 0 1 24 (by decide) 5 (by rfl) 2 (by rfl) 4 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L10 Hq10 C5 HW1 HS1]
  · isplitr; · iexact Hctx
    isplitl [HO]; · iexact HO
    isplitl [L10]; · iexact L10
    isplitl [Hq10]; · iexact Hq10
    isplitl [C5]; · iexact C5
    isplitl [HW1]; · iexact HW1
    iexact HS1
  iintro ⟨HO, L10, Hq10, C5, HW1, HS1⟩
  refine use (rsStep (K := K) (Ks := Ks) A 0 1 1 26 (by decide) 3 (by rfl) 3 (by rfl) 5 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L01 Hq01 C3 HW0 HS0]
  · isplitr; · iexact Hctx
    isplitl [HO]; · iexact HO
    isplitl [L01]; · iexact L01
    isplitl [Hq01]; · iexact Hq01
    isplitl [C3]; · iexact C3
    isplitl [HW0]; · iexact HW0
    iexact HS0
  iintro ⟨HO, L01, Hq01, C3, HW0, HS0⟩
  refine use (rsStep (K := K) (Ks := Ks) A 1 1 1 28 (by decide) 5 (by rfl) 3 (by rfl) 5 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L11 Hq11 C5 HW1 HS1]
  · isplitr; · iexact Hctx
    isplitl [HO]; · iexact HO
    isplitl [L11]; · iexact L11
    isplitl [Hq11]; · iexact Hq11
    isplitl [C5]; · iexact C5
    isplitl [HW1]; · iexact HW1
    iexact HS1
  iintro ⟨HO, L11, Hq11, C5, HW1, HS1⟩
  refine use (gemm (qx := qx) A 4 (by rfl) (by rfl) (by rfl) (fun v w => by rfl)) ?_
  isplitl [Hx Hwb C4]
  · isplitl [Hx]; · iexact Hx
    isplitl [Hwb]; · iexact Hwb
    iexact C4
  iintro ⟨Hx, Hwb, C4⟩
  refine goOn (h) ?_
  isplitl [C2 C6 L00 Hq00 L10 Hq10 L01 Hq01 C3 HW0 HS0 HO L11 Hq11 C5 HW1 HS1 Hx Hwb C4]
  · isplitl [C2]; · iexact C2
    isplitl [C6]; · iexact C6
    isplitl [L00]; · iexact L00
    isplitl [Hq00]; · iexact Hq00
    isplitl [L10]; · iexact L10
    isplitl [Hq10]; · iexact Hq10
    isplitl [L01]; · iexact L01
    isplitl [Hq01]; · iexact Hq01
    isplitl [C3]; · iexact C3
    isplitl [HW0]; · iexact HW0
    isplitl [HS0]; · iexact HS0
    isplitl [HO]; · iexact HO
    isplitl [L11]; · iexact L11
    isplitl [Hq11]; · iexact Hq11
    isplitl [C5]; · iexact C5
    isplitl [HW1]; · iexact HW1
    isplitl [HS1]; · iexact HS1
    isplitl [Hx]; · iexact Hx
    isplitl [Hwb]; · iexact Hwb
    iexact C4
  iexact HR

end Cert.KernelIdeal.Ring
-- ==== Proof.SegC.lean ====
/-
# The reduce-scatter along the program, by its parts
-/
module

public import proofs.«01_k».proof.Proof.Steps3
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segD {R : sProp (MT nD τ sig ℕ (Elt F) ℕ UU ℕ)} (v10 v29 v48 : BitVec 32)
    (h : iprop((LaneR 0 1 4 c ∗ RdrR 0 0 1 4 c ∗ LaneR 1 1 4 c ∗ RdrR 0 1 1 4 c ∗ own c (chunkM 4) fullShare (chunk A c 4) ∗ LaneR 0 0 5 c ∗ RdrR 0 0 0 5 c ∗ own c (chunkM 5) fullShare (chunk A c 5) ∗ DirW 0 0 7 c ∗ DirS 0 0 9 c ∗ ow c 42 ∗ LaneR 1 0 5 c ∗ RdrR 0 1 0 5 c ∗ own c (chunkM 3) fullShare (chunk A c 3) ∗ DirW 0 1 7 c ∗ DirS 0 1 9 c) ∗ R) ⊢ WP c (T39 c v10 v29 v48) Q) :
    iprop((ctx A K Ks ∗ ow c 30 ∗ LaneR 0 0 3 c ∗ RdrR 0 0 0 3 c ∗ own c (chunkM 4) fullShare (chunk A c 4) ∗ DirW 0 0 4 c ∗ DirS 0 0 6 c ∗ LaneR 1 0 3 c ∗ RdrR 0 1 0 3 c ∗ DirW 0 1 4 c ∗ DirS 0 1 6 c ∗ LaneR 0 1 3 c ∗ RdrR 0 0 1 3 c ∗ LaneR 1 1 3 c ∗ RdrR 0 1 1 3 c ∗ own c (chunkM 5) fullShare (chunk A c 5) ∗ own c (chunkM 3) fullShare (chunk A c 3)) ∗ R) ⊢ WP c (T29 c v10 v29 v48) Q := by
  simp only [T29, T30, T31, T32, T33, T34, T35, T36, T37, T38, call, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, semSignalWord, semWaitWord, Prog.lift, Prog.bind_op, Prog.bind_ret, Prog.pure_eq_ret]
  iintro ⟨⟨#Hctx, HO, L00, Hq00, C4, HW0, HS0, L10, Hq10, HW1, HS1, L01, Hq01, L11, Hq11, C5, C3⟩, HR⟩
  refine use (rsStep (K := K) (Ks := Ks) A 0 0 2 30 (by decide) 4 (by rfl) 4 (by rfl) 6 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L00 Hq00 C4 HW0 HS0]
  · isplitr; · iexact Hctx
    isplitl [HO]; · iexact HO
    isplitl [L00]; · iexact L00
    isplitl [Hq00]; · iexact Hq00
    isplitl [C4]; · iexact C4
    isplitl [HW0]; · iexact HW0
    iexact HS0
  iintro ⟨HO, L00, Hq00, C4, HW0, HS0⟩
  refine use (rsStep (K := K) (Ks := Ks) A 1 0 2 32 (by decide) 4 (by rfl) 4 (by rfl) 6 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L10 Hq10 C4 HW1 HS1]
  · isplitr; · iexact Hctx
    isplitl [HO]; · iexact HO
    isplitl [L10]; · iexact L10
    isplitl [Hq10]; · iexact Hq10
    isplitl [C4]; · iexact C4
    isplitl [HW1]; · iexact HW1
    iexact HS1
  iintro ⟨HO, L10, Hq10, C4, HW1, HS1⟩
  refine use (rsStep (K := K) (Ks := Ks) A 0 1 2 34 (by decide) 4 (by rfl) 5 (by rfl) 7 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L01 Hq01 C4 HW0 HS0]
  · isplitr; · iexact Hctx
    isplitl [HO]; · iexact HO
    isplitl [L01]; · iexact L01
    isplitl [Hq01]; · iexact Hq01
    isplitl [C4]; · iexact C4
    isplitl [HW0]; · iexact HW0
    iexact HS0
  iintro ⟨HO, L01, Hq01, C4, HW0, HS0⟩
  refine use (rsStep (K := K) (Ks := Ks) A 1 1 2 36 (by decide) 4 (by rfl) 5 (by rfl) 7 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L11 Hq11 C4 HW1 HS1]
  · isplitr; · iexact Hctx
    isplitl [HO]; · iexact HO
    isplitl [L11]; · iexact L11
    isplitl [Hq11]; · iexact Hq11
    isplitl [C4]; · iexact C4
    isplitl [HW1]; · iexact HW1
    iexact HS1
  iintro ⟨HO, L11, Hq11, C4, HW1, HS1⟩
  refine use (rsStep (K := K) (Ks := Ks) A 0 0 3 38 (by decide) 5 (by rfl) 6 (by rfl) 8 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L00 Hq00 C5 HW0 HS0]
  · isplitr; · iexact Hctx
    isplitl [HO]; · iexact HO
    isplitl [L00]; · iexact L00
    isplitl [Hq00]; · iexact Hq00
    isplitl [C5]; · iexact C5
    isplitl [HW0]; · iexact HW0
    iexact HS0
  iintro ⟨HO, L00, Hq00, C5, HW0, HS0⟩
  refine use (rsStep (K := K) (Ks := Ks) A 1 0 3 40 (by decide) 3 (by rfl) 6 (by rfl) 8 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L10 Hq10 C3 HW1 HS1]
  · isplitr; · iexact Hctx
    isplitl [HO]; · iexact HO
    isplitl [L10]; · iexact L10
    isplitl [Hq10]; · iexact Hq10
    isplitl [C3]; · iexact C3
    isplitl [HW1]; · iexact HW1
    iexact HS1
  iintro ⟨HO, L10, Hq10, C3, HW1, HS1⟩
  refine goOn (h) ?_
  isplitl [L01 Hq01 L11 Hq11 C4 L00 Hq00 C5 HW0 HS0 HO L10 Hq10 C3 HW1 HS1]
  · isplitl [L01]; · iexact L01
    isplitl [Hq01]; · iexact Hq01
    isplitl [L11]; · iexact L11
    isplitl [Hq11]; · iexact Hq11
    isplitl [C4]; · iexact C4
    isplitl [L00]; · iexact L00
    isplitl [Hq00]; · iexact Hq00
    isplitl [C5]; · iexact C5
    isplitl [HW0]; · iexact HW0
    isplitl [HS0]; · iexact HS0
    isplitl [HO]; · iexact HO
    isplitl [L10]; · iexact L10
    isplitl [Hq10]; · iexact Hq10
    isplitl [C3]; · iexact C3
    isplitl [HW1]; · iexact HW1
    iexact HS1
  iexact HR

set_option maxHeartbeats 4000000 in
theorem segE {R : sProp (MT nD τ sig ℕ (Elt F) ℕ UU ℕ)} (v10 v29 v48 : BitVec 32)
    (h : iprop((LaneR 0 1 5 c ∗ RdrR 0 0 1 5 c ∗ own c (chunkM 5) fullShare (chunk A c 5) ∗ DirS 0 0 10 c ∗ LaneR 1 1 5 c ∗ RdrR 0 1 1 5 c ∗ own c (chunkM 3) fullShare (chunk A c 3) ∗ DirW 0 1 8 c ∗ DirS 0 1 10 c ∗ ow c 47 ∗ LaneR 0 0 6 c ∗ anyAt c (slot4 (rsB 0) 1 0) ∗ own c (chunkM 6) fullShare (chunk A c 6) ∗ DirW 0 0 9 c) ∗ R) ⊢ WP c (T44 c v10 v29 v48) Q) :
    iprop((ctx A K Ks ∗ ow c 42 ∗ LaneR 0 1 4 c ∗ RdrR 0 0 1 4 c ∗ own c (chunkM 5) fullShare (chunk A c 5) ∗ DirW 0 0 7 c ∗ DirS 0 0 9 c ∗ LaneR 1 1 4 c ∗ RdrR 0 1 1 4 c ∗ own c (chunkM 3) fullShare (chunk A c 3) ∗ DirW 0 1 7 c ∗ DirS 0 1 9 c ∗ LaneR 0 0 5 c ∗ own c (chunkM 6) fullShare (chunk A c 6)) ∗ R) ⊢ WP c (T39 c v10 v29 v48) Q := by
  simp only [T39, T40, T41, T42, T43, call, k0_part39_eq_skeleton, k0_part39_skel, k0_part40_eq_skeleton, k0_part40_skel, k0_part41_eq_skeleton, k0_part41_skel, k0_part42_eq_skeleton, k0_part42_skel, k0_part43_eq_skeleton, k0_part43_skel, semSignalWord, semWaitWord, Prog.lift, Prog.bind_op, Prog.bind_ret, Prog.pure_eq_ret]
  iintro ⟨⟨#Hctx, HO, L01, Hq01, C5, HW0, HS0, L11, Hq11, C3, HW1, HS1, L00, C6⟩, HR⟩
  refine use (rsStep (K := K) (Ks := Ks) A 0 1 3 42 (by decide) 5 (by rfl) 7 (by rfl) 9 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L01 Hq01 C5 HW0 HS0]
  · isplitr; · iexact Hctx
    isplitl [HO]; · iexact HO
    isplitl [L01]; · iexact L01
    isplitl [Hq01]; · iexact Hq01
    isplitl [C5]; · iexact C5
    isplitl [HW0]; · iexact HW0
    iexact HS0
  iintro ⟨HO, L01, Hq01, C5, HW0, HS0⟩
  refine use (rsStep (K := K) (Ks := Ks) A 1 1 3 44 (by decide) 3 (by rfl) 7 (by rfl) 9 (by rfl) (by rfl) (by rfl) (by rfl) (by rfl) (by rfl) (fun v w => by rfl) (by rfl) (by rfl) (by rfl) (by rfl) (by rfl) (by rfl) (by rfl) (by rfl) (by clear h; revert c; decide) (by clear h; revert c; decide) (by decide) (by decide) (by decide) (by rfl) (by rfl)) ?_
  isplitl [HO L11 Hq11 C3 HW1 HS1]
  · isplitr; · iexact Hctx
    isplitl [HO]; · iexact HO
    isplitl [L11]; · iexact L11
    isplitl [Hq11]; · iexact Hq11
    isplitl [C3]; · iexact C3
    isplitl [HW1]; · iexact HW1
    iexact HS1
  iintro ⟨HO, L11, Hq11, C3, HW1, HS1⟩
  refine use (rs6 (K := K) (Ks := Ks) A 0 0 46 6 (by rfl) 8 (by rfl) (by rfl) (by rfl) (by rfl) (by rfl) (by rfl) (fun v w => by rfl) (by rfl) (by rfl) (by rfl) (by rfl) (by rfl) (by rfl) (by rfl) (by rfl) (by clear h; revert c; decide) (by decide) (by decide) (by decide) (by rfl)) ?_
  isplitl [HO L00 C6 HW0]
  · isplitr; · iexact Hctx
    isplitl [HO]; · iexact HO
    isplitl [L00]; · iexact L00
    isplitl [C6]; · iexact C6
    iexact HW0
  iintro ⟨HO, L00, Hr001, C6, HW0⟩
  refine goOn (h) ?_
  isplitl [L01 Hq01 C5 HS0 L11 Hq11 C3 HW1 HS1 HO L00 Hr001 C6 HW0]
  · isplitl [L01]; · iexact L01
    isplitl [Hq01]; · iexact Hq01
    isplitl [C5]; · iexact C5
    isplitl [HS0]; · iexact HS0
    isplitl [L11]; · iexact L11
    isplitl [Hq11]; · iexact Hq11
    isplitl [C3]; · iexact C3
    isplitl [HW1]; · iexact HW1
    isplitl [HS1]; · iexact HS1
    isplitl [HO]; · iexact HO
    isplitl [L00]; · iexact L00
    isplitl [Hr001]; · iexact Hr001
    isplitl [C6]; · iexact C6
    iexact HW0
  iexact HR

end Cert.KernelIdeal.Ring
-- ==== Proof.SegD.lean ====
/-
# The last sums along the program
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segF {R : sProp (MT nD τ sig ℕ (Elt F) ℕ UU ℕ)} (v10 : BitVec 32) (v29 : BitVec 32) (v48 : BitVec 32)
    (h : ∀ (v1245 : BitVec 32) (v1246 : BitVec 1) (c7_i32_1631 : BitVec 32), iprop((anyAt c (slot4 (rsB 1) 1 0) ∗ anyAt c (slot4 (rsB 0) 1 1) ∗ own c (chunkM 6) fullShare (chunk A c 6) ∗ DirW 0 0 10 c ∗ anyAt c (slot4 (rsB 1) 1 1) ∗ own c (chunkM 2) fullShare (chunk A c 2) ∗ DirW 0 1 10 c ∗ (Pr 0 0 0 7 c ∗ Pr 0 0 0 8 c ∗ anyAt c (slot4 (rsB 0) 0 0)) ∗ sndSt 0 0 6 c ∗ keep 0 0 7 c ∗ (Pr 0 1 0 7 c ∗ Pr 0 1 0 8 c ∗ anyAt c (slot4 (rsB 1) 0 0)) ∗ sndSt 1 0 6 c ∗ keep 1 0 7 c ∗ (Pr 0 0 1 7 c ∗ Pr 0 0 1 8 c ∗ anyAt c (slot4 (rsB 0) 0 1)) ∗ sndSt 0 1 6 c ∗ keep 0 1 7 c ∗ own c (chunkM 7) fullShare (chunk A c 7) ∗ ow c 50 ∗ (Pr 0 1 1 7 c ∗ Pr 0 1 1 8 c ∗ anyAt c (slot4 (rsB 1) 0 1)) ∗ sndSt 1 1 6 c ∗ keep 1 1 7 c ∗ own c (chunkM 1) fullShare (chunk A c 1) ∗ own c (rowM (pm c)) (qs 0) (lrow A c)) ∗ R) ⊢ WP c (T52 c v10 v29 v48 (Yv A 0 0 c) (Yv A 1 0 c) (Yv A 0 1 c) (Yv A 1 1 c) v1245 v1246 c7_i32_1631) Q) :
    iprop((ctx A K Ks ∗ ow c 47 ∗ LaneR 1 0 5 c ∗ own c (chunkM 2) fullShare (chunk A c 2) ∗ DirW 0 1 8 c ∗ LaneR 0 1 5 c ∗ own c (chunkM 6) fullShare (chunk A c 6) ∗ DirW 0 0 9 c ∗ LaneR 1 1 5 c ∗ LaneR 0 0 6 c ∗ own c (chunkM 7) fullShare (chunk A c 7) ∗ own c (chunkM 1) fullShare (chunk A c 1) ∗ anyAt c (rowM (pm c))) ∗ R) ⊢ WP c (T44 c v10 v29 v48) Q := by
  simp only [T44, T45, T46, T47, T48, T49, T50, T51, call, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, semSignalWord, semWaitWord, Prog.lift, Prog.bind_op, Prog.bind_ret, Prog.pure_eq_ret]
  iintro ⟨⟨#Hctx, HO, L10, C2, HW1, L01, C6, HW0, L11, L00, C7, C1, Hra⟩, HR⟩
  refine use (rs6 (K := K) (Ks := Ks) A 1 0 47 2 (by rfl) 8 (by rfl) (by rfl) (by rfl) (by rfl) (by rfl) (by rfl) (fun v w => by rfl) (by rfl) (by rfl) (by rfl) (by rfl) (by rfl) (by rfl) (by rfl) (by rfl) (by clear h; revert c; decide) (by decide) (by decide) (by decide) (by rfl)) ?_
  isplitl [HO L10 C2 HW1]
  · isplitr; · iexact Hctx
    isplitl [HO]; · iexact HO
    isplitl [L10]; · iexact L10
    isplitl [C2]; · iexact C2
    iexact HW1
  iintro ⟨HO, L10, Hr101, C2, HW1⟩
  refine use (rs6 (K := K) (Ks := Ks) A 0 1 48 6 (by rfl) 9 (by rfl) (by rfl) (by rfl) (by rfl) (by rfl) (by rfl) (fun v w => by rfl) (by rfl) (by rfl) (by rfl) (by rfl) (by rfl) (by rfl) (by rfl) (by rfl) (by clear h; revert c; decide) (by decide) (by decide) (by decide) (by rfl)) ?_
  isplitl [HO L01 C6 HW0]
  · isplitr; · iexact Hctx
    isplitl [HO]; · iexact HO
    isplitl [L01]; · iexact L01
    isplitl [C6]; · iexact C6
    iexact HW0
  iintro ⟨HO, L01, Hr011, C6, HW0⟩
  refine use (rs6 (K := K) (Ks := Ks) A 1 1 49 2 (by rfl) 9 (by rfl) (by rfl) (by rfl) (by rfl) (by rfl) (by rfl) (fun v w => by rfl) (by rfl) (by rfl) (by rfl) (by rfl) (by rfl) (by rfl) (by rfl) (by rfl) (by clear h; revert c; decide) (by decide) (by decide) (by decide) (by rfl)) ?_
  isplitl [HO L11 C2 HW1]
  · isplitr; · iexact Hctx
    isplitl [HO]; · iexact HO
    isplitl [L11]; · iexact L11
    isplitl [C2]; · iexact C2
    iexact HW1
  iintro ⟨HO, L11, Hr111, C2, HW1⟩
  refine use (rsFin (K := K) (Ks := Ks) A 0 0 50 7 (by rfl) (by rfl) (by rfl) (by rfl) (by rfl) (by rfl) (by decide) (by decide)) ?_
  isplitl [HO L00 C7]
  · isplitr; · iexact Hctx
    isplitl [HO]; · iexact HO
    isplitl [L00]; · iexact L00
    iexact C7
  iintro ⟨HO, HPr00, Hss00, Hkp00, C7⟩
  refine use (rsFin (K := K) (Ks := Ks) A 1 0 50 1 (by rfl) (by rfl) (by rfl) (by rfl) (by rfl) (by rfl) (by decide) (by decide)) ?_
  isplitl [HO L10 C1]
  · isplitr; · iexact Hctx
    isplitl [HO]; · iexact HO
    isplitl [L10]; · iexact L10
    iexact C1
  iintro ⟨HO, HPr10, Hss10, Hkp10, C1⟩
  refine use (rsFin (K := K) (Ks := Ks) A 0 1 50 7 (by rfl) (by rfl) (by rfl) (by rfl) (by rfl) (by rfl) (by decide) (by decide)) ?_
  isplitl [HO L01 C7]
  · isplitr; · iexact Hctx
    isplitl [HO]; · iexact HO
    isplitl [L01]; · iexact L01
    iexact C7
  iintro ⟨HO, HPr01, Hss01, Hkp01, C7⟩
  refine use (rsFin (K := K) (Ks := Ks) A 1 1 50 1 (by rfl) (by rfl) (by rfl) (by rfl) (by rfl) (by rfl) (by decide) (by decide)) ?_
  isplitl [HO L11 C1]
  · isplitr; · iexact Hctx
    isplitl [HO]; · iexact HO
    isplitl [L11]; · iexact L11
    iexact C1
  iintro ⟨HO, HPr11, Hss11, Hkp11, C1⟩
  refine use (axRow A (by clear h; revert c; decide) (by rfl)) ?_
  isplitl [Hra]
  · iexact Hra
  iintro Hra
  refine goOn (h _ _ _) ?_
  isplitl [Hr101 Hr011 C6 HW0 Hr111 C2 HW1 HPr00 Hss00 Hkp00 HPr10 Hss10 Hkp10 HPr01 Hss01 Hkp01 C7 HO HPr11 Hss11 Hkp11 C1 Hra]
  · isplitl [Hr101]; · iexact Hr101
    isplitl [Hr011]; · iexact Hr011
    isplitl [C6]; · iexact C6
    isplitl [HW0]; · iexact HW0
    isplitl [Hr111]; · iexact Hr111
    isplitl [C2]; · iexact C2
    isplitl [HW1]; · iexact HW1
    isplitl [HPr00]; · iexact HPr00
    isplitl [Hss00]; · iexact Hss00
    isplitl [Hkp00]; · iexact Hkp00
    isplitl [HPr10]; · iexact HPr10
    isplitl [Hss10]; · iexact Hss10
    isplitl [Hkp10]; · iexact Hkp10
    isplitl [HPr01]; · iexact HPr01
    isplitl [Hss01]; · iexact Hss01
    isplitl [Hkp01]; · iexact Hkp01
    isplitl [C7]; · iexact C7
    isplitl [HO]; · iexact HO
    isplitl [HPr11]; · iexact HPr11
    isplitl [Hss11]; · iexact Hss11
    isplitl [Hkp11]; · iexact Hkp11
    isplitl [C1]; · iexact C1
    iexact Hra
  iexact HR

end Cert.KernelIdeal.Ring
-- ==== Proof.SegE.lean ====
/-
# The exchange of the maxima along the program
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segG {R : sProp (MT nD τ sig ℕ (Elt F) ℕ UU ℕ)} (v10 : BitVec 32) (v29 : BitVec 32) (v48 : BitVec 32) (v1245 : BitVec 32) (v1246 : BitVec 1) (c7_i32_1631 : BitVec 32)
    (h : iprop((cr0 c (.axs 0) ∗ cr0 c (.axs 1) ∗ cr0 c (.axs 2) ∗ cr0 c (.axs 3) ∗ cr0 c (.axs 4) ∗ cr0 c (.axs 5) ∗ own c (rowM (pm c)) (qs 7) (lrow A c) ∗ keep 0 0 0 c ∗ cr0 c (.axs 6) ∗ ow c 57 ∗ (cr0 c (snt 0 0 (sl 6) 0) ∗ Ps 0 0 0 6 c) ∗ Ps 0 0 0 7 c ∗ anyAt c (slot4 (sdB 0) 1 0)) ∗ R) ⊢ WP c (T58 c v10 v29 v48 (Yv A 0 0 c) (Yv A 1 0 c) (Yv A 0 1 c) (Yv A 1 1 c)) Q) :
    iprop((ctx A K Ks ∗ ow c 50 ∗ own c (rowM (pm c)) (qs 0) (lrow A c) ∗ keep 0 0 7 c ∗ tk c (.axs 0) 0 0 ∗ tk (sh 1 c) (.axr 0) 0 0 ∗ tk c (.axs 1) 0 0 ∗ tk (sh 2 c) (.axr 1) 0 0 ∗ tk c (.axs 2) 0 0 ∗ tk (sh 3 c) (.axr 2) 0 0 ∗ tk c (.axs 3) 0 0 ∗ tk (sh 4 c) (.axr 3) 0 0 ∗ tk c (.axs 4) 0 0 ∗ tk (sh 5 c) (.axr 4) 0 0 ∗ tk c (.axs 5) 0 0 ∗ tk (sh 6 c) (.axr 5) 0 0 ∗ tk c (.axs 6) 0 0 ∗ tk (sh 7 c) (.axr 6) 0 0 ∗ sndSt 0 0 6 c) ∗ R) ⊢ WP c (T52 c v10 v29 v48 (Yv A 0 0 c) (Yv A 1 0 c) (Yv A 0 1 c) (Yv A 1 1 c) v1245 v1246 c7_i32_1631) Q := by
  simp only [T52, T53, T54, T55, T56, T57, call, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, semSignalWord, semWaitWord, Prog.lift, Prog.bind_op, Prog.bind_ret, Prog.pure_eq_ret]
  iintro ⟨⟨#Hctx, HO, Hra, Hkp00, Hxt0a, Hxt0b, Hxt1a, Hxt1b, Hxt2a, Hxt2b, Hxt3a, Hxt3b, Hxt4a, Hxt4b, Hxt5a, Hxt5b, Hxt6a, Hxt6b, Hss00⟩, HR⟩
  refine use (axSend' (K := K) (Ks := Ks) A 0 0 (by rfl) 50 (by clear h; revert c; decide) (by rfl) (by clear h; revert c; decide) (by rfl) (by rfl) (by rfl)) ?_
  isplitl [HO Hra Hkp00 Hxt0a Hxt0b]
  · isplitr; · iexact Hctx
    isplitl [HO]; · iexact HO
    isplitl [Hra]; · iexact Hra
    isplitl [Hkp00]; · iexact Hkp00
    isplitl [Hxt0a]; · iexact Hxt0a
    iexact Hxt0b
  iintro ⟨HO, Hra, Hkp00, Hxd0⟩
  refine use (axSend' (K := K) (Ks := Ks) A 1 1 (by rfl) 51 (by clear h; revert c; decide) (by rfl) (by clear h; revert c; decide) (by rfl) (by rfl) (by rfl)) ?_
  isplitl [HO Hra Hkp00 Hxt1a Hxt1b]
  · isplitr; · iexact Hctx
    isplitl [HO]; · iexact HO
    isplitl [Hra]; · iexact Hra
    isplitl [Hkp00]; · iexact Hkp00
    isplitl [Hxt1a]; · iexact Hxt1a
    iexact Hxt1b
  iintro ⟨HO, Hra, Hkp00, Hxd1⟩
  refine use (axSend' (K := K) (Ks := Ks) A 2 2 (by rfl) 52 (by clear h; revert c; decide) (by rfl) (by clear h; revert c; decide) (by rfl) (by rfl) (by rfl)) ?_
  isplitl [HO Hra Hkp00 Hxt2a Hxt2b]
  · isplitr; · iexact Hctx
    isplitl [HO]; · iexact HO
    isplitl [Hra]; · iexact Hra
    isplitl [Hkp00]; · iexact Hkp00
    isplitl [Hxt2a]; · iexact Hxt2a
    iexact Hxt2b
  iintro ⟨HO, Hra, Hkp00, Hxd2⟩
  refine use (axSend' (K := K) (Ks := Ks) A 3 3 (by rfl) 53 (by clear h; revert c; decide) (by rfl) (by clear h; revert c; decide) (by rfl) (by rfl) (by rfl)) ?_
  isplitl [HO Hra Hkp00 Hxt3a Hxt3b]
  · isplitr; · iexact Hctx
    isplitl [HO]; · iexact HO
    isplitl [Hra]; · iexact Hra
    isplitl [Hkp00]; · iexact Hkp00
    isplitl [Hxt3a]; · iexact Hxt3a
    iexact Hxt3b
  iintro ⟨HO, Hra, Hkp00, Hxd3⟩
  refine use (axSend' (K := K) (Ks := Ks) A 4 4 (by rfl) 54 (by clear h; revert c; decide) (by rfl) (by clear h; revert c; decide) (by rfl) (by rfl) (by rfl)) ?_
  isplitl [HO Hra Hkp00 Hxt4a Hxt4b]
  · isplitr; · iexact Hctx
    isplitl [HO]; · iexact HO
    isplitl [Hra]; · iexact Hra
    isplitl [Hkp00]; · iexact Hkp00
    isplitl [Hxt4a]; · iexact Hxt4a
    iexact Hxt4b
  iintro ⟨HO, Hra, Hkp00, Hxd4⟩
  refine use (axSend' (K := K) (Ks := Ks) A 5 5 (by rfl) 55 (by clear h; revert c; decide) (by rfl) (by clear h; revert c; decide) (by rfl) (by rfl) (by rfl)) ?_
  isplitl [HO Hra Hkp00 Hxt5a Hxt5b]
  · isplitr; · iexact Hctx
    isplitl [HO]; · iexact HO
    isplitl [Hra]; · iexact Hra
    isplitl [Hkp00]; · iexact Hkp00
    isplitl [Hxt5a]; · iexact Hxt5a
    iexact Hxt5b
  iintro ⟨HO, Hra, Hkp00, Hxd5⟩
  refine use (axSend' (K := K) (Ks := Ks) A 6 6 (by rfl) 56 (by clear h; revert c; decide) (by rfl) (by clear h; revert c; decide) (by rfl) (by rfl) (by rfl)) ?_
  isplitl [HO Hra Hkp00 Hxt6a Hxt6b]
  · isplitr; · iexact Hctx
    isplitl [HO]; · iexact HO
    isplitl [Hra]; · iexact Hra
    isplitl [Hkp00]; · iexact Hkp00
    isplitl [Hxt6a]; · iexact Hxt6a
    iexact Hxt6b
  iintro ⟨HO, Hra, Hkp00, Hxd6⟩
  refine use (rsSent5 (K := K) (Ks := Ks) A 0 0 57 (by rfl) (by rfl) (by decide)) ?_
  isplitl [HO Hss00]
  · isplitr; · iexact Hctx
    isplitl [HO]; · iexact HO
    iexact Hss00
  iintro ⟨HO, Hsx00, HPs007, Hs001⟩
  refine goOn (h) ?_
  isplitl [Hxd0 Hxd1 Hxd2 Hxd3 Hxd4 Hxd5 Hra Hkp00 Hxd6 HO Hsx00 HPs007 Hs001]
  · isplitl [Hxd0]; · iexact Hxd0
    isplitl [Hxd1]; · iexact Hxd1
    isplitl [Hxd2]; · iexact Hxd2
    isplitl [Hxd3]; · iexact Hxd3
    isplitl [Hxd4]; · iexact Hxd4
    isplitl [Hxd5]; · iexact Hxd5
    isplitl [Hra]; · iexact Hra
    isplitl [Hkp00]; · iexact Hkp00
    isplitl [Hxd6]; · iexact Hxd6
    isplitl [HO]; · iexact HO
    isplitl [Hsx00]; · iexact Hsx00
    isplitl [HPs007]; · iexact HPs007
    iexact Hs001
  iexact HR

set_option maxHeartbeats 4000000 in
theorem segH {R : sProp (MT nD τ sig ℕ (Elt F) ℕ UU ℕ)} (v10 : BitVec 32) (v29 : BitVec 32) (v48 : BitVec 32)
    (h : ∀ (v1635 : BitVec 32), iprop((Ps 0 1 0 7 c ∗ anyAt c (slot4 (sdB 1) 1 0) ∗ Ps 0 0 1 7 c ∗ anyAt c (slot4 (sdB 0) 1 1) ∗ Ps 0 1 1 7 c ∗ anyAt c (slot4 (sdB 1) 1 1) ∗ Ps 0 0 0 8 c ∗ anyAt c (slot4 (sdB 0) 0 0) ∗ Ps 0 1 0 8 c ∗ anyAt c (slot4 (sdB 1) 0 0) ∗ Ps 0 0 1 8 c ∗ anyAt c (slot4 (sdB 0) 0 1) ∗ Ps 0 1 1 8 c ∗ anyAt c (slot4 (sdB 1) 0 1) ∗ at' c (.axr 0) 1 ∗ at' c (.axr 1) 1 ∗ at' c (.axr 2) 1 ∗ at' c (.axr 3) 1 ∗ at' c (.axr 4) 1 ∗ at' c (.axr 5) 1 ∗ at' c (.axr 6) 1 ∗ at' c (.axs 0) 1 ∗ at' c (.axs 1) 1 ∗ at' c (.axs 2) 1 ∗ at' c (.axs 3) 1 ∗ at' c (.axs 4) 1 ∗ at' c (.axs 5) 1 ∗ ow c 57 ∗ at' c (.axs 6) 1 ∗ anyAt c amM) ∗ R) ⊢ WP c (T66 c v10 v29 v48 (Yv A 0 0 c) (Yv A 1 0 c) (Yv A 0 1 c) (Yv A 1 1 c) (scl A) v1635) Q) :
    iprop((ctx A K Ks ∗ ow c 57 ∗ sndSt 1 0 6 c ∗ sndSt 0 1 6 c ∗ sndSt 1 1 6 c ∗ (cr0 c (snt 0 0 (sl 6) 0) ∗ Ps 0 0 0 6 c) ∗ crE c (.ax 0) ∗ at' c (.axr 0) 0 ∗ crE c (.ax 1) ∗ at' c (.axr 1) 0 ∗ crE c (.ax 2) ∗ at' c (.axr 2) 0 ∗ crE c (.ax 3) ∗ at' c (.axr 3) 0 ∗ crE c (.ax 4) ∗ at' c (.axr 4) 0 ∗ crE c (.ax 5) ∗ at' c (.axr 5) 0 ∗ crE c (.ax 6) ∗ at' c (.axr 6) 0 ∗ cr0 c (.axs 0) ∗ at' c (.axs 0) 0 ∗ cr0 c (.axs 1) ∗ at' c (.axs 1) 0 ∗ cr0 c (.axs 2) ∗ at' c (.axs 2) 0 ∗ cr0 c (.axs 3) ∗ at' c (.axs 3) 0 ∗ cr0 c (.axs 4) ∗ at' c (.axs 4) 0 ∗ cr0 c (.axs 5) ∗ at' c (.axs 5) 0 ∗ cr0 c (.axs 6) ∗ at' c (.axs 6) 0 ∗ own c (rowM (pm c)) (qs 7) (lrow A c)) ∗ R) ⊢ WP c (T58 c v10 v29 v48 (Yv A 0 0 c) (Yv A 1 0 c) (Yv A 0 1 c) (Yv A 1 1 c)) Q := by
  simp only [T58, T59, T60, T61, T62, T63, T64, T65, call, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, semSignalWord, semWaitWord, Prog.lift, Prog.bind_op, Prog.bind_ret, Prog.pure_eq_ret]
  iintro ⟨⟨#Hctx, HO, Hss10, Hss01, Hss11, Hsx00, Hxc0, Hxb0, Hxc1, Hxb1, Hxc2, Hxb2, Hxc3, Hxb3, Hxc4, Hxb4, Hxc5, Hxb5, Hxc6, Hxb6, Hxd0, Hxa0, Hxd1, Hxa1, Hxd2, Hxa2, Hxd3, Hxa3, Hxd4, Hxa4, Hxd5, Hxa5, Hxd6, Hxa6, Hra⟩, HR⟩
  refine use (rsSent5 (K := K) (Ks := Ks) A 1 0 57 (by rfl) (by rfl) (by decide)) ?_
  isplitl [HO Hss10]
  · isplitr; · iexact Hctx
    isplitl [HO]; · iexact HO
    iexact Hss10
  iintro ⟨HO, Hsx10, HPs107, Hs101⟩
  refine use (rsSent5 (K := K) (Ks := Ks) A 0 1 57 (by rfl) (by rfl) (by decide)) ?_
  isplitl [HO Hss01]
  · isplitr; · iexact Hctx
    isplitl [HO]; · iexact HO
    iexact Hss01
  iintro ⟨HO, Hsx01, HPs017, Hs011⟩
  refine use (rsSent5 (K := K) (Ks := Ks) A 1 1 57 (by rfl) (by rfl) (by decide)) ?_
  isplitl [HO Hss11]
  · isplitr; · iexact Hctx
    isplitl [HO]; · iexact HO
    iexact Hss11
  iintro ⟨HO, Hsx11, HPs117, Hs111⟩
  refine use (rsSent6 (K := K) (Ks := Ks) A 0 0 57 (by rfl) (by rfl) (by decide)) ?_
  isplitl [HO Hsx00]
  · isplitr; · iexact Hctx
    isplitl [HO]; · iexact HO
    iexact Hsx00
  iintro ⟨HO, HPs008, Hs000⟩
  refine use (rsSent6 (K := K) (Ks := Ks) A 1 0 57 (by rfl) (by rfl) (by decide)) ?_
  isplitl [HO Hsx10]
  · isplitr; · iexact Hctx
    isplitl [HO]; · iexact HO
    iexact Hsx10
  iintro ⟨HO, HPs108, Hs100⟩
  refine use (rsSent6 (K := K) (Ks := Ks) A 0 1 57 (by rfl) (by rfl) (by decide)) ?_
  isplitl [HO Hsx01]
  · isplitr; · iexact Hctx
    isplitl [HO]; · iexact HO
    iexact Hsx01
  iintro ⟨HO, HPs018, Hs010⟩
  refine use (rsSent6 (K := K) (Ks := Ks) A 1 1 57 (by rfl) (by rfl) (by decide)) ?_
  isplitl [HO Hsx11]
  · isplitr; · iexact Hctx
    isplitl [HO]; · iexact HO
    iexact Hsx11
  iintro ⟨HO, HPs118, Hs110⟩
  refine use (axRecv' (K := K) (Ks := Ks) A 0 0 (by rfl) 57 (by decide) (by decide) (by rfl) (by rfl)) ?_
  isplitl [HO Hxc0 Hxb0]
  · isplitr; · iexact Hctx
    isplitl [HO]; · iexact HO
    isplitl [Hxc0]; · iexact Hxc0
    iexact Hxb0
  iintro ⟨HO, Hxb0, Hrow7⟩
  refine use (axRecv' (K := K) (Ks := Ks) A 1 1 (by rfl) 57 (by decide) (by decide) (by rfl) (by rfl)) ?_
  isplitl [HO Hxc1 Hxb1]
  · isplitr; · iexact Hctx
    isplitl [HO]; · iexact HO
    isplitl [Hxc1]; · iexact Hxc1
    iexact Hxb1
  iintro ⟨HO, Hxb1, Hrow6⟩
  refine use (axRecv' (K := K) (Ks := Ks) A 2 2 (by rfl) 57 (by decide) (by decide) (by rfl) (by rfl)) ?_
  isplitl [HO Hxc2 Hxb2]
  · isplitr; · iexact Hctx
    isplitl [HO]; · iexact HO
    isplitl [Hxc2]; · iexact Hxc2
    iexact Hxb2
  iintro ⟨HO, Hxb2, Hrow5⟩
  refine use (axRecv' (K := K) (Ks := Ks) A 3 3 (by rfl) 57 (by decide) (by decide) (by rfl) (by rfl)) ?_
  isplitl [HO Hxc3 Hxb3]
  · isplitr; · iexact Hctx
    isplitl [HO]; · iexact HO
    isplitl [Hxc3]; · iexact Hxc3
    iexact Hxb3
  iintro ⟨HO, Hxb3, Hrow4⟩
  refine use (axRecv' (K := K) (Ks := Ks) A 4 4 (by rfl) 57 (by decide) (by decide) (by rfl) (by rfl)) ?_
  isplitl [HO Hxc4 Hxb4]
  · isplitr; · iexact Hctx
    isplitl [HO]; · iexact HO
    isplitl [Hxc4]; · iexact Hxc4
    iexact Hxb4
  iintro ⟨HO, Hxb4, Hrow3⟩
  refine use (axRecv' (K := K) (Ks := Ks) A 5 5 (by rfl) 57 (by decide) (by decide) (by rfl) (by rfl)) ?_
  isplitl [HO Hxc5 Hxb5]
  · isplitr; · iexact Hctx
    isplitl [HO]; · iexact HO
    isplitl [Hxc5]; · iexact Hxc5
    iexact Hxb5
  iintro ⟨HO, Hxb5, Hrow2⟩
  refine use (axRecv' (K := K) (Ks := Ks) A 6 6 (by rfl) 57 (by decide) (by decide) (by rfl) (by rfl)) ?_
  isplitl [HO Hxc6 Hxb6]
  · isplitr; · iexact Hctx
    isplitl [HO]; · iexact HO
    isplitl [Hxc6]; · iexact Hxc6
    iexact Hxb6
  iintro ⟨HO, Hxb6, Hrow1⟩
  refine use (axSent' (K := K) (Ks := Ks) A 0 0 (by rfl) 57 (by decide) (by rfl) (by rfl)) ?_
  isplitl [HO Hxd0 Hxa0]
  · isplitr; · iexact Hctx
    isplitl [HO]; · iexact HO
    isplitl [Hxd0]; · iexact Hxd0
    iexact Hxa0
  iintro ⟨HO, Hxa0, Hrs0⟩
  refine use (axSent' (K := K) (Ks := Ks) A 1 1 (by rfl) 57 (by decide) (by rfl) (by rfl)) ?_
  isplitl [HO Hxd1 Hxa1]
  · isplitr; · iexact Hctx
    isplitl [HO]; · iexact HO
    isplitl [Hxd1]; · iexact Hxd1
    iexact Hxa1
  iintro ⟨HO, Hxa1, Hrs1⟩
  refine use (axSent' (K := K) (Ks := Ks) A 2 2 (by rfl) 57 (by decide) (by rfl) (by rfl)) ?_
  isplitl [HO Hxd2 Hxa2]
  · isplitr; · iexact Hctx
    isplitl [HO]; · iexact HO
    isplitl [Hxd2]; · iexact Hxd2
    iexact Hxa2
  iintro ⟨HO, Hxa2, Hrs2⟩
  refine use (axSent' (K := K) (Ks := Ks) A 3 3 (by rfl) 57 (by decide) (by rfl) (by rfl)) ?_
  isplitl [HO Hxd3 Hxa3]
  · isplitr; · iexact Hctx
    isplitl [HO]; · iexact HO
    isplitl [Hxd3]; · iexact Hxd3
    iexact Hxa3
  iintro ⟨HO, Hxa3, Hrs3⟩
  refine use (axSent' (K := K) (Ks := Ks) A 4 4 (by rfl) 57 (by decide) (by rfl) (by rfl)) ?_
  isplitl [HO Hxd4 Hxa4]
  · isplitr; · iexact Hctx
    isplitl [HO]; · iexact HO
    isplitl [Hxd4]; · iexact Hxd4
    iexact Hxa4
  iintro ⟨HO, Hxa4, Hrs4⟩
  refine use (axSent' (K := K) (Ks := Ks) A 5 5 (by rfl) 57 (by decide) (by rfl) (by rfl)) ?_
  isplitl [HO Hxd5 Hxa5]
  · isplitr; · iexact Hctx
    isplitl [HO]; · iexact HO
    isplitl [Hxd5]; · iexact Hxd5
    iexact Hxa5
  iintro ⟨HO, Hxa5, Hrs5⟩
  refine use (axSent' (K := K) (Ks := Ks) A 6 6 (by rfl) 57 (by decide) (by rfl) (by rfl)) ?_
  isplitl [HO Hxd6 Hxa6]
  · isplitr; · iexact Hctx
    isplitl [HO]; · iexact HO
    isplitl [Hxd6]; · iexact Hxd6
    iexact Hxa6
  iintro ⟨HO, Hxa6, Hrs6⟩
  refine use (axLoad A (by rfl)) ?_
  isplitl [Hra Hrs6 Hrs5 Hrs4 Hrs3 Hrs2 Hrs1 Hrs0 Hrow7 Hrow6 Hrow5 Hrow4 Hrow3 Hrow2 Hrow1]
  · isplitl [Hra]; · iexact Hra
    isplitl [Hrs6]; · iexact Hrs6
    isplitl [Hrs5]; · iexact Hrs5
    isplitl [Hrs4]; · iexact Hrs4
    isplitl [Hrs3]; · iexact Hrs3
    isplitl [Hrs2]; · iexact Hrs2
    isplitl [Hrs1]; · iexact Hrs1
    isplitl [Hrs0]; · iexact Hrs0
    isplitl [Hrow7]; · iexact Hrow7
    isplitl [Hrow6]; · iexact Hrow6
    isplitl [Hrow5]; · iexact Hrow5
    isplitl [Hrow4]; · iexact Hrow4
    isplitl [Hrow3]; · iexact Hrow3
    isplitl [Hrow2]; · iexact Hrow2
    iexact Hrow1
  iintro Ham
  rw [show k0_pay49 (gAll A) = scl A by unfold scl; rfl]
  refine goOn (h _) ?_
  isplitl [HPs107 Hs101 HPs017 Hs011 HPs117 Hs111 HPs008 Hs000 HPs108 Hs100 HPs018 Hs010 HPs118 Hs110 Hxb0 Hxb1 Hxb2 Hxb3 Hxb4 Hxb5 Hxb6 Hxa0 Hxa1 Hxa2 Hxa3 Hxa4 Hxa5 HO Hxa6 Ham]
  · isplitl [HPs107]; · iexact HPs107
    isplitl [Hs101]; · iexact Hs101
    isplitl [HPs017]; · iexact HPs017
    isplitl [Hs011]; · iexact Hs011
    isplitl [HPs117]; · iexact HPs117
    isplitl [Hs111]; · iexact Hs111
    isplitl [HPs008]; · iexact HPs008
    isplitl [Hs000]; · iexact Hs000
    isplitl [HPs108]; · iexact HPs108
    isplitl [Hs100]; · iexact Hs100
    isplitl [HPs018]; · iexact HPs018
    isplitl [Hs010]; · iexact Hs010
    isplitl [HPs118]; · iexact HPs118
    isplitl [Hs110]; · iexact Hs110
    isplitl [Hxb0]; · iexact Hxb0
    isplitl [Hxb1]; · iexact Hxb1
    isplitl [Hxb2]; · iexact Hxb2
    isplitl [Hxb3]; · iexact Hxb3
    isplitl [Hxb4]; · iexact Hxb4
    isplitl [Hxb5]; · iexact Hxb5
    isplitl [Hxb6]; · iexact Hxb6
    isplitl [Hxa0]; · iexact Hxa0
    isplitl [Hxa1]; · iexact Hxa1
    isplitl [Hxa2]; · iexact Hxa2
    isplitl [Hxa3]; · iexact Hxa3
    isplitl [Hxa4]; · iexact Hxa4
    isplitl [Hxa5]; · iexact Hxa5
    isplitl [HO]; · iexact HO
    isplitl [Hxa6]; · iexact Hxa6
    iexact Ham
  iexact HR

end Cert.KernelIdeal.Ring
-- ==== Proof.SegF.lean ====
/-
# The all-gather along the program, by its parts
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segI {R : sProp (MT nD τ sig ℕ (Elt F) ℕ UU ℕ)} (v10 : BitVec 32) (v29 : BitVec 32) (v48 : BitVec 32) (v1635 : BitVec 32)
    (h : iprop((MidG0 0 1 c ∗ MidG0 1 1 c ∗ OcB A 0 0 0 c ∗ OcB A 1 0 0 c ∗ own c (slot3 (qB 0) 1) fullShare.right (Qv A 0 1 c) ∗ OcB A 0 1 0 c ∗ own c (slot3 (qB 1) 1) fullShare.right (Qv A 1 1 c) ∗ OcB A 1 1 0 c ∗ LaneG 0 0 0 c ∗ anyAt c (slot3 (qB 0) 0) ∗ ow c 61 ∗ LaneG 1 0 0 c ∗ anyAt c (slot3 (qB 1) 0)) ∗ R) ⊢ WP c (T72 c v10 v29 v48 (scl A)) Q) :
    iprop((ctx A K Ks ∗ anyAt c (slot3 (qB 0) 0) ∗ anyAt c (slot3 (qB 1) 0) ∗ ow c 57 ∗ StL 1 0 0 c ∗ StL 1 1 0 c ∗ anyAt c (slot3 (qB 0) 1) ∗ anyAt c (slot3 (qB 1) 1) ∗ StL 1 0 1 c ∗ StL 1 1 1 c ∗ anyAt c (slot4 ostM 0 0) ∗ OcI A 0 0 0 c ∗ anyAt c (slot4 ostM 1 0) ∗ OcI A 1 0 0 c ∗ anyAt c (slot4 ostM 0 1) ∗ OcI A 0 1 0 c ∗ anyAt c (slot4 ostM 1 1) ∗ OcI A 1 1 0 c) ∗ R) ⊢ WP c (T66 c v10 v29 v48 (Yv A 0 0 c) (Yv A 1 0 c) (Yv A 0 1 c) (Yv A 1 1 c) (scl A) v1635) Q := by
  simp only [T66, T67, T68, T69, T70, T71, call, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, semSignalWord, semWaitWord, Prog.lift, Prog.bind_op, Prog.bind_ret, Prog.pure_eq_ret]
  iintro ⟨⟨#Hctx, Hqs00, Hqs10, HO, G00, G10, Hqs01, Hqs11, G01, G11, Hos00, Hoc00, Hos10, Hoc10, Hos01, Hoc01, Hos11, Hoc11⟩, HR⟩
  refine use (quant A 0 0 (by rfl) (by rfl) (by rfl)) ?_
  isplitl [Hqs00]
  · iexact Hqs00
  iintro Hqs00
  refine use (quant A 1 0 (by rfl) (by rfl) (by rfl)) ?_
  isplitl [Hqs10]
  · iexact Hqs10
  iintro Hqs10
  refine use (agSend0 (K := K) (Ks := Ks) A 0 0 57 (by rfl) (by rfl) (by clear h; revert c; decide) (by rfl) (by rfl) (by rfl) (by rfl)) ?_
  isplitl [HO G00 Hqs00]
  · isplitr; · iexact Hctx
    isplitl [HO]; · iexact HO
    isplitl [G00]; · iexact G00
    iexact Hqs00
  iintro ⟨HO, G00, Hqs00⟩
  refine use (agSend0 (K := K) (Ks := Ks) A 1 0 58 (by rfl) (by rfl) (by clear h; revert c; decide) (by rfl) (by rfl) (by rfl) (by rfl)) ?_
  isplitl [HO G10 Hqs10]
  · isplitr; · iexact Hctx
    isplitl [HO]; · iexact HO
    isplitl [G10]; · iexact G10
    iexact Hqs10
  iintro ⟨HO, G10, Hqs10⟩
  refine use (quant A 0 1 (by rfl) (by rfl) (by rfl)) ?_
  isplitl [Hqs01]
  · iexact Hqs01
  iintro Hqs01
  refine use (quant A 1 1 (by rfl) (by rfl) (by rfl)) ?_
  isplitl [Hqs11]
  · iexact Hqs11
  iintro Hqs11
  refine use (agSend0 (K := K) (Ks := Ks) A 0 1 59 (by rfl) (by rfl) (by clear h; revert c; decide) (by rfl) (by rfl) (by rfl) (by rfl)) ?_
  isplitl [HO G01 Hqs01]
  · isplitr; · iexact Hctx
    isplitl [HO]; · iexact HO
    isplitl [G01]; · iexact G01
    iexact Hqs01
  iintro ⟨HO, G01, Hqs01⟩
  refine use (agSend0 (K := K) (Ks := Ks) A 1 1 60 (by rfl) (by rfl) (by clear h; revert c; decide) (by rfl) (by rfl) (by rfl) (by rfl)) ?_
  isplitl [HO G11 Hqs11]
  · isplitr; · iexact Hctx
    isplitl [HO]; · iexact HO
    isplitl [G11]; · iexact G11
    iexact Hqs11
  iintro ⟨HO, G11, Hqs11⟩
  refine use (deq0 (K := K) (Ks := Ks) A 0 0 (by rfl) (by rfl) (by rfl) (by rfl) (by clear h; revert c; decide) (fun v => by rfl) (by rfl) (by rfl)) ?_
  isplitl [Hqs00 Hos00 Hoc00]
  · isplitr; · iexact Hctx
    isplitl [Hqs00]; · iexact Hqs00
    isplitl [Hos00]; · iexact Hos00
    iexact Hoc00
  iintro ⟨Hqs00, Hoc00⟩
  refine use (deq0 (K := K) (Ks := Ks) A 1 0 (by rfl) (by rfl) (by rfl) (by rfl) (by clear h; revert c; decide) (fun v => by rfl) (by rfl) (by rfl)) ?_
  isplitl [Hqs10 Hos10 Hoc10]
  · isplitr; · iexact Hctx
    isplitl [Hqs10]; · iexact Hqs10
    isplitl [Hos10]; · iexact Hos10
    iexact Hoc10
  iintro ⟨Hqs10, Hoc10⟩
  refine use (deq0 (K := K) (Ks := Ks) A 0 1 (by rfl) (by rfl) (by rfl) (by rfl) (by clear h; revert c; decide) (fun v => by rfl) (by rfl) (by rfl)) ?_
  isplitl [Hqs01 Hos01 Hoc01]
  · isplitr; · iexact Hctx
    isplitl [Hqs01]; · iexact Hqs01
    isplitl [Hos01]; · iexact Hos01
    iexact Hoc01
  iintro ⟨Hqs01, Hoc01⟩
  refine use (deq0 (K := K) (Ks := Ks) A 1 1 (by rfl) (by rfl) (by rfl) (by rfl) (by clear h; revert c; decide) (fun v => by rfl) (by rfl) (by rfl)) ?_
  isplitl [Hqs11 Hos11 Hoc11]
  · isplitr; · iexact Hctx
    isplitl [Hqs11]; · iexact Hqs11
    isplitl [Hos11]; · iexact Hos11
    iexact Hoc11
  iintro ⟨Hqs11, Hoc11⟩
  refine use (agSent0 (K := K) (Ks := Ks) A 0 0 61 (by rfl) (by rfl) (by decide)) ?_
  isplitl [HO G00 Hqs00]
  · isplitr; · iexact Hctx
    isplitl [HO]; · iexact HO
    isplitl [G00]; · iexact G00
    iexact Hqs00
  iintro ⟨HO, G00, Hqs00⟩
  refine use (agSent0 (K := K) (Ks := Ks) A 1 0 61 (by rfl) (by rfl) (by decide)) ?_
  isplitl [HO G10 Hqs10]
  · isplitr; · iexact Hctx
    isplitl [HO]; · iexact HO
    isplitl [G10]; · iexact G10
    iexact Hqs10
  iintro ⟨HO, G10, Hqs10⟩
  refine goOn (h) ?_
  isplitl [G01 G11 Hoc00 Hoc10 Hqs01 Hoc01 Hqs11 Hoc11 G00 Hqs00 HO G10 Hqs10]
  · isplitl [G01]; · iexact G01
    isplitl [G11]; · iexact G11
    isplitl [Hoc00]; · iexact Hoc00
    isplitl [Hoc10]; · iexact Hoc10
    isplitl [Hqs01]; · iexact Hqs01
    isplitl [Hoc01]; · iexact Hoc01
    isplitl [Hqs11]; · iexact Hqs11
    isplitl [Hoc11]; · iexact Hoc11
    isplitl [G00]; · iexact G00
    isplitl [Hqs00]; · iexact Hqs00
    isplitl [HO]; · iexact HO
    isplitl [G10]; · iexact G10
    iexact Hqs10
  iexact HR

set_option maxHeartbeats 4000000 in
theorem segJ {R : sProp (MT nD τ sig ℕ (Elt F) ℕ UU ℕ)} (v10 : BitVec 32) (v29 : BitVec 32) (v48 : BitVec 32)
    (h : iprop((anyAt c (slot3 (qB 0) 1) ∗ anyAt c (slot3 (qB 1) 1) ∗ OcB A 0 0 1 c ∗ LaneG 0 0 1 c ∗ RdrR 1 0 0 1 c ∗ OcB A 1 0 1 c ∗ LaneG 1 0 1 c ∗ RdrR 1 1 0 1 c ∗ OcB A 0 1 1 c ∗ LaneG 0 1 1 c ∗ RdrR 1 0 1 1 c ∗ DirS 1 0 2 c ∗ OcB A 1 1 1 c ∗ ow c 69 ∗ LaneG 1 1 1 c ∗ RdrR 1 1 1 1 c ∗ DirS 1 1 2 c) ∗ R) ⊢ WP c (T82 c v10 v29 v48 (scl A)) Q) :
    iprop((ctx A K Ks ∗ ow c 61 ∗ MidG0 0 1 c ∗ own c (slot3 (qB 0) 1) fullShare.right (Qv A 0 1 c) ∗ MidG0 1 1 c ∗ own c (slot3 (qB 1) 1) fullShare.right (Qv A 1 1 c) ∗ LaneG 0 0 0 c ∗ LaneG 1 0 0 c ∗ OcB A 0 0 0 c ∗ RdrR 1 0 0 0 c ∗ DirS 1 0 0 c ∗ OcB A 1 0 0 c ∗ RdrR 1 1 0 0 c ∗ DirS 1 1 0 c ∗ OcB A 0 1 0 c ∗ RdrR 1 0 1 0 c ∗ OcB A 1 1 0 c ∗ RdrR 1 1 1 0 c) ∗ R) ⊢ WP c (T72 c v10 v29 v48 (scl A)) Q := by
  simp only [T72, T73, T74, T75, T76, T77, T78, T79, T80, T81, call, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, semSignalWord, semWaitWord, Prog.lift, Prog.bind_op, Prog.bind_ret, Prog.pure_eq_ret]
  iintro ⟨⟨#Hctx, HO, G01, Hqs01, G11, Hqs11, G00, G10, Hoc00, Hgq00, HGS0, Hoc10, Hgq10, HGS1, Hoc01, Hgq01, Hoc11, Hgq11⟩, HR⟩
  refine use (agSent0 (K := K) (Ks := Ks) A 0 1 61 (by rfl) (by rfl) (by decide)) ?_
  isplitl [HO G01 Hqs01]
  · isplitr; · iexact Hctx
    isplitl [HO]; · iexact HO
    isplitl [G01]; · iexact G01
    iexact Hqs01
  iintro ⟨HO, G01, Hqs01⟩
  refine use (agSent0 (K := K) (Ks := Ks) A 1 1 61 (by rfl) (by rfl) (by decide)) ?_
  isplitl [HO G11 Hqs11]
  · isplitr; · iexact Hctx
    isplitl [HO]; · iexact HO
    isplitl [G11]; · iexact G11
    iexact Hqs11
  iintro ⟨HO, G11, Hqs11⟩
  refine use (agHop0 (K := K) (Ks := Ks) A 0 0 61 (by rfl) (by rfl) (by rfl) (by rfl) (by clear h; revert c; decide) (by rfl) (by rfl) (by rfl) (by decide) (by decide) (by rfl)) ?_
  isplitl [HO G00]
  · isplitr; · iexact Hctx
    isplitl [HO]; · iexact HO
    iexact G00
  iintro ⟨HO, G00, Hm00⟩
  refine use (agHop0 (K := K) (Ks := Ks) A 1 0 62 (by rfl) (by rfl) (by rfl) (by rfl) (by clear h; revert c; decide) (by rfl) (by rfl) (by rfl) (by decide) (by decide) (by rfl)) ?_
  isplitl [HO G10]
  · isplitr; · iexact Hctx
    isplitl [HO]; · iexact HO
    iexact G10
  iintro ⟨HO, G10, Hm10⟩
  refine use (agHop0 (K := K) (Ks := Ks) A 0 1 63 (by rfl) (by rfl) (by rfl) (by rfl) (by clear h; revert c; decide) (by rfl) (by rfl) (by rfl) (by decide) (by decide) (by rfl)) ?_
  isplitl [HO G01]
  · isplitr; · iexact Hctx
    isplitl [HO]; · iexact HO
    iexact G01
  iintro ⟨HO, G01, Hm01⟩
  refine use (agHop0 (K := K) (Ks := Ks) A 1 1 64 (by rfl) (by rfl) (by rfl) (by rfl) (by clear h; revert c; decide) (by rfl) (by rfl) (by rfl) (by decide) (by decide) (by rfl)) ?_
  isplitl [HO G11]
  · isplitr; · iexact Hctx
    isplitl [HO]; · iexact HO
    iexact G11
  iintro ⟨HO, G11, Hm11⟩
  refine use (deqW (K := K) (Ks := Ks) (qq := fullShare.right) A 0 0 0 65 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent (K := K) (Ks := Ks) A 0 0 0 65 (by decide) 0 (by rfl) (by rfl) (by rfl) (by decide) (by rfl) (by clear h; revert c; decide) (by rfl)) ?_
  isplitl [HO G00 Hm00 Hgq00 HGS0]
  · isplitr; · iexact Hctx
    isplitl [HO]; · iexact HO
    isplitl [G00]; · iexact G00
    isplitl [Hm00]; · iexact Hm00
    isplitl [Hgq00]; · iexact Hgq00
    iexact HGS0
  iintro ⟨HO, G00, Hgq00, HGS0⟩
  refine use (deqW (K := K) (Ks := Ks) (qq := fullShare.right) A 1 0 0 66 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent (K := K) (Ks := Ks) A 1 0 0 66 (by decide) 0 (by rfl) (by rfl) (by rfl) (by decide) (by rfl) (by clear h; revert c; decide) (by rfl)) ?_
  isplitl [HO G10 Hm10 Hgq10 HGS1]
  · isplitr; · iexact Hctx
    isplitl [HO]; · iexact HO
    isplitl [G10]; · iexact G10
    isplitl [Hm10]; · iexact Hm10
    isplitl [Hgq10]; · iexact Hgq10
    iexact HGS1
  iintro ⟨HO, G10, Hgq10, HGS1⟩
  refine use (deqW (K := K) (Ks := Ks) (qq := fullShare.right) A 0 1 0 67 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent (K := K) (Ks := Ks) A 0 1 0 67 (by decide) 1 (by rfl) (by rfl) (by rfl) (by decide) (by rfl) (by clear h; revert c; decide) (by rfl)) ?_
  isplitl [HO G01 Hm01 Hgq01 HGS0]
  · isplitr; · iexact Hctx
    isplitl [HO]; · iexact HO
    isplitl [G01]; · iexact G01
    isplitl [Hm01]; · iexact Hm01
    isplitl [Hgq01]; · iexact Hgq01
    iexact HGS0
  iintro ⟨HO, G01, Hgq01, HGS0⟩
  refine use (deqW (K := K) (Ks := Ks) (qq := fullShare.right) A 1 1 0 68 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine use (agSent (K := K) (Ks := Ks) A 1 1 0 68 (by decide) 1 (by rfl) (by rfl) (by rfl) (by decide) (by rfl) (by clear h; revert c; decide) (by rfl)) ?_
  isplitl [HO G11 Hm11 Hgq11 HGS1]
  · isplitr; · iexact Hctx
    isplitl [HO]; · iexact HO
    isplitl [G11]; · iexact G11
    isplitl [Hm11]; · iexact Hm11
    isplitl [Hgq11]; · iexact Hgq11
    iexact HGS1
  iintro ⟨HO, G11, Hgq11, HGS1⟩
  refine goOn (h) ?_
  isplitl [Hqs01 Hqs11 Hoc00 G00 Hgq00 Hoc10 G10 Hgq10 Hoc01 G01 Hgq01 HGS0 Hoc11 HO G11 Hgq11 HGS1]
  · isplitl [Hqs01]; · iexact Hqs01
    isplitl [Hqs11]; · iexact Hqs11
    isplitl [Hoc00]; · iexact Hoc00
    isplitl [G00]; · iexact G00
    isplitl [Hgq00]; · iexact Hgq00
    isplitl [Hoc10]; · iexact Hoc10
    isplitl [G10]; · iexact G10
    isplitl [Hgq10]; · iexact Hgq10
    isplitl [Hoc01]; · iexact Hoc01
    isplitl [G01]; · iexact G01
    isplitl [Hgq01]; · iexact Hgq01
    isplitl [HGS0]; · iexact HGS0
    isplitl [Hoc11]; · iexact Hoc11
    isplitl [HO]; · iexact HO
    isplitl [G11]; · iexact G11
    isplitl [Hgq11]; · iexact Hgq11
    iexact HGS1
  iexact HR

end Cert.KernelIdeal.Ring
-- ==== Proof.SegG.lean ====
/-
# The all-gather along the program, by its parts
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segK {R : sProp (MT nD τ sig ℕ (Elt F) ℕ UU ℕ)} (v10 : BitVec 32) (v29 : BitVec 32) (v48 : BitVec 32)
    (h : iprop((RdrR 1 1 1 2 c ∗ DirW 1 0 4 c ∗ MidG 1 1 2 c ∗ DirW 1 1 4 c ∗ OcB A 0 0 3 c ∗ LaneG 0 0 3 c ∗ RdrR 1 0 0 3 c ∗ OcB A 1 0 3 c ∗ LaneG 1 0 3 c ∗ RdrR 1 1 0 3 c ∗ DirS 1 1 5 c ∗ OcB A 0 1 3 c ∗ LaneG 0 1 3 c ∗ RdrR 1 0 1 3 c ∗ DirS 1 0 6 c ∗ ow c 84 ∗ own c (slot4 (agB 1) (sl 2) 1) fullShare.right (Qv A 1 1 (up 1 3 c)) ∗ OcB A 1 1 3 c) ∗ R) ⊢ WP c (T100 c v10 v29 v48 (scl A)) Q) :
    iprop((ctx A K Ks ∗ ow c 69 ∗ LaneG 0 0 1 c ∗ DirW 1 0 0 c ∗ LaneG 1 0 1 c ∗ DirW 1 1 0 c ∗ LaneG 0 1 1 c ∗ LaneG 1 1 1 c ∗ OcB A 0 0 1 c ∗ RdrR 1 0 0 1 c ∗ DirS 1 0 2 c ∗ OcB A 1 0 1 c ∗ RdrR 1 1 0 1 c ∗ DirS 1 1 2 c ∗ OcB A 0 1 1 c ∗ RdrR 1 0 1 1 c ∗ OcB A 1 1 1 c ∗ RdrR 1 1 1 1 c) ∗ R) ⊢ WP c (T82 c v10 v29 v48 (scl A)) Q := by
  simp only [T82, T83, T84, T85, T86, T87, T88, T89, T90, T91, T92, T93, T94, T95, T96, T97, T98, T99, call, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, semSignalWord, semWaitWord, Prog.lift, Prog.bind_op, Prog.bind_ret, Prog.pure_eq_ret]
  iintro ⟨⟨#Hctx, HO, G00, HGW0, G10, HGW1, G01, G11, Hoc00, Hgq00, HGS0, Hoc10, Hgq10, HGS1, Hoc01, Hgq01, Hoc11, Hgq11⟩, HR⟩
  refine use (agHop (K := K) (Ks := Ks) A 0 0 0 69 (by decide) 0 (by rfl) (by rfl) (by rfl) (by rfl) (by rfl) (by rfl) (by clear h; revert c; decide) (by rfl) (by rfl) (by rfl) (by decide) (by decide) (by decide) (by rfl)) ?_
  isplitl [HO G00 HGW0]
  · isplitr; · iexact Hctx
    isplitl [HO]; · iexact HO
    isplitl [G00]; · iexact G00
    iexact HGW0
  iintro ⟨HO, G00, Hm00, HGW0⟩
  refine use (agHop (K := K) (Ks := Ks) A 1 0 0 70 (by decide) 0 (by rfl) (by rfl) (by rfl) (by rfl) (by rfl) (by rfl) (by clear h; revert c; decide) (by rfl) (by rfl) (by rfl) (by decide) (by decide) (by decide) (by rfl)) ?_
  isplitl [HO G10 HGW1]
  · isplitr; · iexact Hctx
    isplitl [HO]; · iexact HO
    isplitl [G10]; · iexact G10
    iexact HGW1
  iintro ⟨HO, G10, Hm10, HGW1⟩
  refine use (agHop (K := K) (Ks := Ks) A 0 1 0 71 (by decide) 1 (by rfl) (by rfl) (by rfl) (by rfl) (by rfl) (by rfl) (by clear h; revert c; decide) (by rfl) (by rfl) (by rfl) (by decide) (by decide) (by decide) (by rfl)) ?_
  isplitl [HO G01 HGW0]
  · isplitr; · iexact Hctx
    isplitl [HO]; · iexact HO
    isplitl [G01]; · iexact G01
    iexact HGW0
  iintro ⟨HO, G01, Hm01, HGW0⟩
  refine use (agHop (K := K) (Ks := Ks) A 1 1 0 72 (by decide) 1 (by rfl) (by rfl) (by rfl) (by rfl) (by rfl) (by rfl) (by clear h; revert c; decide) (by rfl) (by rfl) (by rfl) (by decide) (by decide) (by decide) (by rfl)) ?_
  isplitl [HO G11 HGW1]
  · isplitr; · iexact Hctx
    isplitl [HO]; · iexact HO
    isplitl [G11]; · iexact G11
    iexact HGW1
  iintro ⟨HO, G11, Hm11, HGW1⟩
  refine use (deqW (K := K) (Ks := Ks) (qq := fullShare.right) A 0 0 1 73 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent (K := K) (Ks := Ks) A 0 0 1 73 (by decide) 2 (by rfl) (by rfl) (by rfl) (by decide) (by rfl) (by clear h; revert c; decide) (by rfl)) ?_
  isplitl [HO G00 Hm00 Hgq00 HGS0]
  · isplitr; · iexact Hctx
    isplitl [HO]; · iexact HO
    isplitl [G00]; · iexact G00
    isplitl [Hm00]; · iexact Hm00
    isplitl [Hgq00]; · iexact Hgq00
    iexact HGS0
  iintro ⟨HO, G00, Hgq00, HGS0⟩
  refine use (deqW (K := K) (Ks := Ks) (qq := fullShare.right) A 1 0 1 74 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent (K := K) (Ks := Ks) A 1 0 1 74 (by decide) 2 (by rfl) (by rfl) (by rfl) (by decide) (by rfl) (by clear h; revert c; decide) (by rfl)) ?_
  isplitl [HO G10 Hm10 Hgq10 HGS1]
  · isplitr; · iexact Hctx
    isplitl [HO]; · iexact HO
    isplitl [G10]; · iexact G10
    isplitl [Hm10]; · iexact Hm10
    isplitl [Hgq10]; · iexact Hgq10
    iexact HGS1
  iintro ⟨HO, G10, Hgq10, HGS1⟩
  refine use (deqW (K := K) (Ks := Ks) (qq := fullShare.right) A 0 1 1 75 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent (K := K) (Ks := Ks) A 0 1 1 75 (by decide) 3 (by rfl) (by rfl) (by rfl) (by decide) (by rfl) (by clear h; revert c; decide) (by rfl)) ?_
  isplitl [HO G01 Hm01 Hgq01 HGS0]
  · isplitr; · iexact Hctx
    isplitl [HO]; · iexact HO
    isplitl [G01]; · iexact G01
    isplitl [Hm01]; · iexact Hm01
    isplitl [Hgq01]; · iexact Hgq01
    iexact HGS0
  iintro ⟨HO, G01, Hgq01, HGS0⟩
  refine use (deqW (K := K) (Ks := Ks) (qq := fullShare.right) A 1 1 1 76 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine use (agSent (K := K) (Ks := Ks) A 1 1 1 76 (by decide) 3 (by rfl) (by rfl) (by rfl) (by decide) (by rfl) (by clear h; revert c; decide) (by rfl)) ?_
  isplitl [HO G11 Hm11 Hgq11 HGS1]
  · isplitr; · iexact Hctx
    isplitl [HO]; · iexact HO
    isplitl [G11]; · iexact G11
    isplitl [Hm11]; · iexact Hm11
    isplitl [Hgq11]; · iexact Hgq11
    iexact HGS1
  iintro ⟨HO, G11, Hgq11, HGS1⟩
  refine use (agHop (K := K) (Ks := Ks) A 0 0 1 77 (by decide) 2 (by rfl) (by rfl) (by rfl) (by rfl) (by rfl) (by rfl) (by clear h; revert c; decide) (by rfl) (by rfl) (by rfl) (by decide) (by decide) (by decide) (by rfl)) ?_
  isplitl [HO G00 HGW0]
  · isplitr; · iexact Hctx
    isplitl [HO]; · iexact HO
    isplitl [G00]; · iexact G00
    iexact HGW0
  iintro ⟨HO, G00, Hm00, HGW0⟩
  refine use (agHop (K := K) (Ks := Ks) A 1 0 1 78 (by decide) 2 (by rfl) (by rfl) (by rfl) (by rfl) (by rfl) (by rfl) (by clear h; revert c; decide) (by rfl) (by rfl) (by rfl) (by decide) (by decide) (by decide) (by rfl)) ?_
  isplitl [HO G10 HGW1]
  · isplitr; · iexact Hctx
    isplitl [HO]; · iexact HO
    isplitl [G10]; · iexact G10
    iexact HGW1
  iintro ⟨HO, G10, Hm10, HGW1⟩
  refine use (agHop (K := K) (Ks := Ks) A 0 1 1 79 (by decide) 3 (by rfl) (by rfl) (by rfl) (by rfl) (by rfl) (by rfl) (by clear h; revert c; decide) (by rfl) (by rfl) (by rfl) (by decide) (by decide) (by decide) (by rfl)) ?_
  isplitl [HO G01 HGW0]
  · isplitr; · iexact Hctx
    isplitl [HO]; · iexact HO
    isplitl [G01]; · iexact G01
    iexact HGW0
  iintro ⟨HO, G01, Hm01, HGW0⟩
  refine use (agHop (K := K) (Ks := Ks) A 1 1 1 80 (by decide) 3 (by rfl) (by rfl) (by rfl) (by rfl) (by rfl) (by rfl) (by clear h; revert c; decide) (by rfl) (by rfl) (by rfl) (by decide) (by decide) (by decide) (by rfl)) ?_
  isplitl [HO G11 HGW1]
  · isplitr; · iexact Hctx
    isplitl [HO]; · iexact HO
    isplitl [G11]; · iexact G11
    iexact HGW1
  iintro ⟨HO, G11, Hm11, HGW1⟩
  refine use (deqW (K := K) (Ks := Ks) (qq := fullShare.right) A 0 0 2 81 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent (K := K) (Ks := Ks) A 0 0 2 81 (by decide) 4 (by rfl) (by rfl) (by rfl) (by decide) (by rfl) (by clear h; revert c; decide) (by rfl)) ?_
  isplitl [HO G00 Hm00 Hgq00 HGS0]
  · isplitr; · iexact Hctx
    isplitl [HO]; · iexact HO
    isplitl [G00]; · iexact G00
    isplitl [Hm00]; · iexact Hm00
    isplitl [Hgq00]; · iexact Hgq00
    iexact HGS0
  iintro ⟨HO, G00, Hgq00, HGS0⟩
  refine use (deqW (K := K) (Ks := Ks) (qq := fullShare.right) A 1 0 2 82 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent (K := K) (Ks := Ks) A 1 0 2 82 (by decide) 4 (by rfl) (by rfl) (by rfl) (by decide) (by rfl) (by clear h; revert c; decide) (by rfl)) ?_
  isplitl [HO G10 Hm10 Hgq10 HGS1]
  · isplitr; · iexact Hctx
    isplitl [HO]; · iexact HO
    isplitl [G10]; · iexact G10
    isplitl [Hm10]; · iexact Hm10
    isplitl [Hgq10]; · iexact Hgq10
    iexact HGS1
  iintro ⟨HO, G10, Hgq10, HGS1⟩
  refine use (deqW (K := K) (Ks := Ks) (qq := fullShare.right) A 0 1 2 83 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent (K := K) (Ks := Ks) A 0 1 2 83 (by decide) 5 (by rfl) (by rfl) (by rfl) (by decide) (by rfl) (by clear h; revert c; decide) (by rfl)) ?_
  isplitl [HO G01 Hm01 Hgq01 HGS0]
  · isplitr; · iexact Hctx
    isplitl [HO]; · iexact HO
    isplitl [G01]; · iexact G01
    isplitl [Hm01]; · iexact Hm01
    isplitl [Hgq01]; · iexact Hgq01
    iexact HGS0
  iintro ⟨HO, G01, Hgq01, HGS0⟩
  refine use (deqW (K := K) (Ks := Ks) (qq := fullShare.right) A 1 1 2 84 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine goOn (h) ?_
  isplitl [Hgq11 HGW0 G11 HGW1 Hoc00 G00 Hgq00 Hoc10 G10 Hgq10 HGS1 Hoc01 G01 Hgq01 HGS0 HO Hm11 Hoc11]
  · isplitl [Hgq11]; · iexact Hgq11
    isplitl [HGW0]; · iexact HGW0
    isplitl [G11]; · iexact G11
    isplitl [HGW1]; · iexact HGW1
    isplitl [Hoc00]; · iexact Hoc00
    isplitl [G00]; · iexact G00
    isplitl [Hgq00]; · iexact Hgq00
    isplitl [Hoc10]; · iexact Hoc10
    isplitl [G10]; · iexact G10
    isplitl [Hgq10]; · iexact Hgq10
    isplitl [HGS1]; · iexact HGS1
    isplitl [Hoc01]; · iexact Hoc01
    isplitl [G01]; · iexact G01
    isplitl [Hgq01]; · iexact Hgq01
    isplitl [HGS0]; · iexact HGS0
    isplitl [HO]; · iexact HO
    isplitl [Hm11]; · iexact Hm11
    iexact Hoc11
  iexact HR

end Cert.KernelIdeal.Ring
-- ==== Proof.SegH.lean ====
/-
# The all-gather along the program, by its parts
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segL {R : sProp (MT nD τ sig ℕ (Elt F) ℕ UU ℕ)} (v10 : BitVec 32) (v29 : BitVec 32) (v48 : BitVec 32)
    (h : ∀ (v2727 : BitVec 32), iprop((DirW 1 0 6 c ∗ DirW 1 1 6 c ∗ OcB A 0 0 4 c ∗ LaneG 0 0 4 c ∗ RdrR 1 0 0 4 c ∗ OcB A 1 0 4 c ∗ LaneG 1 0 4 c ∗ RdrR 1 1 0 4 c ∗ OcB A 0 1 4 c ∗ LaneG 0 1 4 c ∗ RdrR 1 0 1 4 c ∗ DirS 1 0 8 c ∗ OcB A 1 1 4 c ∗ ow c 93 ∗ LaneG 1 1 4 c ∗ RdrR 1 1 1 4 c ∗ DirS 1 1 8 c) ∗ R) ⊢ WP c (T110 c v10 v29 v48 (scl A) v2727) Q) :
    iprop((ctx A K Ks ∗ ow c 84 ∗ MidG 1 1 2 c ∗ own c (slot4 (agB 1) (sl 2) 1) fullShare.right (Qv A 1 1 (up 1 3 c)) ∗ RdrR 1 1 1 2 c ∗ DirS 1 1 5 c ∗ LaneG 0 0 3 c ∗ DirW 1 0 4 c ∗ LaneG 1 0 3 c ∗ DirW 1 1 4 c ∗ LaneG 0 1 3 c ∗ OcB A 0 0 3 c ∗ RdrR 1 0 0 3 c ∗ DirS 1 0 6 c ∗ OcB A 1 0 3 c ∗ RdrR 1 1 0 3 c ∗ OcB A 0 1 3 c ∗ RdrR 1 0 1 3 c ∗ OcB A 1 1 3 c) ∗ R) ⊢ WP c (T100 c v10 v29 v48 (scl A)) Q := by
  simp only [T100, T101, T102, T103, T104, T105, T106, T107, T108, T109, call, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, k0_part107_eq_skeleton, k0_part107_skel, k0_part108_eq_skeleton, k0_part108_skel, k0_part109_eq_skeleton, k0_part109_skel, semSignalWord, semWaitWord, Prog.lift, Prog.bind_op, Prog.bind_ret, Prog.pure_eq_ret]
  iintro ⟨⟨#Hctx, HO, G11, Hm11, Hgq11, HGS1, G00, HGW0, G10, HGW1, G01, Hoc00, Hgq00, HGS0, Hoc10, Hgq10, Hoc01, Hgq01, Hoc11⟩, HR⟩
  refine use (agSent (K := K) (Ks := Ks) A 1 1 2 84 (by decide) 5 (by rfl) (by rfl) (by rfl) (by decide) (by rfl) (by clear h; revert c; decide) (by rfl)) ?_
  isplitl [HO G11 Hm11 Hgq11 HGS1]
  · isplitr; · iexact Hctx
    isplitl [HO]; · iexact HO
    isplitl [G11]; · iexact G11
    isplitl [Hm11]; · iexact Hm11
    isplitl [Hgq11]; · iexact Hgq11
    iexact HGS1
  iintro ⟨HO, G11, Hgq11, HGS1⟩
  refine use (agHop (K := K) (Ks := Ks) A 0 0 2 85 (by decide) 4 (by rfl) (by rfl) (by rfl) (by rfl) (by rfl) (by rfl) (by clear h; revert c; decide) (by rfl) (by rfl) (by rfl) (by decide) (by decide) (by decide) (by rfl)) ?_
  isplitl [HO G00 HGW0]
  · isplitr; · iexact Hctx
    isplitl [HO]; · iexact HO
    isplitl [G00]; · iexact G00
    iexact HGW0
  iintro ⟨HO, G00, Hm00, HGW0⟩
  refine use (agHop (K := K) (Ks := Ks) A 1 0 2 86 (by decide) 4 (by rfl) (by rfl) (by rfl) (by rfl) (by rfl) (by rfl) (by clear h; revert c; decide) (by rfl) (by rfl) (by rfl) (by decide) (by decide) (by decide) (by rfl)) ?_
  isplitl [HO G10 HGW1]
  · isplitr; · iexact Hctx
    isplitl [HO]; · iexact HO
    isplitl [G10]; · iexact G10
    iexact HGW1
  iintro ⟨HO, G10, Hm10, HGW1⟩
  refine use (agHop (K := K) (Ks := Ks) A 0 1 2 87 (by decide) 5 (by rfl) (by rfl) (by rfl) (by rfl) (by rfl) (by rfl) (by clear h; revert c; decide) (by rfl) (by rfl) (by rfl) (by decide) (by decide) (by decide) (by rfl)) ?_
  isplitl [HO G01 HGW0]
  · isplitr; · iexact Hctx
    isplitl [HO]; · iexact HO
    isplitl [G01]; · iexact G01
    iexact HGW0
  iintro ⟨HO, G01, Hm01, HGW0⟩
  refine use (agHop (K := K) (Ks := Ks) A 1 1 2 88 (by decide) 5 (by rfl) (by rfl) (by rfl) (by rfl) (by rfl) (by rfl) (by clear h; revert c; decide) (by rfl) (by rfl) (by rfl) (by decide) (by decide) (by decide) (by rfl)) ?_
  isplitl [HO G11 HGW1]
  · isplitr; · iexact Hctx
    isplitl [HO]; · iexact HO
    isplitl [G11]; · iexact G11
    iexact HGW1
  iintro ⟨HO, G11, Hm11, HGW1⟩
  refine use (deqW (K := K) (Ks := Ks) (qq := fullShare.right) A 0 0 3 89 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent (K := K) (Ks := Ks) A 0 0 3 89 (by decide) 6 (by rfl) (by rfl) (by rfl) (by decide) (by rfl) (by clear h; revert c; decide) (by rfl)) ?_
  isplitl [HO G00 Hm00 Hgq00 HGS0]
  · isplitr; · iexact Hctx
    isplitl [HO]; · iexact HO
    isplitl [G00]; · iexact G00
    isplitl [Hm00]; · iexact Hm00
    isplitl [Hgq00]; · iexact Hgq00
    iexact HGS0
  iintro ⟨HO, G00, Hgq00, HGS0⟩
  refine use (deqW (K := K) (Ks := Ks) (qq := fullShare.right) A 1 0 3 90 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent (K := K) (Ks := Ks) A 1 0 3 90 (by decide) 6 (by rfl) (by rfl) (by rfl) (by decide) (by rfl) (by clear h; revert c; decide) (by rfl)) ?_
  isplitl [HO G10 Hm10 Hgq10 HGS1]
  · isplitr; · iexact Hctx
    isplitl [HO]; · iexact HO
    isplitl [G10]; · iexact G10
    isplitl [Hm10]; · iexact Hm10
    isplitl [Hgq10]; · iexact Hgq10
    iexact HGS1
  iintro ⟨HO, G10, Hgq10, HGS1⟩
  refine use (deqW (K := K) (Ks := Ks) (qq := fullShare.right) A 0 1 3 91 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent (K := K) (Ks := Ks) A 0 1 3 91 (by decide) 7 (by rfl) (by rfl) (by rfl) (by decide) (by rfl) (by clear h; revert c; decide) (by rfl)) ?_
  isplitl [HO G01 Hm01 Hgq01 HGS0]
  · isplitr; · iexact Hctx
    isplitl [HO]; · iexact HO
    isplitl [G01]; · iexact G01
    isplitl [Hm01]; · iexact Hm01
    isplitl [Hgq01]; · iexact Hgq01
    iexact HGS0
  iintro ⟨HO, G01, Hgq01, HGS0⟩
  refine use (deqW (K := K) (Ks := Ks) (qq := fullShare.right) A 1 1 3 92 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine use (agSent (K := K) (Ks := Ks) A 1 1 3 92 (by decide) 7 (by rfl) (by rfl) (by rfl) (by decide) (by rfl) (by clear h; revert c; decide) (by rfl)) ?_
  isplitl [HO G11 Hm11 Hgq11 HGS1]
  · isplitr; · iexact Hctx
    isplitl [HO]; · iexact HO
    isplitl [G11]; · iexact G11
    isplitl [Hm11]; · iexact Hm11
    isplitl [Hgq11]; · iexact Hgq11
    iexact HGS1
  iintro ⟨HO, G11, Hgq11, HGS1⟩
  refine goOn (h _) ?_
  isplitl [HGW0 HGW1 Hoc00 G00 Hgq00 Hoc10 G10 Hgq10 Hoc01 G01 Hgq01 HGS0 Hoc11 HO G11 Hgq11 HGS1]
  · isplitl [HGW0]; · iexact HGW0
    isplitl [HGW1]; · iexact HGW1
    isplitl [Hoc00]; · iexact Hoc00
    isplitl [G00]; · iexact G00
    isplitl [Hgq00]; · iexact Hgq00
    isplitl [Hoc10]; · iexact Hoc10
    isplitl [G10]; · iexact G10
    isplitl [Hgq10]; · iexact Hgq10
    isplitl [Hoc01]; · iexact Hoc01
    isplitl [G01]; · iexact G01
    isplitl [Hgq01]; · iexact Hgq01
    isplitl [HGS0]; · iexact HGS0
    isplitl [Hoc11]; · iexact Hoc11
    isplitl [HO]; · iexact HO
    isplitl [G11]; · iexact G11
    isplitl [Hgq11]; · iexact Hgq11
    iexact HGS1
  iexact HR

set_option maxHeartbeats 4000000 in
theorem segM {R : sProp (MT nD τ sig ℕ (Elt F) ℕ UU ℕ)} (v10 : BitVec 32) (v29 : BitVec 32) (v48 : BitVec 32) (v2727 : BitVec 32)
    (h : iprop((DirW 1 0 8 c ∗ MidG 1 1 4 c ∗ DirW 1 1 8 c ∗ OcB A 0 0 5 c ∗ LaneG 0 0 5 c ∗ RdrR 1 0 0 5 c ∗ OcB A 1 0 5 c ∗ LaneG 1 0 5 c ∗ RdrR 1 1 0 5 c ∗ DirS 1 1 9 c ∗ OcB A 0 1 5 c ∗ LaneG 0 1 5 c ∗ RdrR 1 0 1 5 c ∗ DirS 1 0 10 c ∗ ow c 100 ∗ own c (slot4 (agB 1) (sl 4) 1) fullShare.right (Qv A 1 1 (up 1 5 c)) ∗ OcB A 1 1 5 c) ∗ R) ⊢ WP c (T119 c v10 v29 v48 (scl A)) Q) :
    iprop((ctx A K Ks ∗ ow c 93 ∗ LaneG 0 0 4 c ∗ DirW 1 0 6 c ∗ LaneG 1 0 4 c ∗ DirW 1 1 6 c ∗ LaneG 0 1 4 c ∗ LaneG 1 1 4 c ∗ OcB A 0 0 4 c ∗ RdrR 1 0 0 4 c ∗ DirS 1 0 8 c ∗ OcB A 1 0 4 c ∗ RdrR 1 1 0 4 c ∗ DirS 1 1 8 c ∗ OcB A 0 1 4 c ∗ RdrR 1 0 1 4 c ∗ OcB A 1 1 4 c) ∗ R) ⊢ WP c (T110 c v10 v29 v48 (scl A) v2727) Q := by
  simp only [T110, T111, T112, T113, T114, T115, T116, T117, T118, call, k0_part110_eq_skeleton, k0_part110_skel, k0_part111_eq_skeleton, k0_part111_skel, k0_part112_eq_skeleton, k0_part112_skel, k0_part113_eq_skeleton, k0_part113_skel, k0_part114_eq_skeleton, k0_part114_skel, k0_part115_eq_skeleton, k0_part115_skel, k0_part116_eq_skeleton, k0_part116_skel, k0_part117_eq_skeleton, k0_part117_skel, k0_part118_eq_skeleton, k0_part118_skel, semSignalWord, semWaitWord, Prog.lift, Prog.bind_op, Prog.bind_ret, Prog.pure_eq_ret]
  iintro ⟨⟨#Hctx, HO, G00, HGW0, G10, HGW1, G01, G11, Hoc00, Hgq00, HGS0, Hoc10, Hgq10, HGS1, Hoc01, Hgq01, Hoc11⟩, HR⟩
  refine use (agHop (K := K) (Ks := Ks) A 0 0 3 93 (by decide) 6 (by rfl) (by rfl) (by rfl) (by rfl) (by rfl) (by rfl) (by clear h; revert c; decide) (by rfl) (by rfl) (by rfl) (by decide) (by decide) (by decide) (by rfl)) ?_
  isplitl [HO G00 HGW0]
  · isplitr; · iexact Hctx
    isplitl [HO]; · iexact HO
    isplitl [G00]; · iexact G00
    iexact HGW0
  iintro ⟨HO, G00, Hm00, HGW0⟩
  refine use (agHop (K := K) (Ks := Ks) A 1 0 3 94 (by decide) 6 (by rfl) (by rfl) (by rfl) (by rfl) (by rfl) (by rfl) (by clear h; revert c; decide) (by rfl) (by rfl) (by rfl) (by decide) (by decide) (by decide) (by rfl)) ?_
  isplitl [HO G10 HGW1]
  · isplitr; · iexact Hctx
    isplitl [HO]; · iexact HO
    isplitl [G10]; · iexact G10
    iexact HGW1
  iintro ⟨HO, G10, Hm10, HGW1⟩
  refine use (agHop (K := K) (Ks := Ks) A 0 1 3 95 (by decide) 7 (by rfl) (by rfl) (by rfl) (by rfl) (by rfl) (by rfl) (by clear h; revert c; decide) (by rfl) (by rfl) (by rfl) (by decide) (by decide) (by decide) (by rfl)) ?_
  isplitl [HO G01 HGW0]
  · isplitr; · iexact Hctx
    isplitl [HO]; · iexact HO
    isplitl [G01]; · iexact G01
    iexact HGW0
  iintro ⟨HO, G01, Hm01, HGW0⟩
  refine use (agHop (K := K) (Ks := Ks) A 1 1 3 96 (by decide) 7 (by rfl) (by rfl) (by rfl) (by rfl) (by rfl) (by rfl) (by clear h; revert c; decide) (by rfl) (by rfl) (by rfl) (by decide) (by decide) (by decide) (by rfl)) ?_
  isplitl [HO G11 HGW1]
  · isplitr; · iexact Hctx
    isplitl [HO]; · iexact HO
    isplitl [G11]; · iexact G11
    iexact HGW1
  iintro ⟨HO, G11, Hm11, HGW1⟩
  refine use (deqW (K := K) (Ks := Ks) (qq := fullShare.right) A 0 0 4 97 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent (K := K) (Ks := Ks) A 0 0 4 97 (by decide) 8 (by rfl) (by rfl) (by rfl) (by decide) (by rfl) (by clear h; revert c; decide) (by rfl)) ?_
  isplitl [HO G00 Hm00 Hgq00 HGS0]
  · isplitr; · iexact Hctx
    isplitl [HO]; · iexact HO
    isplitl [G00]; · iexact G00
    isplitl [Hm00]; · iexact Hm00
    isplitl [Hgq00]; · iexact Hgq00
    iexact HGS0
  iintro ⟨HO, G00, Hgq00, HGS0⟩
  refine use (deqW (K := K) (Ks := Ks) (qq := fullShare.right) A 1 0 4 98 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent (K := K) (Ks := Ks) A 1 0 4 98 (by decide) 8 (by rfl) (by rfl) (by rfl) (by decide) (by rfl) (by clear h; revert c; decide) (by rfl)) ?_
  isplitl [HO G10 Hm10 Hgq10 HGS1]
  · isplitr; · iexact Hctx
    isplitl [HO]; · iexact HO
    isplitl [G10]; · iexact G10
    isplitl [Hm10]; · iexact Hm10
    isplitl [Hgq10]; · iexact Hgq10
    iexact HGS1
  iintro ⟨HO, G10, Hgq10, HGS1⟩
  refine use (deqW (K := K) (Ks := Ks) (qq := fullShare.right) A 0 1 4 99 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent (K := K) (Ks := Ks) A 0 1 4 99 (by decide) 9 (by rfl) (by rfl) (by rfl) (by decide) (by rfl) (by clear h; revert c; decide) (by rfl)) ?_
  isplitl [HO G01 Hm01 Hgq01 HGS0]
  · isplitr; · iexact Hctx
    isplitl [HO]; · iexact HO
    isplitl [G01]; · iexact G01
    isplitl [Hm01]; · iexact Hm01
    isplitl [Hgq01]; · iexact Hgq01
    iexact HGS0
  iintro ⟨HO, G01, Hgq01, HGS0⟩
  refine use (deqW (K := K) (Ks := Ks) (qq := fullShare.right) A 1 1 4 100 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine goOn (h) ?_
  isplitl [HGW0 G11 HGW1 Hoc00 G00 Hgq00 Hoc10 G10 Hgq10 HGS1 Hoc01 G01 Hgq01 HGS0 HO Hm11 Hoc11]
  · isplitl [HGW0]; · iexact HGW0
    isplitl [G11]; · iexact G11
    isplitl [HGW1]; · iexact HGW1
    isplitl [Hoc00]; · iexact Hoc00
    isplitl [G00]; · iexact G00
    isplitl [Hgq00]; · iexact Hgq00
    isplitl [Hoc10]; · iexact Hoc10
    isplitl [G10]; · iexact G10
    isplitl [Hgq10]; · iexact Hgq10
    isplitl [HGS1]; · iexact HGS1
    isplitl [Hoc01]; · iexact Hoc01
    isplitl [G01]; · iexact G01
    isplitl [Hgq01]; · iexact Hgq01
    isplitl [HGS0]; · iexact HGS0
    isplitl [HO]; · iexact HO
    isplitl [Hm11]; · iexact Hm11
    iexact Hoc11
  iexact HR

end Cert.KernelIdeal.Ring
-- ==== Proof.SegI.lean ====
/-
# The all-gather along the program, by its parts
-/
module

public import proofs.«01_k».proof.Proof.Steps6
public import proofs.«01_k».proof.Proof.Parts

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

set_option maxHeartbeats 4000000 in
theorem segN {R : sProp (MT nD τ sig ℕ (Elt F) ℕ UU ℕ)} (v10 : BitVec 32) (v29 : BitVec 32) (v48 : BitVec 32)
    (h : iprop((RdrR 1 1 1 5 c ∗ DirS 1 1 10 c ∗ DirW 1 0 10 c ∗ MidG 1 1 5 c ∗ DirW 1 1 10 c ∗ OcB A 0 0 6 c ∗ LaneG 0 0 6 c ∗ anyAt c (slot4 (agB 0) 1 0) ∗ OcB A 1 0 6 c ∗ LaneG 1 0 6 c ∗ anyAt c (slot4 (agB 1) 1 0) ∗ OcB A 0 1 6 c ∗ LaneG 0 1 6 c ∗ anyAt c (slot4 (agB 0) 1 1) ∗ ow c 105 ∗ own c (slot4 (agB 1) (sl 5) 1) fullShare.right (Qv A 1 1 (up 1 6 c)) ∗ OcB A 1 1 6 c) ∗ R) ⊢ WP c (T128 c v10 v29 v48 (scl A)) Q) :
    iprop((ctx A K Ks ∗ ow c 100 ∗ MidG 1 1 4 c ∗ own c (slot4 (agB 1) (sl 4) 1) fullShare.right (Qv A 1 1 (up 1 5 c)) ∗ RdrR 1 1 1 4 c ∗ DirS 1 1 9 c ∗ LaneG 0 0 5 c ∗ DirW 1 0 8 c ∗ LaneG 1 0 5 c ∗ DirW 1 1 8 c ∗ LaneG 0 1 5 c ∗ OcB A 0 0 5 c ∗ OcB A 1 0 5 c ∗ OcB A 0 1 5 c ∗ OcB A 1 1 5 c) ∗ R) ⊢ WP c (T119 c v10 v29 v48 (scl A)) Q := by
  simp only [T119, T120, T121, T122, T123, T124, T125, T126, T127, call, k0_part119_eq_skeleton, k0_part119_skel, k0_part120_eq_skeleton, k0_part120_skel, k0_part121_eq_skeleton, k0_part121_skel, k0_part122_eq_skeleton, k0_part122_skel, k0_part123_eq_skeleton, k0_part123_skel, k0_part124_eq_skeleton, k0_part124_skel, k0_part125_eq_skeleton, k0_part125_skel, k0_part126_eq_skeleton, k0_part126_skel, k0_part127_eq_skeleton, k0_part127_skel, semSignalWord, semWaitWord, Prog.lift, Prog.bind_op, Prog.bind_ret, Prog.pure_eq_ret]
  iintro ⟨⟨#Hctx, HO, G11, Hm11, Hgq11, HGS1, G00, HGW0, G10, HGW1, G01, Hoc00, Hoc10, Hoc01, Hoc11⟩, HR⟩
  refine use (agSent (K := K) (Ks := Ks) A 1 1 4 100 (by decide) 9 (by rfl) (by rfl) (by rfl) (by decide) (by rfl) (by clear h; revert c; decide) (by rfl)) ?_
  isplitl [HO G11 Hm11 Hgq11 HGS1]
  · isplitr; · iexact Hctx
    isplitl [HO]; · iexact HO
    isplitl [G11]; · iexact G11
    isplitl [Hm11]; · iexact Hm11
    isplitl [Hgq11]; · iexact Hgq11
    iexact HGS1
  iintro ⟨HO, G11, Hgq11, HGS1⟩
  refine use (agHop (K := K) (Ks := Ks) A 0 0 4 101 (by decide) 8 (by rfl) (by rfl) (by rfl) (by rfl) (by rfl) (by rfl) (by clear h; revert c; decide) (by rfl) (by rfl) (by rfl) (by decide) (by decide) (by decide) (by rfl)) ?_
  isplitl [HO G00 HGW0]
  · isplitr; · iexact Hctx
    isplitl [HO]; · iexact HO
    isplitl [G00]; · iexact G00
    iexact HGW0
  iintro ⟨HO, G00, Hm00, HGW0⟩
  refine use (agHop (K := K) (Ks := Ks) A 1 0 4 102 (by decide) 8 (by rfl) (by rfl) (by rfl) (by rfl) (by rfl) (by rfl) (by clear h; revert c; decide) (by rfl) (by rfl) (by rfl) (by decide) (by decide) (by decide) (by rfl)) ?_
  isplitl [HO G10 HGW1]
  · isplitr; · iexact Hctx
    isplitl [HO]; · iexact HO
    isplitl [G10]; · iexact G10
    iexact HGW1
  iintro ⟨HO, G10, Hm10, HGW1⟩
  refine use (agHop (K := K) (Ks := Ks) A 0 1 4 103 (by decide) 9 (by rfl) (by rfl) (by rfl) (by rfl) (by rfl) (by rfl) (by clear h; revert c; decide) (by rfl) (by rfl) (by rfl) (by decide) (by decide) (by decide) (by rfl)) ?_
  isplitl [HO G01 HGW0]
  · isplitr; · iexact Hctx
    isplitl [HO]; · iexact HO
    isplitl [G01]; · iexact G01
    iexact HGW0
  iintro ⟨HO, G01, Hm01, HGW0⟩
  refine use (agHop (K := K) (Ks := Ks) A 1 1 4 104 (by decide) 9 (by rfl) (by rfl) (by rfl) (by rfl) (by rfl) (by rfl) (by clear h; revert c; decide) (by rfl) (by rfl) (by rfl) (by decide) (by decide) (by decide) (by rfl)) ?_
  isplitl [HO G11 HGW1]
  · isplitr; · iexact Hctx
    isplitl [HO]; · iexact HO
    isplitl [G11]; · iexact G11
    iexact HGW1
  iintro ⟨HO, G11, Hm11, HGW1⟩
  refine use (deqW (K := K) (Ks := Ks) (qq := fullShare.right) A 0 0 5 105 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agSent5 (K := K) (Ks := Ks) A 0 0 105 (by rfl) (by rfl) (by decide)) ?_
  isplitl [HO G00 Hm00]
  · isplitr; · iexact Hctx
    isplitl [HO]; · iexact HO
    isplitl [G00]; · iexact G00
    iexact Hm00
  iintro ⟨HO, G00, Hg001⟩
  refine use (deqW (K := K) (Ks := Ks) (qq := fullShare.right) A 1 0 5 105 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agSent5 (K := K) (Ks := Ks) A 1 0 105 (by rfl) (by rfl) (by decide)) ?_
  isplitl [HO G10 Hm10]
  · isplitr; · iexact Hctx
    isplitl [HO]; · iexact HO
    isplitl [G10]; · iexact G10
    iexact Hm10
  iintro ⟨HO, G10, Hg101⟩
  refine use (deqW (K := K) (Ks := Ks) (qq := fullShare.right) A 0 1 5 105 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agSent5 (K := K) (Ks := Ks) A 0 1 105 (by rfl) (by rfl) (by decide)) ?_
  isplitl [HO G01 Hm01]
  · isplitr; · iexact Hctx
    isplitl [HO]; · iexact HO
    isplitl [G01]; · iexact G01
    iexact Hm01
  iintro ⟨HO, G01, Hg011⟩
  refine use (deqW (K := K) (Ks := Ks) (qq := fullShare.right) A 1 1 5 105 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine goOn (h) ?_
  isplitl [Hgq11 HGS1 HGW0 G11 HGW1 Hoc00 G00 Hg001 Hoc10 G10 Hg101 Hoc01 G01 Hg011 HO Hm11 Hoc11]
  · isplitl [Hgq11]; · iexact Hgq11
    isplitl [HGS1]; · iexact HGS1
    isplitl [HGW0]; · iexact HGW0
    isplitl [G11]; · iexact G11
    isplitl [HGW1]; · iexact HGW1
    isplitl [Hoc00]; · iexact Hoc00
    isplitl [G00]; · iexact G00
    isplitl [Hg001]; · iexact Hg001
    isplitl [Hoc10]; · iexact Hoc10
    isplitl [G10]; · iexact G10
    isplitl [Hg101]; · iexact Hg101
    isplitl [Hoc01]; · iexact Hoc01
    isplitl [G01]; · iexact G01
    isplitl [Hg011]; · iexact Hg011
    isplitl [HO]; · iexact HO
    isplitl [Hm11]; · iexact Hm11
    iexact Hoc11
  iexact HR

set_option maxHeartbeats 4000000 in
theorem segO {R : sProp (MT nD τ sig ℕ (Elt F) ℕ UU ℕ)} (v10 : BitVec 32) (v29 : BitVec 32) (v48 : BitVec 32)
    (h : iprop((anyAt c (slot4 (agB 1) 1 1) ∗ (Pr 1 0 0 7 c ∗ Pr 1 0 0 8 c ∗ Ps 1 0 0 7 c ∗ Ps 1 0 0 8 c) ∗ own c (slot4 (agB 0) (sl 6) 0) fullShare (Qv A 0 0 (up 0 7 c)) ∗ (Pr 1 1 0 7 c ∗ Pr 1 1 0 8 c ∗ Ps 1 1 0 7 c ∗ Ps 1 1 0 8 c) ∗ own c (slot4 (agB 1) (sl 6) 0) fullShare (Qv A 1 0 (up 1 7 c)) ∗ (Pr 1 0 1 7 c ∗ Pr 1 0 1 8 c ∗ Ps 1 0 1 7 c ∗ Ps 1 0 1 8 c) ∗ own c (slot4 (agB 0) (sl 6) 1) fullShare (Qv A 0 1 (up 0 7 c)) ∗ (Pr 1 1 1 7 c ∗ Pr 1 1 1 8 c ∗ Ps 1 1 1 7 c ∗ Ps 1 1 1 8 c) ∗ own c (slot4 (agB 1) (sl 6) 1) fullShare (Qv A 1 1 (up 1 7 c)) ∗ OcI A 0 0 8 c ∗ anyAt c (slot4 ostM 0 0) ∗ OcI A 1 0 8 c ∗ anyAt c (slot4 ostM 1 0) ∗ OcI A 0 1 8 c ∗ anyAt c (slot4 ostM 0 1) ∗ ow c 105 ∗ OcI A 1 1 8 c ∗ anyAt c (slot4 ostM 1 1)) ∗ R) ⊢ WP c (.ret ⟨⟩) Q) :
    iprop((ctx A K Ks ∗ ow c 105 ∗ MidG 1 1 5 c ∗ own c (slot4 (agB 1) (sl 5) 1) fullShare.right (Qv A 1 1 (up 1 6 c)) ∗ LaneG 0 0 6 c ∗ OcB A 0 0 6 c ∗ LaneG 1 0 6 c ∗ OcB A 1 0 6 c ∗ LaneG 0 1 6 c ∗ OcB A 0 1 6 c ∗ OcB A 1 1 6 c) ∗ R) ⊢ WP c (T128 c v10 v29 v48 (scl A)) Q := by
  simp only [T128, T129, T130, T131, T132, T133, T134, call, k0_part128_eq_skeleton, k0_part128_skel, k0_part129_eq_skeleton, k0_part129_skel, k0_part130_eq_skeleton, k0_part130_skel, k0_part131_eq_skeleton, k0_part131_skel, k0_part132_eq_skeleton, k0_part132_skel, k0_part133_eq_skeleton, k0_part133_skel, semSignalWord, semWaitWord, Prog.lift, Prog.bind_op, Prog.bind_ret, Prog.pure_eq_ret]
  iintro ⟨⟨#Hctx, HO, G11, Hm11, G00, Hoc00, G10, Hoc10, G01, Hoc01, Hoc11⟩, HR⟩
  refine use (agSent5 (K := K) (Ks := Ks) A 1 1 105 (by rfl) (by rfl) (by decide)) ?_
  isplitl [HO G11 Hm11]
  · isplitr; · iexact Hctx
    isplitl [HO]; · iexact HO
    isplitl [G11]; · iexact G11
    iexact Hm11
  iintro ⟨HO, G11, Hg111⟩
  refine use (agLast (K := K) (Ks := Ks) A 0 0 105 (by rfl) (by rfl) (by decide) (by decide)) ?_
  isplitl [HO G00]
  · isplitr; · iexact Hctx
    isplitl [HO]; · iexact HO
    iexact G00
  iintro ⟨HO, G00, Hm00⟩
  refine use (deqW (K := K) (Ks := Ks) (qq := fullShare) A 0 0 6 105 (by decide) (by rfl) (by rfl) (by rfl) (by rfl) (by clear h; revert c; decide) (fun v => by rfl) (by rfl) (by rfl) (by decide) (by rfl) (by rfl)) ?_
  isplitl [HO Hm00 Hoc00]
  · isplitr; · iexact Hctx
    isplitl [HO]; · iexact HO
    isplitl [Hm00]; · iexact Hm00
    iexact Hoc00
  iintro ⟨HO, Hm00, Hoc00⟩
  refine use (agLast (K := K) (Ks := Ks) A 1 0 105 (by rfl) (by rfl) (by decide) (by decide)) ?_
  isplitl [HO G10]
  · isplitr; · iexact Hctx
    isplitl [HO]; · iexact HO
    iexact G10
  iintro ⟨HO, G10, Hm10⟩
  refine use (deqW (K := K) (Ks := Ks) (qq := fullShare) A 1 0 6 105 (by decide) (by rfl) (by rfl) (by rfl) (by rfl) (by clear h; revert c; decide) (fun v => by rfl) (by rfl) (by rfl) (by decide) (by rfl) (by rfl)) ?_
  isplitl [HO Hm10 Hoc10]
  · isplitr; · iexact Hctx
    isplitl [HO]; · iexact HO
    isplitl [Hm10]; · iexact Hm10
    iexact Hoc10
  iintro ⟨HO, Hm10, Hoc10⟩
  refine use (agLast (K := K) (Ks := Ks) A 0 1 105 (by rfl) (by rfl) (by decide) (by decide)) ?_
  isplitl [HO G01]
  · isplitr; · iexact Hctx
    isplitl [HO]; · iexact HO
    iexact G01
  iintro ⟨HO, G01, Hm01⟩
  refine use (deqW (K := K) (Ks := Ks) (qq := fullShare) A 0 1 6 105 (by decide) (by rfl) (by rfl) (by rfl) (by rfl) (by clear h; revert c; decide) (fun v => by rfl) (by rfl) (by rfl) (by decide) (by rfl) (by rfl)) ?_
  isplitl [HO Hm01 Hoc01]
  · isplitr; · iexact Hctx
    isplitl [HO]; · iexact HO
    isplitl [Hm01]; · iexact Hm01
    iexact Hoc01
  iintro ⟨HO, Hm01, Hoc01⟩
  refine use (agLast (K := K) (Ks := Ks) A 1 1 105 (by rfl) (by rfl) (by decide) (by decide)) ?_
  isplitl [HO G11]
  · isplitr; · iexact Hctx
    isplitl [HO]; · iexact HO
    iexact G11
  iintro ⟨HO, G11, Hm11⟩
  refine use (deqW (K := K) (Ks := Ks) (qq := fullShare) A 1 1 6 105 (by decide) (by rfl) (by rfl) (by rfl) (by rfl) (by clear h; revert c; decide) (fun v => by rfl) (by rfl) (by rfl) (by decide) (by rfl) (by rfl)) ?_
  isplitl [HO Hm11 Hoc11]
  · isplitr; · iexact Hctx
    isplitl [HO]; · iexact HO
    isplitl [Hm11]; · iexact Hm11
    iexact Hoc11
  iintro ⟨HO, Hm11, Hoc11⟩
  refine use (ocpWait (K := K) (Ks := Ks) A 0 0 7 105 (by decide) (by rfl) (by rfl) (by decide)) ?_
  isplitl [HO Hoc00]
  · isplitr; · iexact Hctx
    isplitl [HO]; · iexact HO
    iexact Hoc00
  iintro ⟨HO, Hoc00, Hos00⟩
  refine use (ocpWait (K := K) (Ks := Ks) A 1 0 7 105 (by decide) (by rfl) (by rfl) (by decide)) ?_
  isplitl [HO Hoc10]
  · isplitr; · iexact Hctx
    isplitl [HO]; · iexact HO
    iexact Hoc10
  iintro ⟨HO, Hoc10, Hos10⟩
  refine use (ocpWait (K := K) (Ks := Ks) A 0 1 7 105 (by decide) (by rfl) (by rfl) (by decide)) ?_
  isplitl [HO Hoc01]
  · isplitr; · iexact Hctx
    isplitl [HO]; · iexact HO
    iexact Hoc01
  iintro ⟨HO, Hoc01, Hos01⟩
  refine use (ocpWait (K := K) (Ks := Ks) A 1 1 7 105 (by decide) (by rfl) (by rfl) (by decide)) ?_
  isplitl [HO Hoc11]
  · isplitr; · iexact Hctx
    isplitl [HO]; · iexact HO
    iexact Hoc11
  iintro ⟨HO, Hoc11, Hos11⟩
  refine goOn (h) ?_
  isplitl [Hg111 G00 Hm00 G10 Hm10 G01 Hm01 G11 Hm11 Hoc00 Hos00 Hoc10 Hos10 Hoc01 Hos01 HO Hoc11 Hos11]
  · isplitl [Hg111]; · iexact Hg111
    isplitl [G00]; · iexact G00
    isplitl [Hm00]; · iexact Hm00
    isplitl [G10]; · iexact G10
    isplitl [Hm10]; · iexact Hm10
    isplitl [G01]; · iexact G01
    isplitl [Hm01]; · iexact Hm01
    isplitl [G11]; · iexact G11
    isplitl [Hm11]; · iexact Hm11
    isplitl [Hoc00]; · iexact Hoc00
    isplitl [Hos00]; · iexact Hos00
    isplitl [Hoc10]; · iexact Hoc10
    isplitl [Hos10]; · iexact Hos10
    isplitl [Hoc01]; · iexact Hoc01
    isplitl [Hos01]; · iexact Hos01
    isplitl [HO]; · iexact HO
    isplitl [Hoc11]; · iexact Hoc11
    iexact Hos11
  iexact HR

end Cert.KernelIdeal.Ring
-- ==== Proof.Body.lean ====
/-
# The whole program
-/
module

public import proofs.«01_k».proof.Proof.SegA
public import proofs.«01_k».proof.Proof.SegB
public import proofs.«01_k».proof.Proof.SegC
public import proofs.«01_k».proof.Proof.SegD
public import proofs.«01_k».proof.Proof.SegE
public import proofs.«01_k».proof.Proof.SegF
public import proofs.«01_k».proof.Proof.SegG
public import proofs.«01_k».proof.Proof.SegH
public import proofs.«01_k».proof.Proof.SegI

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (A : Args F)
variable {Q : PUnit → sProp (MT nD τ sig ℕ (Elt F) ℕ UU ℕ)} {c : Dev nD} {K : Dev nD × CK → ℕ} {Ks : Key → ℕ} {qw qx : PosShare TreeShare}

omit [FloatOps F] in
/-- A segment applied, the rest of the program given afterwards. -/
theorem useS {β : Type} {P Pre Post W : sProp (MT nD τ sig ℕ (Elt F) ℕ UU ℕ)} (W' : β → sProp (MT nD τ sig ℕ (Elt F) ℕ UU ℕ))
    (m : ∀ R : sProp (MT nD τ sig ℕ (Elt F) ℕ UU ℕ), (∀ v, iprop(Post ∗ R) ⊢ W' v) → iprop(Pre ∗ R) ⊢ W)
    (h : Entails' P iprop(Pre ∗ ∀ v, (Post -∗ W' v))) : Entails' P W := by
  refine BIBase.Entails.trans h (m _ fun v => ?_)
  iintro ⟨H, Hk⟩
  ispecialize Hk $$ %v
  iapply Hk; iexact H

set_option maxHeartbeats 4000000 in
/-- The whole program. -/
theorem run_all {R : sProp (MT nD τ sig ℕ (Elt F) ℕ UU ℕ)} (h : iprop((own c wM qw (A.w c) ∗ at' c .bar 1 ∗ own c (chunkM 0) fullShare (chunk A c 0) ∗ own c xM qx (A.x c) ∗ own c wbM fullShare (k0_pay1 (A.w c)) ∗ own c (chunkM 4) fullShare (chunk A c 4) ∗ RdrR 0 0 0 5 c ∗ RdrR 0 1 0 5 c ∗ RdrR 0 0 1 5 c ∗ own c (chunkM 5) fullShare (chunk A c 5) ∗ DirS 0 0 10 c ∗ RdrR 0 1 1 5 c ∗ own c (chunkM 3) fullShare (chunk A c 3) ∗ DirS 0 1 10 c ∗ anyAt c (slot4 (rsB 0) 1 0) ∗ anyAt c (slot4 (rsB 1) 1 0) ∗ anyAt c (slot4 (rsB 0) 1 1) ∗ own c (chunkM 6) fullShare (chunk A c 6) ∗ DirW 0 0 10 c ∗ anyAt c (slot4 (rsB 1) 1 1) ∗ own c (chunkM 2) fullShare (chunk A c 2) ∗ DirW 0 1 10 c ∗ (Pr 0 0 0 7 c ∗ Pr 0 0 0 8 c ∗ anyAt c (slot4 (rsB 0) 0 0)) ∗ (Pr 0 1 0 7 c ∗ Pr 0 1 0 8 c ∗ anyAt c (slot4 (rsB 1) 0 0)) ∗ keep 1 0 7 c ∗ (Pr 0 0 1 7 c ∗ Pr 0 0 1 8 c ∗ anyAt c (slot4 (rsB 0) 0 1)) ∗ keep 0 1 7 c ∗ own c (chunkM 7) fullShare (chunk A c 7) ∗ (Pr 0 1 1 7 c ∗ Pr 0 1 1 8 c ∗ anyAt c (slot4 (rsB 1) 0 1)) ∗ keep 1 1 7 c ∗ own c (chunkM 1) fullShare (chunk A c 1) ∗ keep 0 0 0 c ∗ Ps 0 0 0 7 c ∗ anyAt c (slot4 (sdB 0) 1 0) ∗ Ps 0 1 0 7 c ∗ anyAt c (slot4 (sdB 1) 1 0) ∗ Ps 0 0 1 7 c ∗ anyAt c (slot4 (sdB 0) 1 1) ∗ Ps 0 1 1 7 c ∗ anyAt c (slot4 (sdB 1) 1 1) ∗ Ps 0 0 0 8 c ∗ anyAt c (slot4 (sdB 0) 0 0) ∗ Ps 0 1 0 8 c ∗ anyAt c (slot4 (sdB 1) 0 0) ∗ Ps 0 0 1 8 c ∗ anyAt c (slot4 (sdB 0) 0 1) ∗ Ps 0 1 1 8 c ∗ anyAt c (slot4 (sdB 1) 0 1) ∗ at' c (.axr 0) 1 ∗ at' c (.axr 1) 1 ∗ at' c (.axr 2) 1 ∗ at' c (.axr 3) 1 ∗ at' c (.axr 4) 1 ∗ at' c (.axr 5) 1 ∗ at' c (.axr 6) 1 ∗ at' c (.axs 0) 1 ∗ at' c (.axs 1) 1 ∗ at' c (.axs 2) 1 ∗ at' c (.axs 3) 1 ∗ at' c (.axs 4) 1 ∗ at' c (.axs 5) 1 ∗ at' c (.axs 6) 1 ∗ anyAt c amM ∗ anyAt c (slot3 (qB 0) 0) ∗ anyAt c (slot3 (qB 1) 0) ∗ anyAt c (slot3 (qB 0) 1) ∗ anyAt c (slot3 (qB 1) 1) ∗ RdrR 1 0 0 5 c ∗ RdrR 1 1 0 5 c ∗ RdrR 1 0 1 5 c ∗ DirS 1 0 10 c ∗ RdrR 1 1 1 5 c ∗ DirS 1 1 10 c ∗ DirW 1 0 10 c ∗ DirW 1 1 10 c ∗ anyAt c (slot4 (agB 0) 1 0) ∗ anyAt c (slot4 (agB 1) 1 0) ∗ anyAt c (slot4 (agB 0) 1 1) ∗ anyAt c (slot4 (agB 1) 1 1) ∗ (Pr 1 0 0 7 c ∗ Pr 1 0 0 8 c ∗ Ps 1 0 0 7 c ∗ Ps 1 0 0 8 c) ∗ own c (slot4 (agB 0) (sl 6) 0) fullShare (Qv A 0 0 (up 0 7 c)) ∗ (Pr 1 1 0 7 c ∗ Pr 1 1 0 8 c ∗ Ps 1 1 0 7 c ∗ Ps 1 1 0 8 c) ∗ own c (slot4 (agB 1) (sl 6) 0) fullShare (Qv A 1 0 (up 1 7 c)) ∗ (Pr 1 0 1 7 c ∗ Pr 1 0 1 8 c ∗ Ps 1 0 1 7 c ∗ Ps 1 0 1 8 c) ∗ own c (slot4 (agB 0) (sl 6) 1) fullShare (Qv A 0 1 (up 0 7 c)) ∗ (Pr 1 1 1 7 c ∗ Pr 1 1 1 8 c ∗ Ps 1 1 1 7 c ∗ Ps 1 1 1 8 c) ∗ own c (slot4 (agB 1) (sl 6) 1) fullShare (Qv A 1 1 (up 1 7 c)) ∗ OcI A 0 0 8 c ∗ anyAt c (slot4 ostM 0 0) ∗ OcI A 1 0 8 c ∗ anyAt c (slot4 ostM 1 0) ∗ OcI A 0 1 8 c ∗ anyAt c (slot4 ostM 0 1) ∗ ow c 105 ∗ OcI A 1 1 8 c ∗ anyAt c (slot4 ostM 1 1)) ∗ R) ⊢ WP c (.ret ⟨⟩) Q) :
    iprop((ctx A K Ks ∗ ow c 0 ∗ tk (tgt 0 c) .bar 0 1 ∗ tk (tgt 1 c) .bar 0 0 ∗ barPay 0 c ∗ barPay 1 c ∗ cred (tallyAt (cell c .bar) 2 2) ∗ at' c .bar 0 ∗ PreD 0 c ∗ PreD 1 c ∗ own c xM qx (A.x c) ∗ own c wM qw (A.w c) ∗ anyAt c wbM ∗ anyAt c (chunkM 0) ∗ anyAt c (chunkM 1) ∗ anyAt c (chunkM 2) ∗ anyAt c (chunkM 3) ∗ anyAt c (chunkM 4) ∗ anyAt c (chunkM 5) ∗ anyAt c (chunkM 6) ∗ anyAt c (chunkM 7) ∗ anyAt c (slot4 (sdB 0) 0 0) ∗ anyAt c (slot4 (sdB 0) 1 0) ∗ rideIf 0 0 0 (tgt 0 c) ∗ RdrR 0 0 0 0 c ∗ anyAt c (slot4 (sdB 1) 0 0) ∗ anyAt c (slot4 (sdB 1) 1 0) ∗ rideIf 1 0 0 (tgt 1 c) ∗ RdrR 0 1 0 0 c ∗ anyAt c (slot4 (sdB 0) 0 1) ∗ anyAt c (slot4 (sdB 0) 1 1) ∗ rideIf 0 1 0 (tgt 0 c) ∗ RdrR 0 0 1 0 c ∗ anyAt c (slot4 (sdB 1) 0 1) ∗ anyAt c (slot4 (sdB 1) 1 1) ∗ rideIf 1 1 0 (tgt 1 c) ∗ RdrR 0 1 1 0 c ∗ DirS 0 0 0 c ∗ DirW 0 0 0 c ∗ DirS 0 1 0 c ∗ DirW 0 1 0 c ∗ anyAt c (rowM (pm c)) ∗ tk c (.axs 0) 0 0 ∗ tk (sh 1 c) (.axr 0) 0 0 ∗ crE c (.ax 0) ∗ at' c (.axs 0) 0 ∗ at' c (.axr 0) 0 ∗ tk c (.axs 1) 0 0 ∗ tk (sh 2 c) (.axr 1) 0 0 ∗ crE c (.ax 1) ∗ at' c (.axs 1) 0 ∗ at' c (.axr 1) 0 ∗ tk c (.axs 2) 0 0 ∗ tk (sh 3 c) (.axr 2) 0 0 ∗ crE c (.ax 2) ∗ at' c (.axs 2) 0 ∗ at' c (.axr 2) 0 ∗ tk c (.axs 3) 0 0 ∗ tk (sh 4 c) (.axr 3) 0 0 ∗ crE c (.ax 3) ∗ at' c (.axs 3) 0 ∗ at' c (.axr 3) 0 ∗ tk c (.axs 4) 0 0 ∗ tk (sh 5 c) (.axr 4) 0 0 ∗ crE c (.ax 4) ∗ at' c (.axs 4) 0 ∗ at' c (.axr 4) 0 ∗ tk c (.axs 5) 0 0 ∗ tk (sh 6 c) (.axr 5) 0 0 ∗ crE c (.ax 5) ∗ at' c (.axs 5) 0 ∗ at' c (.axr 5) 0 ∗ tk c (.axs 6) 0 0 ∗ tk (sh 7 c) (.axr 6) 0 0 ∗ crE c (.ax 6) ∗ at' c (.axs 6) 0 ∗ at' c (.axr 6) 0 ∗ anyAt c (slot3 (qB 0) 0) ∗ anyAt c (slot4 ostM 0 0) ∗ OcI A 0 0 0 c ∗ RdrR 1 0 0 0 c ∗ anyAt c (slot3 (qB 1) 0) ∗ anyAt c (slot4 ostM 1 0) ∗ OcI A 1 0 0 c ∗ RdrR 1 1 0 0 c ∗ anyAt c (slot3 (qB 0) 1) ∗ anyAt c (slot4 ostM 0 1) ∗ OcI A 0 1 0 c ∗ RdrR 1 0 1 0 c ∗ anyAt c (slot3 (qB 1) 1) ∗ anyAt c (slot4 ostM 1 1) ∗ OcI A 1 1 0 c ∗ RdrR 1 1 1 0 c ∗ DirS 1 0 0 c ∗ DirW 1 0 0 c ∗ DirS 1 1 0 c ∗ DirW 1 1 0 c) ∗ R) ⊢ WP c T1 Q := by
  refine seg0 (fun v10 v29 v30 c8_i32_19 c0_i32_20 => ?_)
  iintro ⟨⟨#Hctx, HO, Htb0, Htb1, Hbp0, Hbp1, Hbc, Hba, HP0, HP1, Hx, Hw, Hwb, C0, C1, C2, C3, C4, C5, C6, C7, Hs000, Hs001, Hrd00, Hq00, Hs100, Hs101, Hrd10, Hq10, Hs010, Hs011, Hrd01, Hq01, Hs110, Hs111, Hrd11, Hq11, HS0, HW0, HS1, HW1, Hra, Hxt0a, Hxt0b, Hxc0, Hxa0, Hxb0, Hxt1a, Hxt1b, Hxc1, Hxa1, Hxb1, Hxt2a, Hxt2b, Hxc2, Hxa2, Hxb2, Hxt3a, Hxt3b, Hxc3, Hxa3, Hxb3, Hxt4a, Hxt4b, Hxc4, Hxa4, Hxb4, Hxt5a, Hxt5b, Hxc5, Hxa5, Hxb5, Hxt6a, Hxt6b, Hxc6, Hxa6, Hxb6, Hqs00, Hos00, Hoc00, Hgq00, Hqs10, Hos10, Hoc10, Hgq10, Hqs01, Hos01, Hoc01, Hgq01, Hqs11, Hos11, Hoc11, Hgq11, HGS0, HGW0, HGS1, HGW1⟩, HR⟩
  refine useS (β := BitVec 32) (fun v48 => WP c (T10 c v10 v29 v48) Q) (fun R h => segA A (R := R) (qw := qw) (qx := qx) (K := K) (Ks := Ks) v10 v29 v30 c8_i32_19 c0_i32_20 (fun v48 => h v48)) ?_
  isplitl [Hw Hwb Hx C0 HO Htb0 Htb1 Hbp0 Hbp1 Hbc Hba HP0 HP1 Hs000 Hs001 Hrd00 Hs100 Hs101 Hrd10 Hs010 Hs011 Hrd01 Hs110 Hs111 Hrd11 C1 C7 Hq00 HS0 Hq10 HS1]
  · isplitr; · iexact Hctx
    isplitl [Hw]; · iexact Hw
    isplitl [Hwb]; · iexact Hwb
    isplitl [Hx]; · iexact Hx
    isplitl [C0]; · iexact C0
    isplitl [HO]; · iexact HO
    isplitl [Htb0]; · iexact Htb0
    isplitl [Htb1]; · iexact Htb1
    isplitl [Hbp0]; · iexact Hbp0
    isplitl [Hbp1]; · iexact Hbp1
    isplitl [Hbc]; · iexact Hbc
    isplitl [Hba]; · iexact Hba
    isplitl [HP0]; · iexact HP0
    isplitl [HP1]; · iexact HP1
    isplitl [Hs000]; · iexact Hs000
    isplitl [Hs001]; · iexact Hs001
    isplitl [Hrd00]; · iexact Hrd00
    isplitl [Hs100]; · iexact Hs100
    isplitl [Hs101]; · iexact Hs101
    isplitl [Hrd10]; · iexact Hrd10
    isplitl [Hs010]; · iexact Hs010
    isplitl [Hs011]; · iexact Hs011
    isplitl [Hrd01]; · iexact Hrd01
    isplitl [Hs110]; · iexact Hs110
    isplitl [Hs111]; · iexact Hs111
    isplitl [Hrd11]; · iexact Hrd11
    isplitl [C1]; · iexact C1
    isplitl [C7]; · iexact C7
    isplitl [Hq00]; · iexact Hq00
    isplitl [HS0]; · iexact HS0
    isplitl [Hq10]; · iexact Hq10
    iexact HS1
  iintro %v48 ⟨Hw, Hba, G00, G01, G10, G11, L01, L11, C0, Hx, Hwb, L00, Hq00, C1, HS0, HO, L10, Hq10, C7, HS1⟩
  refine useS (β := Unit) (fun _ => WP c (T14 c v10 v29 v48) Q) (fun R h => segB A (R := R) (qx := qx) (K := K) (Ks := Ks) v10 v29 v48 (h ())) ?_
  isplitl [HO L01 Hq01 C1 HS0 L11 Hq11 C7 HS1 Hx Hwb C2 C6]
  · isplitr; · iexact Hctx
    isplitl [HO]; · iexact HO
    isplitl [L01]; · iexact L01
    isplitl [Hq01]; · iexact Hq01
    isplitl [C1]; · iexact C1
    isplitl [HS0]; · iexact HS0
    isplitl [L11]; · iexact L11
    isplitl [Hq11]; · iexact Hq11
    isplitl [C7]; · iexact C7
    isplitl [HS1]; · iexact HS1
    isplitl [Hx]; · iexact Hx
    isplitl [Hwb]; · iexact Hwb
    isplitl [C2]; · iexact C2
    iexact C6
  iintro %_ ⟨L01, Hq01, C1, HS0, HO, L11, Hq11, C7, HS1, C2, Hx, Hwb, C6⟩
  refine useS (β := Unit) (fun _ => WP c (T29 c v10 v29 v48) Q) (fun R h => segC A (R := R) (qx := qx) (K := K) (Ks := Ks) v10 v29 v48 (h ())) ?_
  isplitl [HO L00 Hq00 C2 HW0 HS0 L10 Hq10 C6 HW1 HS1 L01 Hq01 L11 Hq11 Hx Hwb C3 C5 C4]
  · isplitr; · iexact Hctx
    isplitl [HO]; · iexact HO
    isplitl [L00]; · iexact L00
    isplitl [Hq00]; · iexact Hq00
    isplitl [C2]; · iexact C2
    isplitl [HW0]; · iexact HW0
    isplitl [HS0]; · iexact HS0
    isplitl [L10]; · iexact L10
    isplitl [Hq10]; · iexact Hq10
    isplitl [C6]; · iexact C6
    isplitl [HW1]; · iexact HW1
    isplitl [HS1]; · iexact HS1
    isplitl [L01]; · iexact L01
    isplitl [Hq01]; · iexact Hq01
    isplitl [L11]; · iexact L11
    isplitl [Hq11]; · iexact Hq11
    isplitl [Hx]; · iexact Hx
    isplitl [Hwb]; · iexact Hwb
    isplitl [C3]; · iexact C3
    isplitl [C5]; · iexact C5
    iexact C4
  iintro %_ ⟨C2, C6, L00, Hq00, L10, Hq10, L01, Hq01, C3, HW0, HS0, HO, L11, Hq11, C5, HW1, HS1, Hx, Hwb, C4⟩
  refine useS (β := Unit) (fun _ => WP c (T39 c v10 v29 v48) Q) (fun R h => segD A (R := R) (K := K) (Ks := Ks) v10 v29 v48 (h ())) ?_
  isplitl [HO L00 Hq00 C4 HW0 HS0 L10 Hq10 HW1 HS1 L01 Hq01 L11 Hq11 C5 C3]
  · isplitr; · iexact Hctx
    isplitl [HO]; · iexact HO
    isplitl [L00]; · iexact L00
    isplitl [Hq00]; · iexact Hq00
    isplitl [C4]; · iexact C4
    isplitl [HW0]; · iexact HW0
    isplitl [HS0]; · iexact HS0
    isplitl [L10]; · iexact L10
    isplitl [Hq10]; · iexact Hq10
    isplitl [HW1]; · iexact HW1
    isplitl [HS1]; · iexact HS1
    isplitl [L01]; · iexact L01
    isplitl [Hq01]; · iexact Hq01
    isplitl [L11]; · iexact L11
    isplitl [Hq11]; · iexact Hq11
    isplitl [C5]; · iexact C5
    iexact C3
  iintro %_ ⟨L01, Hq01, L11, Hq11, C4, L00, Hq00, C5, HW0, HS0, HO, L10, Hq10, C3, HW1, HS1⟩
  refine useS (β := Unit) (fun _ => WP c (T44 c v10 v29 v48) Q) (fun R h => segE A (R := R) (K := K) (Ks := Ks) v10 v29 v48 (h ())) ?_
  isplitl [HO L01 Hq01 C5 HW0 HS0 L11 Hq11 C3 HW1 HS1 L00 C6]
  · isplitr; · iexact Hctx
    isplitl [HO]; · iexact HO
    isplitl [L01]; · iexact L01
    isplitl [Hq01]; · iexact Hq01
    isplitl [C5]; · iexact C5
    isplitl [HW0]; · iexact HW0
    isplitl [HS0]; · iexact HS0
    isplitl [L11]; · iexact L11
    isplitl [Hq11]; · iexact Hq11
    isplitl [C3]; · iexact C3
    isplitl [HW1]; · iexact HW1
    isplitl [HS1]; · iexact HS1
    isplitl [L00]; · iexact L00
    iexact C6
  iintro %_ ⟨L01, Hq01, C5, HS0, L11, Hq11, C3, HW1, HS1, HO, L00, Hr001, C6, HW0⟩
  refine useS (β := BitVec 32 × BitVec 1 × BitVec 32) (fun p => WP c (T52 c v10 v29 v48 (Yv A 0 0 c) (Yv A 1 0 c) (Yv A 0 1 c) (Yv A 1 1 c) p.1 p.2.1 p.2.2) Q) (fun R h => segF A (R := R) (K := K) (Ks := Ks) v10 v29 v48 (fun v1245 v1246 c7_i32_1631 => h (v1245, v1246, c7_i32_1631))) ?_
  isplitl [HO L10 C2 HW1 L01 C6 HW0 L11 L00 C7 C1 Hra]
  · isplitr; · iexact Hctx
    isplitl [HO]; · iexact HO
    isplitl [L10]; · iexact L10
    isplitl [C2]; · iexact C2
    isplitl [HW1]; · iexact HW1
    isplitl [L01]; · iexact L01
    isplitl [C6]; · iexact C6
    isplitl [HW0]; · iexact HW0
    isplitl [L11]; · iexact L11
    isplitl [L00]; · iexact L00
    isplitl [C7]; · iexact C7
    isplitl [C1]; · iexact C1
    iexact Hra
  iintro %p ⟨Hr101, Hr011, C6, HW0, Hr111, C2, HW1, HPr00, Hss00, Hkp00, HPr10, Hss10, Hkp10, HPr01, Hss01, Hkp01, C7, HO, HPr11, Hss11, Hkp11, C1, Hra⟩
  obtain ⟨v1245, v1246, c7_i32_1631⟩ := p
  dsimp only
  refine useS (β := Unit) (fun _ => WP c (T58 c v10 v29 v48 (Yv A 0 0 c) (Yv A 1 0 c) (Yv A 0 1 c) (Yv A 1 1 c)) Q) (fun R h => segG A (R := R) (K := K) (Ks := Ks) v10 v29 v48 v1245 v1246 c7_i32_1631 (h ())) ?_
  isplitl [HO Hra Hkp00 Hxt0a Hxt0b Hxt1a Hxt1b Hxt2a Hxt2b Hxt3a Hxt3b Hxt4a Hxt4b Hxt5a Hxt5b Hxt6a Hxt6b Hss00]
  · isplitr; · iexact Hctx
    isplitl [HO]; · iexact HO
    isplitl [Hra]; · iexact Hra
    isplitl [Hkp00]; · iexact Hkp00
    isplitl [Hxt0a]; · iexact Hxt0a
    isplitl [Hxt0b]; · iexact Hxt0b
    isplitl [Hxt1a]; · iexact Hxt1a
    isplitl [Hxt1b]; · iexact Hxt1b
    isplitl [Hxt2a]; · iexact Hxt2a
    isplitl [Hxt2b]; · iexact Hxt2b
    isplitl [Hxt3a]; · iexact Hxt3a
    isplitl [Hxt3b]; · iexact Hxt3b
    isplitl [Hxt4a]; · iexact Hxt4a
    isplitl [Hxt4b]; · iexact Hxt4b
    isplitl [Hxt5a]; · iexact Hxt5a
    isplitl [Hxt5b]; · iexact Hxt5b
    isplitl [Hxt6a]; · iexact Hxt6a
    isplitl [Hxt6b]; · iexact Hxt6b
    iexact Hss00
  iintro %_ ⟨Hxd0, Hxd1, Hxd2, Hxd3, Hxd4, Hxd5, Hra, Hkp00, Hxd6, HO, Hsx00, HPs007, Hs001⟩
  refine useS (β := BitVec 32) (fun v1635 => WP c (T66 c v10 v29 v48 (Yv A 0 0 c) (Yv A 1 0 c) (Yv A 0 1 c) (Yv A 1 1 c) (scl A) v1635) Q) (fun R h => segH A (R := R) (K := K) (Ks := Ks) v10 v29 v48 (fun v1635 => h v1635)) ?_
  isplitl [HO Hss10 Hss01 Hss11 Hsx00 Hxc0 Hxb0 Hxc1 Hxb1 Hxc2 Hxb2 Hxc3 Hxb3 Hxc4 Hxb4 Hxc5 Hxb5 Hxc6 Hxb6 Hxd0 Hxa0 Hxd1 Hxa1 Hxd2 Hxa2 Hxd3 Hxa3 Hxd4 Hxa4 Hxd5 Hxa5 Hxd6 Hxa6 Hra]
  · isplitr; · iexact Hctx
    isplitl [HO]; · iexact HO
    isplitl [Hss10]; · iexact Hss10
    isplitl [Hss01]; · iexact Hss01
    isplitl [Hss11]; · iexact Hss11
    isplitl [Hsx00]; · iexact Hsx00
    isplitl [Hxc0]; · iexact Hxc0
    isplitl [Hxb0]; · iexact Hxb0
    isplitl [Hxc1]; · iexact Hxc1
    isplitl [Hxb1]; · iexact Hxb1
    isplitl [Hxc2]; · iexact Hxc2
    isplitl [Hxb2]; · iexact Hxb2
    isplitl [Hxc3]; · iexact Hxc3
    isplitl [Hxb3]; · iexact Hxb3
    isplitl [Hxc4]; · iexact Hxc4
    isplitl [Hxb4]; · iexact Hxb4
    isplitl [Hxc5]; · iexact Hxc5
    isplitl [Hxb5]; · iexact Hxb5
    isplitl [Hxc6]; · iexact Hxc6
    isplitl [Hxb6]; · iexact Hxb6
    isplitl [Hxd0]; · iexact Hxd0
    isplitl [Hxa0]; · iexact Hxa0
    isplitl [Hxd1]; · iexact Hxd1
    isplitl [Hxa1]; · iexact Hxa1
    isplitl [Hxd2]; · iexact Hxd2
    isplitl [Hxa2]; · iexact Hxa2
    isplitl [Hxd3]; · iexact Hxd3
    isplitl [Hxa3]; · iexact Hxa3
    isplitl [Hxd4]; · iexact Hxd4
    isplitl [Hxa4]; · iexact Hxa4
    isplitl [Hxd5]; · iexact Hxd5
    isplitl [Hxa5]; · iexact Hxa5
    isplitl [Hxd6]; · iexact Hxd6
    isplitl [Hxa6]; · iexact Hxa6
    iexact Hra
  iintro %v1635 ⟨HPs107, Hs101, HPs017, Hs011, HPs117, Hs111, HPs008, Hs000, HPs108, Hs100, HPs018, Hs010, HPs118, Hs110, Hxb0, Hxb1, Hxb2, Hxb3, Hxb4, Hxb5, Hxb6, Hxa0, Hxa1, Hxa2, Hxa3, Hxa4, Hxa5, HO, Hxa6, Ham⟩
  refine useS (β := Unit) (fun _ => WP c (T72 c v10 v29 v48 (scl A)) Q) (fun R h => segI A (R := R) (K := K) (Ks := Ks) v10 v29 v48 v1635 (h ())) ?_
  isplitl [Hqs00 Hqs10 HO G00 G10 Hqs01 Hqs11 G01 G11 Hos00 Hoc00 Hos10 Hoc10 Hos01 Hoc01 Hos11 Hoc11]
  · isplitr; · iexact Hctx
    isplitl [Hqs00]; · iexact Hqs00
    isplitl [Hqs10]; · iexact Hqs10
    isplitl [HO]; · iexact HO
    isplitl [G00]; · iexact G00
    isplitl [G10]; · iexact G10
    isplitl [Hqs01]; · iexact Hqs01
    isplitl [Hqs11]; · iexact Hqs11
    isplitl [G01]; · iexact G01
    isplitl [G11]; · iexact G11
    isplitl [Hos00]; · iexact Hos00
    isplitl [Hoc00]; · iexact Hoc00
    isplitl [Hos10]; · iexact Hos10
    isplitl [Hoc10]; · iexact Hoc10
    isplitl [Hos01]; · iexact Hos01
    isplitl [Hoc01]; · iexact Hoc01
    isplitl [Hos11]; · iexact Hos11
    iexact Hoc11
  iintro %_ ⟨G01, G11, Hoc00, Hoc10, Hqs01, Hoc01, Hqs11, Hoc11, G00, Hqs00, HO, G10, Hqs10⟩
  refine useS (β := Unit) (fun _ => WP c (T82 c v10 v29 v48 (scl A)) Q) (fun R h => segJ A (R := R) (K := K) (Ks := Ks) v10 v29 v48 (h ())) ?_
  isplitl [HO G01 Hqs01 G11 Hqs11 G00 G10 Hoc00 Hgq00 HGS0 Hoc10 Hgq10 HGS1 Hoc01 Hgq01 Hoc11 Hgq11]
  · isplitr; · iexact Hctx
    isplitl [HO]; · iexact HO
    isplitl [G01]; · iexact G01
    isplitl [Hqs01]; · iexact Hqs01
    isplitl [G11]; · iexact G11
    isplitl [Hqs11]; · iexact Hqs11
    isplitl [G00]; · iexact G00
    isplitl [G10]; · iexact G10
    isplitl [Hoc00]; · iexact Hoc00
    isplitl [Hgq00]; · iexact Hgq00
    isplitl [HGS0]; · iexact HGS0
    isplitl [Hoc10]; · iexact Hoc10
    isplitl [Hgq10]; · iexact Hgq10
    isplitl [HGS1]; · iexact HGS1
    isplitl [Hoc01]; · iexact Hoc01
    isplitl [Hgq01]; · iexact Hgq01
    isplitl [Hoc11]; · iexact Hoc11
    iexact Hgq11
  iintro %_ ⟨Hqs01, Hqs11, Hoc00, G00, Hgq00, Hoc10, G10, Hgq10, Hoc01, G01, Hgq01, HGS0, Hoc11, HO, G11, Hgq11, HGS1⟩
  refine useS (β := Unit) (fun _ => WP c (T100 c v10 v29 v48 (scl A)) Q) (fun R h => segK A (R := R) (K := K) (Ks := Ks) v10 v29 v48 (h ())) ?_
  isplitl [HO G00 HGW0 G10 HGW1 G01 G11 Hoc00 Hgq00 HGS0 Hoc10 Hgq10 HGS1 Hoc01 Hgq01 Hoc11 Hgq11]
  · isplitr; · iexact Hctx
    isplitl [HO]; · iexact HO
    isplitl [G00]; · iexact G00
    isplitl [HGW0]; · iexact HGW0
    isplitl [G10]; · iexact G10
    isplitl [HGW1]; · iexact HGW1
    isplitl [G01]; · iexact G01
    isplitl [G11]; · iexact G11
    isplitl [Hoc00]; · iexact Hoc00
    isplitl [Hgq00]; · iexact Hgq00
    isplitl [HGS0]; · iexact HGS0
    isplitl [Hoc10]; · iexact Hoc10
    isplitl [Hgq10]; · iexact Hgq10
    isplitl [HGS1]; · iexact HGS1
    isplitl [Hoc01]; · iexact Hoc01
    isplitl [Hgq01]; · iexact Hgq01
    isplitl [Hoc11]; · iexact Hoc11
    iexact Hgq11
  iintro %_ ⟨Hgq11, HGW0, G11, HGW1, Hoc00, G00, Hgq00, Hoc10, G10, Hgq10, HGS1, Hoc01, G01, Hgq01, HGS0, HO, Hm11, Hoc11⟩
  refine useS (β := BitVec 32) (fun v2727 => WP c (T110 c v10 v29 v48 (scl A) v2727) Q) (fun R h => segL A (R := R) (K := K) (Ks := Ks) v10 v29 v48 (fun v2727 => h v2727)) ?_
  isplitl [HO G11 Hm11 Hgq11 HGS1 G00 HGW0 G10 HGW1 G01 Hoc00 Hgq00 HGS0 Hoc10 Hgq10 Hoc01 Hgq01 Hoc11]
  · isplitr; · iexact Hctx
    isplitl [HO]; · iexact HO
    isplitl [G11]; · iexact G11
    isplitl [Hm11]; · iexact Hm11
    isplitl [Hgq11]; · iexact Hgq11
    isplitl [HGS1]; · iexact HGS1
    isplitl [G00]; · iexact G00
    isplitl [HGW0]; · iexact HGW0
    isplitl [G10]; · iexact G10
    isplitl [HGW1]; · iexact HGW1
    isplitl [G01]; · iexact G01
    isplitl [Hoc00]; · iexact Hoc00
    isplitl [Hgq00]; · iexact Hgq00
    isplitl [HGS0]; · iexact HGS0
    isplitl [Hoc10]; · iexact Hoc10
    isplitl [Hgq10]; · iexact Hgq10
    isplitl [Hoc01]; · iexact Hoc01
    isplitl [Hgq01]; · iexact Hgq01
    iexact Hoc11
  iintro %v2727 ⟨HGW0, HGW1, Hoc00, G00, Hgq00, Hoc10, G10, Hgq10, Hoc01, G01, Hgq01, HGS0, Hoc11, HO, G11, Hgq11, HGS1⟩
  refine useS (β := Unit) (fun _ => WP c (T119 c v10 v29 v48 (scl A)) Q) (fun R h => segM A (R := R) (K := K) (Ks := Ks) v10 v29 v48 v2727 (h ())) ?_
  isplitl [HO G00 HGW0 G10 HGW1 G01 G11 Hoc00 Hgq00 HGS0 Hoc10 Hgq10 HGS1 Hoc01 Hgq01 Hoc11]
  · isplitr; · iexact Hctx
    isplitl [HO]; · iexact HO
    isplitl [G00]; · iexact G00
    isplitl [HGW0]; · iexact HGW0
    isplitl [G10]; · iexact G10
    isplitl [HGW1]; · iexact HGW1
    isplitl [G01]; · iexact G01
    isplitl [G11]; · iexact G11
    isplitl [Hoc00]; · iexact Hoc00
    isplitl [Hgq00]; · iexact Hgq00
    isplitl [HGS0]; · iexact HGS0
    isplitl [Hoc10]; · iexact Hoc10
    isplitl [Hgq10]; · iexact Hgq10
    isplitl [HGS1]; · iexact HGS1
    isplitl [Hoc01]; · iexact Hoc01
    isplitl [Hgq01]; · iexact Hgq01
    iexact Hoc11
  iintro %_ ⟨HGW0, G11, HGW1, Hoc00, G00, Hgq00, Hoc10, G10, Hgq10, HGS1, Hoc01, G01, Hgq01, HGS0, HO, Hm11, Hoc11⟩
  refine useS (β := Unit) (fun _ => WP c (T128 c v10 v29 v48 (scl A)) Q) (fun R h => segN A (R := R) (K := K) (Ks := Ks) v10 v29 v48 (h ())) ?_
  isplitl [HO G11 Hm11 Hgq11 HGS1 G00 HGW0 G10 HGW1 G01 Hoc00 Hoc10 Hoc01 Hoc11]
  · isplitr; · iexact Hctx
    isplitl [HO]; · iexact HO
    isplitl [G11]; · iexact G11
    isplitl [Hm11]; · iexact Hm11
    isplitl [Hgq11]; · iexact Hgq11
    isplitl [HGS1]; · iexact HGS1
    isplitl [G00]; · iexact G00
    isplitl [HGW0]; · iexact HGW0
    isplitl [G10]; · iexact G10
    isplitl [HGW1]; · iexact HGW1
    isplitl [G01]; · iexact G01
    isplitl [Hoc00]; · iexact Hoc00
    isplitl [Hoc10]; · iexact Hoc10
    isplitl [Hoc01]; · iexact Hoc01
    iexact Hoc11
  iintro %_ ⟨Hgq11, HGS1, HGW0, G11, HGW1, Hoc00, G00, Hg001, Hoc10, G10, Hg101, Hoc01, G01, Hg011, HO, Hm11, Hoc11⟩
  refine useS (β := Unit) (fun _ => WP c (.ret ⟨⟩) Q) (fun R h => segO A (R := R) (K := K) (Ks := Ks) v10 v29 v48 (h ())) ?_
  isplitl [HO G11 Hm11 G00 Hoc00 G10 Hoc10 G01 Hoc01 Hoc11]
  · isplitr; · iexact Hctx
    isplitl [HO]; · iexact HO
    isplitl [G11]; · iexact G11
    isplitl [Hm11]; · iexact Hm11
    isplitl [G00]; · iexact G00
    isplitl [Hoc00]; · iexact Hoc00
    isplitl [G10]; · iexact G10
    isplitl [Hoc10]; · iexact Hoc10
    isplitl [G01]; · iexact G01
    isplitl [Hoc01]; · iexact Hoc01
    iexact Hoc11
  iintro %_ ⟨Hg111, G00, Hm00, G10, Hm10, G01, Hm01, G11, Hm11, Hoc00, Hos00, Hoc10, Hos10, Hoc01, Hos01, HO, Hoc11, Hos11⟩
  refine goOn h ?_
  isplitl [Hw Hba C0 Hx Hwb C4 Hq00 Hq10 Hq01 C5 HS0 Hq11 C3 HS1 Hr001 Hr101 Hr011 C6 HW0 Hr111 C2 HW1 HPr00 HPr10 Hkp10 HPr01 Hkp01 C7 HPr11 Hkp11 C1 Hkp00 HPs007 Hs001 HPs107 Hs101 HPs017 Hs011 HPs117 Hs111 HPs008 Hs000 HPs108 Hs100 HPs018 Hs010 HPs118 Hs110 Hxb0 Hxb1 Hxb2 Hxb3 Hxb4 Hxb5 Hxb6 Hxa0 Hxa1 Hxa2 Hxa3 Hxa4 Hxa5 Hxa6 Ham Hqs00 Hqs10 Hqs01 Hqs11 Hgq00 Hgq10 Hgq01 HGS0 Hgq11 HGS1 HGW0 HGW1 Hg001 Hg101 Hg011 Hg111 G00 Hm00 G10 Hm10 G01 Hm01 G11 Hm11 Hoc00 Hos00 Hoc10 Hos10 Hoc01 Hos01 HO Hoc11 Hos11]
  · isplitl [Hw]; · iexact Hw
    isplitl [Hba]; · iexact Hba
    isplitl [C0]; · iexact C0
    isplitl [Hx]; · iexact Hx
    isplitl [Hwb]; · iexact Hwb
    isplitl [C4]; · iexact C4
    isplitl [Hq00]; · iexact Hq00
    isplitl [Hq10]; · iexact Hq10
    isplitl [Hq01]; · iexact Hq01
    isplitl [C5]; · iexact C5
    isplitl [HS0]; · iexact HS0
    isplitl [Hq11]; · iexact Hq11
    isplitl [C3]; · iexact C3
    isplitl [HS1]; · iexact HS1
    isplitl [Hr001]; · iexact Hr001
    isplitl [Hr101]; · iexact Hr101
    isplitl [Hr011]; · iexact Hr011
    isplitl [C6]; · iexact C6
    isplitl [HW0]; · iexact HW0
    isplitl [Hr111]; · iexact Hr111
    isplitl [C2]; · iexact C2
    isplitl [HW1]; · iexact HW1
    isplitl [HPr00]; · iexact HPr00
    isplitl [HPr10]; · iexact HPr10
    isplitl [Hkp10]; · iexact Hkp10
    isplitl [HPr01]; · iexact HPr01
    isplitl [Hkp01]; · iexact Hkp01
    isplitl [C7]; · iexact C7
    isplitl [HPr11]; · iexact HPr11
    isplitl [Hkp11]; · iexact Hkp11
    isplitl [C1]; · iexact C1
    isplitl [Hkp00]; · iexact Hkp00
    isplitl [HPs007]; · iexact HPs007
    isplitl [Hs001]; · iexact Hs001
    isplitl [HPs107]; · iexact HPs107
    isplitl [Hs101]; · iexact Hs101
    isplitl [HPs017]; · iexact HPs017
    isplitl [Hs011]; · iexact Hs011
    isplitl [HPs117]; · iexact HPs117
    isplitl [Hs111]; · iexact Hs111
    isplitl [HPs008]; · iexact HPs008
    isplitl [Hs000]; · iexact Hs000
    isplitl [HPs108]; · iexact HPs108
    isplitl [Hs100]; · iexact Hs100
    isplitl [HPs018]; · iexact HPs018
    isplitl [Hs010]; · iexact Hs010
    isplitl [HPs118]; · iexact HPs118
    isplitl [Hs110]; · iexact Hs110
    isplitl [Hxb0]; · iexact Hxb0
    isplitl [Hxb1]; · iexact Hxb1
    isplitl [Hxb2]; · iexact Hxb2
    isplitl [Hxb3]; · iexact Hxb3
    isplitl [Hxb4]; · iexact Hxb4
    isplitl [Hxb5]; · iexact Hxb5
    isplitl [Hxb6]; · iexact Hxb6
    isplitl [Hxa0]; · iexact Hxa0
    isplitl [Hxa1]; · iexact Hxa1
    isplitl [Hxa2]; · iexact Hxa2
    isplitl [Hxa3]; · iexact Hxa3
    isplitl [Hxa4]; · iexact Hxa4
    isplitl [Hxa5]; · iexact Hxa5
    isplitl [Hxa6]; · iexact Hxa6
    isplitl [Ham]; · iexact Ham
    isplitl [Hqs00]; · iexact Hqs00
    isplitl [Hqs10]; · iexact Hqs10
    isplitl [Hqs01]; · iexact Hqs01
    isplitl [Hqs11]; · iexact Hqs11
    isplitl [Hgq00]; · iexact Hgq00
    isplitl [Hgq10]; · iexact Hgq10
    isplitl [Hgq01]; · iexact Hgq01
    isplitl [HGS0]; · iexact HGS0
    isplitl [Hgq11]; · iexact Hgq11
    isplitl [HGS1]; · iexact HGS1
    isplitl [HGW0]; · iexact HGW0
    isplitl [HGW1]; · iexact HGW1
    isplitl [Hg001]; · iexact Hg001
    isplitl [Hg101]; · iexact Hg101
    isplitl [Hg011]; · iexact Hg011
    isplitl [Hg111]; · iexact Hg111
    isplitl [G00]; · iexact G00
    isplitl [Hm00]; · iexact Hm00
    isplitl [G10]; · iexact G10
    isplitl [Hm10]; · iexact Hm10
    isplitl [G01]; · iexact G01
    isplitl [Hm01]; · iexact Hm01
    isplitl [G11]; · iexact G11
    isplitl [Hm11]; · iexact Hm11
    isplitl [Hoc00]; · iexact Hoc00
    isplitl [Hos00]; · iexact Hos00
    isplitl [Hoc10]; · iexact Hoc10
    isplitl [Hos10]; · iexact Hos10
    isplitl [Hoc01]; · iexact Hoc01
    isplitl [Hos01]; · iexact Hos01
    isplitl [HO]; · iexact HO
    isplitl [Hoc11]; · iexact Hoc11
    iexact Hos11
  iexact HR

end Cert.KernelIdeal.Ring
-- ==== Proof.Launch.lean ====
/-
# The launch and the run
-/
module

public import proofs.«01_k».proof.Proof.Start
public import proofs.«01_k».proof.Proof.Init
public import proofs.«01_k».proof.Proof.Body
public import Idealize.ShloMosaic.Lib.Pipeline.CollectiveSegs

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Release (USlots slotInv readerAt released writeTok slot_take slot_release)

variable {F : FTy → Type} [FloatOps F]

local notation "𝕄" => MT nD τ sig ℕ (Elt F) ℕ UU ℕ

variable (m : (ℓ : Loc nD τ sig) → Buf (Elt F) ℓ) (ρ : Dev nD → PrngReg)

/-! ## The pipeline's data -/

/-- The memory at the start, -/
def s₀ : MemSt nD τ sig (Elt F) := ⟨m, fun _ => 0, ρ⟩
/-- and the arguments read off it. -/
def args : Args F where
  x c := (win0_0.blk (0 : Fin 1)).view.read (Elt F) (m ((c : Thread nD τ).loc main_arg0))
  w c := (win0_1.blk (0 : Fin 1)).view.read (Elt F) (m ((c : Thread nD τ).loc main_arg1))

/-- Before the program runs, -/
def Φ₀ (c : Dev nD) : sProp (MT nD τ sig ℕ (Elt F) ℕ UU ℕ) := iprop(start (args m) c ∗ Pipeline.scopedRest cfg0.spec c)
/-- and after. -/
def Φ₁ (c : Dev nD) : sProp (MT nD τ sig ℕ (Elt F) ℕ UU ℕ) :=
  iprop(own c outM fullShare (res (args m)) ∗ (bigSep Finset.univ fun k => semVal (cell c k) 0) ∗ Pipeline.scopedRest cfg0.spec c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => (args m).x c
    | ⟨1, _⟩ => (args m).w c
  Φ t := match t with
    | ⟨0, _⟩ => Φ₀ m c
    | ⟨_ + 1, _⟩ => Φ₁ m c
  q _ := fullShare
  owed t := match t with
    | ⟨0, _⟩ => owed c 0
    | ⟨_ + 1, _⟩ => 0

omit [FloatOps F] in
theorem fetch_0 (t : Fin cfg0.N) : (cfg0.win (0 : Fin 2)).fetch t = true := by rw [fin_N0 t]; rfl
omit [FloatOps F] in
theorem fetch_1 (t : Fin cfg0.N) : (cfg0.win (1 : Fin 2)).fetch t = true := by rw [fin_N0 t]; rfl

omit [FloatOps F] in
theorem rest_eq (c : Dev nD) : (Pipeline.scopedRest cfg0.spec c : sProp (MT nD τ sig ℕ (Elt F) ℕ UU ℕ)) = iprop(anyAt c wbM ∗ anyAt c ostM ∗ anyAt c partM ∗ anyAt c (rsB 0) ∗ anyAt c (rsB 1) ∗ anyAt c (sdB 0) ∗ anyAt c (sdB 1) ∗ anyAt c (agB 0) ∗ anyAt c (agB 1) ∗ anyAt c (qB 0) ∗ anyAt c (qB 1) ∗ anyAt c amM) := by
  refine (scopedRest0_eq c).trans ?_
  rw [← any_whole c cc0_scratch0, ← any_whole c cc0_scratch1, ← any_whole c cc0_scratch3, ← any_whole c cc0_scratch4, ← any_whole c cc0_scratch5, ← any_whole c cc0_scratch6, ← any_whole c cc0_scratch7, ← any_whole c cc0_scratch8, ← any_whole c cc0_scratch9, ← any_whole c cc0_scratch10, ← any_whole c cc0_scratch11, ← any_whole c cc0_scratch12]
  rfl

theorem before_0 (c : Dev nD) (d : cc0_stg0_0.ty.Contents (Elt F)) : (dats m ρ 0 c).before (0 : Fin 2) t0_0 d = (args m).x c := by
  unfold Pipeline.Dat.before; rw [if_pos (fetch_0 t0_0)]; rfl
theorem before_1 (c : Dev nD) (d : cc0_stg1_0.ty.Contents (Elt F)) : (dats m ρ 0 c).before (1 : Fin 2) t0_0 d = (args m).w c := by
  unfold Pipeline.Dat.before; rw [if_pos (fetch_1 t0_0)]; rfl

/-! ## The body -/

def bodyPre (c : Dev nD) : sProp (MT nD τ sig ℕ (Elt F) ℕ UU ℕ) :=
  iprop(Φ₀ m c ∗ (dats m ρ 0 c).owesAt 0 t0_0.castSucc
    ∗ (∃ d, own c xM fullShare ((dats m ρ 0 c).before (0 : Fin 2) t0_0 d))
    ∗ (∃ d, own c wM fullShare ((dats m ρ 0 c).before (1 : Fin 2) t0_0 d)))
def bodyPost (c : Dev nD) : sProp (MT nD τ sig ℕ (Elt F) ℕ UU ℕ) :=
  iprop(Φ₁ m c ∗ (dats m ρ 0 c).owesAt 0 t0_0.succ ∗ own c xM fullShare ((args m).x c) ∗ own c wM fullShare ((args m).w c))

theorem body_end (c : Dev nD) {K : Dev nD × CK → ℕ} {Ks : Key → ℕ} :
    iprop(ow c 105 ∗ own c xM fullShare ((args m).x c) ∗ own c wM fullShare ((args m).w c) ∗ (bigSep Finset.univ fun k => semVal (cell c k) 0)
      ∗ (anyAt c wbM ∗ anyAt c ostM ∗ anyAt c partM ∗ anyAt c (rsB 0) ∗ anyAt c (rsB 1) ∗ anyAt c (sdB 0) ∗ anyAt c (sdB 1) ∗ anyAt c (agB 0) ∗ anyAt c (agB 1) ∗ anyAt c (qB 0) ∗ anyAt c (qB 1) ∗ anyAt c amM) ∗ own c outM fullShare (res (args m))) ⊢ bodyPost m ρ c := by
  unfold bodyPost Φ₁ ow
  rw [rest_eq, owed_end]
  unfold Pipeline.Dat.owesAt Pipeline.owesWithin
  rw [show (dats m ρ 0 c).owed t0_0.succ = 0 from rfl]
  iintro ⟨⟨%W, HO⟩, Hx, Hw, HS, HB, Hr⟩
  isplitl [Hr HS HB]
  · isplitl [Hr]; · iexact Hr
    isplitl [HS]; · iexact HS
    iexact HB
  isplitl [HO]
  · iexists W
    isplitr; · ipureintro; exact fun _ _ => Or.inl trivial
    iexact HO
  isplitl [Hx]; · iexact Hx
  iexact Hw

theorem sound_body (c : Dev nD) : bodyPre m ρ c ⊢ WP c T1 (fun _ => bodyPost m ρ c) := by
  unfold bodyPre Φ₀ start
  rw [rest_eq]
  unfold Pipeline.Dat.owesAt Pipeline.owesWithin
  rw [show (dats m ρ 0 c).owed t0_0.castSucc = owed c 0 from rfl]
  iintro ⟨⟨⟨%K, %Ks, #Hctx, HG, Hout⟩, HB⟩, ⟨%W, -, HO⟩, ⟨%d, Hx⟩, ⟨%e, Hw⟩⟩
  ihave Hx := (Entails.of_eq (congrArg (own c xM fullShare) (before_0 m ρ c d))) $$ Hx
  ihave Hw := (Entails.of_eq (congrArg (own c wM fullShare) (before_1 m ρ c e))) $$ Hw
  ihave HI := (mkInit (args m) (c := c) (qw := fullShare) (qx := fullShare)) $$ [HO Hx Hw HB HG Hout]
  · isplitl [HO]; · unfold ow; iexists W; iexact HO
    isplitl [Hx]; · iexact Hx
    isplitl [Hw]; · iexact Hw
    isplitl [HB]; · iexact HB
    isplitl [HG]; · iexact HG
    iexact Hout
  iapply (run_all (args m) (c := c) (K := K) (Ks := Ks) (qw := fullShare) (qx := fullShare) (R := ctx (args m) K Ks) (Q := fun _ => bodyPost m ρ c) (by
    iintro ⟨H, #Hctx⟩
    imod (finish (args m) (c := c) (K := K) (Ks := Ks) (qw := fullShare) (qx := fullShare)) $$ [H] with H
    · isplitr; · iexact Hctx
      iexact H
    rw [wp_ret]
    imodintro
    iapply (body_end m ρ c (K := K) (Ks := Ks)); iexact H))
  isplitl [HI]
  · isplitr; · iexact Hctx
    iexact HI
  iexact Hctx

set_option maxRecDepth 1000000 in
/-- The library's body obligation. -/
theorem body_obligation (c : Dev nD) : Pipeline.BodyObligation (dats (F := F) m ρ 0 c) (defs₀ (F := F)) 𝒱₀ 0 Set.univ := fun t => by
  rw [fin_N0 t]
  rw [bigSep_W0, bigSep_W0]
  show bodyPre m ρ c ⊢ WP c (bodyAt0 (F := F) t0_0) (fun _ => bodyPost m ρ c)
  rw [body_eq]
  exact sound_body m ρ c

/-! ## The launch -/

theorem share_eq (c : Dev nD) (w : Fin cfg0.W) : (dats m ρ 0 c).share w = fullShare := by unfold Pipeline.Dat.share; split <;> rfl

theorem phi0_intro (c : Dev nD) :
    iprop(start (args m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- What is read off at the end. -/
def Y (c : Dev nD) : sProp (MT nD τ sig ℕ (Elt F) ℕ UU ℕ) := iprop(own c outM fullShare (res (args m)) ∗ unscopedSems0 c)

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl]
  unfold Φ₁ Y
  iintro ⟨Ho, HS, HB⟩
  ihave HS := (Entails.of_eq (sems_eq (F := F) c).symm) $$ HS
  icases HS with ⟨H1, H2⟩
  isplitl [Ho H2]
  · isplitl [Ho]; · iexact Ho
    iexact H2
  isplitl [H1]; · iexact H1
  iexact HB

theorem waits (c : Dev nD) : (levAts L lv : sProp (MT nD τ sig ℕ (Elt F) ℕ UU ℕ)) ⊢ Pipeline.cellsWaits cfgs (dats m ρ) 0 0 c :=
  Pipeline.cellsWaits_intro cfgs (dats m ρ) 0 0 c fun w s t => by
    rcases t with ⟨_ | n, ht⟩
    · exact mayWait c _ 0 0 (by omega) (le_refl 0)
    · have h := mayWait (F := F) c (SemLoc.dma ((cfg0.win w).sem s)) 0 105 (le_refl _) (by omega)
      rw [owed_end] at h
      exact h

/-- What a device's memory holds at the end. -/
def QY (c : Dev nD) (s : MemSt nD τ sig (Elt F)) : Prop :=
  s.mem ((c : Thread nD τ).loc main_v1) = res (args m) ∧ ∀ sm : SemLoc sig, sm.isScoped .tc = false → s.sem ((c.tc : Thread nD τ), sm) = 0

theorem read_off (c : Dev nD) (s' : Phys nD τ sig (Elt F)) : iprop(Y m c ∗ emp ∗ SI s') ⊢ (|={Set.univ}=> iprop(⌜QY m c s'.mem⌝ ∗ SI s') : sProp (MT nD τ sig ℕ (Elt F) ℕ UU ℕ)) := by
  unfold Y QY
  iintro ⟨⟨Ho, Hu⟩, -, HSI⟩
  imod (Pipeline.unscopedSems0_read (X := unscopedSems0 c) (c := c) fupd_intro s') $$ [Hu HSI] with ⟨%h1, HSI⟩
  · isplitl [Hu] <;> iassumption
  ihave Ho := (Entails.of_eq (owns_whole_eq c main_v1 fullShare (res (args m)))) $$ Ho
  icases Ho with ⟨%f, %hf, Ho⟩
  icombine HSI Ho gives %h2
  imodintro
  isplitr
  · ipureintro
    exact ⟨funext fun i => (h2 i (Finset.mem_univ i)).trans (congrFun hf i), h1⟩
  iexact HSI

set_option maxRecDepth 1000000 in
/-- The whole run: from any memory with all semaphores at zero the program ends, the arguments as they were, the result on
    every device the same, the semaphores at zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = res (args m)) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owed d 0) (howed₀ := fun _ => rfl) (howedN := fun _ => rfl)
    (L := L) (lv := lv) (hL := L_of_ne) (hwaits := waits m ρ)
    (G := G) (G' := G' (args m)) (u₀ := u₀)
    (hu₀ := split_u)
    (hglob := glob (args m))
    (hA := fun _ _ => rfl) (hpf := fun _ k => k.elim0)
    (X := start (args m)) (Y := Y m) (Z := fun _ => iprop(emp))
    (hX := start_intro (args m) m ρ) (hin := phi0_intro m ρ) (hout := phi1_exit m ρ)
    (QY := QY m)
    (hY := read_off m)
    (hQ := fun s h hs => ⟨fun c => ⟨((h c).1 (0 : Fin 2)).trans ((dats m ρ 0 c).arrAt_in (0 : Fin 2) rfl _), ((h c).1 (1 : Fin 2)).trans ((dats m ρ 0 c).arrAt_in (1 : Fin 2) rfl _), (h c).2.2.1⟩,
      sem_eq_zero hs fun c => (h c).2.2.2⟩)

end Cert.KernelIdeal.Ring
-- ==== Proof.Frames.lean ====
/- The three frames: both forms of the kernel and the reference run, leave their arguments, and leave every semaphore at zero. -/
module

public import proofs.«01_k».proof.Defs
public import proofs.«01_k».proof.Proof.Bridge
public import proofs.«01_k».proof.Proof.Launch
public import proofs.«01_k».proof.Proof.Gen.ReferenceIdeal.Run
public import Idealize.ShloMosaic.Lib.Quiescent
public import Idealize.ShloMosaic.Lib.StableHlo.RunHlo

@[expose] public section

set_option maxRecDepth 1000000
set_option maxHeartbeats 4000000

namespace Cert.Proof

open Idealize.ShloMosaic Idealize.SL.Sem

/-- The idealized kernel's frame. -/
theorem frame_KernelIdeal : Cert.quiescent_KernelIdeal (hKernelIdeal := Cert.KernelIdeal.Gen.facts) := fun m g _ =>
  θ_run_mono (Cert.KernelIdeal.Ring.run_main (F := Ideal) m g) fun _ h => ⟨fun c => ⟨(h.1 c).1, (h.1 c).2.1⟩, h.2⟩

/-- The run of the kernel over bit-level floats is the same program's. -/
theorem run_Kernel (m : (ℓ : Loc Cert.Kernel.nD Cert.Kernel.τ Cert.Kernel.sig) → Buf (Elt Bits) ℓ) (g : Dev Cert.Kernel.nD → PrngReg) :
    θ_run (@Cert.Kernel.defs Bits _ Cert.Kernel.Gen.facts) (onTc (τ := Cert.Kernel.τ) (@Cert.Kernel.main Bits Cert.Kernel.Gen.facts)) ⟨m, fun _ => 0, g⟩
      (fun r => (∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1))
        ∧ r.2.sem = fun _ => 0) := by
  rw [Cert.Bridge.defs_eq, Cert.Bridge.main_eq]
  exact θ_run_mono (Cert.KernelIdeal.Ring.run_main (F := Bits) m g) fun _ h => ⟨fun c => ⟨(h.1 c).1, (h.1 c).2.1⟩, h.2⟩

/-- The kernel's frame. -/
theorem frame_Kernel : Cert.quiescent_Kernel (hKernel := Cert.Kernel.Gen.facts) := fun m g _ => run_Kernel m g

/-- The reference's frame. -/
theorem frame_ReferenceIdeal : Cert.quiescent_ReferenceIdeal (hReferenceIdeal := Cert.ReferenceIdeal.Gen.facts) := fun m g _ =>
  θ_run_mono (Cert.ReferenceIdeal.Value.run m g) fun r h => ⟨fun c => (h c).2, sem_eq_zero_of_no_sems rfl r.2⟩

end Cert.Proof

end
-- ==== Proof.Quant.lean ====
/- The quantiser over the extended reals: an int8 round trip of a clipped rounding changes nothing, the two clips agree on a
   nonnegative matrix, and a maximum over all entries of an array is determined by what bounds it. -/
module

public import proofs.«01_k».proof.Defs
public import Idealize.ShloMosaic.PureOps.Ideal.Laws
public import Idealize.ShloMosaic.PureOps.Reduce
public import Idealize.ShloMosaic.Lib.IdealHost

@[expose] public section

set_option maxHeartbeats 4000000

namespace Cert.Quant

open Idealize.ShloMosaic

/-! ## The constants -/

theorem c127 : Ideal.ofBits .f32 0x42FE0000#32 = ((127 : ℝ) : EReal) := by
  simp [Ideal.ofBits, Ideal.ieee]; norm_num; rw [← EReal.coe_mul]; norm_num
theorem cm127 : Ideal.ofBits .f32 0xC2FE0000#32 = ((-127 : ℝ) : EReal) := by
  simp [Ideal.ofBits, Ideal.ieee]; norm_num; rw [← EReal.coe_mul]; norm_num
theorem cbot : Ideal.ofBits .f32 0xFF800000#32 = ⊥ := by
  simp [Ideal.ofBits, Ideal.ieee]

/-! ## The rounding and the two clips -/

/-- The rounded quotient. -/
noncomputable def rq (y s : EReal) : EReal := Ideal.liftRound Ideal.roundHalfEven (Ideal.div y s)

theorem div_nonneg {y s : EReal} (hy : 0 ≤ y) (hs : 0 ≤ s) (h : s ≠ 0) : 0 ≤ Ideal.div y s := by
  unfold Ideal.div; rw [if_neg h]; exact mul_nonneg hy (EReal.inv_nonneg_of_nonneg hs)

theorem roundHalfEven_nonneg {r : ℝ} (h : 0 ≤ r) : 0 ≤ Ideal.roundHalfEven r := by
  have hf : 0 ≤ ⌊r⌋ := Int.floor_nonneg.mpr h
  unfold Ideal.roundHalfEven; dsimp only; split_ifs <;> omega

/-- A rounded nonnegative number, clipped, is an integer between 0 and 127, whichever the lower clip. -/
theorem clip_int {x : EReal} (hx : 0 ≤ x) : ∃ k : ℤ, 0 ≤ k ∧ k ≤ 127 ∧
    min ((127 : ℝ) : EReal) (max 0 (Ideal.liftRound Ideal.roundHalfEven x)) = ((k : ℝ) : EReal)
    ∧ min ((127 : ℝ) : EReal) (max ((-127 : ℝ) : EReal) (Ideal.liftRound Ideal.roundHalfEven x)) = ((k : ℝ) : EReal) := by
  have hm : ((-127 : ℝ) : EReal) ≤ 0 := by rw [← EReal.coe_zero, EReal.coe_le_coe_iff]; norm_num
  have key : ∀ z : EReal, 0 ≤ z → max 0 z = z ∧ max ((-127 : ℝ) : EReal) z = z := fun z hz => ⟨max_eq_right hz, max_eq_right (hm.trans hz)⟩
  induction x with
  | bot => exact absurd hx (by simp)
  | top =>
    refine ⟨127, by norm_num, le_rfl, ?_, ?_⟩
    · show min _ (max 0 ⊤) = _
      rw [(key ⊤ le_top).1, min_eq_left le_top]; norm_num
    · show min _ (max _ ⊤) = _
      rw [(key ⊤ le_top).2, min_eq_left le_top]; norm_num
  | coe r =>
    have hr : 0 ≤ r := EReal.coe_nonneg.mp hx
    have hn := roundHalfEven_nonneg hr
    have hn' : (0 : EReal) ≤ ((Ideal.roundHalfEven r : ℝ) : EReal) := EReal.coe_nonneg.mpr (by exact_mod_cast hn)
    refine ⟨min 127 (Ideal.roundHalfEven r), le_min (by norm_num) hn, min_le_left _ _, ?_, ?_⟩
    · show min _ (max 0 ((Ideal.roundHalfEven r : ℝ) : EReal)) = _
      rw [(key _ hn').1, ← EReal.coe_strictMono.monotone.map_min]; push_cast; rfl
    · show min _ (max _ ((Ideal.roundHalfEven r : ℝ) : EReal)) = _
      rw [(key _ hn').2, ← EReal.coe_strictMono.monotone.map_min]; push_cast; rfl

/-- An integer between 0 and 127 survives the int8 round trip. -/
theorem roundtrip {k : ℤ} (h0 : 0 ≤ k) (h1 : k ≤ 127) : (Ideal.fptosi 8 ((k : ℝ) : EReal)).toInt = k := by
  have hk : Ideal.toIntClamped (-(2 ^ (8 - 1) : Nat)) ((2 ^ (8 - 1) : Nat) - 1) ((k : ℝ) : EReal) = k := by
    rw [Ideal.toIntClamped_coe, if_pos (by exact_mod_cast h0), Int.floor_intCast]
    norm_num; omega
  unfold Ideal.fptosi; rw [hk, BitVec.toInt_ofInt]
  unfold Int.bmod; norm_num; omega

/-- What the kernel writes is what the reference writes. -/
theorem requant {y s : EReal} (hy : 0 ≤ y) (hs : 0 ≤ s) :
    ((((Ideal.fptosi 8 (min ((127 : ℝ) : EReal) (max 0 (rq y s)))).toInt : ℤ) : ℝ) : EReal) * s
      = min ((127 : ℝ) : EReal) (max ((-127 : ℝ) : EReal) (rq y s)) * s := by
  by_cases h : s = 0
  · rw [h, mul_zero, mul_zero]
  · obtain ⟨k, h0, h1, e0, e1⟩ := clip_int (div_nonneg hy hs h)
    unfold rq; rw [e0, e1, roundtrip h0 h1]

/-! ## Maxima -/

theorem fold_le_iff {ι : Type} (S : Finset ι) (x : ι → EReal) (b : EReal) :
    S.fold (FloatOps.maximumf (F := Ideal) (φ := .f32)) ⊥ x ≤ b ↔ ∀ i ∈ S, x i ≤ b := by
  have h := Finset.fold_max_le (s := S) (f := x) (b := ⊥) b
  exact h.trans ⟨fun h => h.2, fun h => ⟨bot_le, h⟩⟩

/-- What bounds a kernel's maximum, -/
theorem multi_le_iff {s t : Shape} {axes : List (Fin s.rank)} (x : FVec Ideal s .f32) (h : s.Reduces axes t) (hφ : FKind.Formats .f32)
    (hacc : (0xFF800000#32 : BitVec 32) = FKind.maximumf.neutral .f32 hφ) (j : t.Idx) (b : EReal) (hj : ∀ i, h.drop i = j) :
    multiReduction .maximumf axes t x 0xFF800000#32 h hφ hacc j ≤ b ↔ ∀ i, x i ≤ b := by
  have e : multiReduction .maximumf axes t x 0xFF800000#32 h hφ hacc j
      = (Finset.univ.filter fun i => h.drop i = j).fold (FloatOps.maximumf (F := Ideal) (φ := .f32)) (Ideal.ofBits .f32 0xFF800000#32) x :=
    reduceFold_eq_fold h _ _ x j
  rw [e, cbot, fold_le_iff]
  exact ⟨fun H i => H i (Finset.mem_filter.mpr ⟨Finset.mem_univ i, hj i⟩), fun H i _ => H i⟩

/-- and a host's. -/
theorem host_le_iff {s t u : Shape} {axes : List (Fin s.rank)} (x : FVec Ideal s .f32) (init : u.Idx → EReal) (h : s.ReducesTo axes t)
    (hu : 0 < u.numel) (hinit : ∀ k, init k = ⊥) (j : t.Idx) (b : EReal) (hj : ∀ i, h.drop i = j) :
    Host.reduce (FloatOps.maximumf (F := Ideal) (φ := .f32)) x init h hu j ≤ b ↔ ∀ i, x i ≤ b := by
  have e := Host.reduce_eq_fold (FloatOps.maximumf (F := Ideal) (φ := .f32)) x init h hu j
  rw [e, hinit, fold_le_iff]
  exact ⟨fun H i => H i (Finset.mem_filter.mpr ⟨Finset.mem_univ i, hj i⟩), fun H i _ => H i⟩

end Cert.Quant

end
-- ==== Proof.Value.lean ====
/- The kernel's contents over the extended reals, entry by entry: the chunks of the partial products, the sums that travel
   round the ring, the finished blocks, the scale and the result. -/
module

public import proofs.«01_k».proof.Proof.Quant
public import proofs.«01_k».proof.Proof.Whole
public import Idealize.ShloMosaic.Lib.MatmulPlain
public import Idealize.ShloMosaic.Lib.ValueIdx
public import Idealize.ShloMosaic.Lib.Pipeline.Value

@[expose] public section

set_option maxRecDepth 100000
set_option maxHeartbeats 4000000

namespace Cert.KernelIdeal.Ring

open Idealize.ShloMosaic Idealize.ShloMosaic.ValueIdx Cert.KernelIdeal Cert.KernelIdeal.Gen Cert.Quant
open scoped BigOperators

variable (A : Args Ideal)

/-! ## Blocks as matrices -/

theorem sq4_cast {e : EltTy} (v : Vec Ideal S512x512 e) (h : S512x512.ShapeCasts S1x1x512x512) : sq4 (shapeCast S1x1x512x512 v h) = v := by
  funext i
  show v (Shape.reshapeEquiv _ (Shape.reshapeEquiv _ i)) = v i
  rw [Shape.reshapeEquiv_reshapeEquiv, Shape.reshapeEquiv_self]
theorem sq3_cast {e : EltTy} (v : Vec Ideal S512x512 e) (h : S512x512.ShapeCasts S1x512x512) : sq3 (shapeCast S1x512x512 v h) = v := by
  funext i
  show v (Shape.reshapeEquiv _ (Shape.reshapeEquiv _ i)) = v i
  rw [Shape.reshapeEquiv_reshapeEquiv, Shape.reshapeEquiv_self]

/-- Device `c`'s share of chunk `j`'s block of direction `d`, lane `q`. -/
noncomputable def Pq (c : Dev nD) (j : Fin 8) (d q : Fin 2) : Vec Ideal S512x512 .bf16 := sq3 (Pt A c j d q)

theorem snd_zero (d q : Fin 2) (c : Dev nD) (i : S512x512.Idx) : (Snd A d q 0 c i : EReal) = Pq A c 0 d q i := by
  show (sq4 (F := Ideal) (e := .bf16) (k0_pay3 (Pt A c 0 d q)) i : EReal) = _
  unfold k0_pay3; dsimp only; rw [sq4_cast]; rfl

theorem snd_succ (d q : Fin 2) (s : ℕ) (c : Dev nD) (i : S512x512.Idx) :
    (Snd A d q (s + 1) c i : EReal) = (Snd A d q s (src d c) i : EReal) + Pq A c (pj d (s + 1)) d q i := by
  show (sq4 (F := Ideal) (e := .bf16) (k0_pay12 (un4 (Snd A d q s (src d c))) (Pt A c (pj d (s + 1)) d q)) i : EReal) = _
  have h4 : shapeCast S512x512 (un4 (Snd A d q s (src d c))) shapeCasts_S1x1x512x512_S512x512 = Snd A d q s (src d c) := sq4_un4 _
  unfold k0_pay12; dsimp only; rw [sq4_cast, h4]; rfl

/-- The sum that has travelled: device by device along the ring, the chunk that each adds. -/
theorem snd_sum (d q : Fin 2) (i : S512x512.Idx) : ∀ (s : ℕ) (c : Dev nD),
    (Snd A d q s c i : EReal) = ∑ t ∈ Finset.range (s + 1), (Pq A (up d (s - t) c) (pj d t) d q i : EReal)
  | 0, c => by
    rw [snd_zero, Finset.sum_range_one, Nat.sub_zero, up_zero]
    have : pj d 0 = 0 := by revert d; decide
    rw [this]
  | s + 1, c => by
    rw [snd_succ, snd_sum d q i s (src d c), Finset.sum_range_succ (n := s + 1), Nat.sub_self, up_zero]
    refine congrArg (· + _) (Finset.sum_congr rfl fun t ht => ?_)
    have ht' : t < s + 1 := Finset.mem_range.mp ht
    rw [up_succ, show s - t + 1 = s + 1 - t by omega]

/-- A finished block. -/
theorem yv_apply (d q : Fin 2) (c : Dev nD) (i : S512x512.Idx) :
    (Yv A d q c i : EReal) = max (∑ t ∈ Finset.range 8, (Pq A (up d (7 - t) c) (pj d t) d q i : EReal)) 0 := by
  rw [← snd_sum A d q i 7 c, snd_succ]
  have h4 : shapeCast S512x512 (un4 (Snd A d q 6 (src d c))) shapeCasts_S1x1x512x512_S512x512 = Snd A d q 6 (src d c) := sq4_un4 _
  unfold Yv k0_pay44; rw [h4]
  show max (_ : EReal) (Ideal.ofBits .f32 0x00000000#32) = _
  rw [Ideal.ofBits_zero_f32]; rfl

theorem yv_nonneg (d q : Fin 2) (c : Dev nD) (i : S512x512.Idx) : 0 ≤ (Yv A d q c i : EReal) := by
  rw [yv_apply]; exact le_max_right _ _

/-! ## The chunks -/

/-- The row block of the product that chunk `j` of device `c` is of. -/
theorem off1_eq (c : Dev nD) (j : Fin 8) :
    k0_off1 c (BitVec.ofNat 32 j.val) = ![512 * (((pm c).val + 8 - j.val) % 8), 0] := by
  revert c j; decide +kernel

theorem dotK_eq : dot_S512x512_S512x2048_S512x2048_1_0_0_1_n_n = DotDims.plain 512 512 2048 := rfl

theorem xT_apply (c : Dev nD) (j : Fin 8) (r k : Fin 512) :
    (xT A c j (ix2 r k) : EReal) = A.x c (ix2 ⟨512 * (((pm c).val + 8 - j.val) % 8) + r.val, by have := r.isLt; omega⟩ k) := by
  unfold xT
  show A.x c _ = A.x c _
  refine congrArg (A.x c) (funext fun a => Fin.ext ?_)
  show ((Rect.unit (s := S4096x512) (k0_off1 c (BitVec.ofNat 32 j.val)) S512x512.size (k0_off1_inb c j)).emb (ix2 r k) a).val = _
  rw [Rect.emb_apply]
  show k0_off1 c (BitVec.ofNat 32 j.val) a + 1 * (ix2 r k a).val = _
  refine (congrArg (· + 1 * (ix2 r k a).val) (congrFun (off1_eq c j) a)).trans ?_
  rw [Nat.one_mul]
  match a with
  | ⟨0, _⟩ => rfl
  | ⟨1, _⟩ => exact Nat.zero_add _

/-- One entry of a device's share. -/
theorem pq_apply (c : Dev nD) (j : Fin 8) (d q : Fin 2) (r l : Fin 512) :
    (Pq A c j d q (ix2 r l) : EReal) = ∑ k : Fin 512,
      (A.x c (ix2 ⟨512 * (((pm c).val + 8 - j.val) % 8) + r.val, by have := r.isLt; omega⟩ k) : EReal)
        * A.w c (ix2 k ⟨d.val * 1024 + q.val * 512 + l.val, by have := d.isLt; have := q.isLt; have := l.isLt; omega⟩) := by
  have hl := l.isLt
  have hd := d.isLt
  have hq := q.isLt
  have e1 : (Shape.reshapeEquiv squeezes_S1x512x512_S512x512.numel_eq (ix2 r l) : S1x512x512.Idx) = Fin.cons ⟨0, Nat.one_pos⟩ (ix2 r l) :=
    Shape.reshapeEquiv_cons_one (n := 2) (d := ![512, 512]) squeezes_S1x512x512_S512x512.numel_eq (ix2 r l)
  show chunk A c j (qIx d q (Shape.reshapeEquiv squeezes_S1x512x512_S512x512.numel_eq (ix2 r l))) = _
  rw [e1]
  unfold chunk k0_pay2 k0_pay1
  dsimp only
  rw [shapeCast_self, shapeCast_self, shapeCast_self, dotK_eq]
  refine (shapeCast_addUnit_apply ![512, 2048] _ _ _).trans ?_
  have e2 : (fun a : Fin 2 => qIx d q (Fin.cons ⟨0, Nat.one_pos⟩ (ix2 r l)) a.succ) = ix2 r ⟨d.val * 1024 + q.val * 512 + l.val, by omega⟩ := by
    funext a; apply Fin.ext
    match a with
    | ⟨0, _⟩ => rfl
    | ⟨1, _⟩ => exact Nat.add_comm _ _
  refine (congrArg _ e2).trans ?_
  refine (Ideal.matmul_plain_apply (M := 512) (K := 512) (N := 2048) (φ₁ := .bf16) (φ₂ := .bf16) none (xT A c j) (A.w c)
    (constant (F := Ideal) S512x2048 .f32 0x00000000#32) r ⟨d.val * 1024 + q.val * 512 + l.val, by omega⟩).trans ?_
  rw [constant_apply, Ideal.ofBits_zero_f32, zero_add]
  exact Finset.sum_congr rfl fun k _ => congrArg (· * _) (xT_apply A c j r k)

end Cert.KernelIdeal.Ring

end
-- ==== Proof.Scale.lean ====
/- The scale over the extended reals, and the result. -/
module

public import proofs.«01_k».proof.Proof.Value
public import Idealize.ShloMosaic.Lib.MatmulPlain
public import Idealize.ShloMosaic.Lib.ValueIdx
public import Idealize.ShloMosaic.Lib.Pipeline.Value

@[expose] public section

set_option maxRecDepth 100000
set_option maxHeartbeats 4000000

namespace Cert.KernelIdeal.Ring

open Idealize.ShloMosaic Idealize.ShloMosaic.ValueIdx Cert.KernelIdeal Cert.KernelIdeal.Gen Cert.Quant
open scoped BigOperators

variable (A : Args Ideal)

/-! ## The scale -/

theorem drop_one {s : Shape} {axes : List (Fin s.rank)} (h : s.Reduces axes S1) (j : S1.Idx) (i : s.Idx) : h.drop i = j :=
  funext fun a => Fin.ext (by
    have h1 : (h.drop i a).val < 1 := lt_of_lt_of_eq (h.drop i a).isLt (by fin_cases a; rfl)
    have h2 : (j a).val < 1 := lt_of_lt_of_eq (j a).isLt (by fin_cases a; rfl)
    omega)

theorem mx_le (X : FVec Ideal S512x512 .f32) (b : EReal) :
    extractAt ![0, 0, 0] (shapeCast S1x1x1 (multiReduction .maximumf [1, 2] S1 (shapeCast S1x512x512 X shapeCasts_S512x512_S1x512x512)
      0xFF800000#32 reduces_S1x512x512_S1 (.inl rfl) rfl) shapeCasts_S1_S1x1x1) inpos_S1x1x1_p0_0_0 ≤ b ↔ ∀ i, (X i : EReal) ≤ b := by
  unfold extractAt
  refine (multi_le_iff _ reduces_S1x512x512_S1 (.inl rfl) rfl _ b (drop_one _ _)).trans ⟨fun H i => ?_, fun H i => H _⟩
  have := H ((Shape.reshapeEquiv shapeCasts_S512x512_S1x512x512).symm i)
  unfold shapeCast at this; rwa [Equiv.apply_symm_apply] at this

/-- The greatest entry of a block. -/
noncomputable def mx (X : FVec Ideal S512x512 .f32) : EReal :=
  extractAt ![0, 0, 0] (shapeCast S1x1x1 (multiReduction .maximumf [1, 2] S1 (shapeCast S1x512x512 X shapeCasts_S512x512_S1x512x512)
      0xFF800000#32 reduces_S1x512x512_S1 (.inl rfl) rfl) shapeCasts_S1_S1x1x1) inpos_S1x1x1_p0_0_0

theorem mx_le' (X : FVec Ideal S512x512 .f32) (b : EReal) : mx X ≤ b ↔ ∀ i, (X i : EReal) ≤ b := mx_le X b

theorem pay48_apply (X Y Z W : FVec Ideal S512x512 .f32) (P : Vec Ideal S1x512x512 .bf16) (i : S1x8x128.Idx) :
    (k0_pay48 X Y Z W P i : EReal) = max (max (mx X) (mx Z)) (max (mx Y) (mx (k0_pay47 W P))) := by
  unfold k0_pay48
  dsimp only
  rw [shapeCast_self, broadcast_apply, Ideal.scalar_maximumf_def, Ideal.scalar_maximumf_def, Ideal.scalar_maximumf_def]
  unfold mx
  rfl

theorem pay47_eq (W : Vec Ideal S1x1x512x512 .bf16) (P : Vec Ideal S1x512x512 .bf16) : k0_pay47 (k0_pay46 W) P = k0_pay44 W P := by
  unfold k0_pay47 k0_pay46 k0_pay44
  rfl

theorem lrow_le (c : Dev nD) (i : S1x8x128.Idx) (b : EReal) :
    (lrow A c i : EReal) ≤ b ↔ ∀ d q i, (Yv A d q c i : EReal) ≤ b := by
  unfold lrow
  rw [pay48_apply, pay47_eq, max_le_iff, max_le_iff, max_le_iff, mx_le', mx_le', mx_le', mx_le']
  constructor
  · rintro ⟨⟨h1, h2⟩, h3, h4⟩ d q
    fin_cases d <;> fin_cases q
    · exact h1
    · exact h2
    · exact h3
    · exact h4
  · intro h
    exact ⟨⟨h 0 0, h 0 1⟩, h 1 0, h 1 1⟩

/-- The greatest entry. -/
noncomputable def gmax : EReal :=
  extractAt ![0, 0, 0, 0] (shapeCast S1x1x1x1 (multiReduction .maximumf [1, 2, 3] S1 (shapeCast S1x8x8x128 (gAll A) shapeCasts_S8x8x128_S1x8x8x128)
    0xFF800000#32 reduces_S1x8x8x128_S1 (.inl rfl) rfl) shapeCasts_S1_S1x1x1x1) inpos_S1x1x1x1_p0_0_0_0

theorem gmax_le (b : EReal) : gmax A ≤ b ↔ ∀ c d q i, (Yv A d q c i : EReal) ≤ b := by
  unfold gmax extractAt
  refine (multi_le_iff _ reduces_S1x8x8x128_S1 (.inl rfl) rfl _ b (drop_one _ _)).trans ⟨fun H c => ?_, fun H i => ?_⟩
  · have h := H ((Shape.reshapeEquiv shapeCasts_S8x8x128_S1x8x8x128).symm (ix3 (pm c) 0 0))
    unfold shapeCast at h; rw [Equiv.apply_symm_apply] at h
    have h' := (lrow_le A (pm (pm c)) _ b).mp h
    rwa [pm_pm] at h'
  · unfold shapeCast gAll
    exact (lrow_le A _ _ b).mpr (H _)

theorem scl_eq : (scl A : EReal) = Ideal.div (gmax A) ((127 : ℝ) : EReal) := by
  rw [← c127]; rfl

theorem gmax_nonneg : 0 ≤ gmax A :=
  (yv_nonneg A 0 0 0 (ix2 0 0)).trans ((gmax_le A (gmax A)).mp le_rfl 0 0 0 (ix2 0 0))
theorem scl_nonneg : 0 ≤ (scl A : EReal) := by
  rw [scl_eq]
  have h : (0 : ℝ) < 127 := by norm_num
  exact div_nonneg (gmax_nonneg A) (EReal.coe_nonneg.mpr h.le) (ne_of_gt (EReal.coe_pos.mpr h))

/-! ## The result -/

theorem deq_apply (d q : Fin 2) (c : Dev nD) (i : S512x512.Idx) :
    (deqB A (Qv A d q c) i : EReal)
      = min ((127 : ℝ) : EReal) (max ((-127 : ℝ) : EReal) (rq (Yv A d q c i) (scl A))) * (scl A : EReal) := by
  have h4 : shapeCast S512x512 (un4 (Qv A d q c)) shapeCasts_S1x1x512x512_S512x512 = Qv A d q c := sq4_un4 _
  rw [← requant (yv_nonneg A d q c i) (scl_nonneg A)]
  unfold deqB k0_pay59
  dsimp only
  rw [sq4_cast, h4]
  unfold Qv k0_pay50
  dsimp only
  rw [sq3_cast]
  show ((((Ideal.fptosi 8 (min (Ideal.ofBits .f32 0x42FE0000#32) (max (Ideal.ofBits .f32 0x00000000#32) (rq (Yv A d q c i) (scl A))))).toInt : ℤ) : ℝ) : EReal) * (scl A : EReal) = _
  rw [c127, Ideal.ofBits_zero_f32]

end Cert.KernelIdeal.Ring

end
-- ==== Proof.Algebraic.lean ====
/- The kernel's result over the extended reals is the reference's: the shares that meet in a finished block add up to the whole
   contraction, the scale is that of the whole product, and the quantisers agree. -/
module

public import proofs.«01_k».proof.Proof.Scale
public import proofs.«01_k».proof.Proof.Launch
public import proofs.«01_k».proof.Proof.Gen.ReferenceIdeal.Run
public import Idealize.ShloMosaic.Lib.StableHlo.RunHlo
public import Idealize.ShloMosaic.Lib.Layout

@[expose] public section

set_option maxRecDepth 100000
set_option maxHeartbeats 4000000

namespace Cert.KernelIdeal.Ring

open Idealize.ShloMosaic Idealize.ShloMosaic.ValueIdx Idealize.SL.Sem Cert.KernelIdeal Cert.KernelIdeal.Gen Cert.Quant
open scoped BigOperators

variable (A : Args Ideal) (X : FVec Ideal ⟨2, ![4096, 4096]⟩ .bf16) (W : FVec Ideal ⟨2, ![4096, 2048]⟩ .bf16)

/-- The devices hold the blocks of two whole matrices. -/
def Holds : Prop := ∀ c : Dev nD,
  (∀ (r : Fin 4096) (k : Fin 512), (A.x c (ix2 r k) : EReal) = X (ix2 r ⟨512 * c.val + k.val, by have h : c.val < 8 := c.isLt; have := k.isLt; omega⟩))
  ∧ ∀ (k : Fin 512) (l : Fin 2048), (A.w c (ix2 k l) : EReal) = W (ix2 ⟨512 * c.val + k.val, by have h : c.val < 8 := c.isLt; have := k.isLt; omega⟩ l)

/-- The whole product. -/
noncomputable def prd (r : Fin 4096) (l : Fin 2048) : EReal := ∑ k : Fin 4096, (X (ix2 r k) : EReal) * W (ix2 k l)

/-- The contraction, cut into the devices' parts. -/
theorem sum_cut (f : Fin 4096 → EReal) :
    ∑ k, f k = ∑ c : Fin 8, ∑ k : Fin 512, f ⟨512 * c.val + k.val, by have := c.isLt; have := k.isLt; omega⟩ := by
  rw [← Fintype.sum_prod_type' (f := fun (c : Fin 8) (k : Fin 512) => f ⟨512 * c.val + k.val, by have := c.isLt; have := k.isLt; omega⟩)]
  refine (Equiv.sum_comp (finProdFinEquiv (m := 8) (n := 512)) f).symm.trans (Finset.sum_congr rfl fun x _ => congrArg f (Fin.ext ?_))
  show x.2.val + 512 * x.1.val = 512 * x.1.val + x.2.val
  omega

/-- The devices in the order in which they add to the block of row block `n`. -/
theorem up_bij (d : Fin 2) (n : Fin 8) : Function.Bijective fun t : Fin 8 => up d (7 - t.val) (ownr d n) :=
  (Fintype.bijective_iff_injective_and_card _).mpr ⟨by revert d n; decide +kernel, rfl⟩

/-- Each adds its share of that row block. -/
theorem up_row : ∀ (d : Fin 2) (n t : Fin 8), ((pm (up d (7 - t.val) (ownr d n))).val + 8 - (pj d t.val).val) % 8 = n.val := by
  decide +kernel

variable {A X W}

/-- A finished block is the relu of the product's. -/
theorem yv_prd (H : Holds A X W) (d q : Fin 2) (n : Fin 8) (r l : Fin 512) :
    (Yv A d q (ownr d n) (ix2 r l) : EReal)
      = max (prd X W ⟨512 * n.val + r.val, by have := n.isLt; have := r.isLt; omega⟩
          ⟨d.val * 1024 + q.val * 512 + l.val, by have := d.isLt; have := q.isLt; have := l.isLt; omega⟩) 0 := by
  rw [yv_apply]
  refine congrArg (max · 0) ?_
  unfold prd
  rw [sum_cut, Finset.sum_range]
  refine (Finset.sum_congr rfl fun t _ => ?_).trans (Function.Bijective.sum_comp (up_bij d n) fun c : Fin 8 => ∑ k : Fin 512,
    (X (ix2 ⟨512 * n.val + r.val, by have := n.isLt; have := r.isLt; omega⟩ ⟨512 * c.val + k.val, by have := c.isLt; have := k.isLt; omega⟩) : EReal)
      * W (ix2 ⟨512 * c.val + k.val, by have := c.isLt; have := k.isLt; omega⟩
        ⟨d.val * 1024 + q.val * 512 + l.val, by have := d.isLt; have := q.isLt; have := l.isLt; omega⟩))
  rw [pq_apply]
  refine Finset.sum_congr rfl fun k _ => ?_
  rw [(H _).1, (H _).2]
  have e : (⟨512 * (((pm (up d (7 - t.val) (ownr d n))).val + 8 - (pj d t.val).val) % 8) + r.val, by have := r.isLt; omega⟩ : Fin 4096)
      = ⟨512 * n.val + r.val, by have := n.isLt; have := r.isLt; omega⟩ := Fin.ext (by
    show 512 * (((pm (up d (7 - t.val) (ownr d n))).val + 8 - (pj d t.val).val) % 8) + r.val = _
    rw [up_row])
  rw [e]

/-- The greatest entry bounds the product's relu, and nothing less does. -/
theorem gmax_le_prd (H : Holds A X W) (b : EReal) : gmax A ≤ b ↔ ∀ r l, max (prd X W r l) 0 ≤ b := by
  rw [gmax_le]
  constructor
  · intro h r l
    have hr := r.isLt
    have hl := l.isLt
    have e := yv_prd H ⟨l.val / 1024, by omega⟩ ⟨l.val % 1024 / 512, by omega⟩ ⟨r.val / 512, by omega⟩ ⟨r.val % 512, by omega⟩ ⟨l.val % 512, by omega⟩
    have e1 : (⟨512 * (r.val / 512) + r.val % 512, by omega⟩ : Fin 4096) = r := Fin.ext (by show 512 * (r.val / 512) + r.val % 512 = _; omega)
    have e2 : (⟨l.val / 1024 * 1024 + l.val % 1024 / 512 * 512 + l.val % 512, by omega⟩ : Fin 2048) = l :=
      Fin.ext (by show l.val / 1024 * 1024 + l.val % 1024 / 512 * 512 + l.val % 512 = _; omega)
    have e' := e.trans (congrArg (max · 0) (congrArg₂ (prd X W) e1 e2))
    rw [← e']; exact h _ _ _ _
  · intro h c d q i
    have hc : ownr d (wn d 0 c) = c := (ownr_wn d 0 c).trans (up_zero d c)
    obtain ⟨r, l, rfl⟩ : ∃ r l : Fin 512, i = ix2 r l := ⟨i 0, i 1, eq_ix2 i⟩
    rw [← hc, yv_prd H]
    exact h _ _

/-- What the result holds. -/
theorem res_apply (H : Holds A X W) (r : Fin 4096) (l : Fin 2048) :
    (res A (ix2 r l) : EReal) = min ((127 : ℝ) : EReal) (max ((-127 : ℝ) : EReal) (rq (max (prd X W r l) 0) (scl A))) * (scl A : EReal) := by
  have hr := r.isLt
  have hl := l.isLt
  have e := yv_prd H ⟨l.val / 1024, by omega⟩ ⟨l.val % 1024 / 512, by omega⟩ ⟨r.val / 512, by omega⟩ ⟨r.val % 512, by omega⟩ ⟨l.val % 512, by omega⟩
  have e1 : (⟨512 * (r.val / 512) + r.val % 512, by omega⟩ : Fin 4096) = r := Fin.ext (by show 512 * (r.val / 512) + r.val % 512 = _; omega)
  have e2 : (⟨l.val / 1024 * 1024 + l.val % 1024 / 512 * 512 + l.val % 512, by omega⟩ : Fin 2048) = l :=
    Fin.ext (by show l.val / 1024 * 1024 + l.val % 1024 / 512 * 512 + l.val % 512 = _; omega)
  have e' := e.trans (congrArg (max · 0) (congrArg₂ (prd X W) e1 e2))
  have ei : (fun a : Fin 2 => ⟨((ix2 r l : S4096x2048.Idx) a).val % 512, by fin_cases a <;> exact Nat.mod_lt _ (by decide)⟩ : S512x512.Idx)
      = ix2 ⟨r.val % 512, by omega⟩ ⟨l.val % 512, by omega⟩ := by
    funext a; apply Fin.ext
    match a with
    | ⟨0, _⟩ => rfl
    | ⟨1, _⟩ => rfl
  unfold res
  refine (congrArg _ ei).trans ((deq_apply A _ _ _ _).trans ?_)
  refine congrArg (fun y => min ((127 : ℝ) : EReal) (max ((-127 : ℝ) : EReal) (rq y (scl A))) * (scl A : EReal)) e'

end Cert.KernelIdeal.Ring

end
-- ==== Proof.Reference.lean ====
/- What the reference computes over the extended reals, entry by entry. -/
module

public import proofs.«01_k».proof.Proof.Algebraic

@[expose] public section

set_option maxRecDepth 100000
set_option maxHeartbeats 4000000

namespace Cert.ReferenceIdeal.Ring

open Idealize.ShloMosaic Idealize.ShloMosaic.ValueIdx Idealize.SL.Sem Cert.ReferenceIdeal Cert.ReferenceIdeal.Gen Cert.Quant
open Cert.KernelIdeal.Ring (prd)
open scoped BigOperators

variable (X : FVec Ideal S4096x4096 .bf16) (W : FVec Ideal S4096x2048 .bf16)

/-- The product's relu, -/
noncomputable def yR : FVec Ideal S4096x2048 .f32 :=
  maximumf (Host.dotGeneral dot_S4096x4096_S4096x2048_S4096x2048_1_0_0_1_n_n none (extf .f32 X bitsLt_bf16_f32) (extf .f32 W bitsLt_bf16_f32))
    (broadcastInDim S4096x2048 ![] bcast_S_S4096x2048 (constant S_ .f32 0x00000000#32))
/-- the greatest magnitude, -/
noncomputable def gR : FVec Ideal S_ .f32 :=
  Host.reduce FloatOps.maximumf (Host.absf (yR X W)) (constant S_ .f32 0xFF800000#32) reducesTo_S4096x2048_S_d0_1 h_S_
/-- the scale, -/
noncomputable def sR : FVec Ideal S_ .f32 := Host.divf (gR X W) (constant S_ .f32 0x42FE0000#32)
/-- and the result. -/
noncomputable def oR : FVec Ideal S4096x2048 .bf16 :=
  truncf .bf16 (mulf (minimumf (broadcastInDim S4096x2048 ![] bcast_S_S4096x2048 (id (constant S_ .f32 0x42FE0000#32)))
    (maximumf (broadcastInDim S4096x2048 ![] bcast_S_S4096x2048 (id (constant S_ .f32 0xC2FE0000#32)))
      (Host.roundeven (Host.divf (yR X W) (broadcastInDim S4096x2048 ![] bcast_S_S4096x2048 (sR X W))))))
    (broadcastInDim S4096x2048 ![] bcast_S_S4096x2048 (sR X W))) bitsLt_bf16_f32

theorem dotR_eq : dot_S4096x4096_S4096x2048_S4096x2048_1_0_0_1_n_n = DotDims.plain 4096 4096 2048 := rfl

theorem bc_apply (x : FVec Ideal S_ .f32) (j : S4096x2048.Idx) : broadcastInDim S4096x2048 ![] bcast_S_S4096x2048 x j = x ix0 :=
  broadcastInDim_scalar_apply _ x j

theorem yR_apply (r : Fin 4096) (l : Fin 2048) : (yR X W (ix2 r l) : EReal) = max (prd X W r l) 0 := by
  unfold yR
  rw [maximumf_apply, bc_apply, constant_apply, Ideal.ofBits_zero_f32, dotR_eq]
  refine congrArg (max · 0) ?_
  refine (Ideal.matmul_plain_apply (M := 4096) (K := 4096) (N := 2048) (φ₁ := .f32) (φ₂ := .f32) none (extf .f32 X bitsLt_bf16_f32)
    (extf .f32 W bitsLt_bf16_f32) (fun _ => 0) r l).trans ?_
  rw [zero_add]
  rfl

theorem gR_le (b : EReal) : (gR X W ix0 : EReal) ≤ b ↔ ∀ r l, max (prd X W r l) 0 ≤ b := by
  unfold gR
  refine (host_le_iff _ _ _ _ (fun _ => (constant_apply _ _).trans cbot) ix0 b (fun _ => funext fun a => a.elim0)).trans ?_
  have ha : ∀ r l, (Host.absf (yR X W) (ix2 r l) : EReal) = max (prd X W r l) 0 := fun r l => by
    show max (yR X W (ix2 r l) : EReal) (-(yR X W (ix2 r l) : EReal)) = _
    rw [yR_apply]
    have h : (0 : EReal) ≤ max (prd X W r l) 0 := le_max_right _ _
    exact max_eq_left (le_trans (by simpa using EReal.neg_le_neg_iff.mpr h) h)
  constructor
  · intro H r l; rw [← ha]; exact H _
  · intro H i
    obtain ⟨r, l, rfl⟩ : ∃ (r : Fin 4096) (l : Fin 2048), i = ix2 r l := ⟨i 0, i 1, eq_ix2 i⟩
    rw [ha]; exact H r l

theorem oR_apply (r : Fin 4096) (l : Fin 2048) : (oR X W (ix2 r l) : EReal)
    = min ((127 : ℝ) : EReal) (max ((-127 : ℝ) : EReal) (rq (max (prd X W r l) 0) (Ideal.div (gR X W ix0) ((127 : ℝ) : EReal))))
      * Ideal.div (gR X W ix0) ((127 : ℝ) : EReal) := by
  have hs : (sR X W ix0 : EReal) = Ideal.div (gR X W ix0) ((127 : ℝ) : EReal) := by
    unfold sR; rw [hostDivf_apply, constant_apply, c127]
  rw [← hs, ← yR_apply, ← c127, ← cm127]
  unfold oR
  exact congrArg₂ (fun a b : EReal => a * b) (congrArg₂ (fun a b : EReal => min a b) (bc_apply _ _) (congrArg₂ (fun a b : EReal => max a b) (bc_apply _ _)
    (congrArg (rq (yR X W (ix2 r l))) (bc_apply _ _)))) (bc_apply _ _)

/-- The kernel's result is the reference's. -/
theorem res_eq {A : Cert.KernelIdeal.Ring.Args Ideal} (H : Cert.KernelIdeal.Ring.Holds A X W) : Cert.KernelIdeal.Ring.res A = oR X W := by
  have hg : Cert.KernelIdeal.Ring.gmax A = (gR X W ix0 : EReal) :=
    eq_of_forall_ge_iff fun b => (Cert.KernelIdeal.Ring.gmax_le_prd H b).trans (gR_le X W b).symm
  funext i
  obtain ⟨r, l, rfl⟩ : ∃ (r : Fin 4096) (l : Fin 2048), i = ix2 r l := ⟨i 0, i 1, eq_ix2 i⟩
  refine (Cert.KernelIdeal.Ring.res_apply H r l).trans ?_
  rw [Cert.KernelIdeal.Ring.scl_eq, hg]
  exact (oR_apply X W r l).symm

end Cert.ReferenceIdeal.Ring

namespace Cert.Proof

open Idealize.ShloMosaic Idealize.ShloMosaic.ValueIdx Idealize.SL.Sem

/-- The devices' arguments are the blocks of the reference's. -/
theorem holds (m : (ℓ : Loc Cert.KernelIdeal.nD Cert.KernelIdeal.τ Cert.KernelIdeal.sig) → Buf (Elt Ideal) ℓ)
    (X : FVec Ideal ⟨2, ![4096, 4096]⟩ .bf16) (W : FVec Ideal ⟨2, ![4096, 2048]⟩ .bf16)
    (h : ∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c X
      ∧ m ((c.tc : Thread Cert.KernelIdeal.nD Cert.KernelIdeal.τ).loc Cert.KernelIdeal.main_arg1) = Layout.block ⟨2, ![512, 2048]⟩ ⟨2, ![4096, 2048]⟩ 0 8 c W) :
    Cert.KernelIdeal.Ring.Holds (Cert.KernelIdeal.Ring.args m) X W := by
  have e0 : ∀ (c : Dev Cert.KernelIdeal.nD) (j : (⟨2, ![4096, 512]⟩ : Shape).Idx), (Cert.KernelIdeal.Ring.args m).x c j
      = m ((c.tc : Thread Cert.KernelIdeal.nD Cert.KernelIdeal.τ).loc Cert.KernelIdeal.main_arg0) j := fun c j =>
    congrArg (m ((c.tc : Thread Cert.KernelIdeal.nD Cert.KernelIdeal.τ).loc Cert.KernelIdeal.main_arg0)) (funext fun a => Fin.ext (by
      match a with
      | ⟨0, _⟩ => show 0 * 4096 + 1 * (j 0).val = (j 0).val; omega
      | ⟨1, _⟩ => show 0 * 512 + 1 * (j 1).val = (j 1).val; omega))
  have e1 : ∀ (c : Dev Cert.KernelIdeal.nD) (j : (⟨2, ![512, 2048]⟩ : Shape).Idx), (Cert.KernelIdeal.Ring.args m).w c j
      = m ((c.tc : Thread Cert.KernelIdeal.nD Cert.KernelIdeal.τ).loc Cert.KernelIdeal.main_arg1) j := fun c j =>
    congrArg (m ((c.tc : Thread Cert.KernelIdeal.nD Cert.KernelIdeal.τ).loc Cert.KernelIdeal.main_arg1)) (funext fun a => Fin.ext (by
      match a with
      | ⟨0, _⟩ => show 0 * 512 + 1 * (j 0).val = (j 0).val; omega
      | ⟨1, _⟩ => show 0 * 2048 + 1 * (j 1).val = (j 1).val; omega))
  intro c
  constructor
  · intro r k
    rw [e0, (h c).1]
    refine congrArg X (funext fun a => Fin.ext ?_)
    match a with
    | ⟨0, _⟩ => rfl
    | ⟨1, _⟩ => show c.val * 512 + k.val = 512 * c.val + k.val; omega
  · intro k l
    rw [e1, (h c).2]
    refine congrArg W (funext fun a => Fin.ext ?_)
    match a with
    | ⟨0, _⟩ => show c.val * 512 + k.val = 512 * c.val + k.val; omega
    | ⟨1, _⟩ => rfl

theorem algebraic : Cert.algebraic_KernelIdeal_ReferenceIdeal (hKernelIdeal := Cert.KernelIdeal.Gen.facts)
    (hReferenceIdeal := Cert.ReferenceIdeal.Gen.facts) := by
  intro m g m' g' _ h
  refine ⟨Cert.KernelIdeal.Ring.res (Cert.KernelIdeal.Ring.args m), ?_, ?_⟩
  · exact θ_run_mono (Cert.KernelIdeal.Ring.run_main m g) fun r hr c => ⟨(hr.1 c).2.2, (hr.1 c).1, (hr.1 c).2.1⟩
  · exact θ_run_mono (Cert.ReferenceIdeal.Value.run m' g') fun r hr => ⟨(hr 0).1.trans (Cert.ReferenceIdeal.Ring.res_eq _ _ (holds m _ _ h)).symm, (hr 0).2.1, (hr 0).2.2⟩

end Cert.Proof

end
-- ==== Proof.lean ====
module

public import proofs.«01_k».proof.Defs
public import proofs.«01_k».proof.Proof.Frames
public import proofs.«01_k».proof.Proof.Reference
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

theorem claim : Cert.Claim := ⟨Cert.Kernel.Gen.facts, Cert.KernelIdeal.Gen.facts, Cert.ReferenceIdeal.Gen.facts,
  frame_Kernel, frame_KernelIdeal, frame_ReferenceIdeal, trivial, algebraic⟩

end Cert.Proof

end
